-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x16384x1024 : Shape := ⟨3, ![4, 16384, 1024]⟩
abbrev S4x8x128 : Shape := ⟨3, ![4, 8, 128]⟩
abbrev S4x8x128x128 : Shape := ⟨4, ![4, 8, 128, 128]⟩
abbrev S4x8x256 : Shape := ⟨3, ![4, 8, 256]⟩
abbrev S4x16384 : Shape := ⟨2, ![4, 16384]⟩
abbrev S16384 : Shape := ⟨1, ![16384]⟩
abbrev S_ : Shape := ⟨0, ![]⟩
abbrev S4x1 : Shape := ⟨2, ![4, 1]⟩
abbrev S4x16383 : Shape := ⟨2, ![4, 16383]⟩
abbrev S1x16384 : Shape := ⟨2, ![1, 16384]⟩
abbrev S4x128x128 : Shape := ⟨3, ![4, 128, 128]⟩
abbrev S4x128x1 : Shape := ⟨3, ![4, 128, 1]⟩
abbrev S4x128 : Shape := ⟨2, ![4, 128]⟩
abbrev S4x128x2 : Shape := ⟨3, ![4, 128, 2]⟩
abbrev S4x256 : Shape := ⟨2, ![4, 256]⟩
abbrev S4x8x256x64 : Shape := ⟨4, ![4, 8, 256, 64]⟩
abbrev S4x8x16384 : Shape := ⟨3, ![4, 8, 16384]⟩
abbrev S4x8x1x16384 : Shape := ⟨4, ![4, 8, 1, 16384]⟩
abbrev S4x8x64x2x128 : Shape := ⟨5, ![4, 8, 64, 2, 128]⟩
abbrev S4x8x64x16x128 : Shape := ⟨5, ![4, 8, 64, 16, 128]⟩
abbrev S4x8x1x128 : Shape := ⟨4, ![4, 8, 1, 128]⟩
abbrev S4x64x1x256 : Shape := ⟨4, ![4, 64, 1, 256]⟩
abbrev S1x256x128 : Shape := ⟨3, ![1, 256, 128]⟩
abbrev S1x16384x128 : Shape := ⟨3, ![1, 16384, 128]⟩
abbrev S1x1x1x16x128 : Shape := ⟨5, ![1, 1, 1, 16, 128]⟩
abbrev S1x1x1x16384 : Shape := ⟨4, ![1, 1, 1, 16384]⟩
abbrev S1x1x1x128 : Shape := ⟨4, ![1, 1, 1, 128]⟩
abbrev S1x1x1x256 : Shape := ⟨4, ![1, 1, 1, 256]⟩
abbrev S256x16384 : Shape := ⟨2, ![256, 16384]⟩
abbrev S1x1 : Shape := ⟨2, ![1, 1]⟩
abbrev S1x256 : Shape := ⟨2, ![1, 256]⟩
abbrev S128x256 : Shape := ⟨2, ![128, 256]⟩
abbrev S256x128 : Shape := ⟨2, ![256, 128]⟩
abbrev S1x512x128 : Shape := ⟨3, ![1, 512, 128]⟩
abbrev S512x128 : Shape := ⟨2, ![512, 128]⟩
abbrev S16x128 : Shape := ⟨2, ![16, 128]⟩
abbrev S16x512 : Shape := ⟨2, ![16, 512]⟩
abbrev S1x1x1x512 : Shape := ⟨4, ![1, 1, 1, 512]⟩
abbrev S1x512 : Shape := ⟨2, ![1, 512]⟩
abbrev S1x128x128 : Shape := ⟨3, ![1, 128, 128]⟩
abbrev S128x128 : Shape := ⟨2, ![128, 128]⟩
abbrev S128x512 : Shape := ⟨2, ![128, 512]⟩
abbrev S1x1x1 : Shape := ⟨3, ![1, 1, 1]⟩
abbrev S256 : Shape := ⟨1, ![256]⟩
abbrev S256x1 : Shape := ⟨2, ![256, 1]⟩
abbrev S256x512 : Shape := ⟨2, ![256, 512]⟩
abbrev S1x128 : Shape := ⟨2, ![1, 128]⟩

abbrev nBuf : Space → Nat
  | .hbm => 43
  | .vmem => 17
  | .smem => 2
  | _ => 0

abbrev bufTy : (tb : Table) → Fin (tcTables nBuf tb) → BufTy
  | .hbm, ⟨0, _⟩ => ⟨S4x16384x1024, .fp8e4m3⟩
  | .hbm, ⟨1, _⟩ => ⟨S4x8x128, .f32⟩
  | .hbm, ⟨2, _⟩ => ⟨S4x8x128x128, .bf16⟩
  | .hbm, ⟨3, _⟩ => ⟨S4x16384x1024, .fp8e4m3⟩
  | .hbm, ⟨4, _⟩ => ⟨S4x8x256, .f32⟩
  | .hbm, ⟨5, _⟩ => ⟨S4x16384x1024, .fp8e4m3⟩
  | .hbm, ⟨6, _⟩ => ⟨S4x8x128, .f32⟩
  | .hbm, ⟨7, _⟩ => ⟨S4x16384, .i32⟩
  | .hbm, ⟨8, _⟩ => ⟨S16384, .i32⟩
  | .hbm, ⟨9, _⟩ => ⟨S_, .i1⟩
  | .hbm, ⟨10, _⟩ => ⟨S4x1, .i1⟩
  | .hbm, ⟨11, _⟩ => ⟨S4x16383, .i32⟩
  | .hbm, ⟨12, _⟩ => ⟨S4x16383, .i32⟩
  | .hbm, ⟨13, _⟩ => ⟨S4x16383, .i1⟩
  | .hbm, ⟨14, _⟩ => ⟨S4x16384, .i1⟩
  | .hbm, ⟨15, _⟩ => ⟨S1x16384, .i32⟩
  | .hbm, ⟨16, _⟩ => ⟨S_, .i32⟩
  | .hbm, ⟨17, _⟩ => ⟨S_, .i32⟩
  | .hbm, ⟨18, _⟩ => ⟨S4x16384, .i32⟩
  | .hbm, ⟨19, _⟩ => ⟨S4x16384, .i32⟩
  | .hbm, ⟨20, _⟩ => ⟨S4x16384, .i32⟩
  | .hbm, ⟨21, _⟩ => ⟨S_, .i32⟩
  | .hbm, ⟨22, _⟩ => ⟨S_, .i32⟩
  | .hbm, ⟨23, _⟩ => ⟨S4x16384, .i32⟩
  | .hbm, ⟨24, _⟩ => ⟨S4x128x128, .i32⟩
  | .hbm, ⟨25, _⟩ => ⟨S4x128x1, .i32⟩
  | .hbm, ⟨26, _⟩ => ⟨S4x128, .i32⟩
  | .hbm, ⟨27, _⟩ => ⟨S4x128x1, .i32⟩
  | .hbm, ⟨28, _⟩ => ⟨S4x128, .i32⟩
  | .hbm, ⟨29, _⟩ => ⟨S4x128x1, .i32⟩
  | .hbm, ⟨30, _⟩ => ⟨S4x128x1, .i32⟩
  | .hbm, ⟨31, _⟩ => ⟨S4x128x2, .i32⟩
  | .hbm, ⟨32, _⟩ => ⟨S4x256, .i32⟩
  | .hbm, ⟨33, _⟩ => ⟨S4x8x256x64, .f32⟩
  | .hbm, ⟨34, _⟩ => ⟨S4x8x16384, .f32⟩
  | .hbm, ⟨35, _⟩ => ⟨S4x8x1x16384, .f32⟩
  | .hbm, ⟨36, _⟩ => ⟨S4x8x64x2x128, .bf16⟩
  | .hbm, ⟨37, _⟩ => ⟨S_, .i32⟩
  | .hbm, ⟨38, _⟩ => ⟨S_, .bf16⟩
  | .hbm, ⟨39, _⟩ => ⟨S4x8x64x16x128, .bf16⟩
  | .hbm, ⟨40, _⟩ => ⟨S4x8x1x128, .f32⟩
  | .hbm, ⟨41, _⟩ => ⟨S4x64x1x256, .i32⟩
  | .hbm, ⟨42, _⟩ => ⟨S4x16384x1024, .bf16⟩
  | .local _ .vmem, ⟨0, _⟩ => ⟨S1x256x128, .fp8e4m3⟩
  | .local _ .vmem, ⟨1, _⟩ => ⟨S1x256x128, .fp8e4m3⟩
  | .local _ .vmem, ⟨2, _⟩ => ⟨S1x16384x128, .fp8e4m3⟩
  | .local _ .vmem, ⟨3, _⟩ => ⟨S1x16384x128, .fp8e4m3⟩
  | .local _ .vmem, ⟨4, _⟩ => ⟨S1x16384x128, .fp8e4m3⟩
  | .local _ .vmem, ⟨5, _⟩ => ⟨S1x16384x128, .fp8e4m3⟩
  | .local _ .vmem, ⟨6, _⟩ => ⟨S1x1x1x16x128, .bf16⟩
  | .local _ .vmem, ⟨7, _⟩ => ⟨S1x1x1x16x128, .bf16⟩
  | .local _ .vmem, ⟨8, _⟩ => ⟨S1x1x1x16384, .f32⟩
  | .local _ .vmem, ⟨9, _⟩ => ⟨S1x1x1x16384, .f32⟩
  | .local _ .vmem, ⟨10, _⟩ => ⟨S1x1x1x128, .f32⟩
  | .local _ .vmem, ⟨11, _⟩ => ⟨S1x1x1x128, .f32⟩
  | .local _ .vmem, ⟨12, _⟩ => ⟨S1x1x1x256, .i32⟩
  | .local _ .vmem, ⟨13, _⟩ => ⟨S1x1x1x256, .i32⟩
  | .local _ .vmem, ⟨14, _⟩ => ⟨S1x256x128, .bf16⟩
  | .local _ .vmem, ⟨15, _⟩ => ⟨S1x256x128, .bf16⟩
  | .local _ .vmem, ⟨16, _⟩ => ⟨S256x16384, .f32⟩
  | .local _ .smem, ⟨0, _⟩ => ⟨S4x256, .i32⟩
  | .local _ .smem, ⟨1, _⟩ => ⟨S4x8x128, .f32⟩
  | _, _ => ⟨S4x16384x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v7 : Ref sig .tc := ⟨.hbm, 20, rfl⟩
abbrev main_call1_c : Ref sig .tc := ⟨.hbm, 21, rfl⟩
abbrev main_call1_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_1 : Ref sig .tc := ⟨.hbm, 37, rfl⟩
abbrev main_call2_v0 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![4, 8, 64], ![false, false, false]⟩

def k0_off1 (i : grid0.Coords) : Fin 2 → Nat :=
  let arg0 : BitVec 32 := BitVec.ofNat 32 (i 0).val
  let v19 : Index := Scalar.indexCast arg0
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c2_i32 : BitVec 32 := 2#32
  let v18 : BitVec 32 := Scalar.muli v17 c2_i32
  let v20 : Index := Scalar.indexCast v18
  ![v19.toNat, v20.toNat]
def k0_off2 (i : grid0.Coords) : Fin 2 → Nat :=
  let arg0 : BitVec 32 := BitVec.ofNat 32 (i 0).val
  let v43 : Index := Scalar.indexCast arg0
  let arg2 : BitVec 32 := BitVec.ofNat 32 (i 2).val
  let c256_i32 : BitVec 32 := 256#32
  let v0 : BitVec 32 := Scalar.muli arg2 c256_i32
  let c256_i32_4 : BitVec 32 := 256#32
  let v22 : BitVec 32 := Scalar.addi v0 c256_i32_4
  let c128_i32_5 : BitVec 32 := 128#32
  let v23 : BitVec 32 := Scalar.subi v22 c128_i32_5
  let c0_i32_7 : BitVec 32 := 0#32
  let v25 : BitVec 1 := Scalar.cmpi .sgt v23 c0_i32_7
  let v26 : BitVec 32 := Scalar.extui v25
  let c0_i32_8 : BitVec 32 := 0#32
  let v27 : BitVec 1 := Scalar.cmpi .slt v23 c0_i32_8
  let v28 : BitVec 32 := Scalar.extui v27
  let v29 : BitVec 32 := Scalar.subi v26 v28
  let c128_i32_6 : BitVec 32 := 128#32
  let c0_i32_9 : BitVec 32 := 0#32
  let v30 : BitVec 1 := Scalar.cmpi .sgt c128_i32_6 c0_i32_9
  let v31 : BitVec 32 := Scalar.extui v30
  let c0_i32_10 : BitVec 32 := 0#32
  let v32 : BitVec 1 := Scalar.cmpi .slt c128_i32_6 c0_i32_10
  let v33 : BitVec 32 := Scalar.extui v32
  let v34 : BitVec 32 := Scalar.subi v31 v33
  let v35 : BitVec 1 := Scalar.cmpi .ne v29 v34
  let v36 : BitVec 32 := Scalar.remsi v23 c128_i32_6
  let c0_i32_11 : BitVec 32 := 0#32
  let v37 : BitVec 1 := Scalar.cmpi .ne v36 c0_i32_11
  let v38 : BitVec 1 := Scalar.andi v35 v37
  let v24 : BitVec 32 := Scalar.divsi v23 c128_i32_6
  let c1_i32_12 : BitVec 32 := 1#32
  let v39 : BitVec 32 := Scalar.subi v24 c1_i32_12
  let v40 : BitVec 32 := Scalar.select v38 v39 v24
  let c2_i32_13 : BitVec 32 := 2#32
  let v41 : BitVec 32 := Scalar.muli v40 c2_i32_13
  let c1_i32_14 : BitVec 32 := 1#32
  let v42 : BitVec 32 := Scalar.addi v41 c1_i32_14
  let v44 : Index := Scalar.indexCast v42
  ![v43.toNat, v44.toNat]
@[reducible] def k0_t1_loop (i : grid0.Coords) (v21 : BitVec 32) : Scf.Loop 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let arg2 : BitVec 32 := BitVec.ofNat 32 (i 2).val
  let c256_i32 : BitVec 32 := 256#32
  let v0 : BitVec 32 := Scalar.muli arg2 c256_i32
  let c256_i32_21 : BitVec 32 := 256#32
  let v63 : BitVec 32 := Scalar.addi v0 c256_i32_21
  let c512_i32_22 : BitVec 32 := 512#32
  let v64 : BitVec 32 := Scalar.addi v63 c512_i32_22
  let c1_i32_23 : BitVec 32 := 1#32
  let v65 : BitVec 32 := Scalar.subi v64 c1_i32_23
  let c0_i32_25 : BitVec 32 := 0#32
  let v67 : BitVec 1 := Scalar.cmpi .sgt v65 c0_i32_25
  let v68 : BitVec 32 := Scalar.extui v67
  let c0_i32_26 : BitVec 32 := 0#32
  let v69 : BitVec 1 := Scalar.cmpi .slt v65 c0_i32_26
  let v70 : BitVec 32 := Scalar.extui v69
  let v71 : BitVec 32 := Scalar.subi v68 v70
  let c512_i32_24 : BitVec 32 := 512#32
  let c0_i32_27 : BitVec 32 := 0#32
  let v72 : BitVec 1 := Scalar.cmpi .sgt c512_i32_24 c0_i32_27
  let v73 : BitVec 32 := Scalar.extui v72
  let c0_i32_28 : BitVec 32 := 0#32
  let v74 : BitVec 1 := Scalar.cmpi .slt c512_i32_24 c0_i32_28
  let v75 : BitVec 32 := Scalar.extui v74
  let v76 : BitVec 32 := Scalar.subi v73 v75
  let v77 : BitVec 1 := Scalar.cmpi .ne v71 v76
  let v78 : BitVec 32 := Scalar.remsi v65 c512_i32_24
  let c0_i32_29 : BitVec 32 := 0#32
  let v79 : BitVec 1 := Scalar.cmpi .ne v78 c0_i32_29
  let v80 : BitVec 1 := Scalar.andi v77 v79
  let v66 : BitVec 32 := Scalar.divsi v65 c512_i32_24
  let c1_i32_30 : BitVec 32 := 1#32
  let v81 : BitVec 32 := Scalar.subi v66 c1_i32_30
  let v82 : BitVec 32 := Scalar.select v80 v81 v66
  let v93 : BitVec 32 := Scalar.subi v82 v62
  let c1_i32_34 : BitVec 32 := 1#32
  let v95 : BitVec 32 := Scalar.divsi v93 c1_i32_34
  let v96 : BitVec 32 := Scalar.muli v95 c1_i32_34
  let v97 : BitVec 32 := Scalar.addi v62 v96
  let c1_i32_35 : BitVec 32 := 1#32
  ⟨v62, v97, c1_i32_35⟩

def k0_off3 (i : grid0.Coords) (v21 : BitVec 32) (k0_t1 : Fin (k0_t1_loop i v21).trips) : Fin 3 → Nat :=
  let c0_58 : Index := 0#32
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let c1_i32_35 : BitVec 32 := 1#32
  let arg14 : BitVec 32 := Scf.iv v62 c1_i32_35 k0_t1
  let c512_i32_57 : BitVec 32 := 512#32
  let v139 : BitVec 32 := Scalar.muli arg14 c512_i32_57
  let v140 : Index := Scalar.indexCast v139
  let c0_59 : Index := 0#32
  ![0, v140.toNat, 0]
def k0_cond1 (i : grid0.Coords) (v21 : BitVec 32) (v45 : BitVec 32) (k0_t1 : Fin (k0_t1_loop i v21).trips) : BitVec 1 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let c1_i32_35 : BitVec 32 := 1#32
  let arg14 : BitVec 32 := Scf.iv v62 c1_i32_35 k0_t1
  let c512_i32_53 : BitVec 32 := 512#32
  let v130 : BitVec 32 := Scalar.muli arg14 c512_i32_53
  let v131 : BitVec 1 := Scalar.cmpi .sge v130 v45
  let c512_i32_54 : BitVec 32 := 512#32
  let v132 : BitVec 32 := Scalar.muli arg14 c512_i32_54
  let c512_i32_55 : BitVec 32 := 512#32
  let v133 : BitVec 32 := Scalar.addi v132 c512_i32_55
  let arg2 : BitVec 32 := BitVec.ofNat 32 (i 2).val
  let c256_i32 : BitVec 32 := 256#32
  let v0 : BitVec 32 := Scalar.muli arg2 c256_i32
  let v134 : BitVec 1 := Scalar.cmpi .sle v133 v0
  let v135 : BitVec 1 := Scalar.andi v131 v134
  let v136 : BitVec 32 := Scalar.extui v135
  let c0_i32_56 : BitVec 32 := 0#32
  let v137 : BitVec 1 := Scalar.cmpi .ne v136 c0_i32_56
  v137

def k0_off4 (i : grid0.Coords) (v21 : BitVec 32) (k0_t1 : Fin (k0_t1_loop i v21).trips) : Fin 4 → Nat :=
  let c0_66 : Index := 0#32
  let c0_67 : Index := 0#32
  let c0_68 : Index := 0#32
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let c1_i32_35 : BitVec 32 := 1#32
  let arg14 : BitVec 32 := Scf.iv v62 c1_i32_35 k0_t1
  let c512_i32_57 : BitVec 32 := 512#32
  let v139 : BitVec 32 := Scalar.muli arg14 c512_i32_57
  let v147 : Index := Scalar.indexCast v139
  ![0, 0, 0, v147.toNat]
def k0_off5 (i : grid0.Coords) (c0_i32_75 : BitVec 32) : Fin 3 → Nat :=
  let arg0 : BitVec 32 := BitVec.ofNat 32 (i 0).val
  let v159 : Index := Scalar.indexCast arg0
  let arg1 : BitVec 32 := BitVec.ofNat 32 (i 1).val
  let v160 : Index := Scalar.indexCast arg1
  let arg2 : BitVec 32 := BitVec.ofNat 32 (i 2).val
  let c2_i32_74 : BitVec 32 := 2#32
  let v157 : BitVec 32 := Scalar.muli arg2 c2_i32_74
  let v158 : BitVec 32 := Scalar.addi v157 c0_i32_75
  let v161 : Index := Scalar.indexCast v158
  ![v159.toNat, v160.toNat, v161.toNat]
def k0_mult1 (i : grid0.Coords) (v21 : BitVec 32) (k0_t1 : Fin (k0_t1_loop i v21).trips) : BitVec 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let c1_i32_35 : BitVec 32 := 1#32
  let arg14 : BitVec 32 := Scf.iv v62 c1_i32_35 k0_t1
  let c512_i32_76 : BitVec 32 := 512#32
  let v172 : BitVec 32 := Scalar.muli arg14 c512_i32_76
  let c0_i32_77 : BitVec 32 := 0#32
  let v173 : BitVec 32 := Scalar.addi v172 c0_i32_77
  v173
def k0_off6 (i : grid0.Coords) (v21 : BitVec 32) (k0_t1 : Fin (k0_t1_loop i v21).trips) (c0_i32_77 : BitVec 32) : Fin 2 → Nat :=
  let c0_78 : Index := 0#32
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let c1_i32_35 : BitVec 32 := 1#32
  let arg14 : BitVec 32 := Scf.iv v62 c1_i32_35 k0_t1
  let c512_i32_76 : BitVec 32 := 512#32
  let v172 : BitVec 32 := Scalar.muli arg14 c512_i32_76
  let v173 : BitVec 32 := Scalar.addi v172 c0_i32_77
  let v174 : BitVec 32 := v173
  let v175 : Index := Scalar.indexCast v174
  ![0, v175.toNat]
def k0_mult2 (i : grid0.Coords) (v21 : BitVec 32) (k0_t1 : Fin (k0_t1_loop i v21).trips) : BitVec 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let c1_i32_35 : BitVec 32 := 1#32
  let arg14 : BitVec 32 := Scf.iv v62 c1_i32_35 k0_t1
  let c512_i32_79 : BitVec 32 := 512#32
  let v181 : BitVec 32 := Scalar.muli arg14 c512_i32_79
  let c128_i32_80 : BitVec 32 := 128#32
  let v182 : BitVec 32 := Scalar.addi v181 c128_i32_80
  v182
def k0_mult3 (i : grid0.Coords) (v21 : BitVec 32) (k0_t1 : Fin (k0_t1_loop i v21).trips) : BitVec 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let c1_i32_35 : BitVec 32 := 1#32
  let arg14 : BitVec 32 := Scf.iv v62 c1_i32_35 k0_t1
  let c512_i32_82 : BitVec 32 := 512#32
  let v190 : BitVec 32 := Scalar.muli arg14 c512_i32_82
  let c256_i32_83 : BitVec 32 := 256#32
  let v191 : BitVec 32 := Scalar.addi v190 c256_i32_83
  v191
def k0_mult4 (i : grid0.Coords) (v21 : BitVec 32) (k0_t1 : Fin (k0_t1_loop i v21).trips) : BitVec 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let c1_i32_35 : BitVec 32 := 1#32
  let arg14 : BitVec 32 := Scf.iv v62 c1_i32_35 k0_t1
  let c512_i32_85 : BitVec 32 := 512#32
  let v199 : BitVec 32 := Scalar.muli arg14 c512_i32_85
  let c384_i32 : BitVec 32 := 384#32
  let v200 : BitVec 32 := Scalar.addi v199 c384_i32
  v200
def k0_mult5 (i : grid0.Coords) (v21 : BitVec 32) (k0_t1 : Fin (k0_t1_loop i v21).trips) : BitVec 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let c1_i32_35 : BitVec 32 := 1#32
  let arg14 : BitVec 32 := Scf.iv v62 c1_i32_35 k0_t1
  let c512_i32_92 : BitVec 32 := 512#32
  let v225 : BitVec 32 := Scalar.muli arg14 c512_i32_92
  let c0_i32_93 : BitVec 32 := 0#32
  let v226 : BitVec 32 := Scalar.addi v225 c0_i32_93
  v226
def k0_off7 (i : grid0.Coords) (v21 : BitVec 32) (k0_t1 : Fin (k0_t1_loop i v21).trips) (c0_i32_93 : BitVec 32) : Fin 2 → Nat :=
  let c128_94 : Index := 128#32
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let c1_i32_35 : BitVec 32 := 1#32
  let arg14 : BitVec 32 := Scf.iv v62 c1_i32_35 k0_t1
  let c512_i32_92 : BitVec 32 := 512#32
  let v225 : BitVec 32 := Scalar.muli arg14 c512_i32_92
  let v226 : BitVec 32 := Scalar.addi v225 c0_i32_93
  let v227 : BitVec 32 := v226
  let v228 : Index := Scalar.indexCast v227
  ![128, v228.toNat]
def k0_mult6 (i : grid0.Coords) (v21 : BitVec 32) (k0_t1 : Fin (k0_t1_loop i v21).trips) : BitVec 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let c1_i32_35 : BitVec 32 := 1#32
  let arg14 : BitVec 32 := Scf.iv v62 c1_i32_35 k0_t1
  let c512_i32_95 : BitVec 32 := 512#32
  let v234 : BitVec 32 := Scalar.muli arg14 c512_i32_95
  let c128_i32_96 : BitVec 32 := 128#32
  let v235 : BitVec 32 := Scalar.addi v234 c128_i32_96
  v235
def k0_mult7 (i : grid0.Coords) (v21 : BitVec 32) (k0_t1 : Fin (k0_t1_loop i v21).trips) : BitVec 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let c1_i32_35 : BitVec 32 := 1#32
  let arg14 : BitVec 32 := Scf.iv v62 c1_i32_35 k0_t1
  let c512_i32_98 : BitVec 32 := 512#32
  let v243 : BitVec 32 := Scalar.muli arg14 c512_i32_98
  let c256_i32_99 : BitVec 32 := 256#32
  let v244 : BitVec 32 := Scalar.addi v243 c256_i32_99
  v244
def k0_mult8 (i : grid0.Coords) (v21 : BitVec 32) (k0_t1 : Fin (k0_t1_loop i v21).trips) : BitVec 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let c1_i32_35 : BitVec 32 := 1#32
  let arg14 : BitVec 32 := Scf.iv v62 c1_i32_35 k0_t1
  let c512_i32_101 : BitVec 32 := 512#32
  let v252 : BitVec 32 := Scalar.muli arg14 c512_i32_101
  let c384_i32_102 : BitVec 32 := 384#32
  let v253 : BitVec 32 := Scalar.addi v252 c384_i32_102
  v253
def k0_off8 (i : grid0.Coords) (v21 : BitVec 32) (k0_t1 : Fin (k0_t1_loop i v21).trips) : Fin 3 → Nat :=
  let c0_58 : Index := 0#32
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let c1_i32_35 : BitVec 32 := 1#32
  let arg14 : BitVec 32 := Scf.iv v62 c1_i32_35 k0_t1
  let c512_i32_57 : BitVec 32 := 512#32
  let v139 : BitVec 32 := Scalar.muli arg14 c512_i32_57
  let v140 : Index := Scalar.indexCast v139
  let c0_59 : Index := 0#32
  ![0, v140.toNat, 0]
def k0_off9 (i : grid0.Coords) (v21 : BitVec 32) (k0_t1 : Fin (k0_t1_loop i v21).trips) : Fin 4 → Nat :=
  let c0_66 : Index := 0#32
  let c0_67 : Index := 0#32
  let c0_68 : Index := 0#32
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let c1_i32_35 : BitVec 32 := 1#32
  let arg14 : BitVec 32 := Scf.iv v62 c1_i32_35 k0_t1
  let c512_i32_57 : BitVec 32 := 512#32
  let v139 : BitVec 32 := Scalar.muli arg14 c512_i32_57
  let v147 : Index := Scalar.indexCast v139
  ![0, 0, 0, v147.toNat]
def k0_off10 (i : grid0.Coords) (c0_i32_75 : BitVec 32) : Fin 3 → Nat :=
  let arg0 : BitVec 32 := BitVec.ofNat 32 (i 0).val
  let v159 : Index := Scalar.indexCast arg0
  let arg1 : BitVec 32 := BitVec.ofNat 32 (i 1).val
  let v160 : Index := Scalar.indexCast arg1
  let arg2 : BitVec 32 := BitVec.ofNat 32 (i 2).val
  let c2_i32_74 : BitVec 32 := 2#32
  let v157 : BitVec 32 := Scalar.muli arg2 c2_i32_74
  let v158 : BitVec 32 := Scalar.addi v157 c0_i32_75
  let v161 : Index := Scalar.indexCast v158
  ![v159.toNat, v160.toNat, v161.toNat]
def k0_mult9 (i : grid0.Coords) (v21 : BitVec 32) (k0_t1 : Fin (k0_t1_loop i v21).trips) : BitVec 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let c1_i32_35 : BitVec 32 := 1#32
  let arg14 : BitVec 32 := Scf.iv v62 c1_i32_35 k0_t1
  let c512_i32_79 : BitVec 32 := 512#32
  let v184 : BitVec 32 := Scalar.muli arg14 c512_i32_79
  let c0_i32_80 : BitVec 32 := 0#32
  let v185 : BitVec 32 := Scalar.addi v184 c0_i32_80
  v185
def k0_off11 (i : grid0.Coords) (v21 : BitVec 32) (k0_t1 : Fin (k0_t1_loop i v21).trips) (c0_i32_80 : BitVec 32) : Fin 2 → Nat :=
  let c0_81 : Index := 0#32
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let c1_i32_35 : BitVec 32 := 1#32
  let arg14 : BitVec 32 := Scf.iv v62 c1_i32_35 k0_t1
  let c512_i32_79 : BitVec 32 := 512#32
  let v184 : BitVec 32 := Scalar.muli arg14 c512_i32_79
  let v185 : BitVec 32 := Scalar.addi v184 c0_i32_80
  let v186 : BitVec 32 := v185
  let v187 : Index := Scalar.indexCast v186
  ![0, v187.toNat]
def k0_mult10 (i : grid0.Coords) (v21 : BitVec 32) (k0_t1 : Fin (k0_t1_loop i v21).trips) : BitVec 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let c1_i32_35 : BitVec 32 := 1#32
  let arg14 : BitVec 32 := Scf.iv v62 c1_i32_35 k0_t1
  let c512_i32_85 : BitVec 32 := 512#32
  let v205 : BitVec 32 := Scalar.muli arg14 c512_i32_85
  let c128_i32_86 : BitVec 32 := 128#32
  let v206 : BitVec 32 := Scalar.addi v205 c128_i32_86
  v206
def k0_mult11 (i : grid0.Coords) (v21 : BitVec 32) (k0_t1 : Fin (k0_t1_loop i v21).trips) : BitVec 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let c1_i32_35 : BitVec 32 := 1#32
  let arg14 : BitVec 32 := Scf.iv v62 c1_i32_35 k0_t1
  let c512_i32_91 : BitVec 32 := 512#32
  let v226 : BitVec 32 := Scalar.muli arg14 c512_i32_91
  let c256_i32_92 : BitVec 32 := 256#32
  let v227 : BitVec 32 := Scalar.addi v226 c256_i32_92
  v227
def k0_mult12 (i : grid0.Coords) (v21 : BitVec 32) (k0_t1 : Fin (k0_t1_loop i v21).trips) : BitVec 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let c1_i32_35 : BitVec 32 := 1#32
  let arg14 : BitVec 32 := Scf.iv v62 c1_i32_35 k0_t1
  let c512_i32_96 : BitVec 32 := 512#32
  let v247 : BitVec 32 := Scalar.muli arg14 c512_i32_96
  let c384_i32_97 : BitVec 32 := 384#32
  let v248 : BitVec 32 := Scalar.addi v247 c384_i32_97
  v248
def k0_mult13 (i : grid0.Coords) (v21 : BitVec 32) (k0_t1 : Fin (k0_t1_loop i v21).trips) : BitVec 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let c1_i32_35 : BitVec 32 := 1#32
  let arg14 : BitVec 32 := Scf.iv v62 c1_i32_35 k0_t1
  let c512_i32_107 : BitVec 32 := 512#32
  let v285 : BitVec 32 := Scalar.muli arg14 c512_i32_107
  let c0_i32_108 : BitVec 32 := 0#32
  let v286 : BitVec 32 := Scalar.addi v285 c0_i32_108
  v286
def k0_off12 (i : grid0.Coords) (v21 : BitVec 32) (k0_t1 : Fin (k0_t1_loop i v21).trips) (c0_i32_108 : BitVec 32) : Fin 2 → Nat :=
  let c128_109 : Index := 128#32
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let c1_i32_35 : BitVec 32 := 1#32
  let arg14 : BitVec 32 := Scf.iv v62 c1_i32_35 k0_t1
  let c512_i32_107 : BitVec 32 := 512#32
  let v285 : BitVec 32 := Scalar.muli arg14 c512_i32_107
  let v286 : BitVec 32 := Scalar.addi v285 c0_i32_108
  let v287 : BitVec 32 := v286
  let v288 : Index := Scalar.indexCast v287
  ![128, v288.toNat]
def k0_mult14 (i : grid0.Coords) (v21 : BitVec 32) (k0_t1 : Fin (k0_t1_loop i v21).trips) : BitVec 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let c1_i32_35 : BitVec 32 := 1#32
  let arg14 : BitVec 32 := Scf.iv v62 c1_i32_35 k0_t1
  let c512_i32_113 : BitVec 32 := 512#32
  let v306 : BitVec 32 := Scalar.muli arg14 c512_i32_113
  let c128_i32_114 : BitVec 32 := 128#32
  let v307 : BitVec 32 := Scalar.addi v306 c128_i32_114
  v307
def k0_mult15 (i : grid0.Coords) (v21 : BitVec 32) (k0_t1 : Fin (k0_t1_loop i v21).trips) : BitVec 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let c1_i32_35 : BitVec 32 := 1#32
  let arg14 : BitVec 32 := Scf.iv v62 c1_i32_35 k0_t1
  let c512_i32_119 : BitVec 32 := 512#32
  let v327 : BitVec 32 := Scalar.muli arg14 c512_i32_119
  let c256_i32_120 : BitVec 32 := 256#32
  let v328 : BitVec 32 := Scalar.addi v327 c256_i32_120
  v328
def k0_mult16 (i : grid0.Coords) (v21 : BitVec 32) (k0_t1 : Fin (k0_t1_loop i v21).trips) : BitVec 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let c1_i32_35 : BitVec 32 := 1#32
  let arg14 : BitVec 32 := Scf.iv v62 c1_i32_35 k0_t1
  let c512_i32_125 : BitVec 32 := 512#32
  let v348 : BitVec 32 := Scalar.muli arg14 c512_i32_125
  let c384_i32_126 : BitVec 32 := 384#32
  let v349 : BitVec 32 := Scalar.addi v348 c384_i32_126
  v349
@[reducible] def k0_t2_loop (i : grid0.Coords) (v21 : BitVec 32) : Scf.Loop 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let arg2 : BitVec 32 := BitVec.ofNat 32 (i 2).val
  let c256_i32 : BitVec 32 := 256#32
  let v0 : BitVec 32 := Scalar.muli arg2 c256_i32
  let c256_i32_21 : BitVec 32 := 256#32
  let v63 : BitVec 32 := Scalar.addi v0 c256_i32_21
  let c512_i32_22 : BitVec 32 := 512#32
  let v64 : BitVec 32 := Scalar.addi v63 c512_i32_22
  let c1_i32_23 : BitVec 32 := 1#32
  let v65 : BitVec 32 := Scalar.subi v64 c1_i32_23
  let c0_i32_25 : BitVec 32 := 0#32
  let v67 : BitVec 1 := Scalar.cmpi .sgt v65 c0_i32_25
  let v68 : BitVec 32 := Scalar.extui v67
  let c0_i32_26 : BitVec 32 := 0#32
  let v69 : BitVec 1 := Scalar.cmpi .slt v65 c0_i32_26
  let v70 : BitVec 32 := Scalar.extui v69
  let v71 : BitVec 32 := Scalar.subi v68 v70
  let c512_i32_24 : BitVec 32 := 512#32
  let c0_i32_27 : BitVec 32 := 0#32
  let v72 : BitVec 1 := Scalar.cmpi .sgt c512_i32_24 c0_i32_27
  let v73 : BitVec 32 := Scalar.extui v72
  let c0_i32_28 : BitVec 32 := 0#32
  let v74 : BitVec 1 := Scalar.cmpi .slt c512_i32_24 c0_i32_28
  let v75 : BitVec 32 := Scalar.extui v74
  let v76 : BitVec 32 := Scalar.subi v73 v75
  let v77 : BitVec 1 := Scalar.cmpi .ne v71 v76
  let v78 : BitVec 32 := Scalar.remsi v65 c512_i32_24
  let c0_i32_29 : BitVec 32 := 0#32
  let v79 : BitVec 1 := Scalar.cmpi .ne v78 c0_i32_29
  let v80 : BitVec 1 := Scalar.andi v77 v79
  let v66 : BitVec 32 := Scalar.divsi v65 c512_i32_24
  let c1_i32_30 : BitVec 32 := 1#32
  let v81 : BitVec 32 := Scalar.subi v66 c1_i32_30
  let v82 : BitVec 32 := Scalar.select v80 v81 v66
  let v93 : BitVec 32 := Scalar.subi v82 v62
  let c1_i32_34 : BitVec 32 := 1#32
  let v95 : BitVec 32 := Scalar.divsi v93 c1_i32_34
  let v96 : BitVec 32 := Scalar.muli v95 c1_i32_34
  let v97 : BitVec 32 := Scalar.addi v62 v96
  let v94 : BitVec 32 := Scalar.addi v62 v93
  let c1_i32_36 : BitVec 32 := 1#32
  ⟨v97, v94, c1_i32_36⟩
def k0_off13 (i : grid0.Coords) (v21 : BitVec 32) (k0_t2 : Fin (k0_t2_loop i v21).trips) : Fin 3 → Nat :=
  let c0_58 : Index := 0#32
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let arg2 : BitVec 32 := BitVec.ofNat 32 (i 2).val
  let c256_i32 : BitVec 32 := 256#32
  let v0 : BitVec 32 := Scalar.muli arg2 c256_i32
  let c256_i32_21 : BitVec 32 := 256#32
  let v63 : BitVec 32 := Scalar.addi v0 c256_i32_21
  let c512_i32_22 : BitVec 32 := 512#32
  let v64 : BitVec 32 := Scalar.addi v63 c512_i32_22
  let c1_i32_23 : BitVec 32 := 1#32
  let v65 : BitVec 32 := Scalar.subi v64 c1_i32_23
  let c0_i32_25 : BitVec 32 := 0#32
  let v67 : BitVec 1 := Scalar.cmpi .sgt v65 c0_i32_25
  let v68 : BitVec 32 := Scalar.extui v67
  let c0_i32_26 : BitVec 32 := 0#32
  let v69 : BitVec 1 := Scalar.cmpi .slt v65 c0_i32_26
  let v70 : BitVec 32 := Scalar.extui v69
  let v71 : BitVec 32 := Scalar.subi v68 v70
  let c512_i32_24 : BitVec 32 := 512#32
  let c0_i32_27 : BitVec 32 := 0#32
  let v72 : BitVec 1 := Scalar.cmpi .sgt c512_i32_24 c0_i32_27
  let v73 : BitVec 32 := Scalar.extui v72
  let c0_i32_28 : BitVec 32 := 0#32
  let v74 : BitVec 1 := Scalar.cmpi .slt c512_i32_24 c0_i32_28
  let v75 : BitVec 32 := Scalar.extui v74
  let v76 : BitVec 32 := Scalar.subi v73 v75
  let v77 : BitVec 1 := Scalar.cmpi .ne v71 v76
  let v78 : BitVec 32 := Scalar.remsi v65 c512_i32_24
  let c0_i32_29 : BitVec 32 := 0#32
  let v79 : BitVec 1 := Scalar.cmpi .ne v78 c0_i32_29
  let v80 : BitVec 1 := Scalar.andi v77 v79
  let v66 : BitVec 32 := Scalar.divsi v65 c512_i32_24
  let c1_i32_30 : BitVec 32 := 1#32
  let v81 : BitVec 32 := Scalar.subi v66 c1_i32_30
  let v82 : BitVec 32 := Scalar.select v80 v81 v66
  let v93 : BitVec 32 := Scalar.subi v82 v62
  let c1_i32_34 : BitVec 32 := 1#32
  let v95 : BitVec 32 := Scalar.divsi v93 c1_i32_34
  let v96 : BitVec 32 := Scalar.muli v95 c1_i32_34
  let v97 : BitVec 32 := Scalar.addi v62 v96
  let c1_i32_36 : BitVec 32 := 1#32
  let arg14 : BitVec 32 := Scf.iv v97 c1_i32_36 k0_t2
  let c512_i32_57 : BitVec 32 := 512#32
  let v139 : BitVec 32 := Scalar.muli arg14 c512_i32_57
  let v140 : Index := Scalar.indexCast v139
  let c0_59 : Index := 0#32
  ![0, v140.toNat, 0]
def k0_cond2 (i : grid0.Coords) (v21 : BitVec 32) (v45 : BitVec 32) (k0_t2 : Fin (k0_t2_loop i v21).trips) : BitVec 1 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let arg2 : BitVec 32 := BitVec.ofNat 32 (i 2).val
  let c256_i32 : BitVec 32 := 256#32
  let v0 : BitVec 32 := Scalar.muli arg2 c256_i32
  let c256_i32_21 : BitVec 32 := 256#32
  let v63 : BitVec 32 := Scalar.addi v0 c256_i32_21
  let c512_i32_22 : BitVec 32 := 512#32
  let v64 : BitVec 32 := Scalar.addi v63 c512_i32_22
  let c1_i32_23 : BitVec 32 := 1#32
  let v65 : BitVec 32 := Scalar.subi v64 c1_i32_23
  let c0_i32_25 : BitVec 32 := 0#32
  let v67 : BitVec 1 := Scalar.cmpi .sgt v65 c0_i32_25
  let v68 : BitVec 32 := Scalar.extui v67
  let c0_i32_26 : BitVec 32 := 0#32
  let v69 : BitVec 1 := Scalar.cmpi .slt v65 c0_i32_26
  let v70 : BitVec 32 := Scalar.extui v69
  let v71 : BitVec 32 := Scalar.subi v68 v70
  let c512_i32_24 : BitVec 32 := 512#32
  let c0_i32_27 : BitVec 32 := 0#32
  let v72 : BitVec 1 := Scalar.cmpi .sgt c512_i32_24 c0_i32_27
  let v73 : BitVec 32 := Scalar.extui v72
  let c0_i32_28 : BitVec 32 := 0#32
  let v74 : BitVec 1 := Scalar.cmpi .slt c512_i32_24 c0_i32_28
  let v75 : BitVec 32 := Scalar.extui v74
  let v76 : BitVec 32 := Scalar.subi v73 v75
  let v77 : BitVec 1 := Scalar.cmpi .ne v71 v76
  let v78 : BitVec 32 := Scalar.remsi v65 c512_i32_24
  let c0_i32_29 : BitVec 32 := 0#32
  let v79 : BitVec 1 := Scalar.cmpi .ne v78 c0_i32_29
  let v80 : BitVec 1 := Scalar.andi v77 v79
  let v66 : BitVec 32 := Scalar.divsi v65 c512_i32_24
  let c1_i32_30 : BitVec 32 := 1#32
  let v81 : BitVec 32 := Scalar.subi v66 c1_i32_30
  let v82 : BitVec 32 := Scalar.select v80 v81 v66
  let v93 : BitVec 32 := Scalar.subi v82 v62
  let c1_i32_34 : BitVec 32 := 1#32
  let v95 : BitVec 32 := Scalar.divsi v93 c1_i32_34
  let v96 : BitVec 32 := Scalar.muli v95 c1_i32_34
  let v97 : BitVec 32 := Scalar.addi v62 v96
  let c1_i32_36 : BitVec 32 := 1#32
  let arg14 : BitVec 32 := Scf.iv v97 c1_i32_36 k0_t2
  let c512_i32_53 : BitVec 32 := 512#32
  let v130 : BitVec 32 := Scalar.muli arg14 c512_i32_53
  let v131 : BitVec 1 := Scalar.cmpi .sge v130 v45
  let c512_i32_54 : BitVec 32 := 512#32
  let v132 : BitVec 32 := Scalar.muli arg14 c512_i32_54
  let c512_i32_55 : BitVec 32 := 512#32
  let v133 : BitVec 32 := Scalar.addi v132 c512_i32_55
  let v134 : BitVec 1 := Scalar.cmpi .sle v133 v0
  let v135 : BitVec 1 := Scalar.andi v131 v134
  let v136 : BitVec 32 := Scalar.extui v135
  let c0_i32_56 : BitVec 32 := 0#32
  let v137 : BitVec 1 := Scalar.cmpi .ne v136 c0_i32_56
  v137

def k0_off14 (i : grid0.Coords) (v21 : BitVec 32) (k0_t2 : Fin (k0_t2_loop i v21).trips) : Fin 4 → Nat :=
  let c0_66 : Index := 0#32
  let c0_67 : Index := 0#32
  let c0_68 : Index := 0#32
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let arg2 : BitVec 32 := BitVec.ofNat 32 (i 2).val
  let c256_i32 : BitVec 32 := 256#32
  let v0 : BitVec 32 := Scalar.muli arg2 c256_i32
  let c256_i32_21 : BitVec 32 := 256#32
  let v63 : BitVec 32 := Scalar.addi v0 c256_i32_21
  let c512_i32_22 : BitVec 32 := 512#32
  let v64 : BitVec 32 := Scalar.addi v63 c512_i32_22
  let c1_i32_23 : BitVec 32 := 1#32
  let v65 : BitVec 32 := Scalar.subi v64 c1_i32_23
  let c0_i32_25 : BitVec 32 := 0#32
  let v67 : BitVec 1 := Scalar.cmpi .sgt v65 c0_i32_25
  let v68 : BitVec 32 := Scalar.extui v67
  let c0_i32_26 : BitVec 32 := 0#32
  let v69 : BitVec 1 := Scalar.cmpi .slt v65 c0_i32_26
  let v70 : BitVec 32 := Scalar.extui v69
  let v71 : BitVec 32 := Scalar.subi v68 v70
  let c512_i32_24 : BitVec 32 := 512#32
  let c0_i32_27 : BitVec 32 := 0#32
  let v72 : BitVec 1 := Scalar.cmpi .sgt c512_i32_24 c0_i32_27
  let v73 : BitVec 32 := Scalar.extui v72
  let c0_i32_28 : BitVec 32 := 0#32
  let v74 : BitVec 1 := Scalar.cmpi .slt c512_i32_24 c0_i32_28
  let v75 : BitVec 32 := Scalar.extui v74
  let v76 : BitVec 32 := Scalar.subi v73 v75
  let v77 : BitVec 1 := Scalar.cmpi .ne v71 v76
  let v78 : BitVec 32 := Scalar.remsi v65 c512_i32_24
  let c0_i32_29 : BitVec 32 := 0#32
  let v79 : BitVec 1 := Scalar.cmpi .ne v78 c0_i32_29
  let v80 : BitVec 1 := Scalar.andi v77 v79
  let v66 : BitVec 32 := Scalar.divsi v65 c512_i32_24
  let c1_i32_30 : BitVec 32 := 1#32
  let v81 : BitVec 32 := Scalar.subi v66 c1_i32_30
  let v82 : BitVec 32 := Scalar.select v80 v81 v66
  let v93 : BitVec 32 := Scalar.subi v82 v62
  let c1_i32_34 : BitVec 32 := 1#32
  let v95 : BitVec 32 := Scalar.divsi v93 c1_i32_34
  let v96 : BitVec 32 := Scalar.muli v95 c1_i32_34
  let v97 : BitVec 32 := Scalar.addi v62 v96
  let c1_i32_36 : BitVec 32 := 1#32
  let arg14 : BitVec 32 := Scf.iv v97 c1_i32_36 k0_t2
  let c512_i32_57 : BitVec 32 := 512#32
  let v139 : BitVec 32 := Scalar.muli arg14 c512_i32_57
  let v147 : Index := Scalar.indexCast v139
  ![0, 0, 0, v147.toNat]
def k0_off15 (i : grid0.Coords) (c0_i32_75 : BitVec 32) : Fin 3 → Nat :=
  let arg0 : BitVec 32 := BitVec.ofNat 32 (i 0).val
  let v159 : Index := Scalar.indexCast arg0
  let arg1 : BitVec 32 := BitVec.ofNat 32 (i 1).val
  let v160 : Index := Scalar.indexCast arg1
  let arg2 : BitVec 32 := BitVec.ofNat 32 (i 2).val
  let c2_i32_74 : BitVec 32 := 2#32
  let v157 : BitVec 32 := Scalar.muli arg2 c2_i32_74
  let v158 : BitVec 32 := Scalar.addi v157 c0_i32_75
  let v161 : Index := Scalar.indexCast v158
  ![v159.toNat, v160.toNat, v161.toNat]
def k0_mult17 (i : grid0.Coords) (v21 : BitVec 32) (k0_t2 : Fin (k0_t2_loop i v21).trips) : BitVec 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let arg2 : BitVec 32 := BitVec.ofNat 32 (i 2).val
  let c256_i32 : BitVec 32 := 256#32
  let v0 : BitVec 32 := Scalar.muli arg2 c256_i32
  let c256_i32_21 : BitVec 32 := 256#32
  let v63 : BitVec 32 := Scalar.addi v0 c256_i32_21
  let c512_i32_22 : BitVec 32 := 512#32
  let v64 : BitVec 32 := Scalar.addi v63 c512_i32_22
  let c1_i32_23 : BitVec 32 := 1#32
  let v65 : BitVec 32 := Scalar.subi v64 c1_i32_23
  let c0_i32_25 : BitVec 32 := 0#32
  let v67 : BitVec 1 := Scalar.cmpi .sgt v65 c0_i32_25
  let v68 : BitVec 32 := Scalar.extui v67
  let c0_i32_26 : BitVec 32 := 0#32
  let v69 : BitVec 1 := Scalar.cmpi .slt v65 c0_i32_26
  let v70 : BitVec 32 := Scalar.extui v69
  let v71 : BitVec 32 := Scalar.subi v68 v70
  let c512_i32_24 : BitVec 32 := 512#32
  let c0_i32_27 : BitVec 32 := 0#32
  let v72 : BitVec 1 := Scalar.cmpi .sgt c512_i32_24 c0_i32_27
  let v73 : BitVec 32 := Scalar.extui v72
  let c0_i32_28 : BitVec 32 := 0#32
  let v74 : BitVec 1 := Scalar.cmpi .slt c512_i32_24 c0_i32_28
  let v75 : BitVec 32 := Scalar.extui v74
  let v76 : BitVec 32 := Scalar.subi v73 v75
  let v77 : BitVec 1 := Scalar.cmpi .ne v71 v76
  let v78 : BitVec 32 := Scalar.remsi v65 c512_i32_24
  let c0_i32_29 : BitVec 32 := 0#32
  let v79 : BitVec 1 := Scalar.cmpi .ne v78 c0_i32_29
  let v80 : BitVec 1 := Scalar.andi v77 v79
  let v66 : BitVec 32 := Scalar.divsi v65 c512_i32_24
  let c1_i32_30 : BitVec 32 := 1#32
  let v81 : BitVec 32 := Scalar.subi v66 c1_i32_30
  let v82 : BitVec 32 := Scalar.select v80 v81 v66
  let v93 : BitVec 32 := Scalar.subi v82 v62
  let c1_i32_34 : BitVec 32 := 1#32
  let v95 : BitVec 32 := Scalar.divsi v93 c1_i32_34
  let v96 : BitVec 32 := Scalar.muli v95 c1_i32_34
  let v97 : BitVec 32 := Scalar.addi v62 v96
  let c1_i32_36 : BitVec 32 := 1#32
  let arg14 : BitVec 32 := Scf.iv v97 c1_i32_36 k0_t2
  let c512_i32_76 : BitVec 32 := 512#32
  let v172 : BitVec 32 := Scalar.muli arg14 c512_i32_76
  let c0_i32_77 : BitVec 32 := 0#32
  let v173 : BitVec 32 := Scalar.addi v172 c0_i32_77
  v173
def k0_off16 (i : grid0.Coords) (v21 : BitVec 32) (k0_t2 : Fin (k0_t2_loop i v21).trips) (c0_i32_77 : BitVec 32) : Fin 2 → Nat :=
  let c0_78 : Index := 0#32
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let arg2 : BitVec 32 := BitVec.ofNat 32 (i 2).val
  let c256_i32 : BitVec 32 := 256#32
  let v0 : BitVec 32 := Scalar.muli arg2 c256_i32
  let c256_i32_21 : BitVec 32 := 256#32
  let v63 : BitVec 32 := Scalar.addi v0 c256_i32_21
  let c512_i32_22 : BitVec 32 := 512#32
  let v64 : BitVec 32 := Scalar.addi v63 c512_i32_22
  let c1_i32_23 : BitVec 32 := 1#32
  let v65 : BitVec 32 := Scalar.subi v64 c1_i32_23
  let c0_i32_25 : BitVec 32 := 0#32
  let v67 : BitVec 1 := Scalar.cmpi .sgt v65 c0_i32_25
  let v68 : BitVec 32 := Scalar.extui v67
  let c0_i32_26 : BitVec 32 := 0#32
  let v69 : BitVec 1 := Scalar.cmpi .slt v65 c0_i32_26
  let v70 : BitVec 32 := Scalar.extui v69
  let v71 : BitVec 32 := Scalar.subi v68 v70
  let c512_i32_24 : BitVec 32 := 512#32
  let c0_i32_27 : BitVec 32 := 0#32
  let v72 : BitVec 1 := Scalar.cmpi .sgt c512_i32_24 c0_i32_27
  let v73 : BitVec 32 := Scalar.extui v72
  let c0_i32_28 : BitVec 32 := 0#32
  let v74 : BitVec 1 := Scalar.cmpi .slt c512_i32_24 c0_i32_28
  let v75 : BitVec 32 := Scalar.extui v74
  let v76 : BitVec 32 := Scalar.subi v73 v75
  let v77 : BitVec 1 := Scalar.cmpi .ne v71 v76
  let v78 : BitVec 32 := Scalar.remsi v65 c512_i32_24
  let c0_i32_29 : BitVec 32 := 0#32
  let v79 : BitVec 1 := Scalar.cmpi .ne v78 c0_i32_29
  let v80 : BitVec 1 := Scalar.andi v77 v79
  let v66 : BitVec 32 := Scalar.divsi v65 c512_i32_24
  let c1_i32_30 : BitVec 32 := 1#32
  let v81 : BitVec 32 := Scalar.subi v66 c1_i32_30
  let v82 : BitVec 32 := Scalar.select v80 v81 v66
  let v93 : BitVec 32 := Scalar.subi v82 v62
  let c1_i32_34 : BitVec 32 := 1#32
  let v95 : BitVec 32 := Scalar.divsi v93 c1_i32_34
  let v96 : BitVec 32 := Scalar.muli v95 c1_i32_34
  let v97 : BitVec 32 := Scalar.addi v62 v96
  let c1_i32_36 : BitVec 32 := 1#32
  let arg14 : BitVec 32 := Scf.iv v97 c1_i32_36 k0_t2
  let c512_i32_76 : BitVec 32 := 512#32
  let v172 : BitVec 32 := Scalar.muli arg14 c512_i32_76
  let v173 : BitVec 32 := Scalar.addi v172 c0_i32_77
  let v174 : BitVec 32 := v173
  let v175 : Index := Scalar.indexCast v174
  ![0, v175.toNat]
def k0_mult18 (i : grid0.Coords) (v21 : BitVec 32) (k0_t2 : Fin (k0_t2_loop i v21).trips) : BitVec 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let arg2 : BitVec 32 := BitVec.ofNat 32 (i 2).val
  let c256_i32 : BitVec 32 := 256#32
  let v0 : BitVec 32 := Scalar.muli arg2 c256_i32
  let c256_i32_21 : BitVec 32 := 256#32
  let v63 : BitVec 32 := Scalar.addi v0 c256_i32_21
  let c512_i32_22 : BitVec 32 := 512#32
  let v64 : BitVec 32 := Scalar.addi v63 c512_i32_22
  let c1_i32_23 : BitVec 32 := 1#32
  let v65 : BitVec 32 := Scalar.subi v64 c1_i32_23
  let c0_i32_25 : BitVec 32 := 0#32
  let v67 : BitVec 1 := Scalar.cmpi .sgt v65 c0_i32_25
  let v68 : BitVec 32 := Scalar.extui v67
  let c0_i32_26 : BitVec 32 := 0#32
  let v69 : BitVec 1 := Scalar.cmpi .slt v65 c0_i32_26
  let v70 : BitVec 32 := Scalar.extui v69
  let v71 : BitVec 32 := Scalar.subi v68 v70
  let c512_i32_24 : BitVec 32 := 512#32
  let c0_i32_27 : BitVec 32 := 0#32
  let v72 : BitVec 1 := Scalar.cmpi .sgt c512_i32_24 c0_i32_27
  let v73 : BitVec 32 := Scalar.extui v72
  let c0_i32_28 : BitVec 32 := 0#32
  let v74 : BitVec 1 := Scalar.cmpi .slt c512_i32_24 c0_i32_28
  let v75 : BitVec 32 := Scalar.extui v74
  let v76 : BitVec 32 := Scalar.subi v73 v75
  let v77 : BitVec 1 := Scalar.cmpi .ne v71 v76
  let v78 : BitVec 32 := Scalar.remsi v65 c512_i32_24
  let c0_i32_29 : BitVec 32 := 0#32
  let v79 : BitVec 1 := Scalar.cmpi .ne v78 c0_i32_29
  let v80 : BitVec 1 := Scalar.andi v77 v79
  let v66 : BitVec 32 := Scalar.divsi v65 c512_i32_24
  let c1_i32_30 : BitVec 32 := 1#32
  let v81 : BitVec 32 := Scalar.subi v66 c1_i32_30
  let v82 : BitVec 32 := Scalar.select v80 v81 v66
  let v93 : BitVec 32 := Scalar.subi v82 v62
  let c1_i32_34 : BitVec 32 := 1#32
  let v95 : BitVec 32 := Scalar.divsi v93 c1_i32_34
  let v96 : BitVec 32 := Scalar.muli v95 c1_i32_34
  let v97 : BitVec 32 := Scalar.addi v62 v96
  let c1_i32_36 : BitVec 32 := 1#32
  let arg14 : BitVec 32 := Scf.iv v97 c1_i32_36 k0_t2
  let c512_i32_79 : BitVec 32 := 512#32
  let v181 : BitVec 32 := Scalar.muli arg14 c512_i32_79
  let c128_i32_80 : BitVec 32 := 128#32
  let v182 : BitVec 32 := Scalar.addi v181 c128_i32_80
  v182
def k0_mult19 (i : grid0.Coords) (v21 : BitVec 32) (k0_t2 : Fin (k0_t2_loop i v21).trips) : BitVec 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let arg2 : BitVec 32 := BitVec.ofNat 32 (i 2).val
  let c256_i32 : BitVec 32 := 256#32
  let v0 : BitVec 32 := Scalar.muli arg2 c256_i32
  let c256_i32_21 : BitVec 32 := 256#32
  let v63 : BitVec 32 := Scalar.addi v0 c256_i32_21
  let c512_i32_22 : BitVec 32 := 512#32
  let v64 : BitVec 32 := Scalar.addi v63 c512_i32_22
  let c1_i32_23 : BitVec 32 := 1#32
  let v65 : BitVec 32 := Scalar.subi v64 c1_i32_23
  let c0_i32_25 : BitVec 32 := 0#32
  let v67 : BitVec 1 := Scalar.cmpi .sgt v65 c0_i32_25
  let v68 : BitVec 32 := Scalar.extui v67
  let c0_i32_26 : BitVec 32 := 0#32
  let v69 : BitVec 1 := Scalar.cmpi .slt v65 c0_i32_26
  let v70 : BitVec 32 := Scalar.extui v69
  let v71 : BitVec 32 := Scalar.subi v68 v70
  let c512_i32_24 : BitVec 32 := 512#32
  let c0_i32_27 : BitVec 32 := 0#32
  let v72 : BitVec 1 := Scalar.cmpi .sgt c512_i32_24 c0_i32_27
  let v73 : BitVec 32 := Scalar.extui v72
  let c0_i32_28 : BitVec 32 := 0#32
  let v74 : BitVec 1 := Scalar.cmpi .slt c512_i32_24 c0_i32_28
  let v75 : BitVec 32 := Scalar.extui v74
  let v76 : BitVec 32 := Scalar.subi v73 v75
  let v77 : BitVec 1 := Scalar.cmpi .ne v71 v76
  let v78 : BitVec 32 := Scalar.remsi v65 c512_i32_24
  let c0_i32_29 : BitVec 32 := 0#32
  let v79 : BitVec 1 := Scalar.cmpi .ne v78 c0_i32_29
  let v80 : BitVec 1 := Scalar.andi v77 v79
  let v66 : BitVec 32 := Scalar.divsi v65 c512_i32_24
  let c1_i32_30 : BitVec 32 := 1#32
  let v81 : BitVec 32 := Scalar.subi v66 c1_i32_30
  let v82 : BitVec 32 := Scalar.select v80 v81 v66
  let v93 : BitVec 32 := Scalar.subi v82 v62
  let c1_i32_34 : BitVec 32 := 1#32
  let v95 : BitVec 32 := Scalar.divsi v93 c1_i32_34
  let v96 : BitVec 32 := Scalar.muli v95 c1_i32_34
  let v97 : BitVec 32 := Scalar.addi v62 v96
  let c1_i32_36 : BitVec 32 := 1#32
  let arg14 : BitVec 32 := Scf.iv v97 c1_i32_36 k0_t2
  let c512_i32_82 : BitVec 32 := 512#32
  let v190 : BitVec 32 := Scalar.muli arg14 c512_i32_82
  let c256_i32_83 : BitVec 32 := 256#32
  let v191 : BitVec 32 := Scalar.addi v190 c256_i32_83
  v191
def k0_mult20 (i : grid0.Coords) (v21 : BitVec 32) (k0_t2 : Fin (k0_t2_loop i v21).trips) : BitVec 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let arg2 : BitVec 32 := BitVec.ofNat 32 (i 2).val
  let c256_i32 : BitVec 32 := 256#32
  let v0 : BitVec 32 := Scalar.muli arg2 c256_i32
  let c256_i32_21 : BitVec 32 := 256#32
  let v63 : BitVec 32 := Scalar.addi v0 c256_i32_21
  let c512_i32_22 : BitVec 32 := 512#32
  let v64 : BitVec 32 := Scalar.addi v63 c512_i32_22
  let c1_i32_23 : BitVec 32 := 1#32
  let v65 : BitVec 32 := Scalar.subi v64 c1_i32_23
  let c0_i32_25 : BitVec 32 := 0#32
  let v67 : BitVec 1 := Scalar.cmpi .sgt v65 c0_i32_25
  let v68 : BitVec 32 := Scalar.extui v67
  let c0_i32_26 : BitVec 32 := 0#32
  let v69 : BitVec 1 := Scalar.cmpi .slt v65 c0_i32_26
  let v70 : BitVec 32 := Scalar.extui v69
  let v71 : BitVec 32 := Scalar.subi v68 v70
  let c512_i32_24 : BitVec 32 := 512#32
  let c0_i32_27 : BitVec 32 := 0#32
  let v72 : BitVec 1 := Scalar.cmpi .sgt c512_i32_24 c0_i32_27
  let v73 : BitVec 32 := Scalar.extui v72
  let c0_i32_28 : BitVec 32 := 0#32
  let v74 : BitVec 1 := Scalar.cmpi .slt c512_i32_24 c0_i32_28
  let v75 : BitVec 32 := Scalar.extui v74
  let v76 : BitVec 32 := Scalar.subi v73 v75
  let v77 : BitVec 1 := Scalar.cmpi .ne v71 v76
  let v78 : BitVec 32 := Scalar.remsi v65 c512_i32_24
  let c0_i32_29 : BitVec 32 := 0#32
  let v79 : BitVec 1 := Scalar.cmpi .ne v78 c0_i32_29
  let v80 : BitVec 1 := Scalar.andi v77 v79
  let v66 : BitVec 32 := Scalar.divsi v65 c512_i32_24
  let c1_i32_30 : BitVec 32 := 1#32
  let v81 : BitVec 32 := Scalar.subi v66 c1_i32_30
  let v82 : BitVec 32 := Scalar.select v80 v81 v66
  let v93 : BitVec 32 := Scalar.subi v82 v62
  let c1_i32_34 : BitVec 32 := 1#32
  let v95 : BitVec 32 := Scalar.divsi v93 c1_i32_34
  let v96 : BitVec 32 := Scalar.muli v95 c1_i32_34
  let v97 : BitVec 32 := Scalar.addi v62 v96
  let c1_i32_36 : BitVec 32 := 1#32
  let arg14 : BitVec 32 := Scf.iv v97 c1_i32_36 k0_t2
  let c512_i32_85 : BitVec 32 := 512#32
  let v199 : BitVec 32 := Scalar.muli arg14 c512_i32_85
  let c384_i32 : BitVec 32 := 384#32
  let v200 : BitVec 32 := Scalar.addi v199 c384_i32
  v200
def k0_mult21 (i : grid0.Coords) (v21 : BitVec 32) (k0_t2 : Fin (k0_t2_loop i v21).trips) : BitVec 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let arg2 : BitVec 32 := BitVec.ofNat 32 (i 2).val
  let c256_i32 : BitVec 32 := 256#32
  let v0 : BitVec 32 := Scalar.muli arg2 c256_i32
  let c256_i32_21 : BitVec 32 := 256#32
  let v63 : BitVec 32 := Scalar.addi v0 c256_i32_21
  let c512_i32_22 : BitVec 32 := 512#32
  let v64 : BitVec 32 := Scalar.addi v63 c512_i32_22
  let c1_i32_23 : BitVec 32 := 1#32
  let v65 : BitVec 32 := Scalar.subi v64 c1_i32_23
  let c0_i32_25 : BitVec 32 := 0#32
  let v67 : BitVec 1 := Scalar.cmpi .sgt v65 c0_i32_25
  let v68 : BitVec 32 := Scalar.extui v67
  let c0_i32_26 : BitVec 32 := 0#32
  let v69 : BitVec 1 := Scalar.cmpi .slt v65 c0_i32_26
  let v70 : BitVec 32 := Scalar.extui v69
  let v71 : BitVec 32 := Scalar.subi v68 v70
  let c512_i32_24 : BitVec 32 := 512#32
  let c0_i32_27 : BitVec 32 := 0#32
  let v72 : BitVec 1 := Scalar.cmpi .sgt c512_i32_24 c0_i32_27
  let v73 : BitVec 32 := Scalar.extui v72
  let c0_i32_28 : BitVec 32 := 0#32
  let v74 : BitVec 1 := Scalar.cmpi .slt c512_i32_24 c0_i32_28
  let v75 : BitVec 32 := Scalar.extui v74
  let v76 : BitVec 32 := Scalar.subi v73 v75
  let v77 : BitVec 1 := Scalar.cmpi .ne v71 v76
  let v78 : BitVec 32 := Scalar.remsi v65 c512_i32_24
  let c0_i32_29 : BitVec 32 := 0#32
  let v79 : BitVec 1 := Scalar.cmpi .ne v78 c0_i32_29
  let v80 : BitVec 1 := Scalar.andi v77 v79
  let v66 : BitVec 32 := Scalar.divsi v65 c512_i32_24
  let c1_i32_30 : BitVec 32 := 1#32
  let v81 : BitVec 32 := Scalar.subi v66 c1_i32_30
  let v82 : BitVec 32 := Scalar.select v80 v81 v66
  let v93 : BitVec 32 := Scalar.subi v82 v62
  let c1_i32_34 : BitVec 32 := 1#32
  let v95 : BitVec 32 := Scalar.divsi v93 c1_i32_34
  let v96 : BitVec 32 := Scalar.muli v95 c1_i32_34
  let v97 : BitVec 32 := Scalar.addi v62 v96
  let c1_i32_36 : BitVec 32 := 1#32
  let arg14 : BitVec 32 := Scf.iv v97 c1_i32_36 k0_t2
  let c512_i32_92 : BitVec 32 := 512#32
  let v225 : BitVec 32 := Scalar.muli arg14 c512_i32_92
  let c0_i32_93 : BitVec 32 := 0#32
  let v226 : BitVec 32 := Scalar.addi v225 c0_i32_93
  v226
def k0_off17 (i : grid0.Coords) (v21 : BitVec 32) (k0_t2 : Fin (k0_t2_loop i v21).trips) (c0_i32_93 : BitVec 32) : Fin 2 → Nat :=
  let c128_94 : Index := 128#32
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let arg2 : BitVec 32 := BitVec.ofNat 32 (i 2).val
  let c256_i32 : BitVec 32 := 256#32
  let v0 : BitVec 32 := Scalar.muli arg2 c256_i32
  let c256_i32_21 : BitVec 32 := 256#32
  let v63 : BitVec 32 := Scalar.addi v0 c256_i32_21
  let c512_i32_22 : BitVec 32 := 512#32
  let v64 : BitVec 32 := Scalar.addi v63 c512_i32_22
  let c1_i32_23 : BitVec 32 := 1#32
  let v65 : BitVec 32 := Scalar.subi v64 c1_i32_23
  let c0_i32_25 : BitVec 32 := 0#32
  let v67 : BitVec 1 := Scalar.cmpi .sgt v65 c0_i32_25
  let v68 : BitVec 32 := Scalar.extui v67
  let c0_i32_26 : BitVec 32 := 0#32
  let v69 : BitVec 1 := Scalar.cmpi .slt v65 c0_i32_26
  let v70 : BitVec 32 := Scalar.extui v69
  let v71 : BitVec 32 := Scalar.subi v68 v70
  let c512_i32_24 : BitVec 32 := 512#32
  let c0_i32_27 : BitVec 32 := 0#32
  let v72 : BitVec 1 := Scalar.cmpi .sgt c512_i32_24 c0_i32_27
  let v73 : BitVec 32 := Scalar.extui v72
  let c0_i32_28 : BitVec 32 := 0#32
  let v74 : BitVec 1 := Scalar.cmpi .slt c512_i32_24 c0_i32_28
  let v75 : BitVec 32 := Scalar.extui v74
  let v76 : BitVec 32 := Scalar.subi v73 v75
  let v77 : BitVec 1 := Scalar.cmpi .ne v71 v76
  let v78 : BitVec 32 := Scalar.remsi v65 c512_i32_24
  let c0_i32_29 : BitVec 32 := 0#32
  let v79 : BitVec 1 := Scalar.cmpi .ne v78 c0_i32_29
  let v80 : BitVec 1 := Scalar.andi v77 v79
  let v66 : BitVec 32 := Scalar.divsi v65 c512_i32_24
  let c1_i32_30 : BitVec 32 := 1#32
  let v81 : BitVec 32 := Scalar.subi v66 c1_i32_30
  let v82 : BitVec 32 := Scalar.select v80 v81 v66
  let v93 : BitVec 32 := Scalar.subi v82 v62
  let c1_i32_34 : BitVec 32 := 1#32
  let v95 : BitVec 32 := Scalar.divsi v93 c1_i32_34
  let v96 : BitVec 32 := Scalar.muli v95 c1_i32_34
  let v97 : BitVec 32 := Scalar.addi v62 v96
  let c1_i32_36 : BitVec 32 := 1#32
  let arg14 : BitVec 32 := Scf.iv v97 c1_i32_36 k0_t2
  let c512_i32_92 : BitVec 32 := 512#32
  let v225 : BitVec 32 := Scalar.muli arg14 c512_i32_92
  let v226 : BitVec 32 := Scalar.addi v225 c0_i32_93
  let v227 : BitVec 32 := v226
  let v228 : Index := Scalar.indexCast v227
  ![128, v228.toNat]
def k0_mult22 (i : grid0.Coords) (v21 : BitVec 32) (k0_t2 : Fin (k0_t2_loop i v21).trips) : BitVec 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let arg2 : BitVec 32 := BitVec.ofNat 32 (i 2).val
  let c256_i32 : BitVec 32 := 256#32
  let v0 : BitVec 32 := Scalar.muli arg2 c256_i32
  let c256_i32_21 : BitVec 32 := 256#32
  let v63 : BitVec 32 := Scalar.addi v0 c256_i32_21
  let c512_i32_22 : BitVec 32 := 512#32
  let v64 : BitVec 32 := Scalar.addi v63 c512_i32_22
  let c1_i32_23 : BitVec 32 := 1#32
  let v65 : BitVec 32 := Scalar.subi v64 c1_i32_23
  let c0_i32_25 : BitVec 32 := 0#32
  let v67 : BitVec 1 := Scalar.cmpi .sgt v65 c0_i32_25
  let v68 : BitVec 32 := Scalar.extui v67
  let c0_i32_26 : BitVec 32 := 0#32
  let v69 : BitVec 1 := Scalar.cmpi .slt v65 c0_i32_26
  let v70 : BitVec 32 := Scalar.extui v69
  let v71 : BitVec 32 := Scalar.subi v68 v70
  let c512_i32_24 : BitVec 32 := 512#32
  let c0_i32_27 : BitVec 32 := 0#32
  let v72 : BitVec 1 := Scalar.cmpi .sgt c512_i32_24 c0_i32_27
  let v73 : BitVec 32 := Scalar.extui v72
  let c0_i32_28 : BitVec 32 := 0#32
  let v74 : BitVec 1 := Scalar.cmpi .slt c512_i32_24 c0_i32_28
  let v75 : BitVec 32 := Scalar.extui v74
  let v76 : BitVec 32 := Scalar.subi v73 v75
  let v77 : BitVec 1 := Scalar.cmpi .ne v71 v76
  let v78 : BitVec 32 := Scalar.remsi v65 c512_i32_24
  let c0_i32_29 : BitVec 32 := 0#32
  let v79 : BitVec 1 := Scalar.cmpi .ne v78 c0_i32_29
  let v80 : BitVec 1 := Scalar.andi v77 v79
  let v66 : BitVec 32 := Scalar.divsi v65 c512_i32_24
  let c1_i32_30 : BitVec 32 := 1#32
  let v81 : BitVec 32 := Scalar.subi v66 c1_i32_30
  let v82 : BitVec 32 := Scalar.select v80 v81 v66
  let v93 : BitVec 32 := Scalar.subi v82 v62
  let c1_i32_34 : BitVec 32 := 1#32
  let v95 : BitVec 32 := Scalar.divsi v93 c1_i32_34
  let v96 : BitVec 32 := Scalar.muli v95 c1_i32_34
  let v97 : BitVec 32 := Scalar.addi v62 v96
  let c1_i32_36 : BitVec 32 := 1#32
  let arg14 : BitVec 32 := Scf.iv v97 c1_i32_36 k0_t2
  let c512_i32_95 : BitVec 32 := 512#32
  let v234 : BitVec 32 := Scalar.muli arg14 c512_i32_95
  let c128_i32_96 : BitVec 32 := 128#32
  let v235 : BitVec 32 := Scalar.addi v234 c128_i32_96
  v235
def k0_mult23 (i : grid0.Coords) (v21 : BitVec 32) (k0_t2 : Fin (k0_t2_loop i v21).trips) : BitVec 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let arg2 : BitVec 32 := BitVec.ofNat 32 (i 2).val
  let c256_i32 : BitVec 32 := 256#32
  let v0 : BitVec 32 := Scalar.muli arg2 c256_i32
  let c256_i32_21 : BitVec 32 := 256#32
  let v63 : BitVec 32 := Scalar.addi v0 c256_i32_21
  let c512_i32_22 : BitVec 32 := 512#32
  let v64 : BitVec 32 := Scalar.addi v63 c512_i32_22
  let c1_i32_23 : BitVec 32 := 1#32
  let v65 : BitVec 32 := Scalar.subi v64 c1_i32_23
  let c0_i32_25 : BitVec 32 := 0#32
  let v67 : BitVec 1 := Scalar.cmpi .sgt v65 c0_i32_25
  let v68 : BitVec 32 := Scalar.extui v67
  let c0_i32_26 : BitVec 32 := 0#32
  let v69 : BitVec 1 := Scalar.cmpi .slt v65 c0_i32_26
  let v70 : BitVec 32 := Scalar.extui v69
  let v71 : BitVec 32 := Scalar.subi v68 v70
  let c512_i32_24 : BitVec 32 := 512#32
  let c0_i32_27 : BitVec 32 := 0#32
  let v72 : BitVec 1 := Scalar.cmpi .sgt c512_i32_24 c0_i32_27
  let v73 : BitVec 32 := Scalar.extui v72
  let c0_i32_28 : BitVec 32 := 0#32
  let v74 : BitVec 1 := Scalar.cmpi .slt c512_i32_24 c0_i32_28
  let v75 : BitVec 32 := Scalar.extui v74
  let v76 : BitVec 32 := Scalar.subi v73 v75
  let v77 : BitVec 1 := Scalar.cmpi .ne v71 v76
  let v78 : BitVec 32 := Scalar.remsi v65 c512_i32_24
  let c0_i32_29 : BitVec 32 := 0#32
  let v79 : BitVec 1 := Scalar.cmpi .ne v78 c0_i32_29
  let v80 : BitVec 1 := Scalar.andi v77 v79
  let v66 : BitVec 32 := Scalar.divsi v65 c512_i32_24
  let c1_i32_30 : BitVec 32 := 1#32
  let v81 : BitVec 32 := Scalar.subi v66 c1_i32_30
  let v82 : BitVec 32 := Scalar.select v80 v81 v66
  let v93 : BitVec 32 := Scalar.subi v82 v62
  let c1_i32_34 : BitVec 32 := 1#32
  let v95 : BitVec 32 := Scalar.divsi v93 c1_i32_34
  let v96 : BitVec 32 := Scalar.muli v95 c1_i32_34
  let v97 : BitVec 32 := Scalar.addi v62 v96
  let c1_i32_36 : BitVec 32 := 1#32
  let arg14 : BitVec 32 := Scf.iv v97 c1_i32_36 k0_t2
  let c512_i32_98 : BitVec 32 := 512#32
  let v243 : BitVec 32 := Scalar.muli arg14 c512_i32_98
  let c256_i32_99 : BitVec 32 := 256#32
  let v244 : BitVec 32 := Scalar.addi v243 c256_i32_99
  v244
def k0_mult24 (i : grid0.Coords) (v21 : BitVec 32) (k0_t2 : Fin (k0_t2_loop i v21).trips) : BitVec 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let arg2 : BitVec 32 := BitVec.ofNat 32 (i 2).val
  let c256_i32 : BitVec 32 := 256#32
  let v0 : BitVec 32 := Scalar.muli arg2 c256_i32
  let c256_i32_21 : BitVec 32 := 256#32
  let v63 : BitVec 32 := Scalar.addi v0 c256_i32_21
  let c512_i32_22 : BitVec 32 := 512#32
  let v64 : BitVec 32 := Scalar.addi v63 c512_i32_22
  let c1_i32_23 : BitVec 32 := 1#32
  let v65 : BitVec 32 := Scalar.subi v64 c1_i32_23
  let c0_i32_25 : BitVec 32 := 0#32
  let v67 : BitVec 1 := Scalar.cmpi .sgt v65 c0_i32_25
  let v68 : BitVec 32 := Scalar.extui v67
  let c0_i32_26 : BitVec 32 := 0#32
  let v69 : BitVec 1 := Scalar.cmpi .slt v65 c0_i32_26
  let v70 : BitVec 32 := Scalar.extui v69
  let v71 : BitVec 32 := Scalar.subi v68 v70
  let c512_i32_24 : BitVec 32 := 512#32
  let c0_i32_27 : BitVec 32 := 0#32
  let v72 : BitVec 1 := Scalar.cmpi .sgt c512_i32_24 c0_i32_27
  let v73 : BitVec 32 := Scalar.extui v72
  let c0_i32_28 : BitVec 32 := 0#32
  let v74 : BitVec 1 := Scalar.cmpi .slt c512_i32_24 c0_i32_28
  let v75 : BitVec 32 := Scalar.extui v74
  let v76 : BitVec 32 := Scalar.subi v73 v75
  let v77 : BitVec 1 := Scalar.cmpi .ne v71 v76
  let v78 : BitVec 32 := Scalar.remsi v65 c512_i32_24
  let c0_i32_29 : BitVec 32 := 0#32
  let v79 : BitVec 1 := Scalar.cmpi .ne v78 c0_i32_29
  let v80 : BitVec 1 := Scalar.andi v77 v79
  let v66 : BitVec 32 := Scalar.divsi v65 c512_i32_24
  let c1_i32_30 : BitVec 32 := 1#32
  let v81 : BitVec 32 := Scalar.subi v66 c1_i32_30
  let v82 : BitVec 32 := Scalar.select v80 v81 v66
  let v93 : BitVec 32 := Scalar.subi v82 v62
  let c1_i32_34 : BitVec 32 := 1#32
  let v95 : BitVec 32 := Scalar.divsi v93 c1_i32_34
  let v96 : BitVec 32 := Scalar.muli v95 c1_i32_34
  let v97 : BitVec 32 := Scalar.addi v62 v96
  let c1_i32_36 : BitVec 32 := 1#32
  let arg14 : BitVec 32 := Scf.iv v97 c1_i32_36 k0_t2
  let c512_i32_101 : BitVec 32 := 512#32
  let v252 : BitVec 32 := Scalar.muli arg14 c512_i32_101
  let c384_i32_102 : BitVec 32 := 384#32
  let v253 : BitVec 32 := Scalar.addi v252 c384_i32_102
  v253
def k0_off18 (i : grid0.Coords) (v21 : BitVec 32) (k0_t2 : Fin (k0_t2_loop i v21).trips) : Fin 3 → Nat :=
  let c0_58 : Index := 0#32
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let arg2 : BitVec 32 := BitVec.ofNat 32 (i 2).val
  let c256_i32 : BitVec 32 := 256#32
  let v0 : BitVec 32 := Scalar.muli arg2 c256_i32
  let c256_i32_21 : BitVec 32 := 256#32
  let v63 : BitVec 32 := Scalar.addi v0 c256_i32_21
  let c512_i32_22 : BitVec 32 := 512#32
  let v64 : BitVec 32 := Scalar.addi v63 c512_i32_22
  let c1_i32_23 : BitVec 32 := 1#32
  let v65 : BitVec 32 := Scalar.subi v64 c1_i32_23
  let c0_i32_25 : BitVec 32 := 0#32
  let v67 : BitVec 1 := Scalar.cmpi .sgt v65 c0_i32_25
  let v68 : BitVec 32 := Scalar.extui v67
  let c0_i32_26 : BitVec 32 := 0#32
  let v69 : BitVec 1 := Scalar.cmpi .slt v65 c0_i32_26
  let v70 : BitVec 32 := Scalar.extui v69
  let v71 : BitVec 32 := Scalar.subi v68 v70
  let c512_i32_24 : BitVec 32 := 512#32
  let c0_i32_27 : BitVec 32 := 0#32
  let v72 : BitVec 1 := Scalar.cmpi .sgt c512_i32_24 c0_i32_27
  let v73 : BitVec 32 := Scalar.extui v72
  let c0_i32_28 : BitVec 32 := 0#32
  let v74 : BitVec 1 := Scalar.cmpi .slt c512_i32_24 c0_i32_28
  let v75 : BitVec 32 := Scalar.extui v74
  let v76 : BitVec 32 := Scalar.subi v73 v75
  let v77 : BitVec 1 := Scalar.cmpi .ne v71 v76
  let v78 : BitVec 32 := Scalar.remsi v65 c512_i32_24
  let c0_i32_29 : BitVec 32 := 0#32
  let v79 : BitVec 1 := Scalar.cmpi .ne v78 c0_i32_29
  let v80 : BitVec 1 := Scalar.andi v77 v79
  let v66 : BitVec 32 := Scalar.divsi v65 c512_i32_24
  let c1_i32_30 : BitVec 32 := 1#32
  let v81 : BitVec 32 := Scalar.subi v66 c1_i32_30
  let v82 : BitVec 32 := Scalar.select v80 v81 v66
  let v93 : BitVec 32 := Scalar.subi v82 v62
  let c1_i32_34 : BitVec 32 := 1#32
  let v95 : BitVec 32 := Scalar.divsi v93 c1_i32_34
  let v96 : BitVec 32 := Scalar.muli v95 c1_i32_34
  let v97 : BitVec 32 := Scalar.addi v62 v96
  let c1_i32_36 : BitVec 32 := 1#32
  let arg14 : BitVec 32 := Scf.iv v97 c1_i32_36 k0_t2
  let c512_i32_57 : BitVec 32 := 512#32
  let v139 : BitVec 32 := Scalar.muli arg14 c512_i32_57
  let v140 : Index := Scalar.indexCast v139
  let c0_59 : Index := 0#32
  ![0, v140.toNat, 0]
def k0_off19 (i : grid0.Coords) (v21 : BitVec 32) (k0_t2 : Fin (k0_t2_loop i v21).trips) : Fin 4 → Nat :=
  let c0_66 : Index := 0#32
  let c0_67 : Index := 0#32
  let c0_68 : Index := 0#32
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let arg2 : BitVec 32 := BitVec.ofNat 32 (i 2).val
  let c256_i32 : BitVec 32 := 256#32
  let v0 : BitVec 32 := Scalar.muli arg2 c256_i32
  let c256_i32_21 : BitVec 32 := 256#32
  let v63 : BitVec 32 := Scalar.addi v0 c256_i32_21
  let c512_i32_22 : BitVec 32 := 512#32
  let v64 : BitVec 32 := Scalar.addi v63 c512_i32_22
  let c1_i32_23 : BitVec 32 := 1#32
  let v65 : BitVec 32 := Scalar.subi v64 c1_i32_23
  let c0_i32_25 : BitVec 32 := 0#32
  let v67 : BitVec 1 := Scalar.cmpi .sgt v65 c0_i32_25
  let v68 : BitVec 32 := Scalar.extui v67
  let c0_i32_26 : BitVec 32 := 0#32
  let v69 : BitVec 1 := Scalar.cmpi .slt v65 c0_i32_26
  let v70 : BitVec 32 := Scalar.extui v69
  let v71 : BitVec 32 := Scalar.subi v68 v70
  let c512_i32_24 : BitVec 32 := 512#32
  let c0_i32_27 : BitVec 32 := 0#32
  let v72 : BitVec 1 := Scalar.cmpi .sgt c512_i32_24 c0_i32_27
  let v73 : BitVec 32 := Scalar.extui v72
  let c0_i32_28 : BitVec 32 := 0#32
  let v74 : BitVec 1 := Scalar.cmpi .slt c512_i32_24 c0_i32_28
  let v75 : BitVec 32 := Scalar.extui v74
  let v76 : BitVec 32 := Scalar.subi v73 v75
  let v77 : BitVec 1 := Scalar.cmpi .ne v71 v76
  let v78 : BitVec 32 := Scalar.remsi v65 c512_i32_24
  let c0_i32_29 : BitVec 32 := 0#32
  let v79 : BitVec 1 := Scalar.cmpi .ne v78 c0_i32_29
  let v80 : BitVec 1 := Scalar.andi v77 v79
  let v66 : BitVec 32 := Scalar.divsi v65 c512_i32_24
  let c1_i32_30 : BitVec 32 := 1#32
  let v81 : BitVec 32 := Scalar.subi v66 c1_i32_30
  let v82 : BitVec 32 := Scalar.select v80 v81 v66
  let v93 : BitVec 32 := Scalar.subi v82 v62
  let c1_i32_34 : BitVec 32 := 1#32
  let v95 : BitVec 32 := Scalar.divsi v93 c1_i32_34
  let v96 : BitVec 32 := Scalar.muli v95 c1_i32_34
  let v97 : BitVec 32 := Scalar.addi v62 v96
  let c1_i32_36 : BitVec 32 := 1#32
  let arg14 : BitVec 32 := Scf.iv v97 c1_i32_36 k0_t2
  let c512_i32_57 : BitVec 32 := 512#32
  let v139 : BitVec 32 := Scalar.muli arg14 c512_i32_57
  let v147 : Index := Scalar.indexCast v139
  ![0, 0, 0, v147.toNat]
def k0_off20 (i : grid0.Coords) (c0_i32_75 : BitVec 32) : Fin 3 → Nat :=
  let arg0 : BitVec 32 := BitVec.ofNat 32 (i 0).val
  let v159 : Index := Scalar.indexCast arg0
  let arg1 : BitVec 32 := BitVec.ofNat 32 (i 1).val
  let v160 : Index := Scalar.indexCast arg1
  let arg2 : BitVec 32 := BitVec.ofNat 32 (i 2).val
  let c2_i32_74 : BitVec 32 := 2#32
  let v157 : BitVec 32 := Scalar.muli arg2 c2_i32_74
  let v158 : BitVec 32 := Scalar.addi v157 c0_i32_75
  let v161 : Index := Scalar.indexCast v158
  ![v159.toNat, v160.toNat, v161.toNat]
def k0_mult25 (i : grid0.Coords) (v21 : BitVec 32) (k0_t2 : Fin (k0_t2_loop i v21).trips) : BitVec 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let arg2 : BitVec 32 := BitVec.ofNat 32 (i 2).val
  let c256_i32 : BitVec 32 := 256#32
  let v0 : BitVec 32 := Scalar.muli arg2 c256_i32
  let c256_i32_21 : BitVec 32 := 256#32
  let v63 : BitVec 32 := Scalar.addi v0 c256_i32_21
  let c512_i32_22 : BitVec 32 := 512#32
  let v64 : BitVec 32 := Scalar.addi v63 c512_i32_22
  let c1_i32_23 : BitVec 32 := 1#32
  let v65 : BitVec 32 := Scalar.subi v64 c1_i32_23
  let c0_i32_25 : BitVec 32 := 0#32
  let v67 : BitVec 1 := Scalar.cmpi .sgt v65 c0_i32_25
  let v68 : BitVec 32 := Scalar.extui v67
  let c0_i32_26 : BitVec 32 := 0#32
  let v69 : BitVec 1 := Scalar.cmpi .slt v65 c0_i32_26
  let v70 : BitVec 32 := Scalar.extui v69
  let v71 : BitVec 32 := Scalar.subi v68 v70
  let c512_i32_24 : BitVec 32 := 512#32
  let c0_i32_27 : BitVec 32 := 0#32
  let v72 : BitVec 1 := Scalar.cmpi .sgt c512_i32_24 c0_i32_27
  let v73 : BitVec 32 := Scalar.extui v72
  let c0_i32_28 : BitVec 32 := 0#32
  let v74 : BitVec 1 := Scalar.cmpi .slt c512_i32_24 c0_i32_28
  let v75 : BitVec 32 := Scalar.extui v74
  let v76 : BitVec 32 := Scalar.subi v73 v75
  let v77 : BitVec 1 := Scalar.cmpi .ne v71 v76
  let v78 : BitVec 32 := Scalar.remsi v65 c512_i32_24
  let c0_i32_29 : BitVec 32 := 0#32
  let v79 : BitVec 1 := Scalar.cmpi .ne v78 c0_i32_29
  let v80 : BitVec 1 := Scalar.andi v77 v79
  let v66 : BitVec 32 := Scalar.divsi v65 c512_i32_24
  let c1_i32_30 : BitVec 32 := 1#32
  let v81 : BitVec 32 := Scalar.subi v66 c1_i32_30
  let v82 : BitVec 32 := Scalar.select v80 v81 v66
  let v93 : BitVec 32 := Scalar.subi v82 v62
  let c1_i32_34 : BitVec 32 := 1#32
  let v95 : BitVec 32 := Scalar.divsi v93 c1_i32_34
  let v96 : BitVec 32 := Scalar.muli v95 c1_i32_34
  let v97 : BitVec 32 := Scalar.addi v62 v96
  let c1_i32_36 : BitVec 32 := 1#32
  let arg14 : BitVec 32 := Scf.iv v97 c1_i32_36 k0_t2
  let c512_i32_79 : BitVec 32 := 512#32
  let v184 : BitVec 32 := Scalar.muli arg14 c512_i32_79
  let c0_i32_80 : BitVec 32 := 0#32
  let v185 : BitVec 32 := Scalar.addi v184 c0_i32_80
  v185
def k0_off21 (i : grid0.Coords) (v21 : BitVec 32) (k0_t2 : Fin (k0_t2_loop i v21).trips) (c0_i32_80 : BitVec 32) : Fin 2 → Nat :=
  let c0_81 : Index := 0#32
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let arg2 : BitVec 32 := BitVec.ofNat 32 (i 2).val
  let c256_i32 : BitVec 32 := 256#32
  let v0 : BitVec 32 := Scalar.muli arg2 c256_i32
  let c256_i32_21 : BitVec 32 := 256#32
  let v63 : BitVec 32 := Scalar.addi v0 c256_i32_21
  let c512_i32_22 : BitVec 32 := 512#32
  let v64 : BitVec 32 := Scalar.addi v63 c512_i32_22
  let c1_i32_23 : BitVec 32 := 1#32
  let v65 : BitVec 32 := Scalar.subi v64 c1_i32_23
  let c0_i32_25 : BitVec 32 := 0#32
  let v67 : BitVec 1 := Scalar.cmpi .sgt v65 c0_i32_25
  let v68 : BitVec 32 := Scalar.extui v67
  let c0_i32_26 : BitVec 32 := 0#32
  let v69 : BitVec 1 := Scalar.cmpi .slt v65 c0_i32_26
  let v70 : BitVec 32 := Scalar.extui v69
  let v71 : BitVec 32 := Scalar.subi v68 v70
  let c512_i32_24 : BitVec 32 := 512#32
  let c0_i32_27 : BitVec 32 := 0#32
  let v72 : BitVec 1 := Scalar.cmpi .sgt c512_i32_24 c0_i32_27
  let v73 : BitVec 32 := Scalar.extui v72
  let c0_i32_28 : BitVec 32 := 0#32
  let v74 : BitVec 1 := Scalar.cmpi .slt c512_i32_24 c0_i32_28
  let v75 : BitVec 32 := Scalar.extui v74
  let v76 : BitVec 32 := Scalar.subi v73 v75
  let v77 : BitVec 1 := Scalar.cmpi .ne v71 v76
  let v78 : BitVec 32 := Scalar.remsi v65 c512_i32_24
  let c0_i32_29 : BitVec 32 := 0#32
  let v79 : BitVec 1 := Scalar.cmpi .ne v78 c0_i32_29
  let v80 : BitVec 1 := Scalar.andi v77 v79
  let v66 : BitVec 32 := Scalar.divsi v65 c512_i32_24
  let c1_i32_30 : BitVec 32 := 1#32
  let v81 : BitVec 32 := Scalar.subi v66 c1_i32_30
  let v82 : BitVec 32 := Scalar.select v80 v81 v66
  let v93 : BitVec 32 := Scalar.subi v82 v62
  let c1_i32_34 : BitVec 32 := 1#32
  let v95 : BitVec 32 := Scalar.divsi v93 c1_i32_34
  let v96 : BitVec 32 := Scalar.muli v95 c1_i32_34
  let v97 : BitVec 32 := Scalar.addi v62 v96
  let c1_i32_36 : BitVec 32 := 1#32
  let arg14 : BitVec 32 := Scf.iv v97 c1_i32_36 k0_t2
  let c512_i32_79 : BitVec 32 := 512#32
  let v184 : BitVec 32 := Scalar.muli arg14 c512_i32_79
  let v185 : BitVec 32 := Scalar.addi v184 c0_i32_80
  let v186 : BitVec 32 := v185
  let v187 : Index := Scalar.indexCast v186
  ![0, v187.toNat]
def k0_mult26 (i : grid0.Coords) (v21 : BitVec 32) (k0_t2 : Fin (k0_t2_loop i v21).trips) : BitVec 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let arg2 : BitVec 32 := BitVec.ofNat 32 (i 2).val
  let c256_i32 : BitVec 32 := 256#32
  let v0 : BitVec 32 := Scalar.muli arg2 c256_i32
  let c256_i32_21 : BitVec 32 := 256#32
  let v63 : BitVec 32 := Scalar.addi v0 c256_i32_21
  let c512_i32_22 : BitVec 32 := 512#32
  let v64 : BitVec 32 := Scalar.addi v63 c512_i32_22
  let c1_i32_23 : BitVec 32 := 1#32
  let v65 : BitVec 32 := Scalar.subi v64 c1_i32_23
  let c0_i32_25 : BitVec 32 := 0#32
  let v67 : BitVec 1 := Scalar.cmpi .sgt v65 c0_i32_25
  let v68 : BitVec 32 := Scalar.extui v67
  let c0_i32_26 : BitVec 32 := 0#32
  let v69 : BitVec 1 := Scalar.cmpi .slt v65 c0_i32_26
  let v70 : BitVec 32 := Scalar.extui v69
  let v71 : BitVec 32 := Scalar.subi v68 v70
  let c512_i32_24 : BitVec 32 := 512#32
  let c0_i32_27 : BitVec 32 := 0#32
  let v72 : BitVec 1 := Scalar.cmpi .sgt c512_i32_24 c0_i32_27
  let v73 : BitVec 32 := Scalar.extui v72
  let c0_i32_28 : BitVec 32 := 0#32
  let v74 : BitVec 1 := Scalar.cmpi .slt c512_i32_24 c0_i32_28
  let v75 : BitVec 32 := Scalar.extui v74
  let v76 : BitVec 32 := Scalar.subi v73 v75
  let v77 : BitVec 1 := Scalar.cmpi .ne v71 v76
  let v78 : BitVec 32 := Scalar.remsi v65 c512_i32_24
  let c0_i32_29 : BitVec 32 := 0#32
  let v79 : BitVec 1 := Scalar.cmpi .ne v78 c0_i32_29
  let v80 : BitVec 1 := Scalar.andi v77 v79
  let v66 : BitVec 32 := Scalar.divsi v65 c512_i32_24
  let c1_i32_30 : BitVec 32 := 1#32
  let v81 : BitVec 32 := Scalar.subi v66 c1_i32_30
  let v82 : BitVec 32 := Scalar.select v80 v81 v66
  let v93 : BitVec 32 := Scalar.subi v82 v62
  let c1_i32_34 : BitVec 32 := 1#32
  let v95 : BitVec 32 := Scalar.divsi v93 c1_i32_34
  let v96 : BitVec 32 := Scalar.muli v95 c1_i32_34
  let v97 : BitVec 32 := Scalar.addi v62 v96
  let c1_i32_36 : BitVec 32 := 1#32
  let arg14 : BitVec 32 := Scf.iv v97 c1_i32_36 k0_t2
  let c512_i32_85 : BitVec 32 := 512#32
  let v205 : BitVec 32 := Scalar.muli arg14 c512_i32_85
  let c128_i32_86 : BitVec 32 := 128#32
  let v206 : BitVec 32 := Scalar.addi v205 c128_i32_86
  v206
def k0_mult27 (i : grid0.Coords) (v21 : BitVec 32) (k0_t2 : Fin (k0_t2_loop i v21).trips) : BitVec 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let arg2 : BitVec 32 := BitVec.ofNat 32 (i 2).val
  let c256_i32 : BitVec 32 := 256#32
  let v0 : BitVec 32 := Scalar.muli arg2 c256_i32
  let c256_i32_21 : BitVec 32 := 256#32
  let v63 : BitVec 32 := Scalar.addi v0 c256_i32_21
  let c512_i32_22 : BitVec 32 := 512#32
  let v64 : BitVec 32 := Scalar.addi v63 c512_i32_22
  let c1_i32_23 : BitVec 32 := 1#32
  let v65 : BitVec 32 := Scalar.subi v64 c1_i32_23
  let c0_i32_25 : BitVec 32 := 0#32
  let v67 : BitVec 1 := Scalar.cmpi .sgt v65 c0_i32_25
  let v68 : BitVec 32 := Scalar.extui v67
  let c0_i32_26 : BitVec 32 := 0#32
  let v69 : BitVec 1 := Scalar.cmpi .slt v65 c0_i32_26
  let v70 : BitVec 32 := Scalar.extui v69
  let v71 : BitVec 32 := Scalar.subi v68 v70
  let c512_i32_24 : BitVec 32 := 512#32
  let c0_i32_27 : BitVec 32 := 0#32
  let v72 : BitVec 1 := Scalar.cmpi .sgt c512_i32_24 c0_i32_27
  let v73 : BitVec 32 := Scalar.extui v72
  let c0_i32_28 : BitVec 32 := 0#32
  let v74 : BitVec 1 := Scalar.cmpi .slt c512_i32_24 c0_i32_28
  let v75 : BitVec 32 := Scalar.extui v74
  let v76 : BitVec 32 := Scalar.subi v73 v75
  let v77 : BitVec 1 := Scalar.cmpi .ne v71 v76
  let v78 : BitVec 32 := Scalar.remsi v65 c512_i32_24
  let c0_i32_29 : BitVec 32 := 0#32
  let v79 : BitVec 1 := Scalar.cmpi .ne v78 c0_i32_29
  let v80 : BitVec 1 := Scalar.andi v77 v79
  let v66 : BitVec 32 := Scalar.divsi v65 c512_i32_24
  let c1_i32_30 : BitVec 32 := 1#32
  let v81 : BitVec 32 := Scalar.subi v66 c1_i32_30
  let v82 : BitVec 32 := Scalar.select v80 v81 v66
  let v93 : BitVec 32 := Scalar.subi v82 v62
  let c1_i32_34 : BitVec 32 := 1#32
  let v95 : BitVec 32 := Scalar.divsi v93 c1_i32_34
  let v96 : BitVec 32 := Scalar.muli v95 c1_i32_34
  let v97 : BitVec 32 := Scalar.addi v62 v96
  let c1_i32_36 : BitVec 32 := 1#32
  let arg14 : BitVec 32 := Scf.iv v97 c1_i32_36 k0_t2
  let c512_i32_91 : BitVec 32 := 512#32
  let v226 : BitVec 32 := Scalar.muli arg14 c512_i32_91
  let c256_i32_92 : BitVec 32 := 256#32
  let v227 : BitVec 32 := Scalar.addi v226 c256_i32_92
  v227
def k0_mult28 (i : grid0.Coords) (v21 : BitVec 32) (k0_t2 : Fin (k0_t2_loop i v21).trips) : BitVec 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let arg2 : BitVec 32 := BitVec.ofNat 32 (i 2).val
  let c256_i32 : BitVec 32 := 256#32
  let v0 : BitVec 32 := Scalar.muli arg2 c256_i32
  let c256_i32_21 : BitVec 32 := 256#32
  let v63 : BitVec 32 := Scalar.addi v0 c256_i32_21
  let c512_i32_22 : BitVec 32 := 512#32
  let v64 : BitVec 32 := Scalar.addi v63 c512_i32_22
  let c1_i32_23 : BitVec 32 := 1#32
  let v65 : BitVec 32 := Scalar.subi v64 c1_i32_23
  let c0_i32_25 : BitVec 32 := 0#32
  let v67 : BitVec 1 := Scalar.cmpi .sgt v65 c0_i32_25
  let v68 : BitVec 32 := Scalar.extui v67
  let c0_i32_26 : BitVec 32 := 0#32
  let v69 : BitVec 1 := Scalar.cmpi .slt v65 c0_i32_26
  let v70 : BitVec 32 := Scalar.extui v69
  let v71 : BitVec 32 := Scalar.subi v68 v70
  let c512_i32_24 : BitVec 32 := 512#32
  let c0_i32_27 : BitVec 32 := 0#32
  let v72 : BitVec 1 := Scalar.cmpi .sgt c512_i32_24 c0_i32_27
  let v73 : BitVec 32 := Scalar.extui v72
  let c0_i32_28 : BitVec 32 := 0#32
  let v74 : BitVec 1 := Scalar.cmpi .slt c512_i32_24 c0_i32_28
  let v75 : BitVec 32 := Scalar.extui v74
  let v76 : BitVec 32 := Scalar.subi v73 v75
  let v77 : BitVec 1 := Scalar.cmpi .ne v71 v76
  let v78 : BitVec 32 := Scalar.remsi v65 c512_i32_24
  let c0_i32_29 : BitVec 32 := 0#32
  let v79 : BitVec 1 := Scalar.cmpi .ne v78 c0_i32_29
  let v80 : BitVec 1 := Scalar.andi v77 v79
  let v66 : BitVec 32 := Scalar.divsi v65 c512_i32_24
  let c1_i32_30 : BitVec 32 := 1#32
  let v81 : BitVec 32 := Scalar.subi v66 c1_i32_30
  let v82 : BitVec 32 := Scalar.select v80 v81 v66
  let v93 : BitVec 32 := Scalar.subi v82 v62
  let c1_i32_34 : BitVec 32 := 1#32
  let v95 : BitVec 32 := Scalar.divsi v93 c1_i32_34
  let v96 : BitVec 32 := Scalar.muli v95 c1_i32_34
  let v97 : BitVec 32 := Scalar.addi v62 v96
  let c1_i32_36 : BitVec 32 := 1#32
  let arg14 : BitVec 32 := Scf.iv v97 c1_i32_36 k0_t2
  let c512_i32_96 : BitVec 32 := 512#32
  let v247 : BitVec 32 := Scalar.muli arg14 c512_i32_96
  let c384_i32_97 : BitVec 32 := 384#32
  let v248 : BitVec 32 := Scalar.addi v247 c384_i32_97
  v248
def k0_mult29 (i : grid0.Coords) (v21 : BitVec 32) (k0_t2 : Fin (k0_t2_loop i v21).trips) : BitVec 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let arg2 : BitVec 32 := BitVec.ofNat 32 (i 2).val
  let c256_i32 : BitVec 32 := 256#32
  let v0 : BitVec 32 := Scalar.muli arg2 c256_i32
  let c256_i32_21 : BitVec 32 := 256#32
  let v63 : BitVec 32 := Scalar.addi v0 c256_i32_21
  let c512_i32_22 : BitVec 32 := 512#32
  let v64 : BitVec 32 := Scalar.addi v63 c512_i32_22
  let c1_i32_23 : BitVec 32 := 1#32
  let v65 : BitVec 32 := Scalar.subi v64 c1_i32_23
  let c0_i32_25 : BitVec 32 := 0#32
  let v67 : BitVec 1 := Scalar.cmpi .sgt v65 c0_i32_25
  let v68 : BitVec 32 := Scalar.extui v67
  let c0_i32_26 : BitVec 32 := 0#32
  let v69 : BitVec 1 := Scalar.cmpi .slt v65 c0_i32_26
  let v70 : BitVec 32 := Scalar.extui v69
  let v71 : BitVec 32 := Scalar.subi v68 v70
  let c512_i32_24 : BitVec 32 := 512#32
  let c0_i32_27 : BitVec 32 := 0#32
  let v72 : BitVec 1 := Scalar.cmpi .sgt c512_i32_24 c0_i32_27
  let v73 : BitVec 32 := Scalar.extui v72
  let c0_i32_28 : BitVec 32 := 0#32
  let v74 : BitVec 1 := Scalar.cmpi .slt c512_i32_24 c0_i32_28
  let v75 : BitVec 32 := Scalar.extui v74
  let v76 : BitVec 32 := Scalar.subi v73 v75
  let v77 : BitVec 1 := Scalar.cmpi .ne v71 v76
  let v78 : BitVec 32 := Scalar.remsi v65 c512_i32_24
  let c0_i32_29 : BitVec 32 := 0#32
  let v79 : BitVec 1 := Scalar.cmpi .ne v78 c0_i32_29
  let v80 : BitVec 1 := Scalar.andi v77 v79
  let v66 : BitVec 32 := Scalar.divsi v65 c512_i32_24
  let c1_i32_30 : BitVec 32 := 1#32
  let v81 : BitVec 32 := Scalar.subi v66 c1_i32_30
  let v82 : BitVec 32 := Scalar.select v80 v81 v66
  let v93 : BitVec 32 := Scalar.subi v82 v62
  let c1_i32_34 : BitVec 32 := 1#32
  let v95 : BitVec 32 := Scalar.divsi v93 c1_i32_34
  let v96 : BitVec 32 := Scalar.muli v95 c1_i32_34
  let v97 : BitVec 32 := Scalar.addi v62 v96
  let c1_i32_36 : BitVec 32 := 1#32
  let arg14 : BitVec 32 := Scf.iv v97 c1_i32_36 k0_t2
  let c512_i32_107 : BitVec 32 := 512#32
  let v285 : BitVec 32 := Scalar.muli arg14 c512_i32_107
  let c0_i32_108 : BitVec 32 := 0#32
  let v286 : BitVec 32 := Scalar.addi v285 c0_i32_108
  v286
def k0_off22 (i : grid0.Coords) (v21 : BitVec 32) (k0_t2 : Fin (k0_t2_loop i v21).trips) (c0_i32_108 : BitVec 32) : Fin 2 → Nat :=
  let c128_109 : Index := 128#32
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let arg2 : BitVec 32 := BitVec.ofNat 32 (i 2).val
  let c256_i32 : BitVec 32 := 256#32
  let v0 : BitVec 32 := Scalar.muli arg2 c256_i32
  let c256_i32_21 : BitVec 32 := 256#32
  let v63 : BitVec 32 := Scalar.addi v0 c256_i32_21
  let c512_i32_22 : BitVec 32 := 512#32
  let v64 : BitVec 32 := Scalar.addi v63 c512_i32_22
  let c1_i32_23 : BitVec 32 := 1#32
  let v65 : BitVec 32 := Scalar.subi v64 c1_i32_23
  let c0_i32_25 : BitVec 32 := 0#32
  let v67 : BitVec 1 := Scalar.cmpi .sgt v65 c0_i32_25
  let v68 : BitVec 32 := Scalar.extui v67
  let c0_i32_26 : BitVec 32 := 0#32
  let v69 : BitVec 1 := Scalar.cmpi .slt v65 c0_i32_26
  let v70 : BitVec 32 := Scalar.extui v69
  let v71 : BitVec 32 := Scalar.subi v68 v70
  let c512_i32_24 : BitVec 32 := 512#32
  let c0_i32_27 : BitVec 32 := 0#32
  let v72 : BitVec 1 := Scalar.cmpi .sgt c512_i32_24 c0_i32_27
  let v73 : BitVec 32 := Scalar.extui v72
  let c0_i32_28 : BitVec 32 := 0#32
  let v74 : BitVec 1 := Scalar.cmpi .slt c512_i32_24 c0_i32_28
  let v75 : BitVec 32 := Scalar.extui v74
  let v76 : BitVec 32 := Scalar.subi v73 v75
  let v77 : BitVec 1 := Scalar.cmpi .ne v71 v76
  let v78 : BitVec 32 := Scalar.remsi v65 c512_i32_24
  let c0_i32_29 : BitVec 32 := 0#32
  let v79 : BitVec 1 := Scalar.cmpi .ne v78 c0_i32_29
  let v80 : BitVec 1 := Scalar.andi v77 v79
  let v66 : BitVec 32 := Scalar.divsi v65 c512_i32_24
  let c1_i32_30 : BitVec 32 := 1#32
  let v81 : BitVec 32 := Scalar.subi v66 c1_i32_30
  let v82 : BitVec 32 := Scalar.select v80 v81 v66
  let v93 : BitVec 32 := Scalar.subi v82 v62
  let c1_i32_34 : BitVec 32 := 1#32
  let v95 : BitVec 32 := Scalar.divsi v93 c1_i32_34
  let v96 : BitVec 32 := Scalar.muli v95 c1_i32_34
  let v97 : BitVec 32 := Scalar.addi v62 v96
  let c1_i32_36 : BitVec 32 := 1#32
  let arg14 : BitVec 32 := Scf.iv v97 c1_i32_36 k0_t2
  let c512_i32_107 : BitVec 32 := 512#32
  let v285 : BitVec 32 := Scalar.muli arg14 c512_i32_107
  let v286 : BitVec 32 := Scalar.addi v285 c0_i32_108
  let v287 : BitVec 32 := v286
  let v288 : Index := Scalar.indexCast v287
  ![128, v288.toNat]
def k0_mult30 (i : grid0.Coords) (v21 : BitVec 32) (k0_t2 : Fin (k0_t2_loop i v21).trips) : BitVec 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let arg2 : BitVec 32 := BitVec.ofNat 32 (i 2).val
  let c256_i32 : BitVec 32 := 256#32
  let v0 : BitVec 32 := Scalar.muli arg2 c256_i32
  let c256_i32_21 : BitVec 32 := 256#32
  let v63 : BitVec 32 := Scalar.addi v0 c256_i32_21
  let c512_i32_22 : BitVec 32 := 512#32
  let v64 : BitVec 32 := Scalar.addi v63 c512_i32_22
  let c1_i32_23 : BitVec 32 := 1#32
  let v65 : BitVec 32 := Scalar.subi v64 c1_i32_23
  let c0_i32_25 : BitVec 32 := 0#32
  let v67 : BitVec 1 := Scalar.cmpi .sgt v65 c0_i32_25
  let v68 : BitVec 32 := Scalar.extui v67
  let c0_i32_26 : BitVec 32 := 0#32
  let v69 : BitVec 1 := Scalar.cmpi .slt v65 c0_i32_26
  let v70 : BitVec 32 := Scalar.extui v69
  let v71 : BitVec 32 := Scalar.subi v68 v70
  let c512_i32_24 : BitVec 32 := 512#32
  let c0_i32_27 : BitVec 32 := 0#32
  let v72 : BitVec 1 := Scalar.cmpi .sgt c512_i32_24 c0_i32_27
  let v73 : BitVec 32 := Scalar.extui v72
  let c0_i32_28 : BitVec 32 := 0#32
  let v74 : BitVec 1 := Scalar.cmpi .slt c512_i32_24 c0_i32_28
  let v75 : BitVec 32 := Scalar.extui v74
  let v76 : BitVec 32 := Scalar.subi v73 v75
  let v77 : BitVec 1 := Scalar.cmpi .ne v71 v76
  let v78 : BitVec 32 := Scalar.remsi v65 c512_i32_24
  let c0_i32_29 : BitVec 32 := 0#32
  let v79 : BitVec 1 := Scalar.cmpi .ne v78 c0_i32_29
  let v80 : BitVec 1 := Scalar.andi v77 v79
  let v66 : BitVec 32 := Scalar.divsi v65 c512_i32_24
  let c1_i32_30 : BitVec 32 := 1#32
  let v81 : BitVec 32 := Scalar.subi v66 c1_i32_30
  let v82 : BitVec 32 := Scalar.select v80 v81 v66
  let v93 : BitVec 32 := Scalar.subi v82 v62
  let c1_i32_34 : BitVec 32 := 1#32
  let v95 : BitVec 32 := Scalar.divsi v93 c1_i32_34
  let v96 : BitVec 32 := Scalar.muli v95 c1_i32_34
  let v97 : BitVec 32 := Scalar.addi v62 v96
  let c1_i32_36 : BitVec 32 := 1#32
  let arg14 : BitVec 32 := Scf.iv v97 c1_i32_36 k0_t2
  let c512_i32_113 : BitVec 32 := 512#32
  let v306 : BitVec 32 := Scalar.muli arg14 c512_i32_113
  let c128_i32_114 : BitVec 32 := 128#32
  let v307 : BitVec 32 := Scalar.addi v306 c128_i32_114
  v307
def k0_mult31 (i : grid0.Coords) (v21 : BitVec 32) (k0_t2 : Fin (k0_t2_loop i v21).trips) : BitVec 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let arg2 : BitVec 32 := BitVec.ofNat 32 (i 2).val
  let c256_i32 : BitVec 32 := 256#32
  let v0 : BitVec 32 := Scalar.muli arg2 c256_i32
  let c256_i32_21 : BitVec 32 := 256#32
  let v63 : BitVec 32 := Scalar.addi v0 c256_i32_21
  let c512_i32_22 : BitVec 32 := 512#32
  let v64 : BitVec 32 := Scalar.addi v63 c512_i32_22
  let c1_i32_23 : BitVec 32 := 1#32
  let v65 : BitVec 32 := Scalar.subi v64 c1_i32_23
  let c0_i32_25 : BitVec 32 := 0#32
  let v67 : BitVec 1 := Scalar.cmpi .sgt v65 c0_i32_25
  let v68 : BitVec 32 := Scalar.extui v67
  let c0_i32_26 : BitVec 32 := 0#32
  let v69 : BitVec 1 := Scalar.cmpi .slt v65 c0_i32_26
  let v70 : BitVec 32 := Scalar.extui v69
  let v71 : BitVec 32 := Scalar.subi v68 v70
  let c512_i32_24 : BitVec 32 := 512#32
  let c0_i32_27 : BitVec 32 := 0#32
  let v72 : BitVec 1 := Scalar.cmpi .sgt c512_i32_24 c0_i32_27
  let v73 : BitVec 32 := Scalar.extui v72
  let c0_i32_28 : BitVec 32 := 0#32
  let v74 : BitVec 1 := Scalar.cmpi .slt c512_i32_24 c0_i32_28
  let v75 : BitVec 32 := Scalar.extui v74
  let v76 : BitVec 32 := Scalar.subi v73 v75
  let v77 : BitVec 1 := Scalar.cmpi .ne v71 v76
  let v78 : BitVec 32 := Scalar.remsi v65 c512_i32_24
  let c0_i32_29 : BitVec 32 := 0#32
  let v79 : BitVec 1 := Scalar.cmpi .ne v78 c0_i32_29
  let v80 : BitVec 1 := Scalar.andi v77 v79
  let v66 : BitVec 32 := Scalar.divsi v65 c512_i32_24
  let c1_i32_30 : BitVec 32 := 1#32
  let v81 : BitVec 32 := Scalar.subi v66 c1_i32_30
  let v82 : BitVec 32 := Scalar.select v80 v81 v66
  let v93 : BitVec 32 := Scalar.subi v82 v62
  let c1_i32_34 : BitVec 32 := 1#32
  let v95 : BitVec 32 := Scalar.divsi v93 c1_i32_34
  let v96 : BitVec 32 := Scalar.muli v95 c1_i32_34
  let v97 : BitVec 32 := Scalar.addi v62 v96
  let c1_i32_36 : BitVec 32 := 1#32
  let arg14 : BitVec 32 := Scf.iv v97 c1_i32_36 k0_t2
  let c512_i32_119 : BitVec 32 := 512#32
  let v327 : BitVec 32 := Scalar.muli arg14 c512_i32_119
  let c256_i32_120 : BitVec 32 := 256#32
  let v328 : BitVec 32 := Scalar.addi v327 c256_i32_120
  v328
def k0_mult32 (i : grid0.Coords) (v21 : BitVec 32) (k0_t2 : Fin (k0_t2_loop i v21).trips) : BitVec 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let arg2 : BitVec 32 := BitVec.ofNat 32 (i 2).val
  let c256_i32 : BitVec 32 := 256#32
  let v0 : BitVec 32 := Scalar.muli arg2 c256_i32
  let c256_i32_21 : BitVec 32 := 256#32
  let v63 : BitVec 32 := Scalar.addi v0 c256_i32_21
  let c512_i32_22 : BitVec 32 := 512#32
  let v64 : BitVec 32 := Scalar.addi v63 c512_i32_22
  let c1_i32_23 : BitVec 32 := 1#32
  let v65 : BitVec 32 := Scalar.subi v64 c1_i32_23
  let c0_i32_25 : BitVec 32 := 0#32
  let v67 : BitVec 1 := Scalar.cmpi .sgt v65 c0_i32_25
  let v68 : BitVec 32 := Scalar.extui v67
  let c0_i32_26 : BitVec 32 := 0#32
  let v69 : BitVec 1 := Scalar.cmpi .slt v65 c0_i32_26
  let v70 : BitVec 32 := Scalar.extui v69
  let v71 : BitVec 32 := Scalar.subi v68 v70
  let c512_i32_24 : BitVec 32 := 512#32
  let c0_i32_27 : BitVec 32 := 0#32
  let v72 : BitVec 1 := Scalar.cmpi .sgt c512_i32_24 c0_i32_27
  let v73 : BitVec 32 := Scalar.extui v72
  let c0_i32_28 : BitVec 32 := 0#32
  let v74 : BitVec 1 := Scalar.cmpi .slt c512_i32_24 c0_i32_28
  let v75 : BitVec 32 := Scalar.extui v74
  let v76 : BitVec 32 := Scalar.subi v73 v75
  let v77 : BitVec 1 := Scalar.cmpi .ne v71 v76
  let v78 : BitVec 32 := Scalar.remsi v65 c512_i32_24
  let c0_i32_29 : BitVec 32 := 0#32
  let v79 : BitVec 1 := Scalar.cmpi .ne v78 c0_i32_29
  let v80 : BitVec 1 := Scalar.andi v77 v79
  let v66 : BitVec 32 := Scalar.divsi v65 c512_i32_24
  let c1_i32_30 : BitVec 32 := 1#32
  let v81 : BitVec 32 := Scalar.subi v66 c1_i32_30
  let v82 : BitVec 32 := Scalar.select v80 v81 v66
  let v93 : BitVec 32 := Scalar.subi v82 v62
  let c1_i32_34 : BitVec 32 := 1#32
  let v95 : BitVec 32 := Scalar.divsi v93 c1_i32_34
  let v96 : BitVec 32 := Scalar.muli v95 c1_i32_34
  let v97 : BitVec 32 := Scalar.addi v62 v96
  let c1_i32_36 : BitVec 32 := 1#32
  let arg14 : BitVec 32 := Scf.iv v97 c1_i32_36 k0_t2
  let c512_i32_125 : BitVec 32 := 512#32
  let v348 : BitVec 32 := Scalar.muli arg14 c512_i32_125
  let c384_i32_126 : BitVec 32 := 384#32
  let v349 : BitVec 32 := Scalar.addi v348 c384_i32_126
  v349

def k0_chk2_0 (i : grid0.Coords) (v21 : BitVec 32) (v45 : BitVec 32) : Prop :=
  (∀ k0_t1 : Fin (k0_t1_loop i v21).trips, ∀ (k0_h1 : k0_cond1 i v21 v45 k0_t1 = 1#1), ∀ a, (k0_off3 i v21 k0_t1) a + S1x512x128.size a ≤ S1x16384x128.size a) ∧
  (∀ k0_t1 : Fin (k0_t1_loop i v21).trips, ∀ (k0_h1 : k0_cond1 i v21 v45 k0_t1 = 1#1), ∀ a, (k0_off4 i v21 k0_t1) a + S1x1x1x512.size a ≤ S1x1x1x16384.size a) ∧
  (∀ k0_t1 : Fin (k0_t1_loop i v21).trips, ∀ (k0_h1 : k0_cond1 i v21 v45 k0_t1 = 1#1), 128 ∣ (k0_mult1 i v21 k0_t1).toNat) ∧
  (∀ k0_t1 : Fin (k0_t1_loop i v21).trips, ∀ (k0_h1 : k0_cond1 i v21 v45 k0_t1 = 1#1), ∀ (r : Fin 4), ∀ a, (k0_off6 i v21 k0_t1 (BitVec.ofNat 32 (128 * r.val))) a + S128x128.size a ≤ S256x16384.size a) ∧
  (∀ k0_t1 : Fin (k0_t1_loop i v21).trips, ∀ (k0_h1 : k0_cond1 i v21 v45 k0_t1 = 1#1), 128 ∣ (k0_mult2 i v21 k0_t1).toNat) ∧
  (∀ k0_t1 : Fin (k0_t1_loop i v21).trips, ∀ (k0_h1 : k0_cond1 i v21 v45 k0_t1 = 1#1), 128 ∣ (k0_mult3 i v21 k0_t1).toNat) ∧
  (∀ k0_t1 : Fin (k0_t1_loop i v21).trips, ∀ (k0_h1 : k0_cond1 i v21 v45 k0_t1 = 1#1), 128 ∣ (k0_mult4 i v21 k0_t1).toNat) ∧
  (∀ k0_t1 : Fin (k0_t1_loop i v21).trips, ∀ (k0_h1 : k0_cond1 i v21 v45 k0_t1 = 1#1), 128 ∣ (k0_mult5 i v21 k0_t1).toNat) ∧
  (∀ k0_t1 : Fin (k0_t1_loop i v21).trips, ∀ (k0_h1 : k0_cond1 i v21 v45 k0_t1 = 1#1), ∀ (r : Fin 4), ∀ a, (k0_off7 i v21 k0_t1 (BitVec.ofNat 32 (128 * r.val))) a + S128x128.size a ≤ S256x16384.size a) ∧
  (∀ k0_t1 : Fin (k0_t1_loop i v21).trips, ∀ (k0_h1 : k0_cond1 i v21 v45 k0_t1 = 1#1), 128 ∣ (k0_mult6 i v21 k0_t1).toNat) ∧
  (∀ k0_t1 : Fin (k0_t1_loop i v21).trips, ∀ (k0_h1 : k0_cond1 i v21 v45 k0_t1 = 1#1), 128 ∣ (k0_mult7 i v21 k0_t1).toNat) ∧
  (∀ k0_t1 : Fin (k0_t1_loop i v21).trips, ∀ (k0_h1 : k0_cond1 i v21 v45 k0_t1 = 1#1), 128 ∣ (k0_mult8 i v21 k0_t1).toNat) ∧
  (∀ k0_t1 : Fin (k0_t1_loop i v21).trips, ∀ (k0_h1 : ¬(k0_cond1 i v21 v45 k0_t1 = 1#1)), ∀ a, (k0_off8 i v21 k0_t1) a + S1x512x128.size a ≤ S1x16384x128.size a) ∧
  (∀ k0_t1 : Fin (k0_t1_loop i v21).trips, ∀ (k0_h1 : ¬(k0_cond1 i v21 v45 k0_t1 = 1#1)), ∀ a, (k0_off9 i v21 k0_t1) a + S1x1x1x512.size a ≤ S1x1x1x16384.size a) ∧
  (∀ k0_t1 : Fin (k0_t1_loop i v21).trips, ∀ (k0_h1 : ¬(k0_cond1 i v21 v45 k0_t1 = 1#1)), 128 ∣ (k0_mult9 i v21 k0_t1).toNat) ∧
  (∀ k0_t1 : Fin (k0_t1_loop i v21).trips, ∀ (k0_h1 : ¬(k0_cond1 i v21 v45 k0_t1 = 1#1)), ∀ (r : Fin 4), ∀ a, (k0_off11 i v21 k0_t1 (BitVec.ofNat 32 (128 * r.val))) a + S128x128.size a ≤ S256x16384.size a) ∧
  (∀ k0_t1 : Fin (k0_t1_loop i v21).trips, ∀ (k0_h1 : ¬(k0_cond1 i v21 v45 k0_t1 = 1#1)), 128 ∣ (k0_mult10 i v21 k0_t1).toNat) ∧
  (∀ k0_t1 : Fin (k0_t1_loop i v21).trips, ∀ (k0_h1 : ¬(k0_cond1 i v21 v45 k0_t1 = 1#1)), 128 ∣ (k0_mult11 i v21 k0_t1).toNat) ∧
  (∀ k0_t1 : Fin (k0_t1_loop i v21).trips, ∀ (k0_h1 : ¬(k0_cond1 i v21 v45 k0_t1 = 1#1)), 128 ∣ (k0_mult12 i v21 k0_t1).toNat) ∧
  (∀ k0_t1 : Fin (k0_t1_loop i v21).trips, ∀ (k0_h1 : ¬(k0_cond1 i v21 v45 k0_t1 = 1#1)), 128 ∣ (k0_mult13 i v21 k0_t1).toNat) ∧
  (∀ k0_t1 : Fin (k0_t1_loop i v21).trips, ∀ (k0_h1 : ¬(k0_cond1 i v21 v45 k0_t1 = 1#1)), ∀ (r : Fin 4), ∀ a, (k0_off12 i v21 k0_t1 (BitVec.ofNat 32 (128 * r.val))) a + S128x128.size a ≤ S256x16384.size a) ∧
  (∀ k0_t1 : Fin (k0_t1_loop i v21).trips, ∀ (k0_h1 : ¬(k0_cond1 i v21 v45 k0_t1 = 1#1)), 128 ∣ (k0_mult14 i v21 k0_t1).toNat) ∧
  (∀ k0_t1 : Fin (k0_t1_loop i v21).trips, ∀ (k0_h1 : ¬(k0_cond1 i v21 v45 k0_t1 = 1#1)), 128 ∣ (k0_mult15 i v21 k0_t1).toNat) ∧
  (∀ k0_t1 : Fin (k0_t1_loop i v21).trips, ∀ (k0_h1 : ¬(k0_cond1 i v21 v45 k0_t1 = 1#1)), 128 ∣ (k0_mult16 i v21 k0_t1).toNat) ∧
  (∀ k0_t2 : Fin (k0_t2_loop i v21).trips, ∀ (k0_h2 : k0_cond2 i v21 v45 k0_t2 = 1#1), ∀ a, (k0_off13 i v21 k0_t2) a + S1x512x128.size a ≤ S1x16384x128.size a) ∧
  (∀ k0_t2 : Fin (k0_t2_loop i v21).trips, ∀ (k0_h2 : k0_cond2 i v21 v45 k0_t2 = 1#1), ∀ a, (k0_off14 i v21 k0_t2) a + S1x1x1x512.size a ≤ S1x1x1x16384.size a) ∧
  (∀ k0_t2 : Fin (k0_t2_loop i v21).trips, ∀ (k0_h2 : k0_cond2 i v21 v45 k0_t2 = 1#1), 128 ∣ (k0_mult17 i v21 k0_t2).toNat) ∧
  (∀ k0_t2 : Fin (k0_t2_loop i v21).trips, ∀ (k0_h2 : k0_cond2 i v21 v45 k0_t2 = 1#1), ∀ (r : Fin 4), ∀ a, (k0_off16 i v21 k0_t2 (BitVec.ofNat 32 (128 * r.val))) a + S128x128.size a ≤ S256x16384.size a) ∧
  (∀ k0_t2 : Fin (k0_t2_loop i v21).trips, ∀ (k0_h2 : k0_cond2 i v21 v45 k0_t2 = 1#1), 128 ∣ (k0_mult18 i v21 k0_t2).toNat) ∧
  (∀ k0_t2 : Fin (k0_t2_loop i v21).trips, ∀ (k0_h2 : k0_cond2 i v21 v45 k0_t2 = 1#1), 128 ∣ (k0_mult19 i v21 k0_t2).toNat) ∧
  (∀ k0_t2 : Fin (k0_t2_loop i v21).trips, ∀ (k0_h2 : k0_cond2 i v21 v45 k0_t2 = 1#1), 128 ∣ (k0_mult20 i v21 k0_t2).toNat) ∧
  (∀ k0_t2 : Fin (k0_t2_loop i v21).trips, ∀ (k0_h2 : k0_cond2 i v21 v45 k0_t2 = 1#1), 128 ∣ (k0_mult21 i v21 k0_t2).toNat)
def k0_chk2_1 (i : grid0.Coords) (v21 : BitVec 32) (v45 : BitVec 32) : Prop :=
  (∀ k0_t2 : Fin (k0_t2_loop i v21).trips, ∀ (k0_h2 : k0_cond2 i v21 v45 k0_t2 = 1#1), ∀ (r : Fin 4), ∀ a, (k0_off17 i v21 k0_t2 (BitVec.ofNat 32 (128 * r.val))) a + S128x128.size a ≤ S256x16384.size a) ∧
  (∀ k0_t2 : Fin (k0_t2_loop i v21).trips, ∀ (k0_h2 : k0_cond2 i v21 v45 k0_t2 = 1#1), 128 ∣ (k0_mult22 i v21 k0_t2).toNat) ∧
  (∀ k0_t2 : Fin (k0_t2_loop i v21).trips, ∀ (k0_h2 : k0_cond2 i v21 v45 k0_t2 = 1#1), 128 ∣ (k0_mult23 i v21 k0_t2).toNat) ∧
  (∀ k0_t2 : Fin (k0_t2_loop i v21).trips, ∀ (k0_h2 : k0_cond2 i v21 v45 k0_t2 = 1#1), 128 ∣ (k0_mult24 i v21 k0_t2).toNat) ∧
  (∀ k0_t2 : Fin (k0_t2_loop i v21).trips, ∀ (k0_h2 : ¬(k0_cond2 i v21 v45 k0_t2 = 1#1)), ∀ a, (k0_off18 i v21 k0_t2) a + S1x512x128.size a ≤ S1x16384x128.size a) ∧
  (∀ k0_t2 : Fin (k0_t2_loop i v21).trips, ∀ (k0_h2 : ¬(k0_cond2 i v21 v45 k0_t2 = 1#1)), ∀ a, (k0_off19 i v21 k0_t2) a + S1x1x1x512.size a ≤ S1x1x1x16384.size a) ∧
  (∀ k0_t2 : Fin (k0_t2_loop i v21).trips, ∀ (k0_h2 : ¬(k0_cond2 i v21 v45 k0_t2 = 1#1)), 128 ∣ (k0_mult25 i v21 k0_t2).toNat) ∧
  (∀ k0_t2 : Fin (k0_t2_loop i v21).trips, ∀ (k0_h2 : ¬(k0_cond2 i v21 v45 k0_t2 = 1#1)), ∀ (r : Fin 4), ∀ a, (k0_off21 i v21 k0_t2 (BitVec.ofNat 32 (128 * r.val))) a + S128x128.size a ≤ S256x16384.size a) ∧
  (∀ k0_t2 : Fin (k0_t2_loop i v21).trips, ∀ (k0_h2 : ¬(k0_cond2 i v21 v45 k0_t2 = 1#1)), 128 ∣ (k0_mult26 i v21 k0_t2).toNat) ∧
  (∀ k0_t2 : Fin (k0_t2_loop i v21).trips, ∀ (k0_h2 : ¬(k0_cond2 i v21 v45 k0_t2 = 1#1)), 128 ∣ (k0_mult27 i v21 k0_t2).toNat) ∧
  (∀ k0_t2 : Fin (k0_t2_loop i v21).trips, ∀ (k0_h2 : ¬(k0_cond2 i v21 v45 k0_t2 = 1#1)), 128 ∣ (k0_mult28 i v21 k0_t2).toNat) ∧
  (∀ k0_t2 : Fin (k0_t2_loop i v21).trips, ∀ (k0_h2 : ¬(k0_cond2 i v21 v45 k0_t2 = 1#1)), 128 ∣ (k0_mult29 i v21 k0_t2).toNat) ∧
  (∀ k0_t2 : Fin (k0_t2_loop i v21).trips, ∀ (k0_h2 : ¬(k0_cond2 i v21 v45 k0_t2 = 1#1)), ∀ (r : Fin 4), ∀ a, (k0_off22 i v21 k0_t2 (BitVec.ofNat 32 (128 * r.val))) a + S128x128.size a ≤ S256x16384.size a) ∧
  (∀ k0_t2 : Fin (k0_t2_loop i v21).trips, ∀ (k0_h2 : ¬(k0_cond2 i v21 v45 k0_t2 = 1#1)), 128 ∣ (k0_mult30 i v21 k0_t2).toNat) ∧
  (∀ k0_t2 : Fin (k0_t2_loop i v21).trips, ∀ (k0_h2 : ¬(k0_cond2 i v21 v45 k0_t2 = 1#1)), 128 ∣ (k0_mult31 i v21 k0_t2).toNat) ∧
  (∀ k0_t2 : Fin (k0_t2_loop i v21).trips, ∀ (k0_h2 : ¬(k0_cond2 i v21 v45 k0_t2 = 1#1)), 128 ∣ (k0_mult32 i v21 k0_t2).toNat)
def k0_chk2 (i : grid0.Coords) (v21 : BitVec 32) (v45 : BitVec 32) : Prop :=
  k0_chk2_0 i v21 v45 ∧
  k0_chk2_1 i v21 v45
theorem k0_off3_inb : ∀ (i : grid0.Coords) (v21 : BitVec 32) (v45 : BitVec 32) (k0_hw2 : k0_chk2 i v21 v45) (k0_t1 : Fin (k0_t1_loop i v21).trips), ∀ (k0_h1 : k0_cond1 i v21 v45 k0_t1 = 1#1), ∀ a, (k0_off3 i v21 k0_t1) a + S1x512x128.size a ≤ S1x16384x128.size a := fun i v21 v45 k0_hw2 k0_t1 k0_h1 => k0_hw2.1.1 k0_t1 k0_h1
theorem k0_off4_inb : ∀ (i : grid0.Coords) (v21 : BitVec 32) (v45 : BitVec 32) (k0_hw2 : k0_chk2 i v21 v45) (k0_t1 : Fin (k0_t1_loop i v21).trips), ∀ (k0_h1 : k0_cond1 i v21 v45 k0_t1 = 1#1), ∀ a, (k0_off4 i v21 k0_t1) a + S1x1x1x512.size a ≤ S1x1x1x16384.size a := fun i v21 v45 k0_hw2 k0_t1 k0_h1 => k0_hw2.1.2.1 k0_t1 k0_h1
theorem k0_mult1_dvd : ∀ (i : grid0.Coords) (v21 : BitVec 32) (v45 : BitVec 32) (k0_hw2 : k0_chk2 i v21 v45) (k0_t1 : Fin (k0_t1_loop i v21).trips), ∀ (k0_h1 : k0_cond1 i v21 v45 k0_t1 = 1#1), 128 ∣ (k0_mult1 i v21 k0_t1).toNat := fun i v21 v45 k0_hw2 k0_t1 k0_h1 => k0_hw2.1.2.2.1 k0_t1 k0_h1
theorem k0_off6_inb : ∀ (i : grid0.Coords) (v21 : BitVec 32) (v45 : BitVec 32) (k0_hw2 : k0_chk2 i v21 v45) (k0_t1 : Fin (k0_t1_loop i v21).trips), ∀ (k0_h1 : k0_cond1 i v21 v45 k0_t1 = 1#1), ∀ (r : Fin 4), ∀ a, (k0_off6 i v21 k0_t1 (BitVec.ofNat 32 (128 * r.val))) a + S128x128.size a ≤ S256x16384.size a := fun i v21 v45 k0_hw2 k0_t1 k0_h1 r => k0_hw2.1.2.2.2.1 k0_t1 k0_h1 r
theorem k0_mult2_dvd : ∀ (i : grid0.Coords) (v21 : BitVec 32) (v45 : BitVec 32) (k0_hw2 : k0_chk2 i v21 v45) (k0_t1 : Fin (k0_t1_loop i v21).trips), ∀ (k0_h1 : k0_cond1 i v21 v45 k0_t1 = 1#1), 128 ∣ (k0_mult2 i v21 k0_t1).toNat := fun i v21 v45 k0_hw2 k0_t1 k0_h1 => k0_hw2.1.2.2.2.2.1 k0_t1 k0_h1
theorem k0_mult3_dvd : ∀ (i : grid0.Coords) (v21 : BitVec 32) (v45 : BitVec 32) (k0_hw2 : k0_chk2 i v21 v45) (k0_t1 : Fin (k0_t1_loop i v21).trips), ∀ (k0_h1 : k0_cond1 i v21 v45 k0_t1 = 1#1), 128 ∣ (k0_mult3 i v21 k0_t1).toNat := fun i v21 v45 k0_hw2 k0_t1 k0_h1 => k0_hw2.1.2.2.2.2.2.1 k0_t1 k0_h1
theorem k0_mult4_dvd : ∀ (i : grid0.Coords) (v21 : BitVec 32) (v45 : BitVec 32) (k0_hw2 : k0_chk2 i v21 v45) (k0_t1 : Fin (k0_t1_loop i v21).trips), ∀ (k0_h1 : k0_cond1 i v21 v45 k0_t1 = 1#1), 128 ∣ (k0_mult4 i v21 k0_t1).toNat := fun i v21 v45 k0_hw2 k0_t1 k0_h1 => k0_hw2.1.2.2.2.2.2.2.1 k0_t1 k0_h1
theorem k0_mult5_dvd : ∀ (i : grid0.Coords) (v21 : BitVec 32) (v45 : BitVec 32) (k0_hw2 : k0_chk2 i v21 v45) (k0_t1 : Fin (k0_t1_loop i v21).trips), ∀ (k0_h1 : k0_cond1 i v21 v45 k0_t1 = 1#1), 128 ∣ (k0_mult5 i v21 k0_t1).toNat := fun i v21 v45 k0_hw2 k0_t1 k0_h1 => k0_hw2.1.2.2.2.2.2.2.2.1 k0_t1 k0_h1
theorem k0_off7_inb : ∀ (i : grid0.Coords) (v21 : BitVec 32) (v45 : BitVec 32) (k0_hw2 : k0_chk2 i v21 v45) (k0_t1 : Fin (k0_t1_loop i v21).trips), ∀ (k0_h1 : k0_cond1 i v21 v45 k0_t1 = 1#1), ∀ (r : Fin 4), ∀ a, (k0_off7 i v21 k0_t1 (BitVec.ofNat 32 (128 * r.val))) a + S128x128.size a ≤ S256x16384.size a := fun i v21 v45 k0_hw2 k0_t1 k0_h1 r => k0_hw2.1.2.2.2.2.2.2.2.2.1 k0_t1 k0_h1 r
theorem k0_mult6_dvd : ∀ (i : grid0.Coords) (v21 : BitVec 32) (v45 : BitVec 32) (k0_hw2 : k0_chk2 i v21 v45) (k0_t1 : Fin (k0_t1_loop i v21).trips), ∀ (k0_h1 : k0_cond1 i v21 v45 k0_t1 = 1#1), 128 ∣ (k0_mult6 i v21 k0_t1).toNat := fun i v21 v45 k0_hw2 k0_t1 k0_h1 => k0_hw2.1.2.2.2.2.2.2.2.2.2.1 k0_t1 k0_h1
theorem k0_mult7_dvd : ∀ (i : grid0.Coords) (v21 : BitVec 32) (v45 : BitVec 32) (k0_hw2 : k0_chk2 i v21 v45) (k0_t1 : Fin (k0_t1_loop i v21).trips), ∀ (k0_h1 : k0_cond1 i v21 v45 k0_t1 = 1#1), 128 ∣ (k0_mult7 i v21 k0_t1).toNat := fun i v21 v45 k0_hw2 k0_t1 k0_h1 => k0_hw2.1.2.2.2.2.2.2.2.2.2.2.1 k0_t1 k0_h1
theorem k0_mult8_dvd : ∀ (i : grid0.Coords) (v21 : BitVec 32) (v45 : BitVec 32) (k0_hw2 : k0_chk2 i v21 v45) (k0_t1 : Fin (k0_t1_loop i v21).trips), ∀ (k0_h1 : k0_cond1 i v21 v45 k0_t1 = 1#1), 128 ∣ (k0_mult8 i v21 k0_t1).toNat := fun i v21 v45 k0_hw2 k0_t1 k0_h1 => k0_hw2.1.2.2.2.2.2.2.2.2.2.2.2.1 k0_t1 k0_h1
theorem k0_off8_inb : ∀ (i : grid0.Coords) (v21 : BitVec 32) (v45 : BitVec 32) (k0_hw2 : k0_chk2 i v21 v45) (k0_t1 : Fin (k0_t1_loop i v21).trips), ∀ (k0_h1 : ¬(k0_cond1 i v21 v45 k0_t1 = 1#1)), ∀ a, (k0_off8 i v21 k0_t1) a + S1x512x128.size a ≤ S1x16384x128.size a := fun i v21 v45 k0_hw2 k0_t1 k0_h1 => k0_hw2.1.2.2.2.2.2.2.2.2.2.2.2.2.1 k0_t1 k0_h1
theorem k0_off9_inb : ∀ (i : grid0.Coords) (v21 : BitVec 32) (v45 : BitVec 32) (k0_hw2 : k0_chk2 i v21 v45) (k0_t1 : Fin (k0_t1_loop i v21).trips), ∀ (k0_h1 : ¬(k0_cond1 i v21 v45 k0_t1 = 1#1)), ∀ a, (k0_off9 i v21 k0_t1) a + S1x1x1x512.size a ≤ S1x1x1x16384.size a := fun i v21 v45 k0_hw2 k0_t1 k0_h1 => k0_hw2.1.2.2.2.2.2.2.2.2.2.2.2.2.2.1 k0_t1 k0_h1
theorem k0_mult9_dvd : ∀ (i : grid0.Coords) (v21 : BitVec 32) (v45 : BitVec 32) (k0_hw2 : k0_chk2 i v21 v45) (k0_t1 : Fin (k0_t1_loop i v21).trips), ∀ (k0_h1 : ¬(k0_cond1 i v21 v45 k0_t1 = 1#1)), 128 ∣ (k0_mult9 i v21 k0_t1).toNat := fun i v21 v45 k0_hw2 k0_t1 k0_h1 => k0_hw2.1.2.2.2.2.2.2.2.2.2.2.2.2.2.2.1 k0_t1 k0_h1
theorem k0_off11_inb : ∀ (i : grid0.Coords) (v21 : BitVec 32) (v45 : BitVec 32) (k0_hw2 : k0_chk2 i v21 v45) (k0_t1 : Fin (k0_t1_loop i v21).trips), ∀ (k0_h1 : ¬(k0_cond1 i v21 v45 k0_t1 = 1#1)), ∀ (r : Fin 4), ∀ a, (k0_off11 i v21 k0_t1 (BitVec.ofNat 32 (128 * r.val))) a + S128x128.size a ≤ S256x16384.size a := fun i v21 v45 k0_hw2 k0_t1 k0_h1 r => k0_hw2.1.2.2.2.2.2.2.2.2.2.2.2.2.2.2.2.1 k0_t1 k0_h1 r
theorem k0_mult10_dvd : ∀ (i : grid0.Coords) (v21 : BitVec 32) (v45 : BitVec 32) (k0_hw2 : k0_chk2 i v21 v45) (k0_t1 : Fin (k0_t1_loop i v21).trips), ∀ (k0_h1 : ¬(k0_cond1 i v21 v45 k0_t1 = 1#1)), 128 ∣ (k0_mult10 i v21 k0_t1).toNat := fun i v21 v45 k0_hw2 k0_t1 k0_h1 => k0_hw2.1.2.2.2.2.2.2.2.2.2.2.2.2.2.2.2.2.1 k0_t1 k0_h1
theorem k0_mult11_dvd : ∀ (i : grid0.Coords) (v21 : BitVec 32) (v45 : BitVec 32) (k0_hw2 : k0_chk2 i v21 v45) (k0_t1 : Fin (k0_t1_loop i v21).trips), ∀ (k0_h1 : ¬(k0_cond1 i v21 v45 k0_t1 = 1#1)), 128 ∣ (k0_mult11 i v21 k0_t1).toNat := fun i v21 v45 k0_hw2 k0_t1 k0_h1 => k0_hw2.1.2.2.2.2.2.2.2.2.2.2.2.2.2.2.2.2.2.1 k0_t1 k0_h1
theorem k0_mult12_dvd : ∀ (i : grid0.Coords) (v21 : BitVec 32) (v45 : BitVec 32) (k0_hw2 : k0_chk2 i v21 v45) (k0_t1 : Fin (k0_t1_loop i v21).trips), ∀ (k0_h1 : ¬(k0_cond1 i v21 v45 k0_t1 = 1#1)), 128 ∣ (k0_mult12 i v21 k0_t1).toNat := fun i v21 v45 k0_hw2 k0_t1 k0_h1 => k0_hw2.1.2.2.2.2.2.2.2.2.2.2.2.2.2.2.2.2.2.2.1 k0_t1 k0_h1
theorem k0_mult13_dvd : ∀ (i : grid0.Coords) (v21 : BitVec 32) (v45 : BitVec 32) (k0_hw2 : k0_chk2 i v21 v45) (k0_t1 : Fin (k0_t1_loop i v21).trips), ∀ (k0_h1 : ¬(k0_cond1 i v21 v45 k0_t1 = 1#1)), 128 ∣ (k0_mult13 i v21 k0_t1).toNat := fun i v21 v45 k0_hw2 k0_t1 k0_h1 => k0_hw2.1.2.2.2.2.2.2.2.2.2.2.2.2.2.2.2.2.2.2.2.1 k0_t1 k0_h1
theorem k0_off12_inb : ∀ (i : grid0.Coords) (v21 : BitVec 32) (v45 : BitVec 32) (k0_hw2 : k0_chk2 i v21 v45) (k0_t1 : Fin (k0_t1_loop i v21).trips), ∀ (k0_h1 : ¬(k0_cond1 i v21 v45 k0_t1 = 1#1)), ∀ (r : Fin 4), ∀ a, (k0_off12 i v21 k0_t1 (BitVec.ofNat 32 (128 * r.val))) a + S128x128.size a ≤ S256x16384.size a := fun i v21 v45 k0_hw2 k0_t1 k0_h1 r => k0_hw2.1.2.2.2.2.2.2.2.2.2.2.2.2.2.2.2.2.2.2.2.2.1 k0_t1 k0_h1 r
theorem k0_mult14_dvd : ∀ (i : grid0.Coords) (v21 : BitVec 32) (v45 : BitVec 32) (k0_hw2 : k0_chk2 i v21 v45) (k0_t1 : Fin (k0_t1_loop i v21).trips), ∀ (k0_h1 : ¬(k0_cond1 i v21 v45 k0_t1 = 1#1)), 128 ∣ (k0_mult14 i v21 k0_t1).toNat := fun i v21 v45 k0_hw2 k0_t1 k0_h1 => k0_hw2.1.2.2.2.2.2.2.2.2.2.2.2.2.2.2.2.2.2.2.2.2.2.1 k0_t1 k0_h1
theorem k0_mult15_dvd : ∀ (i : grid0.Coords) (v21 : BitVec 32) (v45 : BitVec 32) (k0_hw2 : k0_chk2 i v21 v45) (k0_t1 : Fin (k0_t1_loop i v21).trips), ∀ (k0_h1 : ¬(k0_cond1 i v21 v45 k0_t1 = 1#1)), 128 ∣ (k0_mult15 i v21 k0_t1).toNat := fun i v21 v45 k0_hw2 k0_t1 k0_h1 => k0_hw2.1.2.2.2.2.2.2.2.2.2.2.2.2.2.2.2.2.2.2.2.2.2.2.1 k0_t1 k0_h1
theorem k0_mult16_dvd : ∀ (i : grid0.Coords) (v21 : BitVec 32) (v45 : BitVec 32) (k0_hw2 : k0_chk2 i v21 v45) (k0_t1 : Fin (k0_t1_loop i v21).trips), ∀ (k0_h1 : ¬(k0_cond1 i v21 v45 k0_t1 = 1#1)), 128 ∣ (k0_mult16 i v21 k0_t1).toNat := fun i v21 v45 k0_hw2 k0_t1 k0_h1 => k0_hw2.1.2.2.2.2.2.2.2.2.2.2.2.2.2.2.2.2.2.2.2.2.2.2.2.1 k0_t1 k0_h1
theorem k0_off13_inb : ∀ (i : grid0.Coords) (v21 : BitVec 32) (v45 : BitVec 32) (k0_hw2 : k0_chk2 i v21 v45) (k0_t2 : Fin (k0_t2_loop i v21).trips), ∀ (k0_h2 : k0_cond2 i v21 v45 k0_t2 = 1#1), ∀ a, (k0_off13 i v21 k0_t2) a + S1x512x128.size a ≤ S1x16384x128.size a := fun i v21 v45 k0_hw2 k0_t2 k0_h2 => k0_hw2.1.2.2.2.2.2.2.2.2.2.2.2.2.2.2.2.2.2.2.2.2.2.2.2.2.1 k0_t2 k0_h2
theorem k0_off14_inb : ∀ (i : grid0.Coords) (v21 : BitVec 32) (v45 : BitVec 32) (k0_hw2 : k0_chk2 i v21 v45) (k0_t2 : Fin (k0_t2_loop i v21).trips), ∀ (k0_h2 : k0_cond2 i v21 v45 k0_t2 = 1#1), ∀ a, (k0_off14 i v21 k0_t2) a + S1x1x1x512.size a ≤ S1x1x1x16384.size a := fun i v21 v45 k0_hw2 k0_t2 k0_h2 => k0_hw2.1.2.2.2.2.2.2.2.2.2.2.2.2.2.2.2.2.2.2.2.2.2.2.2.2.2.1 k0_t2 k0_h2
theorem k0_mult17_dvd : ∀ (i : grid0.Coords) (v21 : BitVec 32) (v45 : BitVec 32) (k0_hw2 : k0_chk2 i v21 v45) (k0_t2 : Fin (k0_t2_loop i v21).trips), ∀ (k0_h2 : k0_cond2 i v21 v45 k0_t2 = 1#1), 128 ∣ (k0_mult17 i v21 k0_t2).toNat := fun i v21 v45 k0_hw2 k0_t2 k0_h2 => k0_hw2.1.2.2.2.2.2.2.2.2.2.2.2.2.2.2.2.2.2.2.2.2.2.2.2.2.2.2.1 k0_t2 k0_h2
theorem k0_off16_inb : ∀ (i : grid0.Coords) (v21 : BitVec 32) (v45 : BitVec 32) (k0_hw2 : k0_chk2 i v21 v45) (k0_t2 : Fin (k0_t2_loop i v21).trips), ∀ (k0_h2 : k0_cond2 i v21 v45 k0_t2 = 1#1), ∀ (r : Fin 4), ∀ a, (k0_off16 i v21 k0_t2 (BitVec.ofNat 32 (128 * r.val))) a + S128x128.size a ≤ S256x16384.size a := fun i v21 v45 k0_hw2 k0_t2 k0_h2 r => k0_hw2.1.2.2.2.2.2.2.2.2.2.2.2.2.2.2.2.2.2.2.2.2.2.2.2.2.2.2.2.1 k0_t2 k0_h2 r
theorem k0_mult18_dvd : ∀ (i : grid0.Coords) (v21 : BitVec 32) (v45 : BitVec 32) (k0_hw2 : k0_chk2 i v21 v45) (k0_t2 : Fin (k0_t2_loop i v21).trips), ∀ (k0_h2 : k0_cond2 i v21 v45 k0_t2 = 1#1), 128 ∣ (k0_mult18 i v21 k0_t2).toNat := fun i v21 v45 k0_hw2 k0_t2 k0_h2 => k0_hw2.1.2.2.2.2.2.2.2.2.2.2.2.2.2.2.2.2.2.2.2.2.2.2.2.2.2.2.2.2.1 k0_t2 k0_h2
theorem k0_mult19_dvd : ∀ (i : grid0.Coords) (v21 : BitVec 32) (v45 : BitVec 32) (k0_hw2 : k0_chk2 i v21 v45) (k0_t2 : Fin (k0_t2_loop i v21).trips), ∀ (k0_h2 : k0_cond2 i v21 v45 k0_t2 = 1#1), 128 ∣ (k0_mult19 i v21 k0_t2).toNat := fun i v21 v45 k0_hw2 k0_t2 k0_h2 => k0_hw2.1.2.2.2.2.2.2.2.2.2.2.2.2.2.2.2.2.2.2.2.2.2.2.2.2.2.2.2.2.2.1 k0_t2 k0_h2
theorem k0_mult20_dvd : ∀ (i : grid0.Coords) (v21 : BitVec 32) (v45 : BitVec 32) (k0_hw2 : k0_chk2 i v21 v45) (k0_t2 : Fin (k0_t2_loop i v21).trips), ∀ (k0_h2 : k0_cond2 i v21 v45 k0_t2 = 1#1), 128 ∣ (k0_mult20 i v21 k0_t2).toNat := fun i v21 v45 k0_hw2 k0_t2 k0_h2 => k0_hw2.1.2.2.2.2.2.2.2.2.2.2.2.2.2.2.2.2.2.2.2.2.2.2.2.2.2.2.2.2.2.2.1 k0_t2 k0_h2
theorem k0_mult21_dvd : ∀ (i : grid0.Coords) (v21 : BitVec 32) (v45 : BitVec 32) (k0_hw2 : k0_chk2 i v21 v45) (k0_t2 : Fin (k0_t2_loop i v21).trips), ∀ (k0_h2 : k0_cond2 i v21 v45 k0_t2 = 1#1), 128 ∣ (k0_mult21 i v21 k0_t2).toNat := fun i v21 v45 k0_hw2 k0_t2 k0_h2 => k0_hw2.1.2.2.2.2.2.2.2.2.2.2.2.2.2.2.2.2.2.2.2.2.2.2.2.2.2.2.2.2.2.2.2 k0_t2 k0_h2
theorem k0_off17_inb : ∀ (i : grid0.Coords) (v21 : BitVec 32) (v45 : BitVec 32) (k0_hw2 : k0_chk2 i v21 v45) (k0_t2 : Fin (k0_t2_loop i v21).trips), ∀ (k0_h2 : k0_cond2 i v21 v45 k0_t2 = 1#1), ∀ (r : Fin 4), ∀ a, (k0_off17 i v21 k0_t2 (BitVec.ofNat 32 (128 * r.val))) a + S128x128.size a ≤ S256x16384.size a := fun i v21 v45 k0_hw2 k0_t2 k0_h2 r => k0_hw2.2.1 k0_t2 k0_h2 r
theorem k0_mult22_dvd : ∀ (i : grid0.Coords) (v21 : BitVec 32) (v45 : BitVec 32) (k0_hw2 : k0_chk2 i v21 v45) (k0_t2 : Fin (k0_t2_loop i v21).trips), ∀ (k0_h2 : k0_cond2 i v21 v45 k0_t2 = 1#1), 128 ∣ (k0_mult22 i v21 k0_t2).toNat := fun i v21 v45 k0_hw2 k0_t2 k0_h2 => k0_hw2.2.2.1 k0_t2 k0_h2
theorem k0_mult23_dvd : ∀ (i : grid0.Coords) (v21 : BitVec 32) (v45 : BitVec 32) (k0_hw2 : k0_chk2 i v21 v45) (k0_t2 : Fin (k0_t2_loop i v21).trips), ∀ (k0_h2 : k0_cond2 i v21 v45 k0_t2 = 1#1), 128 ∣ (k0_mult23 i v21 k0_t2).toNat := fun i v21 v45 k0_hw2 k0_t2 k0_h2 => k0_hw2.2.2.2.1 k0_t2 k0_h2
theorem k0_mult24_dvd : ∀ (i : grid0.Coords) (v21 : BitVec 32) (v45 : BitVec 32) (k0_hw2 : k0_chk2 i v21 v45) (k0_t2 : Fin (k0_t2_loop i v21).trips), ∀ (k0_h2 : k0_cond2 i v21 v45 k0_t2 = 1#1), 128 ∣ (k0_mult24 i v21 k0_t2).toNat := fun i v21 v45 k0_hw2 k0_t2 k0_h2 => k0_hw2.2.2.2.2.1 k0_t2 k0_h2
theorem k0_off18_inb : ∀ (i : grid0.Coords) (v21 : BitVec 32) (v45 : BitVec 32) (k0_hw2 : k0_chk2 i v21 v45) (k0_t2 : Fin (k0_t2_loop i v21).trips), ∀ (k0_h2 : ¬(k0_cond2 i v21 v45 k0_t2 = 1#1)), ∀ a, (k0_off18 i v21 k0_t2) a + S1x512x128.size a ≤ S1x16384x128.size a := fun i v21 v45 k0_hw2 k0_t2 k0_h2 => k0_hw2.2.2.2.2.2.1 k0_t2 k0_h2
theorem k0_off19_inb : ∀ (i : grid0.Coords) (v21 : BitVec 32) (v45 : BitVec 32) (k0_hw2 : k0_chk2 i v21 v45) (k0_t2 : Fin (k0_t2_loop i v21).trips), ∀ (k0_h2 : ¬(k0_cond2 i v21 v45 k0_t2 = 1#1)), ∀ a, (k0_off19 i v21 k0_t2) a + S1x1x1x512.size a ≤ S1x1x1x16384.size a := fun i v21 v45 k0_hw2 k0_t2 k0_h2 => k0_hw2.2.2.2.2.2.2.1 k0_t2 k0_h2
theorem k0_mult25_dvd : ∀ (i : grid0.Coords) (v21 : BitVec 32) (v45 : BitVec 32) (k0_hw2 : k0_chk2 i v21 v45) (k0_t2 : Fin (k0_t2_loop i v21).trips), ∀ (k0_h2 : ¬(k0_cond2 i v21 v45 k0_t2 = 1#1)), 128 ∣ (k0_mult25 i v21 k0_t2).toNat := fun i v21 v45 k0_hw2 k0_t2 k0_h2 => k0_hw2.2.2.2.2.2.2.2.1 k0_t2 k0_h2
theorem k0_off21_inb : ∀ (i : grid0.Coords) (v21 : BitVec 32) (v45 : BitVec 32) (k0_hw2 : k0_chk2 i v21 v45) (k0_t2 : Fin (k0_t2_loop i v21).trips), ∀ (k0_h2 : ¬(k0_cond2 i v21 v45 k0_t2 = 1#1)), ∀ (r : Fin 4), ∀ a, (k0_off21 i v21 k0_t2 (BitVec.ofNat 32 (128 * r.val))) a + S128x128.size a ≤ S256x16384.size a := fun i v21 v45 k0_hw2 k0_t2 k0_h2 r => k0_hw2.2.2.2.2.2.2.2.2.1 k0_t2 k0_h2 r
theorem k0_mult26_dvd : ∀ (i : grid0.Coords) (v21 : BitVec 32) (v45 : BitVec 32) (k0_hw2 : k0_chk2 i v21 v45) (k0_t2 : Fin (k0_t2_loop i v21).trips), ∀ (k0_h2 : ¬(k0_cond2 i v21 v45 k0_t2 = 1#1)), 128 ∣ (k0_mult26 i v21 k0_t2).toNat := fun i v21 v45 k0_hw2 k0_t2 k0_h2 => k0_hw2.2.2.2.2.2.2.2.2.2.1 k0_t2 k0_h2
theorem k0_mult27_dvd : ∀ (i : grid0.Coords) (v21 : BitVec 32) (v45 : BitVec 32) (k0_hw2 : k0_chk2 i v21 v45) (k0_t2 : Fin (k0_t2_loop i v21).trips), ∀ (k0_h2 : ¬(k0_cond2 i v21 v45 k0_t2 = 1#1)), 128 ∣ (k0_mult27 i v21 k0_t2).toNat := fun i v21 v45 k0_hw2 k0_t2 k0_h2 => k0_hw2.2.2.2.2.2.2.2.2.2.2.1 k0_t2 k0_h2
theorem k0_mult28_dvd : ∀ (i : grid0.Coords) (v21 : BitVec 32) (v45 : BitVec 32) (k0_hw2 : k0_chk2 i v21 v45) (k0_t2 : Fin (k0_t2_loop i v21).trips), ∀ (k0_h2 : ¬(k0_cond2 i v21 v45 k0_t2 = 1#1)), 128 ∣ (k0_mult28 i v21 k0_t2).toNat := fun i v21 v45 k0_hw2 k0_t2 k0_h2 => k0_hw2.2.2.2.2.2.2.2.2.2.2.2.1 k0_t2 k0_h2
theorem k0_mult29_dvd : ∀ (i : grid0.Coords) (v21 : BitVec 32) (v45 : BitVec 32) (k0_hw2 : k0_chk2 i v21 v45) (k0_t2 : Fin (k0_t2_loop i v21).trips), ∀ (k0_h2 : ¬(k0_cond2 i v21 v45 k0_t2 = 1#1)), 128 ∣ (k0_mult29 i v21 k0_t2).toNat := fun i v21 v45 k0_hw2 k0_t2 k0_h2 => k0_hw2.2.2.2.2.2.2.2.2.2.2.2.2.1 k0_t2 k0_h2
theorem k0_off22_inb : ∀ (i : grid0.Coords) (v21 : BitVec 32) (v45 : BitVec 32) (k0_hw2 : k0_chk2 i v21 v45) (k0_t2 : Fin (k0_t2_loop i v21).trips), ∀ (k0_h2 : ¬(k0_cond2 i v21 v45 k0_t2 = 1#1)), ∀ (r : Fin 4), ∀ a, (k0_off22 i v21 k0_t2 (BitVec.ofNat 32 (128 * r.val))) a + S128x128.size a ≤ S256x16384.size a := fun i v21 v45 k0_hw2 k0_t2 k0_h2 r => k0_hw2.2.2.2.2.2.2.2.2.2.2.2.2.2.1 k0_t2 k0_h2 r
theorem k0_mult30_dvd : ∀ (i : grid0.Coords) (v21 : BitVec 32) (v45 : BitVec 32) (k0_hw2 : k0_chk2 i v21 v45) (k0_t2 : Fin (k0_t2_loop i v21).trips), ∀ (k0_h2 : ¬(k0_cond2 i v21 v45 k0_t2 = 1#1)), 128 ∣ (k0_mult30 i v21 k0_t2).toNat := fun i v21 v45 k0_hw2 k0_t2 k0_h2 => k0_hw2.2.2.2.2.2.2.2.2.2.2.2.2.2.2.1 k0_t2 k0_h2
theorem k0_mult31_dvd : ∀ (i : grid0.Coords) (v21 : BitVec 32) (v45 : BitVec 32) (k0_hw2 : k0_chk2 i v21 v45) (k0_t2 : Fin (k0_t2_loop i v21).trips), ∀ (k0_h2 : ¬(k0_cond2 i v21 v45 k0_t2 = 1#1)), 128 ∣ (k0_mult31 i v21 k0_t2).toNat := fun i v21 v45 k0_hw2 k0_t2 k0_h2 => k0_hw2.2.2.2.2.2.2.2.2.2.2.2.2.2.2.2.1 k0_t2 k0_h2
theorem k0_mult32_dvd : ∀ (i : grid0.Coords) (v21 : BitVec 32) (v45 : BitVec 32) (k0_hw2 : k0_chk2 i v21 v45) (k0_t2 : Fin (k0_t2_loop i v21).trips), ∀ (k0_h2 : ¬(k0_cond2 i v21 v45 k0_t2 = 1#1)), 128 ∣ (k0_mult32 i v21 k0_t2).toNat := fun i v21 v45 k0_hw2 k0_t2 k0_h2 => k0_hw2.2.2.2.2.2.2.2.2.2.2.2.2.2.2.2.2 k0_t2 k0_h2

@[reducible] def k0_t3_loop (i : grid0.Coords) (v21 : BitVec 32) : Scf.Loop 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let arg2 : BitVec 32 := BitVec.ofNat 32 (i 2).val
  let c256_i32 : BitVec 32 := 256#32
  let v0 : BitVec 32 := Scalar.muli arg2 c256_i32
  let c256_i32_21 : BitVec 32 := 256#32
  let v63 : BitVec 32 := Scalar.addi v0 c256_i32_21
  let c512_i32_22 : BitVec 32 := 512#32
  let v64 : BitVec 32 := Scalar.addi v63 c512_i32_22
  let c1_i32_23 : BitVec 32 := 1#32
  let v65 : BitVec 32 := Scalar.subi v64 c1_i32_23
  let c0_i32_25 : BitVec 32 := 0#32
  let v67 : BitVec 1 := Scalar.cmpi .sgt v65 c0_i32_25
  let v68 : BitVec 32 := Scalar.extui v67
  let c0_i32_26 : BitVec 32 := 0#32
  let v69 : BitVec 1 := Scalar.cmpi .slt v65 c0_i32_26
  let v70 : BitVec 32 := Scalar.extui v69
  let v71 : BitVec 32 := Scalar.subi v68 v70
  let c512_i32_24 : BitVec 32 := 512#32
  let c0_i32_27 : BitVec 32 := 0#32
  let v72 : BitVec 1 := Scalar.cmpi .sgt c512_i32_24 c0_i32_27
  let v73 : BitVec 32 := Scalar.extui v72
  let c0_i32_28 : BitVec 32 := 0#32
  let v74 : BitVec 1 := Scalar.cmpi .slt c512_i32_24 c0_i32_28
  let v75 : BitVec 32 := Scalar.extui v74
  let v76 : BitVec 32 := Scalar.subi v73 v75
  let v77 : BitVec 1 := Scalar.cmpi .ne v71 v76
  let v78 : BitVec 32 := Scalar.remsi v65 c512_i32_24
  let c0_i32_29 : BitVec 32 := 0#32
  let v79 : BitVec 1 := Scalar.cmpi .ne v78 c0_i32_29
  let v80 : BitVec 1 := Scalar.andi v77 v79
  let v66 : BitVec 32 := Scalar.divsi v65 c512_i32_24
  let c1_i32_30 : BitVec 32 := 1#32
  let v81 : BitVec 32 := Scalar.subi v66 c1_i32_30
  let v82 : BitVec 32 := Scalar.select v80 v81 v66
  let v107 : BitVec 32 := Scalar.subi v82 v62
  let c1_i32_40 : BitVec 32 := 1#32
  let v109 : BitVec 32 := Scalar.divsi v107 c1_i32_40
  let v110 : BitVec 32 := Scalar.muli v109 c1_i32_40
  let v111 : BitVec 32 := Scalar.addi v62 v110
  let c1_i32_41 : BitVec 32 := 1#32
  ⟨v62, v111, c1_i32_41⟩
def k0_mult33 (i : grid0.Coords) (v21 : BitVec 32) (k0_t3 : Fin (k0_t3_loop i v21).trips) : BitVec 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let c1_i32_41 : BitVec 32 := 1#32
  let arg14 : BitVec 32 := Scf.iv v62 c1_i32_41 k0_t3
  let c512_i32_53 : BitVec 32 := 512#32
  let v130 : BitVec 32 := Scalar.muli arg14 c512_i32_53
  v130
def k0_mult34 (i : grid0.Coords) (v21 : BitVec 32) (k0_t3 : Fin (k0_t3_loop i v21).trips) : BitVec 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let c1_i32_41 : BitVec 32 := 1#32
  let arg14 : BitVec 32 := Scf.iv v62 c1_i32_41 k0_t3
  let c512_i32_54 : BitVec 32 := 512#32
  let v132 : BitVec 32 := Scalar.muli arg14 c512_i32_54
  let c0_i32_55 : BitVec 32 := 0#32
  let v133 : BitVec 32 := Scalar.addi v132 c0_i32_55
  v133
def k0_off23 (i : grid0.Coords) (v21 : BitVec 32) (k0_t3 : Fin (k0_t3_loop i v21).trips) (c0_i32_55 : BitVec 32) : Fin 2 → Nat :=
  let c0_56 : Index := 0#32
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let c1_i32_41 : BitVec 32 := 1#32
  let arg14 : BitVec 32 := Scf.iv v62 c1_i32_41 k0_t3
  let c512_i32_54 : BitVec 32 := 512#32
  let v132 : BitVec 32 := Scalar.muli arg14 c512_i32_54
  let v133 : BitVec 32 := Scalar.addi v132 c0_i32_55
  let v134 : BitVec 32 := v133
  let v135 : Index := Scalar.indexCast v134
  ![0, v135.toNat]
def k0_mult35 (i : grid0.Coords) (v21 : BitVec 32) (k0_t3 : Fin (k0_t3_loop i v21).trips) : BitVec 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let c1_i32_41 : BitVec 32 := 1#32
  let arg14 : BitVec 32 := Scf.iv v62 c1_i32_41 k0_t3
  let c512_i32_59 : BitVec 32 := 512#32
  let v145 : BitVec 32 := Scalar.muli arg14 c512_i32_59
  let c128_i32_60 : BitVec 32 := 128#32
  let v146 : BitVec 32 := Scalar.addi v145 c128_i32_60
  v146
def k0_mult36 (i : grid0.Coords) (v21 : BitVec 32) (k0_t3 : Fin (k0_t3_loop i v21).trips) : BitVec 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let c1_i32_41 : BitVec 32 := 1#32
  let arg14 : BitVec 32 := Scf.iv v62 c1_i32_41 k0_t3
  let c512_i32_64 : BitVec 32 := 512#32
  let v158 : BitVec 32 := Scalar.muli arg14 c512_i32_64
  let c256_i32_65 : BitVec 32 := 256#32
  let v159 : BitVec 32 := Scalar.addi v158 c256_i32_65
  v159
def k0_mult37 (i : grid0.Coords) (v21 : BitVec 32) (k0_t3 : Fin (k0_t3_loop i v21).trips) : BitVec 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let c1_i32_41 : BitVec 32 := 1#32
  let arg14 : BitVec 32 := Scf.iv v62 c1_i32_41 k0_t3
  let c512_i32_69 : BitVec 32 := 512#32
  let v171 : BitVec 32 := Scalar.muli arg14 c512_i32_69
  let c384_i32 : BitVec 32 := 384#32
  let v172 : BitVec 32 := Scalar.addi v171 c384_i32
  v172
def k0_off24 (i : grid0.Coords) (v21 : BitVec 32) (k0_t3 : Fin (k0_t3_loop i v21).trips) : Fin 3 → Nat :=
  let c0_73 : Index := 0#32
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let c1_i32_41 : BitVec 32 := 1#32
  let arg14 : BitVec 32 := Scf.iv v62 c1_i32_41 k0_t3
  let c512_i32_53 : BitVec 32 := 512#32
  let v130 : BitVec 32 := Scalar.muli arg14 c512_i32_53
  let v131 : BitVec 32 := v130
  let v185 : Index := Scalar.indexCast v131
  let c0_74 : Index := 0#32
  ![0, v185.toNat, 0]
@[reducible] def k0_t4_loop (i : grid0.Coords) (v21 : BitVec 32) : Scf.Loop 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let arg2 : BitVec 32 := BitVec.ofNat 32 (i 2).val
  let c256_i32 : BitVec 32 := 256#32
  let v0 : BitVec 32 := Scalar.muli arg2 c256_i32
  let c256_i32_21 : BitVec 32 := 256#32
  let v63 : BitVec 32 := Scalar.addi v0 c256_i32_21
  let c512_i32_22 : BitVec 32 := 512#32
  let v64 : BitVec 32 := Scalar.addi v63 c512_i32_22
  let c1_i32_23 : BitVec 32 := 1#32
  let v65 : BitVec 32 := Scalar.subi v64 c1_i32_23
  let c0_i32_25 : BitVec 32 := 0#32
  let v67 : BitVec 1 := Scalar.cmpi .sgt v65 c0_i32_25
  let v68 : BitVec 32 := Scalar.extui v67
  let c0_i32_26 : BitVec 32 := 0#32
  let v69 : BitVec 1 := Scalar.cmpi .slt v65 c0_i32_26
  let v70 : BitVec 32 := Scalar.extui v69
  let v71 : BitVec 32 := Scalar.subi v68 v70
  let c512_i32_24 : BitVec 32 := 512#32
  let c0_i32_27 : BitVec 32 := 0#32
  let v72 : BitVec 1 := Scalar.cmpi .sgt c512_i32_24 c0_i32_27
  let v73 : BitVec 32 := Scalar.extui v72
  let c0_i32_28 : BitVec 32 := 0#32
  let v74 : BitVec 1 := Scalar.cmpi .slt c512_i32_24 c0_i32_28
  let v75 : BitVec 32 := Scalar.extui v74
  let v76 : BitVec 32 := Scalar.subi v73 v75
  let v77 : BitVec 1 := Scalar.cmpi .ne v71 v76
  let v78 : BitVec 32 := Scalar.remsi v65 c512_i32_24
  let c0_i32_29 : BitVec 32 := 0#32
  let v79 : BitVec 1 := Scalar.cmpi .ne v78 c0_i32_29
  let v80 : BitVec 1 := Scalar.andi v77 v79
  let v66 : BitVec 32 := Scalar.divsi v65 c512_i32_24
  let c1_i32_30 : BitVec 32 := 1#32
  let v81 : BitVec 32 := Scalar.subi v66 c1_i32_30
  let v82 : BitVec 32 := Scalar.select v80 v81 v66
  let v107 : BitVec 32 := Scalar.subi v82 v62
  let c1_i32_40 : BitVec 32 := 1#32
  let v109 : BitVec 32 := Scalar.divsi v107 c1_i32_40
  let v110 : BitVec 32 := Scalar.muli v109 c1_i32_40
  let v111 : BitVec 32 := Scalar.addi v62 v110
  let v108 : BitVec 32 := Scalar.addi v62 v107
  let c1_i32_42 : BitVec 32 := 1#32
  ⟨v111, v108, c1_i32_42⟩
def k0_mult38 (i : grid0.Coords) (v21 : BitVec 32) (k0_t4 : Fin (k0_t4_loop i v21).trips) : BitVec 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let arg2 : BitVec 32 := BitVec.ofNat 32 (i 2).val
  let c256_i32 : BitVec 32 := 256#32
  let v0 : BitVec 32 := Scalar.muli arg2 c256_i32
  let c256_i32_21 : BitVec 32 := 256#32
  let v63 : BitVec 32 := Scalar.addi v0 c256_i32_21
  let c512_i32_22 : BitVec 32 := 512#32
  let v64 : BitVec 32 := Scalar.addi v63 c512_i32_22
  let c1_i32_23 : BitVec 32 := 1#32
  let v65 : BitVec 32 := Scalar.subi v64 c1_i32_23
  let c0_i32_25 : BitVec 32 := 0#32
  let v67 : BitVec 1 := Scalar.cmpi .sgt v65 c0_i32_25
  let v68 : BitVec 32 := Scalar.extui v67
  let c0_i32_26 : BitVec 32 := 0#32
  let v69 : BitVec 1 := Scalar.cmpi .slt v65 c0_i32_26
  let v70 : BitVec 32 := Scalar.extui v69
  let v71 : BitVec 32 := Scalar.subi v68 v70
  let c512_i32_24 : BitVec 32 := 512#32
  let c0_i32_27 : BitVec 32 := 0#32
  let v72 : BitVec 1 := Scalar.cmpi .sgt c512_i32_24 c0_i32_27
  let v73 : BitVec 32 := Scalar.extui v72
  let c0_i32_28 : BitVec 32 := 0#32
  let v74 : BitVec 1 := Scalar.cmpi .slt c512_i32_24 c0_i32_28
  let v75 : BitVec 32 := Scalar.extui v74
  let v76 : BitVec 32 := Scalar.subi v73 v75
  let v77 : BitVec 1 := Scalar.cmpi .ne v71 v76
  let v78 : BitVec 32 := Scalar.remsi v65 c512_i32_24
  let c0_i32_29 : BitVec 32 := 0#32
  let v79 : BitVec 1 := Scalar.cmpi .ne v78 c0_i32_29
  let v80 : BitVec 1 := Scalar.andi v77 v79
  let v66 : BitVec 32 := Scalar.divsi v65 c512_i32_24
  let c1_i32_30 : BitVec 32 := 1#32
  let v81 : BitVec 32 := Scalar.subi v66 c1_i32_30
  let v82 : BitVec 32 := Scalar.select v80 v81 v66
  let v107 : BitVec 32 := Scalar.subi v82 v62
  let c1_i32_40 : BitVec 32 := 1#32
  let v109 : BitVec 32 := Scalar.divsi v107 c1_i32_40
  let v110 : BitVec 32 := Scalar.muli v109 c1_i32_40
  let v111 : BitVec 32 := Scalar.addi v62 v110
  let c1_i32_42 : BitVec 32 := 1#32
  let arg14 : BitVec 32 := Scf.iv v111 c1_i32_42 k0_t4
  let c512_i32_53 : BitVec 32 := 512#32
  let v130 : BitVec 32 := Scalar.muli arg14 c512_i32_53
  v130
def k0_mult39 (i : grid0.Coords) (v21 : BitVec 32) (k0_t4 : Fin (k0_t4_loop i v21).trips) : BitVec 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let arg2 : BitVec 32 := BitVec.ofNat 32 (i 2).val
  let c256_i32 : BitVec 32 := 256#32
  let v0 : BitVec 32 := Scalar.muli arg2 c256_i32
  let c256_i32_21 : BitVec 32 := 256#32
  let v63 : BitVec 32 := Scalar.addi v0 c256_i32_21
  let c512_i32_22 : BitVec 32 := 512#32
  let v64 : BitVec 32 := Scalar.addi v63 c512_i32_22
  let c1_i32_23 : BitVec 32 := 1#32
  let v65 : BitVec 32 := Scalar.subi v64 c1_i32_23
  let c0_i32_25 : BitVec 32 := 0#32
  let v67 : BitVec 1 := Scalar.cmpi .sgt v65 c0_i32_25
  let v68 : BitVec 32 := Scalar.extui v67
  let c0_i32_26 : BitVec 32 := 0#32
  let v69 : BitVec 1 := Scalar.cmpi .slt v65 c0_i32_26
  let v70 : BitVec 32 := Scalar.extui v69
  let v71 : BitVec 32 := Scalar.subi v68 v70
  let c512_i32_24 : BitVec 32 := 512#32
  let c0_i32_27 : BitVec 32 := 0#32
  let v72 : BitVec 1 := Scalar.cmpi .sgt c512_i32_24 c0_i32_27
  let v73 : BitVec 32 := Scalar.extui v72
  let c0_i32_28 : BitVec 32 := 0#32
  let v74 : BitVec 1 := Scalar.cmpi .slt c512_i32_24 c0_i32_28
  let v75 : BitVec 32 := Scalar.extui v74
  let v76 : BitVec 32 := Scalar.subi v73 v75
  let v77 : BitVec 1 := Scalar.cmpi .ne v71 v76
  let v78 : BitVec 32 := Scalar.remsi v65 c512_i32_24
  let c0_i32_29 : BitVec 32 := 0#32
  let v79 : BitVec 1 := Scalar.cmpi .ne v78 c0_i32_29
  let v80 : BitVec 1 := Scalar.andi v77 v79
  let v66 : BitVec 32 := Scalar.divsi v65 c512_i32_24
  let c1_i32_30 : BitVec 32 := 1#32
  let v81 : BitVec 32 := Scalar.subi v66 c1_i32_30
  let v82 : BitVec 32 := Scalar.select v80 v81 v66
  let v107 : BitVec 32 := Scalar.subi v82 v62
  let c1_i32_40 : BitVec 32 := 1#32
  let v109 : BitVec 32 := Scalar.divsi v107 c1_i32_40
  let v110 : BitVec 32 := Scalar.muli v109 c1_i32_40
  let v111 : BitVec 32 := Scalar.addi v62 v110
  let c1_i32_42 : BitVec 32 := 1#32
  let arg14 : BitVec 32 := Scf.iv v111 c1_i32_42 k0_t4
  let c512_i32_54 : BitVec 32 := 512#32
  let v132 : BitVec 32 := Scalar.muli arg14 c512_i32_54
  let c0_i32_55 : BitVec 32 := 0#32
  let v133 : BitVec 32 := Scalar.addi v132 c0_i32_55
  v133
def k0_off25 (i : grid0.Coords) (v21 : BitVec 32) (k0_t4 : Fin (k0_t4_loop i v21).trips) (c0_i32_55 : BitVec 32) : Fin 2 → Nat :=
  let c0_56 : Index := 0#32
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let arg2 : BitVec 32 := BitVec.ofNat 32 (i 2).val
  let c256_i32 : BitVec 32 := 256#32
  let v0 : BitVec 32 := Scalar.muli arg2 c256_i32
  let c256_i32_21 : BitVec 32 := 256#32
  let v63 : BitVec 32 := Scalar.addi v0 c256_i32_21
  let c512_i32_22 : BitVec 32 := 512#32
  let v64 : BitVec 32 := Scalar.addi v63 c512_i32_22
  let c1_i32_23 : BitVec 32 := 1#32
  let v65 : BitVec 32 := Scalar.subi v64 c1_i32_23
  let c0_i32_25 : BitVec 32 := 0#32
  let v67 : BitVec 1 := Scalar.cmpi .sgt v65 c0_i32_25
  let v68 : BitVec 32 := Scalar.extui v67
  let c0_i32_26 : BitVec 32 := 0#32
  let v69 : BitVec 1 := Scalar.cmpi .slt v65 c0_i32_26
  let v70 : BitVec 32 := Scalar.extui v69
  let v71 : BitVec 32 := Scalar.subi v68 v70
  let c512_i32_24 : BitVec 32 := 512#32
  let c0_i32_27 : BitVec 32 := 0#32
  let v72 : BitVec 1 := Scalar.cmpi .sgt c512_i32_24 c0_i32_27
  let v73 : BitVec 32 := Scalar.extui v72
  let c0_i32_28 : BitVec 32 := 0#32
  let v74 : BitVec 1 := Scalar.cmpi .slt c512_i32_24 c0_i32_28
  let v75 : BitVec 32 := Scalar.extui v74
  let v76 : BitVec 32 := Scalar.subi v73 v75
  let v77 : BitVec 1 := Scalar.cmpi .ne v71 v76
  let v78 : BitVec 32 := Scalar.remsi v65 c512_i32_24
  let c0_i32_29 : BitVec 32 := 0#32
  let v79 : BitVec 1 := Scalar.cmpi .ne v78 c0_i32_29
  let v80 : BitVec 1 := Scalar.andi v77 v79
  let v66 : BitVec 32 := Scalar.divsi v65 c512_i32_24
  let c1_i32_30 : BitVec 32 := 1#32
  let v81 : BitVec 32 := Scalar.subi v66 c1_i32_30
  let v82 : BitVec 32 := Scalar.select v80 v81 v66
  let v107 : BitVec 32 := Scalar.subi v82 v62
  let c1_i32_40 : BitVec 32 := 1#32
  let v109 : BitVec 32 := Scalar.divsi v107 c1_i32_40
  let v110 : BitVec 32 := Scalar.muli v109 c1_i32_40
  let v111 : BitVec 32 := Scalar.addi v62 v110
  let c1_i32_42 : BitVec 32 := 1#32
  let arg14 : BitVec 32 := Scf.iv v111 c1_i32_42 k0_t4
  let c512_i32_54 : BitVec 32 := 512#32
  let v132 : BitVec 32 := Scalar.muli arg14 c512_i32_54
  let v133 : BitVec 32 := Scalar.addi v132 c0_i32_55
  let v134 : BitVec 32 := v133
  let v135 : Index := Scalar.indexCast v134
  ![0, v135.toNat]
def k0_mult40 (i : grid0.Coords) (v21 : BitVec 32) (k0_t4 : Fin (k0_t4_loop i v21).trips) : BitVec 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let arg2 : BitVec 32 := BitVec.ofNat 32 (i 2).val
  let c256_i32 : BitVec 32 := 256#32
  let v0 : BitVec 32 := Scalar.muli arg2 c256_i32
  let c256_i32_21 : BitVec 32 := 256#32
  let v63 : BitVec 32 := Scalar.addi v0 c256_i32_21
  let c512_i32_22 : BitVec 32 := 512#32
  let v64 : BitVec 32 := Scalar.addi v63 c512_i32_22
  let c1_i32_23 : BitVec 32 := 1#32
  let v65 : BitVec 32 := Scalar.subi v64 c1_i32_23
  let c0_i32_25 : BitVec 32 := 0#32
  let v67 : BitVec 1 := Scalar.cmpi .sgt v65 c0_i32_25
  let v68 : BitVec 32 := Scalar.extui v67
  let c0_i32_26 : BitVec 32 := 0#32
  let v69 : BitVec 1 := Scalar.cmpi .slt v65 c0_i32_26
  let v70 : BitVec 32 := Scalar.extui v69
  let v71 : BitVec 32 := Scalar.subi v68 v70
  let c512_i32_24 : BitVec 32 := 512#32
  let c0_i32_27 : BitVec 32 := 0#32
  let v72 : BitVec 1 := Scalar.cmpi .sgt c512_i32_24 c0_i32_27
  let v73 : BitVec 32 := Scalar.extui v72
  let c0_i32_28 : BitVec 32 := 0#32
  let v74 : BitVec 1 := Scalar.cmpi .slt c512_i32_24 c0_i32_28
  let v75 : BitVec 32 := Scalar.extui v74
  let v76 : BitVec 32 := Scalar.subi v73 v75
  let v77 : BitVec 1 := Scalar.cmpi .ne v71 v76
  let v78 : BitVec 32 := Scalar.remsi v65 c512_i32_24
  let c0_i32_29 : BitVec 32 := 0#32
  let v79 : BitVec 1 := Scalar.cmpi .ne v78 c0_i32_29
  let v80 : BitVec 1 := Scalar.andi v77 v79
  let v66 : BitVec 32 := Scalar.divsi v65 c512_i32_24
  let c1_i32_30 : BitVec 32 := 1#32
  let v81 : BitVec 32 := Scalar.subi v66 c1_i32_30
  let v82 : BitVec 32 := Scalar.select v80 v81 v66
  let v107 : BitVec 32 := Scalar.subi v82 v62
  let c1_i32_40 : BitVec 32 := 1#32
  let v109 : BitVec 32 := Scalar.divsi v107 c1_i32_40
  let v110 : BitVec 32 := Scalar.muli v109 c1_i32_40
  let v111 : BitVec 32 := Scalar.addi v62 v110
  let c1_i32_42 : BitVec 32 := 1#32
  let arg14 : BitVec 32 := Scf.iv v111 c1_i32_42 k0_t4
  let c512_i32_59 : BitVec 32 := 512#32
  let v145 : BitVec 32 := Scalar.muli arg14 c512_i32_59
  let c128_i32_60 : BitVec 32 := 128#32
  let v146 : BitVec 32 := Scalar.addi v145 c128_i32_60
  v146
def k0_mult41 (i : grid0.Coords) (v21 : BitVec 32) (k0_t4 : Fin (k0_t4_loop i v21).trips) : BitVec 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let arg2 : BitVec 32 := BitVec.ofNat 32 (i 2).val
  let c256_i32 : BitVec 32 := 256#32
  let v0 : BitVec 32 := Scalar.muli arg2 c256_i32
  let c256_i32_21 : BitVec 32 := 256#32
  let v63 : BitVec 32 := Scalar.addi v0 c256_i32_21
  let c512_i32_22 : BitVec 32 := 512#32
  let v64 : BitVec 32 := Scalar.addi v63 c512_i32_22
  let c1_i32_23 : BitVec 32 := 1#32
  let v65 : BitVec 32 := Scalar.subi v64 c1_i32_23
  let c0_i32_25 : BitVec 32 := 0#32
  let v67 : BitVec 1 := Scalar.cmpi .sgt v65 c0_i32_25
  let v68 : BitVec 32 := Scalar.extui v67
  let c0_i32_26 : BitVec 32 := 0#32
  let v69 : BitVec 1 := Scalar.cmpi .slt v65 c0_i32_26
  let v70 : BitVec 32 := Scalar.extui v69
  let v71 : BitVec 32 := Scalar.subi v68 v70
  let c512_i32_24 : BitVec 32 := 512#32
  let c0_i32_27 : BitVec 32 := 0#32
  let v72 : BitVec 1 := Scalar.cmpi .sgt c512_i32_24 c0_i32_27
  let v73 : BitVec 32 := Scalar.extui v72
  let c0_i32_28 : BitVec 32 := 0#32
  let v74 : BitVec 1 := Scalar.cmpi .slt c512_i32_24 c0_i32_28
  let v75 : BitVec 32 := Scalar.extui v74
  let v76 : BitVec 32 := Scalar.subi v73 v75
  let v77 : BitVec 1 := Scalar.cmpi .ne v71 v76
  let v78 : BitVec 32 := Scalar.remsi v65 c512_i32_24
  let c0_i32_29 : BitVec 32 := 0#32
  let v79 : BitVec 1 := Scalar.cmpi .ne v78 c0_i32_29
  let v80 : BitVec 1 := Scalar.andi v77 v79
  let v66 : BitVec 32 := Scalar.divsi v65 c512_i32_24
  let c1_i32_30 : BitVec 32 := 1#32
  let v81 : BitVec 32 := Scalar.subi v66 c1_i32_30
  let v82 : BitVec 32 := Scalar.select v80 v81 v66
  let v107 : BitVec 32 := Scalar.subi v82 v62
  let c1_i32_40 : BitVec 32 := 1#32
  let v109 : BitVec 32 := Scalar.divsi v107 c1_i32_40
  let v110 : BitVec 32 := Scalar.muli v109 c1_i32_40
  let v111 : BitVec 32 := Scalar.addi v62 v110
  let c1_i32_42 : BitVec 32 := 1#32
  let arg14 : BitVec 32 := Scf.iv v111 c1_i32_42 k0_t4
  let c512_i32_64 : BitVec 32 := 512#32
  let v158 : BitVec 32 := Scalar.muli arg14 c512_i32_64
  let c256_i32_65 : BitVec 32 := 256#32
  let v159 : BitVec 32 := Scalar.addi v158 c256_i32_65
  v159
def k0_mult42 (i : grid0.Coords) (v21 : BitVec 32) (k0_t4 : Fin (k0_t4_loop i v21).trips) : BitVec 32 :=
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let arg2 : BitVec 32 := BitVec.ofNat 32 (i 2).val
  let c256_i32 : BitVec 32 := 256#32
  let v0 : BitVec 32 := Scalar.muli arg2 c256_i32
  let c256_i32_21 : BitVec 32 := 256#32
  let v63 : BitVec 32 := Scalar.addi v0 c256_i32_21
  let c512_i32_22 : BitVec 32 := 512#32
  let v64 : BitVec 32 := Scalar.addi v63 c512_i32_22
  let c1_i32_23 : BitVec 32 := 1#32
  let v65 : BitVec 32 := Scalar.subi v64 c1_i32_23
  let c0_i32_25 : BitVec 32 := 0#32
  let v67 : BitVec 1 := Scalar.cmpi .sgt v65 c0_i32_25
  let v68 : BitVec 32 := Scalar.extui v67
  let c0_i32_26 : BitVec 32 := 0#32
  let v69 : BitVec 1 := Scalar.cmpi .slt v65 c0_i32_26
  let v70 : BitVec 32 := Scalar.extui v69
  let v71 : BitVec 32 := Scalar.subi v68 v70
  let c512_i32_24 : BitVec 32 := 512#32
  let c0_i32_27 : BitVec 32 := 0#32
  let v72 : BitVec 1 := Scalar.cmpi .sgt c512_i32_24 c0_i32_27
  let v73 : BitVec 32 := Scalar.extui v72
  let c0_i32_28 : BitVec 32 := 0#32
  let v74 : BitVec 1 := Scalar.cmpi .slt c512_i32_24 c0_i32_28
  let v75 : BitVec 32 := Scalar.extui v74
  let v76 : BitVec 32 := Scalar.subi v73 v75
  let v77 : BitVec 1 := Scalar.cmpi .ne v71 v76
  let v78 : BitVec 32 := Scalar.remsi v65 c512_i32_24
  let c0_i32_29 : BitVec 32 := 0#32
  let v79 : BitVec 1 := Scalar.cmpi .ne v78 c0_i32_29
  let v80 : BitVec 1 := Scalar.andi v77 v79
  let v66 : BitVec 32 := Scalar.divsi v65 c512_i32_24
  let c1_i32_30 : BitVec 32 := 1#32
  let v81 : BitVec 32 := Scalar.subi v66 c1_i32_30
  let v82 : BitVec 32 := Scalar.select v80 v81 v66
  let v107 : BitVec 32 := Scalar.subi v82 v62
  let c1_i32_40 : BitVec 32 := 1#32
  let v109 : BitVec 32 := Scalar.divsi v107 c1_i32_40
  let v110 : BitVec 32 := Scalar.muli v109 c1_i32_40
  let v111 : BitVec 32 := Scalar.addi v62 v110
  let c1_i32_42 : BitVec 32 := 1#32
  let arg14 : BitVec 32 := Scf.iv v111 c1_i32_42 k0_t4
  let c512_i32_69 : BitVec 32 := 512#32
  let v171 : BitVec 32 := Scalar.muli arg14 c512_i32_69
  let c384_i32 : BitVec 32 := 384#32
  let v172 : BitVec 32 := Scalar.addi v171 c384_i32
  v172
def k0_off26 (i : grid0.Coords) (v21 : BitVec 32) (k0_t4 : Fin (k0_t4_loop i v21).trips) : Fin 3 → Nat :=
  let c0_73 : Index := 0#32
  let c0_i32_15 : BitVec 32 := 0#32
  let v47 : BitVec 1 := Scalar.cmpi .sgt v21 c0_i32_15
  let v48 : BitVec 32 := Scalar.extui v47
  let c0_i32_16 : BitVec 32 := 0#32
  let v49 : BitVec 1 := Scalar.cmpi .slt v21 c0_i32_16
  let v50 : BitVec 32 := Scalar.extui v49
  let v51 : BitVec 32 := Scalar.subi v48 v50
  let c512_i32 : BitVec 32 := 512#32
  let c0_i32_17 : BitVec 32 := 0#32
  let v52 : BitVec 1 := Scalar.cmpi .sgt c512_i32 c0_i32_17
  let v53 : BitVec 32 := Scalar.extui v52
  let c0_i32_18 : BitVec 32 := 0#32
  let v54 : BitVec 1 := Scalar.cmpi .slt c512_i32 c0_i32_18
  let v55 : BitVec 32 := Scalar.extui v54
  let v56 : BitVec 32 := Scalar.subi v53 v55
  let v57 : BitVec 1 := Scalar.cmpi .ne v51 v56
  let v58 : BitVec 32 := Scalar.remsi v21 c512_i32
  let c0_i32_19 : BitVec 32 := 0#32
  let v59 : BitVec 1 := Scalar.cmpi .ne v58 c0_i32_19
  let v60 : BitVec 1 := Scalar.andi v57 v59
  let v46 : BitVec 32 := Scalar.divsi v21 c512_i32
  let c1_i32_20 : BitVec 32 := 1#32
  let v61 : BitVec 32 := Scalar.subi v46 c1_i32_20
  let v62 : BitVec 32 := Scalar.select v60 v61 v46
  let arg2 : BitVec 32 := BitVec.ofNat 32 (i 2).val
  let c256_i32 : BitVec 32 := 256#32
  let v0 : BitVec 32 := Scalar.muli arg2 c256_i32
  let c256_i32_21 : BitVec 32 := 256#32
  let v63 : BitVec 32 := Scalar.addi v0 c256_i32_21
  let c512_i32_22 : BitVec 32 := 512#32
  let v64 : BitVec 32 := Scalar.addi v63 c512_i32_22
  let c1_i32_23 : BitVec 32 := 1#32
  let v65 : BitVec 32 := Scalar.subi v64 c1_i32_23
  let c0_i32_25 : BitVec 32 := 0#32
  let v67 : BitVec 1 := Scalar.cmpi .sgt v65 c0_i32_25
  let v68 : BitVec 32 := Scalar.extui v67
  let c0_i32_26 : BitVec 32 := 0#32
  let v69 : BitVec 1 := Scalar.cmpi .slt v65 c0_i32_26
  let v70 : BitVec 32 := Scalar.extui v69
  let v71 : BitVec 32 := Scalar.subi v68 v70
  let c512_i32_24 : BitVec 32 := 512#32
  let c0_i32_27 : BitVec 32 := 0#32
  let v72 : BitVec 1 := Scalar.cmpi .sgt c512_i32_24 c0_i32_27
  let v73 : BitVec 32 := Scalar.extui v72
  let c0_i32_28 : BitVec 32 := 0#32
  let v74 : BitVec 1 := Scalar.cmpi .slt c512_i32_24 c0_i32_28
  let v75 : BitVec 32 := Scalar.extui v74
  let v76 : BitVec 32 := Scalar.subi v73 v75
  let v77 : BitVec 1 := Scalar.cmpi .ne v71 v76
  let v78 : BitVec 32 := Scalar.remsi v65 c512_i32_24
  let c0_i32_29 : BitVec 32 := 0#32
  let v79 : BitVec 1 := Scalar.cmpi .ne v78 c0_i32_29
  let v80 : BitVec 1 := Scalar.andi v77 v79
  let v66 : BitVec 32 := Scalar.divsi v65 c512_i32_24
  let c1_i32_30 : BitVec 32 := 1#32
  let v81 : BitVec 32 := Scalar.subi v66 c1_i32_30
  let v82 : BitVec 32 := Scalar.select v80 v81 v66
  let v107 : BitVec 32 := Scalar.subi v82 v62
  let c1_i32_40 : BitVec 32 := 1#32
  let v109 : BitVec 32 := Scalar.divsi v107 c1_i32_40
  let v110 : BitVec 32 := Scalar.muli v109 c1_i32_40
  let v111 : BitVec 32 := Scalar.addi v62 v110
  let c1_i32_42 : BitVec 32 := 1#32
  let arg14 : BitVec 32 := Scf.iv v111 c1_i32_42 k0_t4
  let c512_i32_53 : BitVec 32 := 512#32
  let v130 : BitVec 32 := Scalar.muli arg14 c512_i32_53
  let v131 : BitVec 32 := v130
  let v185 : Index := Scalar.indexCast v131
  let c0_74 : Index := 0#32
  ![0, v185.toNat, 0]

def k0_chk1 (i : grid0.Coords) (v21 : BitVec 32) : Prop :=
  ((k0_t1_loop i v21).OK) ∧
  ((k0_t2_loop i v21).OK) ∧
  ((k0_t3_loop i v21).OK) ∧
  (∀ k0_t3 : Fin (k0_t3_loop i v21).trips, 512 ∣ (k0_mult33 i v21 k0_t3).toNat) ∧
  (∀ k0_t3 : Fin (k0_t3_loop i v21).trips, 128 ∣ (k0_mult34 i v21 k0_t3).toNat) ∧
  (∀ k0_t3 : Fin (k0_t3_loop i v21).trips, ∀ (r : Fin 4), ∀ a, (k0_off23 i v21 k0_t3 (BitVec.ofNat 32 (128 * r.val))) a + S256x128.size a ≤ S256x16384.size a) ∧
  (∀ k0_t3 : Fin (k0_t3_loop i v21).trips, 128 ∣ (k0_mult35 i v21 k0_t3).toNat) ∧
  (∀ k0_t3 : Fin (k0_t3_loop i v21).trips, 128 ∣ (k0_mult36 i v21 k0_t3).toNat) ∧
  (∀ k0_t3 : Fin (k0_t3_loop i v21).trips, 128 ∣ (k0_mult37 i v21 k0_t3).toNat) ∧
  (∀ k0_t3 : Fin (k0_t3_loop i v21).trips, ∀ a, (k0_off24 i v21 k0_t3) a + S1x512x128.size a ≤ S1x16384x128.size a) ∧
  ((k0_t4_loop i v21).OK) ∧
  (∀ k0_t4 : Fin (k0_t4_loop i v21).trips, 512 ∣ (k0_mult38 i v21 k0_t4).toNat) ∧
  (∀ k0_t4 : Fin (k0_t4_loop i v21).trips, 128 ∣ (k0_mult39 i v21 k0_t4).toNat) ∧
  (∀ k0_t4 : Fin (k0_t4_loop i v21).trips, ∀ (r : Fin 4), ∀ a, (k0_off25 i v21 k0_t4 (BitVec.ofNat 32 (128 * r.val))) a + S256x128.size a ≤ S256x16384.size a) ∧
  (∀ k0_t4 : Fin (k0_t4_loop i v21).trips, 128 ∣ (k0_mult40 i v21 k0_t4).toNat) ∧
  (∀ k0_t4 : Fin (k0_t4_loop i v21).trips, 128 ∣ (k0_mult41 i v21 k0_t4).toNat) ∧
  (∀ k0_t4 : Fin (k0_t4_loop i v21).trips, 128 ∣ (k0_mult42 i v21 k0_t4).toNat) ∧
  (∀ k0_t4 : Fin (k0_t4_loop i v21).trips, ∀ a, (k0_off26 i v21 k0_t4) a + S1x512x128.size a ≤ S1x16384x128.size a)
theorem k0_t1_ok : ∀ (i : grid0.Coords) (v21 : BitVec 32) (k0_hw1 : k0_chk1 i v21), (k0_t1_loop i v21).OK := fun i v21 k0_hw1 => k0_hw1.1
theorem k0_t2_ok : ∀ (i : grid0.Coords) (v21 : BitVec 32) (k0_hw1 : k0_chk1 i v21), (k0_t2_loop i v21).OK := fun i v21 k0_hw1 => k0_hw1.2.1
theorem k0_t3_ok : ∀ (i : grid0.Coords) (v21 : BitVec 32) (k0_hw1 : k0_chk1 i v21), (k0_t3_loop i v21).OK := fun i v21 k0_hw1 => k0_hw1.2.2.1
theorem k0_mult33_dvd : ∀ (i : grid0.Coords) (v21 : BitVec 32) (k0_hw1 : k0_chk1 i v21) (k0_t3 : Fin (k0_t3_loop i v21).trips), 512 ∣ (k0_mult33 i v21 k0_t3).toNat := fun i v21 k0_hw1 k0_t3 => k0_hw1.2.2.2.1 k0_t3
theorem k0_mult34_dvd : ∀ (i : grid0.Coords) (v21 : BitVec 32) (k0_hw1 : k0_chk1 i v21) (k0_t3 : Fin (k0_t3_loop i v21).trips), 128 ∣ (k0_mult34 i v21 k0_t3).toNat := fun i v21 k0_hw1 k0_t3 => k0_hw1.2.2.2.2.1 k0_t3
theorem k0_off23_inb : ∀ (i : grid0.Coords) (v21 : BitVec 32) (k0_hw1 : k0_chk1 i v21) (k0_t3 : Fin (k0_t3_loop i v21).trips), ∀ (r : Fin 4), ∀ a, (k0_off23 i v21 k0_t3 (BitVec.ofNat 32 (128 * r.val))) a + S256x128.size a ≤ S256x16384.size a := fun i v21 k0_hw1 k0_t3 r => k0_hw1.2.2.2.2.2.1 k0_t3 r
theorem k0_mult35_dvd : ∀ (i : grid0.Coords) (v21 : BitVec 32) (k0_hw1 : k0_chk1 i v21) (k0_t3 : Fin (k0_t3_loop i v21).trips), 128 ∣ (k0_mult35 i v21 k0_t3).toNat := fun i v21 k0_hw1 k0_t3 => k0_hw1.2.2.2.2.2.2.1 k0_t3
theorem k0_mult36_dvd : ∀ (i : grid0.Coords) (v21 : BitVec 32) (k0_hw1 : k0_chk1 i v21) (k0_t3 : Fin (k0_t3_loop i v21).trips), 128 ∣ (k0_mult36 i v21 k0_t3).toNat := fun i v21 k0_hw1 k0_t3 => k0_hw1.2.2.2.2.2.2.2.1 k0_t3
theorem k0_mult37_dvd : ∀ (i : grid0.Coords) (v21 : BitVec 32) (k0_hw1 : k0_chk1 i v21) (k0_t3 : Fin (k0_t3_loop i v21).trips), 128 ∣ (k0_mult37 i v21 k0_t3).toNat := fun i v21 k0_hw1 k0_t3 => k0_hw1.2.2.2.2.2.2.2.2.1 k0_t3
theorem k0_off24_inb : ∀ (i : grid0.Coords) (v21 : BitVec 32) (k0_hw1 : k0_chk1 i v21) (k0_t3 : Fin (k0_t3_loop i v21).trips), ∀ a, (k0_off24 i v21 k0_t3) a + S1x512x128.size a ≤ S1x16384x128.size a := fun i v21 k0_hw1 k0_t3 => k0_hw1.2.2.2.2.2.2.2.2.2.1 k0_t3
theorem k0_t4_ok : ∀ (i : grid0.Coords) (v21 : BitVec 32) (k0_hw1 : k0_chk1 i v21), (k0_t4_loop i v21).OK := fun i v21 k0_hw1 => k0_hw1.2.2.2.2.2.2.2.2.2.2.1
theorem k0_mult38_dvd : ∀ (i : grid0.Coords) (v21 : BitVec 32) (k0_hw1 : k0_chk1 i v21) (k0_t4 : Fin (k0_t4_loop i v21).trips), 512 ∣ (k0_mult38 i v21 k0_t4).toNat := fun i v21 k0_hw1 k0_t4 => k0_hw1.2.2.2.2.2.2.2.2.2.2.2.1 k0_t4
theorem k0_mult39_dvd : ∀ (i : grid0.Coords) (v21 : BitVec 32) (k0_hw1 : k0_chk1 i v21) (k0_t4 : Fin (k0_t4_loop i v21).trips), 128 ∣ (k0_mult39 i v21 k0_t4).toNat := fun i v21 k0_hw1 k0_t4 => k0_hw1.2.2.2.2.2.2.2.2.2.2.2.2.1 k0_t4
theorem k0_off25_inb : ∀ (i : grid0.Coords) (v21 : BitVec 32) (k0_hw1 : k0_chk1 i v21) (k0_t4 : Fin (k0_t4_loop i v21).trips), ∀ (r : Fin 4), ∀ a, (k0_off25 i v21 k0_t4 (BitVec.ofNat 32 (128 * r.val))) a + S256x128.size a ≤ S256x16384.size a := fun i v21 k0_hw1 k0_t4 r => k0_hw1.2.2.2.2.2.2.2.2.2.2.2.2.2.1 k0_t4 r
theorem k0_mult40_dvd : ∀ (i : grid0.Coords) (v21 : BitVec 32) (k0_hw1 : k0_chk1 i v21) (k0_t4 : Fin (k0_t4_loop i v21).trips), 128 ∣ (k0_mult40 i v21 k0_t4).toNat := fun i v21 k0_hw1 k0_t4 => k0_hw1.2.2.2.2.2.2.2.2.2.2.2.2.2.2.1 k0_t4
theorem k0_mult41_dvd : ∀ (i : grid0.Coords) (v21 : BitVec 32) (k0_hw1 : k0_chk1 i v21) (k0_t4 : Fin (k0_t4_loop i v21).trips), 128 ∣ (k0_mult41 i v21 k0_t4).toNat := fun i v21 k0_hw1 k0_t4 => k0_hw1.2.2.2.2.2.2.2.2.2.2.2.2.2.2.2.1 k0_t4
theorem k0_mult42_dvd : ∀ (i : grid0.Coords) (v21 : BitVec 32) (k0_hw1 : k0_chk1 i v21) (k0_t4 : Fin (k0_t4_loop i v21).trips), 128 ∣ (k0_mult42 i v21 k0_t4).toNat := fun i v21 k0_hw1 k0_t4 => k0_hw1.2.2.2.2.2.2.2.2.2.2.2.2.2.2.2.2.1 k0_t4
theorem k0_off26_inb : ∀ (i : grid0.Coords) (v21 : BitVec 32) (k0_hw1 : k0_chk1 i v21) (k0_t4 : Fin (k0_t4_loop i v21).trips), ∀ a, (k0_off26 i v21 k0_t4) a + S1x512x128.size a ≤ S1x16384x128.size a := fun i v21 k0_hw1 k0_t4 => k0_hw1.2.2.2.2.2.2.2.2.2.2.2.2.2.2.2.2.2 k0_t4

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S4x256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S4x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x256x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x16384x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x16384x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x1x16x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x1x16384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1x1x256 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, true]

abbrev stage0_9 : Fin 2 → Memref sig .tc .vmem S1x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== ReferenceIdeal.lean ====
abbrev S4x16384x1024 : Shape := ⟨3, ![4, 16384, 1024]⟩
abbrev S4x8x128 : Shape := ⟨3, ![4, 8, 128]⟩
abbrev S4x8x128x128 : Shape := ⟨4, ![4, 8, 128, 128]⟩
abbrev S4x8x256 : Shape := ⟨3, ![4, 8, 256]⟩
abbrev S4x16384 : Shape := ⟨2, ![4, 16384]⟩
abbrev S16384 : Shape := ⟨1, ![16384]⟩
abbrev S_ : Shape := ⟨0, ![]⟩
abbrev S4x1 : Shape := ⟨2, ![4, 1]⟩
abbrev S4x16383 : Shape := ⟨2, ![4, 16383]⟩
abbrev S1x16384 : Shape := ⟨2, ![1, 16384]⟩
abbrev S4x8x16384 : Shape := ⟨3, ![4, 8, 16384]⟩
abbrev S32x16384x1 : Shape := ⟨3, ![32, 16384, 1]⟩
abbrev S4x8x128x128x128 : Shape := ⟨5, ![4, 8, 128, 128, 128]⟩
abbrev S4x8x16384x128 : Shape := ⟨4, ![4, 8, 16384, 128]⟩
abbrev S32x16384x128 : Shape := ⟨3, ![32, 16384, 128]⟩
abbrev S4x8x256x64 : Shape := ⟨4, ![4, 8, 256, 64]⟩
abbrev S32x1x16384 : Shape := ⟨3, ![32, 1, 16384]⟩
abbrev S4x1x16384 : Shape := ⟨3, ![4, 1, 16384]⟩
abbrev S32x1x128 : Shape := ⟨3, ![32, 1, 128]⟩
abbrev S4x16384x8x128 : Shape := ⟨4, ![4, 16384, 8, 128]⟩
abbrev S32x16384x16384 : Shape := ⟨3, ![32, 16384, 16384]⟩
abbrev S32x16384 : Shape := ⟨2, ![32, 16384]⟩

abbrev nBuf : Space → Nat
  | .hbm => 38
  | .vmem => 9
  | .smem => 0
  | _ => 0

abbrev bufTy : (tb : Table) → Fin (tcTables nBuf tb) → BufTy
  | .hbm, ⟨0, _⟩ => ⟨S4x16384x1024, .fp8e4m3⟩
  | .hbm, ⟨1, _⟩ => ⟨S4x8x128, .f32⟩
  | .hbm, ⟨2, _⟩ => ⟨S4x8x128x128, .bf16⟩
  | .hbm, ⟨3, _⟩ => ⟨S4x16384x1024, .fp8e4m3⟩
  | .hbm, ⟨4, _⟩ => ⟨S4x8x256, .f32⟩
  | .hbm, ⟨5, _⟩ => ⟨S4x16384x1024, .fp8e4m3⟩
  | .hbm, ⟨6, _⟩ => ⟨S4x8x128, .f32⟩
  | .hbm, ⟨7, _⟩ => ⟨S4x16384, .i32⟩
  | .hbm, ⟨8, _⟩ => ⟨S16384, .i32⟩
  | .hbm, ⟨9, _⟩ => ⟨S_, .i1⟩
  | .hbm, ⟨10, _⟩ => ⟨S4x1, .i1⟩
  | .hbm, ⟨11, _⟩ => ⟨S4x16383, .i32⟩
  | .hbm, ⟨12, _⟩ => ⟨S4x16383, .i32⟩
  | .hbm, ⟨13, _⟩ => ⟨S4x16383, .i1⟩
  | .hbm, ⟨14, _⟩ => ⟨S4x16384, .i1⟩
  | .hbm, ⟨15, _⟩ => ⟨S1x16384, .i32⟩
  | .hbm, ⟨16, _⟩ => ⟨S_, .i32⟩
  | .hbm, ⟨17, _⟩ => ⟨S_, .i32⟩
  | .hbm, ⟨18, _⟩ => ⟨S4x16384, .i32⟩
  | .hbm, ⟨19, _⟩ => ⟨S4x16384, .i32⟩
  | .hbm, ⟨20, _⟩ => ⟨S4x16384, .i32⟩
  | .hbm, ⟨21, _⟩ => ⟨S_, .i32⟩
  | .hbm, ⟨22, _⟩ => ⟨S_, .i32⟩
  | .hbm, ⟨23, _⟩ => ⟨S4x16384, .i32⟩
  | .hbm, ⟨24, _⟩ => ⟨S4x8x128x128, .f32⟩
  | .hbm, ⟨25, _⟩ => ⟨S4x8x16384, .f32⟩
  | .hbm, ⟨26, _⟩ => ⟨S32x16384x1, .f32⟩
  | .hbm, ⟨27, _⟩ => ⟨S4x8x128x128x128, .bf16⟩
  | .hbm, ⟨28, _⟩ => ⟨S4x8x16384x128, .bf16⟩
  | .hbm, ⟨29, _⟩ => ⟨S32x16384x128, .bf16⟩
  | .hbm, ⟨30, _⟩ => ⟨S4x8x256x64, .f32⟩
  | .hbm, ⟨31, _⟩ => ⟨S4x8x16384, .f32⟩
  | .hbm, ⟨32, _⟩ => ⟨S32x1x16384, .f32⟩
  | .hbm, ⟨33, _⟩ => ⟨S4x1x16384, .i32⟩
  | .hbm, ⟨34, _⟩ => ⟨S4x8x16384, .i32⟩
  | .hbm, ⟨35, _⟩ => ⟨S32x16384x1, .i32⟩
  | .hbm, ⟨36, _⟩ => ⟨S32x1x128, .f32⟩
  | .hbm, ⟨37, _⟩ => ⟨S4x16384x1024, .bf16⟩
  | .local _ .vmem, ⟨0, _⟩ => ⟨S4x16384x1024, .fp8e4m3⟩
  | .local _ .vmem, ⟨1, _⟩ => ⟨S32x16384x1, .f32⟩
  | .local _ .vmem, ⟨2, _⟩ => ⟨S32x16384x128, .bf16⟩
  | .local _ .vmem, ⟨3, _⟩ => ⟨S4x16384x1024, .fp8e4m3⟩
  | .local _ .vmem, ⟨4, _⟩ => ⟨S32x1x16384, .f32⟩
  | .local _ .vmem, ⟨5, _⟩ => ⟨S4x16384x1024, .fp8e4m3⟩
  | .local _ .vmem, ⟨6, _⟩ => ⟨S32x1x128, .f32⟩
  | .local _ .vmem, ⟨7, _⟩ => ⟨S32x16384x1, .i32⟩
  | .local _ .vmem, ⟨8, _⟩ => ⟨S4x16384x1024, .bf16⟩
  | _, _ => ⟨S4x16384x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v7 : Ref sig .tc := ⟨.hbm, 20, rfl⟩
abbrev main_call1_c : Ref sig .tc := ⟨.hbm, 21, rfl⟩
abbrev main_call1_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S4x16384x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x16384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x16384x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x16384x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x1x16384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x16384x1024 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x16384x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x16384x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.K.Words.lean ====
/-
  The word arithmetic of the kernel's two loops.

  A grid point's loops run over the key blocks `j` from `lo / 512` (the block of the first key any of the tile's rows
  can see) up to the block that holds the tile's last row, exclusive. The program computes these bounds, the block's
  offsets and the "no mask needed" condition on 32-bit words; this module reads each of them as plain arithmetic, and
  proves the side conditions the body assumes of the table's words.
-/
module

public import proofs.«01_k».proof.Proof.Gen.Kernel.Frame
public import Idealize.ShloMosaic.Lib.Affine

@[expose] public section

noncomputable section

namespace Cert.Proof.Kernel

open Cert.Kernel Cert.Kernel.Gen
open Idealize.ShloMosaic Idealize.ShloMosaic.TcCoe

/-- Floor division of a word by 512, as the program spells it. -/
def floorW (v : BitVec 32) : BitVec 32 :=
  Scalar.select (Scalar.andi (Scalar.cmpi .ne
      (Scalar.subi (Scalar.extui (Scalar.cmpi .sgt v 0#32)) (Scalar.extui (Scalar.cmpi .slt v 0#32)))
      (Scalar.subi (Scalar.extui (Scalar.cmpi .sgt 512#32 0#32)) (Scalar.extui (Scalar.cmpi .slt 512#32 0#32))))
      (Scalar.cmpi .ne (Scalar.remsi v 512#32) 0#32))
    (Scalar.subi (Scalar.divsi v 512#32) 1#32) (Scalar.divsi v 512#32)

theorem floorW_int {v : BitVec 32} {n : Int} (hv : Affine.IsInt v n) (h0 : 0 ≤ n) (h1 : n < 2 ^ 30) :
    Affine.IsInt (floorW v) (n / 512) := by
  have z : Affine.IsInt 0#32 (0) := Affine.ofNat _ (by omega)
  have c : Affine.IsInt 512#32 (512) := Affine.ofNat _ (by omega)
  have o : Affine.IsInt 1#32 (1) := Affine.ofNat _ (by omega)
  have c1 : Affine.IsInt (Scalar.extui (Scalar.cmpi .sgt 512#32 0#32)) 1 :=
    Affine.extui_holds (Affine.sgt_holds c z (by omega)) (by omega)
  have c2 : Affine.IsInt (Scalar.extui (Scalar.cmpi .slt 512#32 0#32)) 0 :=
    Affine.extui_fails (Affine.slt_fails c z (by omega)) (by omega)
  have c3 := Affine.subi c1 c2 (e := 1) (by omega)
  have v2 : Affine.IsInt (Scalar.extui (Scalar.cmpi .slt v 0#32)) 0 :=
    Affine.extui_fails (Affine.slt_fails hv z (by omega)) (by omega)
  have q := Affine.divsi hv c (e := n / 512) (by omega)
  have q1 := Affine.subi q o (e := n / 512 - 1) (by omega)
  have r := Affine.remsi hv c (e := n % 512) (by omega)
  rcases (show n ≤ 0 ∨ 1 ≤ n by omega) with hs | hs
  · have r0 : Affine.Fails _ := Affine.ne_fails r z (by omega)
    exact Affine.select_fails (Affine.andi_fails_right trivial r0) q1 q rfl
  · have v1 : Affine.IsInt (Scalar.extui (Scalar.cmpi .sgt v 0#32)) 1 :=
      Affine.extui_holds (Affine.sgt_holds hv z (by omega)) (by omega)
    have v3 := Affine.subi v1 v2 (e := 1) (by omega)
    exact Affine.select_fails (Affine.andi_fails_left (Affine.ne_fails v3 c3 rfl) trivial) q1 q rfl

/-- The end of a point's loops, as the program spells it. -/
def endW (i : grid0.Coords) : BitVec 32 :=
  floorW (Scalar.subi (Scalar.addi (Scalar.addi (Scalar.muli (BitVec.ofNat 32 (i 2).val) 256#32) 256#32) 512#32) 1#32)

/-- The end of a point's loops: one past the block of its last row. -/
def jend (i : grid0.Coords) : Nat := (256 * (i 2).val + 767) / 512

theorem endW_int (i : grid0.Coords) : Affine.IsInt (endW i) (jend i) := by
  have r2 : (i 2).val < 64 := (i 2).isLt
  have a : Affine.IsInt (BitVec.ofNat 32 (i 2).val) ((i 2).val : Int) := Affine.ofNat _ (by omega)
  have c256 : Affine.IsInt 256#32 (256) := Affine.ofNat _ (by omega)
  have c512 : Affine.IsInt 512#32 (512) := Affine.ofNat _ (by omega)
  have c1 : Affine.IsInt 1#32 (1) := Affine.ofNat _ (by omega)
  have h1 := Affine.muli a c256 (e := 256 * ((i 2).val : Int)) (by omega)
  have h2 := Affine.addi h1 c256 (e := 256 * ((i 2).val : Int) + 256) (by omega)
  have h3 := Affine.addi h2 c512 (e := 256 * ((i 2).val : Int) + 768) (by omega)
  have h4 := Affine.subi h3 c1 (e := 256 * ((i 2).val : Int) + 767) (by omega)
  exact Affine.relit (floorW_int h4 (by omega) (by omega)) (by simp [jend])

/-- What the body needs of the table word `v`: it is the number `n`, a key no later than the tile's first row. -/
structure Lo (i : grid0.Coords) (v : BitVec 32) (n : Nat) : Prop where
  word : Affine.IsInt v n
  le : n ≤ 256 * (i 2).val

variable {i : grid0.Coords} {v : BitVec 32} {n : Nat}

theorem t1_loop_eq (i : grid0.Coords) (v : BitVec 32) : k0_t1_loop i v
    = ⟨floorW v, Scalar.addi (floorW v) (Scalar.muli (Scalar.divsi (Scalar.subi (endW i) (floorW v)) 1#32) 1#32), 1#32⟩ := rfl

theorem t2_loop_eq (i : grid0.Coords) (v : BitVec 32) : k0_t2_loop i v
    = ⟨Scalar.addi (floorW v) (Scalar.muli (Scalar.divsi (Scalar.subi (endW i) (floorW v)) 1#32) 1#32),
       Scalar.addi (floorW v) (Scalar.subi (endW i) (floorW v)), 1#32⟩ := rfl

theorem t3_loop_eq (i : grid0.Coords) (v : BitVec 32) : k0_t3_loop i v = k0_t1_loop i v := rfl
theorem t4_loop_eq (i : grid0.Coords) (v : BitVec 32) : k0_t4_loop i v = k0_t2_loop i v := rfl

namespace Lo

/-- The first block. -/
theorem first (h : Lo i v n) : Affine.IsInt (floorW v) ((n / 512 : Nat) : Int) := by
  have r2 : (i 2).val < 64 := (i 2).isLt
  have := h.le
  exact Affine.relit (floorW_int h.word (by omega) (by omega)) (by omega)

theorem n_lt (h : Lo i v n) : n / 512 < jend i ∧ jend i ≤ 32 := by
  have r2 : (i 2).val < 64 := (i 2).isLt
  have := h.le
  unfold jend; omega

theorem span (h : Lo i v n) : Affine.IsInt (Scalar.subi (endW i) (floorW v)) ((jend i - n / 512 : Nat) : Int) := by
  have := h.n_lt
  exact Affine.subi (endW_int i) h.first (by omega)

theorem stop (h : Lo i v n) : Affine.IsInt
    (Scalar.addi (floorW v) (Scalar.muli (Scalar.divsi (Scalar.subi (endW i) (floorW v)) 1#32) 1#32)) (jend i : Int) := by
  have := h.n_lt
  have c1 : Affine.IsInt 1#32 (1) := Affine.ofNat _ (by omega)
  exact Affine.addi h.first (Affine.muli (Affine.divsi_one h.span c1 ⟨rfl, rfl⟩) c1 (e := ((jend i - n / 512 : Nat) : Int)) (by omega)) (by omega)

theorem stop' (h : Lo i v n) : Affine.IsInt (Scalar.addi (floorW v) (Scalar.subi (endW i) (floorW v))) (jend i : Int) := by
  have := h.n_lt
  exact Affine.addi h.first h.span (by omega)

theorem trips1 (h : Lo i v n) : (k0_t1_loop i v).trips = jend i - n / 512 := by
  have := h.n_lt
  have c1 : Affine.IsInt 1#32 (1) := Affine.ofNat _ (by omega)
  rw [t1_loop_eq]
  exact Affine.trips_eq h.first h.stop c1 _ (by omega)

theorem trips2 (h : Lo i v n) : (k0_t2_loop i v).trips = 0 := by
  have c1 : Affine.IsInt 1#32 (1) := Affine.ofNat _ (by omega)
  rw [t2_loop_eq]
  exact Affine.trips_eq h.stop h.stop' c1 _ (by omega)

theorem ok1 (h : Lo i v n) : (k0_t1_loop i v).OK := by
  have := h.n_lt
  have c1 : Affine.IsInt 1#32 (1) := Affine.ofNat _ (by omega)
  rw [t1_loop_eq]
  exact Affine.ok h.first h.stop c1 (by omega)

theorem ok2 (h : Lo i v n) : (k0_t2_loop i v).OK := by
  have := h.n_lt
  have c1 : Affine.IsInt 1#32 (1) := Affine.ofNat _ (by omega)
  rw [t2_loop_eq]
  exact Affine.ok h.stop h.stop' c1 (by omega)

/-- Trip `t` runs block `n / 512 + t`. -/
theorem block (h : Lo i v n) (t : Fin (k0_t1_loop i v).trips) : n / 512 + t.val < jend i := by
  have h1 := t.isLt
  have h2 := h.trips1
  omega

theorem iv (h : Lo i v n) (t : Fin (k0_t1_loop i v).trips) :
    Affine.IsInt (Scf.iv (floorW v) 1#32 t) ((n / 512 + t.val : Nat) : Int) := by
  have h1 := h.block t
  have h2 := h.n_lt
  have c1 : Affine.IsInt 1#32 (1) := Affine.ofNat _ (by omega)
  exact Affine.iv h.first c1 _ (by omega)

theorem key0 (h : Lo i v n) (t : Fin (k0_t1_loop i v).trips) :
    Affine.IsInt (Scalar.muli (Scf.iv (floorW v) 1#32 t) 512#32) ((512 * (n / 512 + t.val) : Nat) : Int) := by
  have h1 := h.block t
  have h2 := h.n_lt
  have c : Affine.IsInt 512#32 (512) := Affine.ofNat _ (by omega)
  exact Affine.muli (h.iv t) c (by omega)

theorem key (h : Lo i v n) (t : Fin (k0_t1_loop i v).trips) (c : Nat) (hc : c ≤ 512) :
    Affine.IsInt (Scalar.addi (Scalar.muli (Scf.iv (floorW v) 1#32 t) 512#32) (BitVec.ofNat 32 c))
      ((512 * (n / 512 + t.val) + c : Nat) : Int) := by
  have h1 := h.block t
  have h2 := h.n_lt
  have hcw : Affine.IsInt (BitVec.ofNat 32 c) (c : Int) := Affine.ofNat _ (by omega)
  exact Affine.addi (h.key0 t) hcw (by omega)

theorem key0_nat (h : Lo i v n) (t : Fin (k0_t1_loop i v).trips) :
    (Scalar.muli (Scf.iv (floorW v) 1#32 t) 512#32).toNat = 512 * (n / 512 + t.val) := by
  have := Affine.toNat_of (h.key0 t) (by omega); omega

theorem key_nat (h : Lo i v n) (t : Fin (k0_t1_loop i v).trips) (c : Nat) (hc : c ≤ 512) :
    (Scalar.addi (Scalar.muli (Scf.iv (floorW v) 1#32 t) 512#32) (BitVec.ofNat 32 c)).toNat = 512 * (n / 512 + t.val) + c := by
  have := Affine.toNat_of (h.key t c hc) (by omega); omega

/-! The rectangles of a block, in closed form. -/

theorem off3 (h : Lo i v n) (t : Fin (k0_t1_loop i v).trips) : k0_off3 i v t = ![0, 512 * (n / 512 + t.val), 0] := by
  rw [← h.key0_nat t]; rfl
theorem off4 (h : Lo i v n) (t : Fin (k0_t1_loop i v).trips) : k0_off4 i v t = ![0, 0, 0, 512 * (n / 512 + t.val)] := by
  rw [← h.key0_nat t]; rfl
theorem off8 (h : Lo i v n) (t : Fin (k0_t1_loop i v).trips) : k0_off8 i v t = ![0, 512 * (n / 512 + t.val), 0] := by
  rw [← h.key0_nat t]; rfl
theorem off9 (h : Lo i v n) (t : Fin (k0_t1_loop i v).trips) : k0_off9 i v t = ![0, 0, 0, 512 * (n / 512 + t.val)] := by
  rw [← h.key0_nat t]; rfl
theorem off24 (h : Lo i v n) (t : Fin (k0_t3_loop i v).trips) : k0_off24 i v t = ![0, 512 * (n / 512 + t.val), 0] := by
  rw [← h.key0_nat t]; rfl
theorem off6 (h : Lo i v n) (t : Fin (k0_t1_loop i v).trips) (c : Nat) (hc : c ≤ 512) :
    k0_off6 i v t (BitVec.ofNat 32 c) = ![0, 512 * (n / 512 + t.val) + c] := by
  rw [← h.key_nat t c hc]; rfl
theorem off7 (h : Lo i v n) (t : Fin (k0_t1_loop i v).trips) (c : Nat) (hc : c ≤ 512) :
    k0_off7 i v t (BitVec.ofNat 32 c) = ![128, 512 * (n / 512 + t.val) + c] := by
  rw [← h.key_nat t c hc]; rfl
theorem off11 (h : Lo i v n) (t : Fin (k0_t1_loop i v).trips) (c : Nat) (hc : c ≤ 512) :
    k0_off11 i v t (BitVec.ofNat 32 c) = ![0, 512 * (n / 512 + t.val) + c] := by
  rw [← h.key_nat t c hc]; rfl
theorem off12 (h : Lo i v n) (t : Fin (k0_t1_loop i v).trips) (c : Nat) (hc : c ≤ 512) :
    k0_off12 i v t (BitVec.ofNat 32 c) = ![128, 512 * (n / 512 + t.val) + c] := by
  rw [← h.key_nat t c hc]; rfl
theorem off23 (h : Lo i v n) (t : Fin (k0_t3_loop i v).trips) (c : Nat) (hc : c ≤ 512) :
    k0_off23 i v t (BitVec.ofNat 32 c) = ![0, 512 * (n / 512 + t.val) + c] := by
  rw [← h.key_nat t c hc]; rfl

/-! The bounds of the block's rectangles. -/

theorem inb3 (h : Lo i v n) (t : Fin (k0_t1_loop i v).trips) :
    ∀ a, (![0, 512 * (n / 512 + t.val), 0] : Fin 3 → Nat) a + S1x512x128.size a ≤ S1x16384x128.size a := by
  have h1 := h.block t
  have h2 := h.n_lt
  intro a; fin_cases a
  · show 0 + 1 ≤ 1; omega
  · show 512 * (n / 512 + t.val) + 512 ≤ 16384; omega
  · show 0 + 128 ≤ 128; omega
theorem inb4 (h : Lo i v n) (t : Fin (k0_t1_loop i v).trips) :
    ∀ a, (![0, 0, 0, 512 * (n / 512 + t.val)] : Fin 4 → Nat) a + S1x1x1x512.size a ≤ S1x1x1x16384.size a := by
  have h1 := h.block t
  have h2 := h.n_lt
  intro a; fin_cases a
  · show 0 + 1 ≤ 1; omega
  · show 0 + 1 ≤ 1; omega
  · show 0 + 1 ≤ 1; omega
  · show 512 * (n / 512 + t.val) + 512 ≤ 16384; omega
theorem inbS (h : Lo i v n) (t : Fin (k0_t1_loop i v).trips) (g c : Nat) (hg : g ≤ 128) (hc : c ≤ 384) :
    ∀ a, (![g, 512 * (n / 512 + t.val) + c] : Fin 2 → Nat) a + S128x128.size a ≤ S256x16384.size a := by
  have h1 := h.block t
  have h2 := h.n_lt
  intro a; fin_cases a
  · show g + 128 ≤ 256; omega
  · show 512 * (n / 512 + t.val) + c + 128 ≤ 16384; omega
theorem inbL (h : Lo i v n) (t : Fin (k0_t1_loop i v).trips) (c : Nat) (hc : c ≤ 384) :
    ∀ a, (![0, 512 * (n / 512 + t.val) + c] : Fin 2 → Nat) a + S256x128.size a ≤ S256x16384.size a := by
  have h1 := h.block t
  have h2 := h.n_lt
  intro a; fin_cases a
  · show 0 + 256 ≤ 256; omega
  · show 512 * (n / 512 + t.val) + c + 128 ≤ 16384; omega

theorem dvd (h : Lo i v n) (t : Fin (k0_t1_loop i v).trips) (c : Nat) (hc : c ≤ 512) (hd : 128 ∣ c) :
    128 ∣ (Scalar.addi (Scalar.muli (Scf.iv (floorW v) 1#32 t) 512#32) (BitVec.ofNat 32 c)).toNat := by
  rw [h.key_nat t c hc]; omega

theorem dvd512 (h : Lo i v n) (t : Fin (k0_t1_loop i v).trips) :
    512 ∣ (Scalar.muli (Scf.iv (floorW v) 1#32 t) 512#32).toNat := by
  rw [h.key0_nat t]; omega

/-- No trip of an empty loop. -/
theorem none2 (h : Lo i v n) {P : Prop} (t : Fin (k0_t2_loop i v).trips) : P :=
  absurd t.isLt (by have := h.trips2; omega)

theorem chk1 (h : Lo i v n) : k0_chk1 i v := by
  refine ⟨h.ok1, h.ok2, h.ok1, fun t => h.dvd512 t, fun t => h.dvd t 0 (by omega) (by omega), fun t r => ?_,
    fun t => h.dvd t 128 (by omega) (by omega), fun t => h.dvd t 256 (by omega) (by omega),
    fun t => h.dvd t 384 (by omega) (by omega), fun t => ?_, h.ok2, fun t => h.none2 t, fun t => h.none2 t,
    fun t => h.none2 t, fun t => h.none2 t, fun t => h.none2 t, fun t => h.none2 t, fun t => h.none2 t⟩
  · have := r.isLt
    rw [h.off23 t _ (by omega)]; exact h.inbL t _ (by omega)
  · rw [h.off24 t]; exact h.inb3 t

theorem chk2 (h : Lo i v n) (w : BitVec 32) : k0_chk2 i v w := by
  refine ⟨⟨?_, ?_, ?_, ?_, ?_, ?_, ?_, ?_, ?_, ?_, ?_, ?_, ?_, ?_, ?_, ?_, ?_, ?_, ?_, ?_, ?_, ?_, ?_, ?_,
    fun t => h.none2 t, fun t => h.none2 t, fun t => h.none2 t, fun t => h.none2 t, fun t => h.none2 t,
    fun t => h.none2 t, fun t => h.none2 t, fun t => h.none2 t⟩,
    fun t => h.none2 t, fun t => h.none2 t, fun t => h.none2 t, fun t => h.none2 t, fun t => h.none2 t,
    fun t => h.none2 t, fun t => h.none2 t, fun t => h.none2 t, fun t => h.none2 t, fun t => h.none2 t,
    fun t => h.none2 t, fun t => h.none2 t, fun t => h.none2 t, fun t => h.none2 t, fun t => h.none2 t,
    fun t => h.none2 t⟩
  · intro t _; rw [h.off3 t]; exact h.inb3 t
  · intro t _; rw [h.off4 t]; exact h.inb4 t
  · intro t _; exact h.dvd t 0 (by omega) (by omega)
  · intro t _ r; have := r.isLt; rw [h.off6 t _ (by omega)]; exact h.inbS t _ _ (by omega) (by omega)
  · intro t _; exact h.dvd t 128 (by omega) (by omega)
  · intro t _; exact h.dvd t 256 (by omega) (by omega)
  · intro t _; exact h.dvd t 384 (by omega) (by omega)
  · intro t _; exact h.dvd t 0 (by omega) (by omega)
  · intro t _ r; have := r.isLt; rw [h.off7 t _ (by omega)]; exact h.inbS t _ _ (by omega) (by omega)
  · intro t _; exact h.dvd t 128 (by omega) (by omega)
  · intro t _; exact h.dvd t 256 (by omega) (by omega)
  · intro t _; exact h.dvd t 384 (by omega) (by omega)
  · intro t _; rw [h.off8 t]; exact h.inb3 t
  · intro t _; rw [h.off9 t]; exact h.inb4 t
  · intro t _; exact h.dvd t 0 (by omega) (by omega)
  · intro t _ r; have := r.isLt; rw [h.off11 t _ (by omega)]; exact h.inbS t _ _ (by omega) (by omega)
  · intro t _; exact h.dvd t 128 (by omega) (by omega)
  · intro t _; exact h.dvd t 256 (by omega) (by omega)
  · intro t _; exact h.dvd t 384 (by omega) (by omega)
  · intro t _; exact h.dvd t 0 (by omega) (by omega)
  · intro t _ r; have := r.isLt; rw [h.off12 t _ (by omega)]; exact h.inbS t _ _ (by omega) (by omega)
  · intro t _; exact h.dvd t 128 (by omega) (by omega)
  · intro t _; exact h.dvd t 256 (by omega) (by omega)
  · intro t _; exact h.dvd t 384 (by omega) (by omega)

/-- When the "no mask" branch is taken: every key of the block is at or after `w`'s number and at or before the tile's
    first row. -/
theorem cond (h : Lo i v n) {w : BitVec 32} {p : Nat} (hw : Affine.IsInt w p) (t : Fin (k0_t1_loop i v).trips)
    (hc : k0_cond1 i v w t = 1#1) : p ≤ 512 * (n / 512 + t.val) ∧ 512 * (n / 512 + t.val) + 512 ≤ 256 * (i 2).val := by
  have r2 : (i 2).val < 64 := (i 2).isLt
  have a : Affine.IsInt (BitVec.ofNat 32 (i 2).val) ((i 2).val : Int) := Affine.ofNat _ (by omega)
  have c256 : Affine.IsInt 256#32 (256) := Affine.ofNat _ (by omega)
  have h1 := Affine.muli a c256 (e := 256 * ((i 2).val : Int)) (by omega)
  by_contra hn
  refine absurd hc ?_
  have z : Affine.IsInt 0#32 (0) := Affine.ofNat _ (by omega)
  have key : Affine.Fails (Scalar.andi (Scalar.cmpi .sge (Scalar.muli (Scf.iv (floorW v) 1#32 t) 512#32) w)
      (Scalar.cmpi .sle (Scalar.addi (Scalar.muli (Scf.iv (floorW v) 1#32 t) 512#32) 512#32)
        (Scalar.muli (BitVec.ofNat 32 (i 2).val) 256#32))) := by
    by_cases hp : p ≤ 512 * (n / 512 + t.val)
    · exact Affine.andi_fails_right trivial (Affine.sle_fails (h.key t 512 (by omega)) h1 (by omega))
    · exact Affine.andi_fails_left (Affine.sge_fails (h.key0 t) hw (by omega)) trivial
  exact Affine.ne_fails (Affine.extui_fails key rfl) z rfl

end Lo

end Cert.Proof.Kernel

end
-- ==== Proof.K.Tiles.lean ====
/-
  What one key block contributes, as functions of the loaded vectors.

  The kernel takes a tile of 256 query rows (two groups `g` of 128 rows, each with one quantisation scale) against one
  block of 512 keys (four pieces `c` of 128 keys). In its first pass it stores the scores of the block, masked piece by
  piece unless the block needs no mask, and folds them into a running maximum; in its second pass it reads the scores
  back, takes weights, and accumulates the weights and the weighted values.
-/
module

public import proofs.«01_k».proof.Proof.K.Words
public import proofs.«01_k».proof.Proof.Gen.Kernel.Loops
public import Idealize.ShloMosaic.Lib.VecWindow
public import Idealize.ShloMosaic.Lib.Pipeline.Value
public import Idealize.ShloMosaic.Lib.WritesUnit
public import Idealize.ShloMosaic.Lib.Pointwise

@[expose] public section

noncomputable section

namespace Cert.Proof.Kernel

open Cert.Kernel Cert.Kernel.Gen
open Idealize.ShloMosaic Idealize.ShloMosaic.TcCoe

variable {F : FTy → Type} [FloatOps F]

/-- The scores of 128 query rows `q` (scale `s`) against 512 keys, with the correction row of their group. -/
def score (g : Fin 2) (kc : Vec F S1x512x128 .fp8e4m3) (mq : Vec F S1x1x1x16x128 .bf16) (sk : Vec F S1x1x1x512 .f32)
    (q : Vec F S1x128x128 .fp8e4m3) (s : Elt F .f32) : FVec F S128x512 .f32 :=
  match g with
  | 0 => k0_pay31 kc mq sk q s
  | 1 => k0_pay50 (k0_pay30 kc mq sk) (k0_pay48 (k0_pay28 kc) q) (k0_pay49 (k0_pay29 sk) s)

/-- Piece `c` of a block's scores: its 128 columns. -/
def cut (c : Fin 4) (t : FVec F S128x512 .f32) : FVec F S128x128 .f32 :=
  match c with
  | 0 => extractStridedSlice S128x128 ![0, 0] t slices_S128x512_o0_0_S128x128
  | 1 => extractStridedSlice S128x128 ![0, 128] t slices_S128x512_o0_128_S128x128
  | 2 => extractStridedSlice S128x128 ![0, 256] t slices_S128x512_o0_256_S128x128
  | 3 => extractStridedSlice S128x128 ![0, 384] t slices_S128x512_o0_384_S128x128

/-- Group `g` of a tile of 256 rows: its 128 rows. -/
def rows {α : Type} (g : Fin 2) (x : S256x128.Idx → α) : S128x128.Idx → α :=
  match g with
  | 0 => extractStridedSlice S128x128 ![0, 0] x slices_S256x128_o0_0_S128x128
  | 1 => extractStridedSlice S128x128 ![128, 0] x slices_S256x128_o128_0_S128x128

/-- The word by which piece `c` starts after its block. -/
def pieceW (c : Fin 4) : BitVec 32 := BitVec.ofNat 32 (128 * c.val)

/-- A piece under the mask: a score stays where its key's position is at least the row's first visible position and at
    most the row's own; elsewhere minus infinity. `lo` and `pos` are those two words of every row, `lane` the position
    within the piece, `j` the block. -/
def masked (lo pos lane : IVec S256x128 32) (j : BitVec 32) (g : Fin 2) (c : Fin 4) (x : FVec F S128x128 .f32) : FVec F S128x128 .f32 :=
  let k : IVec S128x128 32 := addi (broadcast S128x128 (Scalar.addi (Scalar.muli j 512#32) (pieceW c))) (rows g lane)
  select (andi (cmpi .sge k (rows g lo)) (cmpi .sle k (rows g pos))) x (broadcast S128x128 (Scalar.ofBits .f32 0xFF800000#32))

/-- Piece `(g, c)` as stored: under the mask unless the block is `full`. -/
def piece (full : Bool) (lo pos lane : IVec S256x128 32) (j : BitVec 32) (kc : Vec F S1x512x128 .fp8e4m3) (mq : Vec F S1x1x1x16x128 .bf16)
    (sk : Vec F S1x1x1x512 .f32) (q : Fin 2 → Vec F S1x128x128 .fp8e4m3) (s : Fin 2 → Elt F .f32) (g : Fin 2) (c : Fin 4) :
    FVec F S128x128 .f32 :=
  match full with
  | true => cut c (score g kc mq sk (q g) (s g))
  | false => masked lo pos lane j g c (cut c (score g kc mq sk (q g) (s g)))

/-- The running maximum of group `g` after the four pieces of a block. -/
def maxGroup (acc : FVec F S256x128 .f32) (p : Fin 2 → Fin 4 → FVec F S128x128 .f32) (g : Fin 2) : FVec F S128x128 .f32 :=
  maximumf (maximumf (maximumf (maximumf (rows g acc) (p g 0)) (p g 1)) (p g 2)) (p g 3)

/-- The running maximum after a block. -/
def maxStep (acc : FVec F S256x128 .f32) (p : Fin 2 → Fin 4 → FVec F S128x128 .f32) : FVec F S256x128 .f32 :=
  concatenate S256x128 0 [⟨S128x128, maxGroup acc p 0⟩, ⟨S128x128, maxGroup acc p 1⟩] concatenates_S128x128_S128x128_S256x128_d0

/-- Columns `128 c …` of a block's scores over all 256 rows. -/
def both (p : Fin 2 → Fin 4 → FVec F S128x128 .f32) (c : Fin 4) : FVec F S256x128 .f32 := fun x =>
  p ⟨(x 0).val / 128, by have h : (x 0).val < 256 := (x 0).isLt; omega⟩ c
    (ix2 ⟨(x 0).val % 128, Nat.mod_lt _ (by omega)⟩ ⟨(x 1).val, by have h : (x 1).val < 128 := (x 1).isLt; exact h⟩)

/-- The second pass over a block: the sums of weights and of weighted values, from the row maxima `ms`, the scores `X`
    and the values `v`. -/
def sumStep (ms : FVec F S256x128 .f32) (X : Fin 4 → FVec F S256x128 .f32) (v : Vec F S1x512x128 .fp8e4m3)
    (lo : FVec F S256x128 .f32 × FVec F S256x128 .f32) : FVec F S256x128 .f32 × FVec F S256x128 .f32 :=
  (k0_pay144 ms (k0_pay125 (k0_pay141 ms) lo.1 (X 0) (X 1) (X 2)) (X 3),
   k0_pay145 ms lo.2 (k0_pay121 (k0_pay141 ms) (X 0)) (k0_pay123 (k0_pay141 ms) (X 1)) (k0_pay126 (k0_pay141 ms) (X 2)) (X 3) v)

/-- A value carried over `n` trips. -/
def carry {α : Type} (n : Nat) (f : Fin n → α → α) (a : α) : Nat → α
  | 0 => a
  | k + 1 => if h : k < n then f ⟨k, h⟩ (carry n f a k) else carry n f a k

theorem carry_succ {α : Type} {n : Nat} (f : Fin n → α → α) (a : α) (k : Fin n) :
    carry n f a (k.val + 1) = f k (carry n f a k.val) := by
  rw [carry, dif_pos k.isLt]

/-! ## Windows of the staged blocks -/

theorem kblk_inb (j : Fin 32) : ∀ a, (![0, 512 * j.val, 0] : Fin 3 → ℕ) a + S1x512x128.size a ≤ S1x16384x128.size a := by
  intro a; have := j.isLt; fin_cases a
  · exact Nat.le_refl 1
  · show 512 * j.val + 512 ≤ 16384; omega
  · exact Nat.le_refl 128

/-- Block `j` of the keys (or of the values). -/
def kblk (x : Vec F S1x16384x128 .fp8e4m3) (j : Fin 32) : Vec F S1x512x128 .fp8e4m3 :=
  VecWindow.window x ![0, 512 * j.val, 0] S1x512x128.size (kblk_inb j)

theorem sblk_inb (j : Fin 32) : ∀ a, (![0, 0, 0, 512 * j.val] : Fin 4 → ℕ) a + S1x1x1x512.size a ≤ S1x1x1x16384.size a := by
  intro a; have := j.isLt; fin_cases a
  · exact Nat.le_refl 1
  · exact Nat.le_refl 1
  · exact Nat.le_refl 1
  · show 512 * j.val + 512 ≤ 16384; omega

/-- Block `j` of the key scales. -/
def sblk (x : Vec F S1x1x1x16384 .f32) (j : Fin 32) : Vec F S1x1x1x512 .f32 :=
  VecWindow.window x ![0, 0, 0, 512 * j.val] S1x1x1x512.size (sblk_inb j)

theorem qgrp_inb (g : Fin 2) : ∀ a, (![0, 128 * g.val, 0] : Fin 3 → ℕ) a + S1x128x128.size a ≤ S1x256x128.size a := by
  intro a; have := g.isLt; fin_cases a
  · exact Nat.le_refl 1
  · show 128 * g.val + 128 ≤ 256; omega
  · exact Nat.le_refl 128

/-- Group `g` of the query rows. -/
def qgrp (x : Vec F S1x256x128 .fp8e4m3) (g : Fin 2) : Vec F S1x128x128 .fp8e4m3 :=
  VecWindow.window x ![0, 128 * g.val, 0] S1x128x128.size (qgrp_inb g)

/-- The quantisation scale of group `g` at point `i`. -/
def qsc (x : Vec F S4x8x128 .f32) (i : grid0.Coords) (g : Fin 2) : Elt F .f32 :=
  x (ix3 ⟨(i 0).val, (i 0).isLt⟩ ⟨(i 1).val, (i 1).isLt⟩ ⟨2 * (i 2).val + g.val, by have h : (i 2).val < 64 := (i 2).isLt; omega⟩)

/-- The key block of trip `t`. -/
def Lo.blk {i : grid0.Coords} {v : BitVec 32} {n : Nat} (h : Lo i v n) (t : Fin (k0_t1_loop i v).trips) : Fin 32 :=
  ⟨n / 512 + t.val, lt_of_lt_of_le (h.block t) h.n_lt.2⟩

/-- What trip `t` stores: the pieces of its block, from the staged blocks `x4 … x9`. -/
def tile {i : grid0.Coords} {v : BitVec 32} {n : Nat} (h : Lo i v n) (w b r : BitVec 32) (lo : Vec F S1x1x1x256 .i32)
    (lane : IVec S256x128 32) (x4 : Vec F S4x8x128 .f32) (x5 : Vec F S1x256x128 .fp8e4m3) (x6 : Vec F S1x16384x128 .fp8e4m3)
    (x8 : Vec F S1x1x1x16x128 .bf16) (x9 : Vec F S1x1x1x16384 .f32) (t : Fin (k0_t1_loop i v).trips) :
    Fin 2 → Fin 4 → FVec F S128x128 .f32 :=
  piece (decide (k0_cond1 i v w t = 1#1)) (k0_pay134 lo) (k0_pay135 r) lane (Scf.iv b 1#32 t) (kblk x6 (h.blk t)) x8 (sblk x9 (h.blk t))
    (qgrp x5) (qsc x4 i)

/-! ## The scratch buffer of scores -/

/-- Position `(r, 128 c + l)` of block `j` in the score buffer. -/
def scoreAt (j : Fin 32) (c : Fin 4) (y : S256x128.Idx) : S256x16384.Idx :=
  ix2 ⟨(y 0).val, (y 0).isLt⟩ ⟨512 * j.val + 128 * c.val + (y 1).val, by have h : (y 1).val < 128 := (y 1).isLt; omega⟩

section Writes

variable {sig : RefSig} {κ : Kind} {sp : Space} (v : View sig κ sp S256x16384 .f32) (f : v.ty.Contents (Elt F))
  (j : Fin 32) (o : Fin 2 → Fin 4 → Fin 2 → ℕ) (ho : ∀ g c, o g c = ![128 * g.val, 512 * j.val + 128 * c.val])
  (inb : ∀ g c a, o g c a + S128x128.size a ≤ S256x16384.size a) (w : Fin 2 → Fin 4 → FVec F S128x128 .f32)

/-- The eight pieces of a block, newest first. -/
abbrev pieces : List (View.Piece (Elt F) S256x16384 .f32) :=
  [⟨Rect.unit (o 1 3) S128x128.size (inb 1 3), w 1 3⟩, ⟨Rect.unit (o 1 2) S128x128.size (inb 1 2), w 1 2⟩,
   ⟨Rect.unit (o 1 1) S128x128.size (inb 1 1), w 1 1⟩, ⟨Rect.unit (o 1 0) S128x128.size (inb 1 0), w 1 0⟩,
   ⟨Rect.unit (o 0 3) S128x128.size (inb 0 3), w 0 3⟩, ⟨Rect.unit (o 0 2) S128x128.size (inb 0 2), w 0 2⟩,
   ⟨Rect.unit (o 0 1) S128x128.size (inb 0 1), w 0 1⟩, ⟨Rect.unit (o 0 0) S128x128.size (inb 0 0), w 0 0⟩]

include ho in
/-- Outside the block's columns the stores change nothing. -/
theorem pieces_far (y : S256x16384.Idx) (hy : (y 1).val < 512 * j.val ∨ 512 * j.val + 512 ≤ (y 1).val) :
    v.read (Elt F) (v.writes (Elt F) f (pieces o inb w)) y = v.read (Elt F) f y := by
  have go : ∀ (g : Fin 2) (c : Fin 4) (L : List (View.Piece (Elt F) S256x16384 .f32)),
      v.read (Elt F) (v.writes (Elt F) f (⟨Rect.unit (o g c) S128x128.size (inb g c), w g c⟩ :: L)) y
        = v.read (Elt F) (v.writes (Elt F) f L) y := fun g c L =>
    View.read_writes_cons_unit_of_not_mem v f (inb g c) (w g c) L y (ho g c) 1 (by
      have := c.isLt
      show (y 1).val < 512 * j.val + 128 * c.val ∨ 512 * j.val + 128 * c.val + 128 ≤ (y 1).val
      omega)
  unfold pieces
  rw [go, go, go, go, go, go, go, go]; rfl

include ho in
/-- Within the block's columns the stores leave the pieces. -/
theorem pieces_near (c : Fin 4) (y : S256x128.Idx) :
    v.read (Elt F) (v.writes (Elt F) f (pieces o inb w)) (scoreAt j c y) = both w c y := by
  have h0 : (y 0).val < 256 := (y 0).isLt
  have h1 : (y 1).val < 128 := (y 1).isLt
  have miss : ∀ (g' : Fin 2) (c' : Fin 4) (L : List (View.Piece (Elt F) S256x16384 .f32)), (g'.val ≠ (y 0).val / 128 ∨ c' ≠ c) →
      v.read (Elt F) (v.writes (Elt F) f (⟨Rect.unit (o g' c') S128x128.size (inb g' c'), w g' c'⟩ :: L)) (scoreAt j c y)
        = v.read (Elt F) (v.writes (Elt F) f L) (scoreAt j c y) := fun g' c' L h => by
    rcases h with h | h
    · refine View.read_writes_cons_unit_of_not_mem v f (inb g' c') (w g' c') L _ (ho g' c') 0 ?_
      show (y 0).val < 128 * g'.val ∨ 128 * g'.val + 128 ≤ (y 0).val
      omega
    · refine View.read_writes_cons_unit_of_not_mem v f (inb g' c') (w g' c') L _ (ho g' c') 1 ?_
      have : c'.val ≠ c.val := fun e => h (Fin.ext e)
      show 512 * j.val + 128 * c.val + (y 1).val < 512 * j.val + 128 * c'.val
        ∨ 512 * j.val + 128 * c'.val + 128 ≤ 512 * j.val + 128 * c.val + (y 1).val
      omega
  have hit : ∀ (g : Fin 2) (L : List (View.Piece (Elt F) S256x16384 .f32)), g.val = (y 0).val / 128 →
      v.read (Elt F) (v.writes (Elt F) f (⟨Rect.unit (o g c) S128x128.size (inb g c), w g c⟩ :: L)) (scoreAt j c y) = both w c y :=
    fun g L hg => by
      have e : (⟨(y 0).val / 128, by omega⟩ : Fin 2) = g := Fin.ext hg.symm
      unfold both
      rw [e]
      refine View.read_writes_cons_unit_of_mem v f (inb g c) (w g c) L _ _ (ho g c) (fun a => ?_)
      fin_cases a
      · show (y 0).val = 128 * g.val + (y 0).val % 128
        omega
      · show 512 * j.val + 128 * c.val + (y 1).val = 512 * j.val + 128 * c.val + (y 1).val
        rfl
  unfold pieces
  rcases (show (y 0).val / 128 = 0 ∨ (y 0).val / 128 = 1 by omega) with hg | hg
  · rw [miss 1 3 _ (.inl (by rw [hg]; decide)), miss 1 2 _ (.inl (by rw [hg]; decide)), miss 1 1 _ (.inl (by rw [hg]; decide)),
      miss 1 0 _ (.inl (by rw [hg]; decide))]
    fin_cases c
    · rw [miss 0 3 _ (.inr (by decide)), miss 0 2 _ (.inr (by decide)), miss 0 1 _ (.inr (by decide))]
      exact hit 0 _ hg.symm
    · rw [miss 0 3 _ (.inr (by decide)), miss 0 2 _ (.inr (by decide))]
      exact hit 0 _ hg.symm
    · rw [miss 0 3 _ (.inr (by decide))]
      exact hit 0 _ hg.symm
    · exact hit 0 _ hg.symm
  · fin_cases c
    · rw [miss 1 3 _ (.inr (by decide)), miss 1 2 _ (.inr (by decide)), miss 1 1 _ (.inr (by decide))]
      exact hit 1 _ hg.symm
    · rw [miss 1 3 _ (.inr (by decide)), miss 1 2 _ (.inr (by decide))]
      exact hit 1 _ hg.symm
    · rw [miss 1 3 _ (.inr (by decide))]
      exact hit 1 _ hg.symm
    · exact hit 1 _ hg.symm

end Writes

end Cert.Proof.Kernel

end
-- ==== Proof.K.Payloads.lean ====
/-
  The program's stored payloads and carried maxima are the functions of the tiles module: every name the printer gives a
  stretch of vector operations is opened once, here, at variables.
-/
module

public import proofs.«01_k».proof.Proof.K.Tiles

@[expose] public section

noncomputable section

namespace Cert.Proof.Kernel

open Cert.Kernel Cert.Kernel.Gen
open Idealize.ShloMosaic Idealize.ShloMosaic.TcCoe

variable {F : FTy → Type} [FloatOps F]
variable (lo : Vec F S1x1x1x256 .i32) (r : BitVec 32) (lane : IVec S256x128 32) (j : BitVec 32) (kc : Vec F S1x512x128 .fp8e4m3)
  (mq : Vec F S1x1x1x16x128 .bf16) (sk : Vec F S1x1x1x512 .f32) (q : Fin 2 → Vec F S1x128x128 .fp8e4m3) (s : Fin 2 → Elt F .f32)
  (acc : FVec F S256x128 .f32)

theorem st00 : k0_pay8 (k0_pay7 kc mq sk (q 0) (s 0))
    = piece true (k0_pay134 lo) (k0_pay135 r) lane j kc mq sk q s 0 0 := by
  simp only [piece, score, cut, masked, rows, pieceW, shapeCast_self, k0_pay2, k0_pay3, k0_pay4, k0_pay5, k0_pay7, k0_pay8]
  rfl

theorem st01 : k0_pay10 (k0_pay5 kc mq sk (q 0) (s 0))
    = piece true (k0_pay134 lo) (k0_pay135 r) lane j kc mq sk q s 0 1 := by
  simp only [piece, score, cut, masked, rows, pieceW, shapeCast_self, k0_pay2, k0_pay3, k0_pay4, k0_pay5, k0_pay9, k0_pay10]
  rfl

theorem st02 : k0_pay12 (k0_pay5 kc mq sk (q 0) (s 0))
    = piece true (k0_pay134 lo) (k0_pay135 r) lane j kc mq sk q s 0 2 := by
  simp only [piece, score, cut, masked, rows, pieceW, shapeCast_self, k0_pay2, k0_pay3, k0_pay4, k0_pay5, k0_pay11, k0_pay12]
  rfl

theorem st03 : k0_pay14 (k0_pay5 kc mq sk (q 0) (s 0))
    = piece true (k0_pay134 lo) (k0_pay135 r) lane j kc mq sk q s 0 3 := by
  simp only [piece, score, cut, masked, rows, pieceW, shapeCast_self, k0_pay2, k0_pay3, k0_pay4, k0_pay5, k0_pay13, k0_pay14]
  rfl

theorem st10 : k0_pay20 (k0_pay4 kc mq sk) (k0_pay16 (k0_pay2 kc) (q 1)) (k0_pay17 (k0_pay3 sk) (s 1))
    = piece true (k0_pay134 lo) (k0_pay135 r) lane j kc mq sk q s 1 0 := by
  simp only [piece, score, cut, masked, rows, pieceW, shapeCast_self, k0_pay2, k0_pay3, k0_pay4, k0_pay16, k0_pay17, k0_pay18, k0_pay19, k0_pay20]
  rfl

theorem st11 : k0_pay22 (k0_pay4 kc mq sk) (k0_pay16 (k0_pay2 kc) (q 1)) (k0_pay17 (k0_pay3 sk) (s 1))
    = piece true (k0_pay134 lo) (k0_pay135 r) lane j kc mq sk q s 1 1 := by
  simp only [piece, score, cut, masked, rows, pieceW, shapeCast_self, k0_pay2, k0_pay3, k0_pay4, k0_pay16, k0_pay17, k0_pay18, k0_pay21, k0_pay22]
  rfl

theorem st12 : k0_pay24 (k0_pay4 kc mq sk) (k0_pay16 (k0_pay2 kc) (q 1)) (k0_pay17 (k0_pay3 sk) (s 1))
    = piece true (k0_pay134 lo) (k0_pay135 r) lane j kc mq sk q s 1 2 := by
  simp only [piece, score, cut, masked, rows, pieceW, shapeCast_self, k0_pay2, k0_pay3, k0_pay4, k0_pay16, k0_pay17, k0_pay18, k0_pay23, k0_pay24]
  rfl

theorem st13 : k0_pay26 (k0_pay4 kc mq sk) (k0_pay16 (k0_pay2 kc) (q 1)) (k0_pay17 (k0_pay3 sk) (s 1))
    = piece true (k0_pay134 lo) (k0_pay135 r) lane j kc mq sk q s 1 3 := by
  simp only [piece, score, cut, masked, rows, pieceW, shapeCast_self, k0_pay2, k0_pay3, k0_pay4, k0_pay16, k0_pay17, k0_pay18, k0_pay25, k0_pay26]
  rfl

theorem mt00 : k0_pay37 (k0_pay135 r) (k0_pay33 kc mq sk (q 0) (s 0)) (k0_pay34 lane j) (k0_pay35 (k0_pay134 lo))
    = piece false (k0_pay134 lo) (k0_pay135 r) lane j kc mq sk q s 0 0 := by
  simp only [piece, score, cut, masked, rows, pieceW, shapeCast_self, k0_pay28, k0_pay29, k0_pay30, k0_pay31, k0_pay33, k0_pay34, k0_pay35, k0_pay36, k0_pay37]
  rfl

theorem mt01 : k0_pay39 (k0_pay134 lo) (k0_pay135 r) lane j (k0_pay31 kc mq sk (q 0) (s 0))
    = piece false (k0_pay134 lo) (k0_pay135 r) lane j kc mq sk q s 0 1 := by
  simp only [piece, score, cut, masked, rows, pieceW, shapeCast_self, k0_pay28, k0_pay29, k0_pay30, k0_pay31, k0_pay38, k0_pay39]
  rfl

theorem mt02 : k0_pay44 (k0_pay41 (k0_pay31 kc mq sk (q 0) (s 0))) (k0_pay42 (k0_pay134 lo) (k0_pay135 r) lane j)
    = piece false (k0_pay134 lo) (k0_pay135 r) lane j kc mq sk q s 0 2 := by
  simp only [piece, score, cut, masked, rows, pieceW, shapeCast_self, k0_pay28, k0_pay29, k0_pay30, k0_pay31, k0_pay41, k0_pay42, k0_pay43, k0_pay44]
  rfl

theorem mt03 : k0_pay46 (k0_pay134 lo) (k0_pay135 r) lane j (k0_pay31 kc mq sk (q 0) (s 0))
    = piece false (k0_pay134 lo) (k0_pay135 r) lane j kc mq sk q s 0 3 := by
  simp only [piece, score, cut, masked, rows, pieceW, shapeCast_self, k0_pay28, k0_pay29, k0_pay30, k0_pay31, k0_pay45, k0_pay46]
  rfl

theorem mt10 : k0_pay52 (k0_pay134 lo) (k0_pay135 r) lane j (k0_pay30 kc mq sk) (k0_pay48 (k0_pay28 kc) (q 1)) (k0_pay49 (k0_pay29 sk) (s 1))
    = piece false (k0_pay134 lo) (k0_pay135 r) lane j kc mq sk q s 1 0 := by
  simp only [piece, score, cut, masked, rows, pieceW, shapeCast_self, k0_pay28, k0_pay29, k0_pay30, k0_pay48, k0_pay49, k0_pay50, k0_pay51, k0_pay52]
  rfl

theorem mt11 : k0_pay55 (k0_pay134 lo) (k0_pay135 r) lane j (k0_pay30 kc mq sk) (k0_pay48 (k0_pay28 kc) (q 1)) (k0_pay49 (k0_pay29 sk) (s 1))
    = piece false (k0_pay134 lo) (k0_pay135 r) lane j kc mq sk q s 1 1 := by
  simp only [piece, score, cut, masked, rows, pieceW, shapeCast_self, k0_pay28, k0_pay29, k0_pay30, k0_pay48, k0_pay49, k0_pay50, k0_pay54, k0_pay55]
  rfl

theorem mt12 : k0_pay57 (k0_pay134 lo) (k0_pay135 r) lane j (k0_pay50 (k0_pay30 kc mq sk) (k0_pay48 (k0_pay28 kc) (q 1)) (k0_pay49 (k0_pay29 sk) (s 1)))
    = piece false (k0_pay134 lo) (k0_pay135 r) lane j kc mq sk q s 1 2 := by
  simp only [piece, score, cut, masked, rows, pieceW, shapeCast_self, k0_pay28, k0_pay29, k0_pay30, k0_pay48, k0_pay49, k0_pay50, k0_pay56, k0_pay57]
  rfl

theorem mt13 : k0_pay60 (k0_pay134 lo) (k0_pay135 r) lane j (k0_pay50 (k0_pay30 kc mq sk) (k0_pay48 (k0_pay28 kc) (q 1)) (k0_pay49 (k0_pay29 sk) (s 1)))
    = piece false (k0_pay134 lo) (k0_pay135 r) lane j kc mq sk q s 1 3 := by
  simp only [piece, score, cut, masked, rows, pieceW, shapeCast_self, k0_pay28, k0_pay29, k0_pay30, k0_pay48, k0_pay49, k0_pay50, k0_pay59, k0_pay60]
  rfl

theorem max_full : k0_pay137 (k0_pay15 (k0_pay5 kc mq sk (q 0) (s 0)) (k0_pay6 acc) (k0_pay7 kc mq sk (q 0) (s 0))) (k0_pay27 acc (k0_pay4 kc mq sk) (k0_pay16 (k0_pay2 kc) (q 1)) (k0_pay17 (k0_pay3 sk) (s 1)))
    = maxStep acc (piece true (k0_pay134 lo) (k0_pay135 r) lane j kc mq sk q s) := by
  simp only [maxStep, maxGroup, piece, score, cut, masked, rows, pieceW, shapeCast_self, k0_pay2, k0_pay3, k0_pay4, k0_pay5, k0_pay6, k0_pay7, k0_pay9, k0_pay11, k0_pay13, k0_pay15, k0_pay16, k0_pay17, k0_pay18, k0_pay19, k0_pay21, k0_pay23, k0_pay25, k0_pay27, k0_pay137]
  rfl

theorem max_mask : k0_pay138 (k0_pay47 (k0_pay134 lo) (k0_pay135 r) lane j (k0_pay31 kc mq sk (q 0) (s 0)) (k0_pay40 (k0_pay134 lo) (k0_pay135 r) lane j (k0_pay31 kc mq sk (q 0) (s 0)) (k0_pay32 acc) (k0_pay33 kc mq sk (q 0) (s 0)) (k0_pay34 lane j) (k0_pay35 (k0_pay134 lo))) (k0_pay41 (k0_pay31 kc mq sk (q 0) (s 0))) (k0_pay42 (k0_pay134 lo) (k0_pay135 r) lane j))
      (k0_pay58 (k0_pay134 lo) (k0_pay135 r) lane j (k0_pay50 (k0_pay30 kc mq sk) (k0_pay48 (k0_pay28 kc) (q 1)) (k0_pay49 (k0_pay29 sk) (s 1))) (k0_pay53 (k0_pay134 lo) (k0_pay135 r) lane acc j (k0_pay30 kc mq sk) (k0_pay48 (k0_pay28 kc) (q 1)) (k0_pay49 (k0_pay29 sk) (s 1))) (k0_pay54 (k0_pay134 lo) (k0_pay135 r) lane j (k0_pay30 kc mq sk) (k0_pay48 (k0_pay28 kc) (q 1)) (k0_pay49 (k0_pay29 sk) (s 1)))) (k0_pay59 (k0_pay134 lo) (k0_pay135 r) lane j (k0_pay50 (k0_pay30 kc mq sk) (k0_pay48 (k0_pay28 kc) (q 1)) (k0_pay49 (k0_pay29 sk) (s 1))))
    = maxStep acc (piece false (k0_pay134 lo) (k0_pay135 r) lane j kc mq sk q s) := by
  simp only [maxStep, maxGroup, piece, score, cut, masked, rows, pieceW, shapeCast_self, k0_pay28, k0_pay29, k0_pay30, k0_pay31, k0_pay32, k0_pay33, k0_pay34, k0_pay35, k0_pay36, k0_pay38, k0_pay40, k0_pay41, k0_pay42, k0_pay43, k0_pay45, k0_pay47, k0_pay48, k0_pay49, k0_pay50, k0_pay51, k0_pay53, k0_pay54, k0_pay56, k0_pay58, k0_pay59, k0_pay138]
  rfl

end Cert.Proof.Kernel

end
-- ==== Proof.K.Body.lean ====
module

public import proofs.«01_k».proof.Proof.K.Payloads
public import Idealize.ShloMosaic.Lib.LoopRemainder
public import Idealize.ShloMosaic.Lib.WritesUnit
public import Idealize.ShloMosaic.Lib.Tactic

/-! # The two passes over the keys

The body loops over blocks of 512 keys twice: once to compute the scores, with the mask on the blocks that need it, and the
maximum of each row; once to weigh the values. -/

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A word-memory read of one query scale. -/
theorem smem_scale (i : grid0.Coords) (arg4 : Memref sig .tc .smem S4x8x128 .f32) (X4 : BufTy.Contents (Elt F) arg4.view.ty) (g : Fin 2)
    {off : Fin 3 → ℕ} (h : off = ![(i 0).val, (i 1).val, 2 * (i 2).val + g.val]) (inb : ∀ a, off a + S1x1x1.size a ≤ S4x8x128.size a) (hp) :
    View.readAt (Elt F) arg4.view (Rect.unit (s := S4x8x128) off S1x1x1.size inb).toLoadRect X4 (Shape.Idx.first hp)
      = qsc (arg4.view.read (Elt F) X4) i g := by
  subst h
  refine congrArg (arg4.view.read (Elt F) X4) (funext fun a => Fin.ext ?_)
  fin_cases a <;> rfl

/-! ## The offsets of a trip's eight stores, in the two branches -/

theorem offs_off6 {i : grid0.Coords} {v : BitVec 32} {n : Nat} (h : Lo i v n) (t : Fin (k0_t1_loop i v).trips) (g : Fin 2) (c : Fin 4) :
    (![![k0_off6 i v t 0#32, k0_off6 i v t 128#32, k0_off6 i v t 256#32, k0_off6 i v t 384#32],
      ![k0_off7 i v t 0#32, k0_off7 i v t 128#32, k0_off7 i v t 256#32, k0_off7 i v t 384#32]] : Fin 2 → Fin 4 → Fin 2 → ℕ) g c = ![128 * g.val, 512 * (h.blk t).val + 128 * c.val] := by
  fin_cases g <;> fin_cases c
  · exact h.off6 t 0 (by omega)
  · exact h.off6 t 128 (by omega)
  · exact h.off6 t 256 (by omega)
  · exact h.off6 t 384 (by omega)
  · exact h.off7 t 0 (by omega)
  · exact h.off7 t 128 (by omega)
  · exact h.off7 t 256 (by omega)
  · exact h.off7 t 384 (by omega)

theorem inb_off6 {i : grid0.Coords} {v : BitVec 32} {n : Nat} (h : Lo i v n) (t : Fin (k0_t1_loop i v).trips) (g : Fin 2) (c : Fin 4)
    (a : Fin 2) :
    (![![k0_off6 i v t 0#32, k0_off6 i v t 128#32, k0_off6 i v t 256#32, k0_off6 i v t 384#32],
      ![k0_off7 i v t 0#32, k0_off7 i v t 128#32, k0_off7 i v t 256#32, k0_off7 i v t 384#32]] : Fin 2 → Fin 4 → Fin 2 → ℕ) g c a + S128x128.size a ≤ S256x16384.size a := by
  have e := congrFun (offs_off6 h t g c) a
  refine le_trans (Nat.add_le_add_right (le_of_eq e) _) ?_
  have hb := (h.blk t).isLt
  have hg := g.isLt
  have hcc := c.isLt
  fin_cases a
  · show 128 * g.val + 128 ≤ 256; omega
  · show 512 * (h.blk t).val + 128 * c.val + 128 ≤ 16384; omega

theorem offs_off11 {i : grid0.Coords} {v : BitVec 32} {n : Nat} (h : Lo i v n) (t : Fin (k0_t1_loop i v).trips) (g : Fin 2) (c : Fin 4) :
    (![![k0_off11 i v t 0#32, k0_off11 i v t 128#32, k0_off11 i v t 256#32, k0_off11 i v t 384#32],
      ![k0_off12 i v t 0#32, k0_off12 i v t 128#32, k0_off12 i v t 256#32, k0_off12 i v t 384#32]] : Fin 2 → Fin 4 → Fin 2 → ℕ) g c = ![128 * g.val, 512 * (h.blk t).val + 128 * c.val] := by
  fin_cases g <;> fin_cases c
  · exact h.off11 t 0 (by omega)
  · exact h.off11 t 128 (by omega)
  · exact h.off11 t 256 (by omega)
  · exact h.off11 t 384 (by omega)
  · exact h.off12 t 0 (by omega)
  · exact h.off12 t 128 (by omega)
  · exact h.off12 t 256 (by omega)
  · exact h.off12 t 384 (by omega)

theorem inb_off11 {i : grid0.Coords} {v : BitVec 32} {n : Nat} (h : Lo i v n) (t : Fin (k0_t1_loop i v).trips) (g : Fin 2) (c : Fin 4)
    (a : Fin 2) :
    (![![k0_off11 i v t 0#32, k0_off11 i v t 128#32, k0_off11 i v t 256#32, k0_off11 i v t 384#32],
      ![k0_off12 i v t 0#32, k0_off12 i v t 128#32, k0_off12 i v t 256#32, k0_off12 i v t 384#32]] : Fin 2 → Fin 4 → Fin 2 → ℕ) g c a + S128x128.size a ≤ S256x16384.size a := by
  have e := congrFun (offs_off11 h t g c) a
  refine le_trans (Nat.add_le_add_right (le_of_eq e) _) ?_
  have hb := (h.blk t).isLt
  have hg := g.isLt
  have hcc := c.isLt
  fin_cases a
  · show 128 * g.val + 128 ≤ 256; omega
  · show 512 * (h.blk t).val + 128 * c.val + 128 ≤ 16384; omega

section Trip
variable (c : Dev nD) (i : grid0.Coords)
  (arg3 : Memref sig .tc .smem S4x256 .i32) (harg3 : arg3.IsWhole) (arg4 : Memref sig .tc .smem S4x8x128 .f32) (harg4 : arg4.IsWhole)
  (arg5 : Memref sig .tc .vmem S1x256x128 .fp8e4m3) (harg5 : arg5.IsWhole) (arg6 : Memref sig .tc .vmem S1x16384x128 .fp8e4m3) (harg6 : arg6.IsWhole)
  (arg7 : Memref sig .tc .vmem S1x16384x128 .fp8e4m3) (harg7 : arg7.IsWhole) (arg8 : Memref sig .tc .vmem S1x1x1x16x128 .bf16) (harg8 : arg8.IsWhole)
  (arg9 : Memref sig .tc .vmem S1x1x1x16384 .f32) (harg9 : arg9.IsWhole) (arg10 : Memref sig .tc .vmem S1x1x1x128 .f32) (harg10 : arg10.IsWhole)
  (arg11 : Memref sig .tc .vmem S1x1x1x256 .i32) (harg11 : arg11.IsWhole) (arg12 : Memref sig .tc .vmem S1x256x128 .bf16) (harg12 : arg12.IsWhole)
  (arg13 : Memref sig .tc .vmem S256x16384 .f32) (harg13 : arg13.IsWhole)
  (arg0 arg1 arg2 v0 : BitVec 32) (v21 : Elt F .i32) (k0_hw1 : k0_chk1 i v21) (v45 : Elt F .i32) (k0_hw2 : k0_chk2 i v21 v45)
  (v62 v66 : BitVec 32) (v77 : BitVec 1) (v78 c0_i32_29 : BitVec 32) (v83 : Vec F S1x1x1x256 .i32) (v91 : IVec S256x128 32)
  (X4 : BufTy.Contents (Elt F) arg4.view.ty) (X5 : BufTy.Contents (Elt F) arg5.view.ty) (X6 : BufTy.Contents (Elt F) arg6.view.ty)
  (X8 : BufTy.Contents (Elt F) arg8.view.ty) (X9 : BufTy.Contents (Elt F) arg9.view.ty)

/-- The buffers the first loop reads. -/
abbrev Reads : sProp 𝕄 :=
  iprop((arg4.view.loc (c : Thread nD τ) ↦[arg4.view.set]{fullShare} X4) ∗ (arg5.view.loc (c : Thread nD τ) ↦[arg5.view.set]{fullShare} X5)
    ∗ (arg6.view.loc (c : Thread nD τ) ↦[arg6.view.set]{fullShare} X6) ∗ (arg8.view.loc (c : Thread nD τ) ↦[arg8.view.set]{fullShare} X8)
    ∗ (arg9.view.loc (c : Thread nD τ) ↦[arg9.view.set]{fullShare} X9))

/-- The contents after a trip: the trip's block holds its pieces, the rest is as before. -/
def Stored (j : Fin 32) (P : Fin 2 → Fin 4 → FVec F S128x128 .f32) (g g' : BufTy.Contents (Elt F) arg13.view.ty) : Prop :=
  (∀ c y, arg13.view.read (Elt F) g' (scoreAt j c y) = both P c y)
  ∧ ∀ y : S256x16384.Idx, ((y 1).val < 512 * j.val ∨ 512 * j.val + 512 ≤ (y 1).val) →
      arg13.view.read (Elt F) g' y = arg13.view.read (Elt F) g y

/-- The pieces of trip `t` from the buffers' contents. -/
abbrev tileX (n : Nat) (hlo : Lo i v21 n) (t : Fin (k0_t1_loop i v21).trips) : Fin 2 → Fin 4 → FVec F S128x128 .f32 :=
  tile hlo v45 v62 v0 v83 v91 (arg4.view.read (Elt F) X4) (arg5.view.read (Elt F) X5) (arg6.view.read (Elt F) X6)
    (arg8.view.read (Elt F) X8) (arg9.view.read (Elt F) X9) t

set_option maxHeartbeats 1000000 in
theorem trip_full (n : Nat) (hlo : Lo i v21 n) (E : Set ℕ) (t : Fin (k0_t1_loop i v21).trips) (acc : FVec F S256x128 .f32)
    (g : BufTy.Contents (Elt F) arg13.view.ty) (hc : (k0_cond1 i v21 v45 t = 1#1)) :
    iprop(Reads c arg4 arg5 arg6 arg8 arg9 X4 X5 X6 X8 X9 ∗ (arg13.view.loc (c : Thread nD τ) ↦[arg13.view.set]{fullShare} g))
      ⊢ wp frame (wpE (defs₀ (F := F)) Variants.none c none) E
        (k0_t1_body (F := F) i arg3 harg3 arg4 harg4 arg5 harg5 arg6 harg6 arg7 harg7 arg8 harg8 arg9 harg9 arg10 harg10 arg11 harg11 arg12 harg12 arg13 harg13 arg0 arg1 arg2 v0 v21 k0_hw1 v45 k0_hw2 v62 v66 v77 v78 c0_i32_29 v83 v91 t acc)
        (fun r => iprop(Reads c arg4 arg5 arg6 arg8 arg9 X4 X5 X6 X8 X9 ∗ ∃ g', (arg13.view.loc (c : Thread nD τ) ↦[arg13.view.set]{fullShare} g')
          ∗ ⌜r = maxStep acc (tileX i arg4 arg5 arg6 arg8 arg9 v0 v21 v45 v62 v83 v91 X4 X5 X6 X8 X9 n hlo t)
            ∧ Stored arg13 (hlo.blk t) (tileX i arg4 arg5 arg6 arg8 arg9 v0 v21 v45 v62 v83 v91 X4 X5 X6 X8 X9 n hlo t) g g'⌝)) := by
  unfold k0_t1_body Reads
  iintro ⟨⟨H4, H5, H6, H8, H9⟩, H13⟩
  simp only [dif_pos hc, k0_part3_eq_skeleton]; unfold k0_part3_skel
  simp only [k0_part1_eq_skeleton, k0_part2_eq_skeleton]; unfold k0_part1_skel k0_part2_skel
  sl_exec
  sl_step
  isplitl [H4 H5 H6 H8 H9]
  · isplitl [H4]; · iexact H4
    isplitl [H5]; · iexact H5
    isplitl [H6]; · iexact H6
    isplitl [H8]; · iexact H8
    iexact H9
  iexists _
  isplitl [H13]; · iexact H13
  ipureintro
  have hK : View.readAt (Elt F) arg6.view (Rect.unit (s := S1x16384x128) (k0_off3 i v21 t) S1x512x128.size (k0_off3_inb i v21 v45 k0_hw2 t hc)).toLoadRect X6
      = kblk (arg6.view.read (Elt F) X6) (hlo.blk t) := View.readAt_unit _ _ _ (hlo.off3 t) _
  have hS : View.readAt (Elt F) arg9.view (Rect.unit (s := S1x1x1x16384) (k0_off4 i v21 t) S1x1x1x512.size (k0_off4_inb i v21 v45 k0_hw2 t hc)).toLoadRect X9
      = sblk (arg9.view.read (Elt F) X9) (hlo.blk t) := View.readAt_unit _ _ _ (hlo.off4 t) _
  have hM : View.readAt (Elt F) arg8.view (Rect.unit (s := S1x1x1x16x128) ![0, 0, 0, 0, 0] S1x1x1x16x128.size inb_S1x1x1x16x128_S1x1x1x16x128_0_0_0_0_0).toLoadRect X8
      = arg8.view.read (Elt F) X8 := View.readAt_full _ _ _
  have hQ0 : View.readAt (Elt F) arg5.view (Rect.unit (s := S1x256x128) ![0, 0, 0] S1x128x128.size inb_S1x256x128_S1x128x128_0_0_0).toLoadRect X5
      = qgrp (arg5.view.read (Elt F) X5) 0 := rfl
  have hQ1 : View.readAt (Elt F) arg5.view (Rect.unit (s := S1x256x128) ![0, 128, 0] S1x128x128.size inb_S1x256x128_S1x128x128_0_128_0).toLoadRect X5
      = qgrp (arg5.view.read (Elt F) X5) 1 := rfl
  have hs0 : trip_full.sl.r i arg4 X4 = qsc (arg4.view.read (Elt F) X4) i 0 := smem_scale i arg4 X4 0 (Gen.k0_off5_eq i 0) _ _
  have hs1 : trip_full.sl.r_1 i arg4 X4 = qsc (arg4.view.read (Elt F) X4) i 1 := smem_scale i arg4 X4 1 (Gen.k0_off5_eq i 1) _ _
  simp only [hK, hS, hM, hQ0, hQ1, hs0, hs1]
  have hT : tileX i arg4 arg5 arg6 arg8 arg9 v0 v21 v45 v62 v83 v91 X4 X5 X6 X8 X9 n hlo t
      = piece true (k0_pay134 v83) (k0_pay135 v0) v91 (Scf.iv v62 1#32 t) (kblk (arg6.view.read (Elt F) X6) (hlo.blk t))
        (arg8.view.read (Elt F) X8) (sblk (arg9.view.read (Elt F) X9) (hlo.blk t)) (qgrp (arg5.view.read (Elt F) X5))
        (qsc (arg4.view.read (Elt F) X4) i) := by
    unfold tileX tile
    rw [decide_eq_true hc]
  rw [hT]
  simp only [st00 v83 v0 v91 (Scf.iv v62 1#32 t) (kblk (arg6.view.read (Elt F) X6) (hlo.blk t)) (arg8.view.read (Elt F) X8) (sblk (arg9.view.read (Elt F) X9) (hlo.blk t)) (qgrp (arg5.view.read (Elt F) X5)) (qsc (arg4.view.read (Elt F) X4) i),
      st01 v83 v0 v91 (Scf.iv v62 1#32 t) (kblk (arg6.view.read (Elt F) X6) (hlo.blk t)) (arg8.view.read (Elt F) X8) (sblk (arg9.view.read (Elt F) X9) (hlo.blk t)) (qgrp (arg5.view.read (Elt F) X5)) (qsc (arg4.view.read (Elt F) X4) i),
      st02 v83 v0 v91 (Scf.iv v62 1#32 t) (kblk (arg6.view.read (Elt F) X6) (hlo.blk t)) (arg8.view.read (Elt F) X8) (sblk (arg9.view.read (Elt F) X9) (hlo.blk t)) (qgrp (arg5.view.read (Elt F) X5)) (qsc (arg4.view.read (Elt F) X4) i),
      st03 v83 v0 v91 (Scf.iv v62 1#32 t) (kblk (arg6.view.read (Elt F) X6) (hlo.blk t)) (arg8.view.read (Elt F) X8) (sblk (arg9.view.read (Elt F) X9) (hlo.blk t)) (qgrp (arg5.view.read (Elt F) X5)) (qsc (arg4.view.read (Elt F) X4) i),
      st10 v83 v0 v91 (Scf.iv v62 1#32 t) (kblk (arg6.view.read (Elt F) X6) (hlo.blk t)) (arg8.view.read (Elt F) X8) (sblk (arg9.view.read (Elt F) X9) (hlo.blk t)) (qgrp (arg5.view.read (Elt F) X5)) (qsc (arg4.view.read (Elt F) X4) i),
      st11 v83 v0 v91 (Scf.iv v62 1#32 t) (kblk (arg6.view.read (Elt F) X6) (hlo.blk t)) (arg8.view.read (Elt F) X8) (sblk (arg9.view.read (Elt F) X9) (hlo.blk t)) (qgrp (arg5.view.read (Elt F) X5)) (qsc (arg4.view.read (Elt F) X4) i),
      st12 v83 v0 v91 (Scf.iv v62 1#32 t) (kblk (arg6.view.read (Elt F) X6) (hlo.blk t)) (arg8.view.read (Elt F) X8) (sblk (arg9.view.read (Elt F) X9) (hlo.blk t)) (qgrp (arg5.view.read (Elt F) X5)) (qsc (arg4.view.read (Elt F) X4) i),
      st13 v83 v0 v91 (Scf.iv v62 1#32 t) (kblk (arg6.view.read (Elt F) X6) (hlo.blk t)) (arg8.view.read (Elt F) X8) (sblk (arg9.view.read (Elt F) X9) (hlo.blk t)) (qgrp (arg5.view.read (Elt F) X5)) (qsc (arg4.view.read (Elt F) X4) i)]
  refine ⟨max_full v83 v0 v91 (Scf.iv v62 1#32 t) (kblk (arg6.view.read (Elt F) X6) (hlo.blk t)) (arg8.view.read (Elt F) X8) (sblk (arg9.view.read (Elt F) X9) (hlo.blk t)) (qgrp (arg5.view.read (Elt F) X5)) (qsc (arg4.view.read (Elt F) X4) i) acc, fun c' y => ?_, fun y hy => ?_⟩
  · exact pieces_near arg13.view g (hlo.blk t)
      ![![k0_off6 i v21 t 0#32, k0_off6 i v21 t 128#32, k0_off6 i v21 t 256#32, k0_off6 i v21 t 384#32],
        ![k0_off7 i v21 t 0#32, k0_off7 i v21 t 128#32, k0_off7 i v21 t 256#32, k0_off7 i v21 t 384#32]]
      (offs_off6 hlo t) (inb_off6 hlo t) _ c' y
  · exact pieces_far arg13.view g (hlo.blk t)
      ![![k0_off6 i v21 t 0#32, k0_off6 i v21 t 128#32, k0_off6 i v21 t 256#32, k0_off6 i v21 t 384#32],
        ![k0_off7 i v21 t 0#32, k0_off7 i v21 t 128#32, k0_off7 i v21 t 256#32, k0_off7 i v21 t 384#32]]
      (offs_off6 hlo t) (inb_off6 hlo t) _ y hy

set_option maxHeartbeats 1000000 in
theorem trip_mask (n : Nat) (hlo : Lo i v21 n) (E : Set ℕ) (t : Fin (k0_t1_loop i v21).trips) (acc : FVec F S256x128 .f32)
    (g : BufTy.Contents (Elt F) arg13.view.ty) (hc : ¬(k0_cond1 i v21 v45 t = 1#1)) :
    iprop(Reads c arg4 arg5 arg6 arg8 arg9 X4 X5 X6 X8 X9 ∗ (arg13.view.loc (c : Thread nD τ) ↦[arg13.view.set]{fullShare} g))
      ⊢ wp frame (wpE (defs₀ (F := F)) Variants.none c none) E
        (k0_t1_body (F := F) i arg3 harg3 arg4 harg4 arg5 harg5 arg6 harg6 arg7 harg7 arg8 harg8 arg9 harg9 arg10 harg10 arg11 harg11 arg12 harg12 arg13 harg13 arg0 arg1 arg2 v0 v21 k0_hw1 v45 k0_hw2 v62 v66 v77 v78 c0_i32_29 v83 v91 t acc)
        (fun r => iprop(Reads c arg4 arg5 arg6 arg8 arg9 X4 X5 X6 X8 X9 ∗ ∃ g', (arg13.view.loc (c : Thread nD τ) ↦[arg13.view.set]{fullShare} g')
          ∗ ⌜r = maxStep acc (tileX i arg4 arg5 arg6 arg8 arg9 v0 v21 v45 v62 v83 v91 X4 X5 X6 X8 X9 n hlo t)
            ∧ Stored arg13 (hlo.blk t) (tileX i arg4 arg5 arg6 arg8 arg9 v0 v21 v45 v62 v83 v91 X4 X5 X6 X8 X9 n hlo t) g g'⌝)) := by
  unfold k0_t1_body Reads
  iintro ⟨⟨H4, H5, H6, H8, H9⟩, H13⟩
  simp only [dif_neg hc, k0_part8_eq_skeleton]; unfold k0_part8_skel
  simp only [k0_part4_eq_skeleton, k0_part5_eq_skeleton, k0_part6_eq_skeleton, k0_part7_eq_skeleton]
  unfold k0_part4_skel k0_part5_skel k0_part6_skel k0_part7_skel
  sl_exec
  sl_step
  isplitl [H4 H5 H6 H8 H9]
  · isplitl [H4]; · iexact H4
    isplitl [H5]; · iexact H5
    isplitl [H6]; · iexact H6
    isplitl [H8]; · iexact H8
    iexact H9
  iexists _
  isplitl [H13]; · iexact H13
  ipureintro
  have hK : View.readAt (Elt F) arg6.view (Rect.unit (s := S1x16384x128) (k0_off8 i v21 t) S1x512x128.size (k0_off8_inb i v21 v45 k0_hw2 t hc)).toLoadRect X6
      = kblk (arg6.view.read (Elt F) X6) (hlo.blk t) := View.readAt_unit _ _ _ (hlo.off8 t) _
  have hS : View.readAt (Elt F) arg9.view (Rect.unit (s := S1x1x1x16384) (k0_off9 i v21 t) S1x1x1x512.size (k0_off9_inb i v21 v45 k0_hw2 t hc)).toLoadRect X9
      = sblk (arg9.view.read (Elt F) X9) (hlo.blk t) := View.readAt_unit _ _ _ (hlo.off9 t) _
  have hM : View.readAt (Elt F) arg8.view (Rect.unit (s := S1x1x1x16x128) ![0, 0, 0, 0, 0] S1x1x1x16x128.size inb_S1x1x1x16x128_S1x1x1x16x128_0_0_0_0_0).toLoadRect X8
      = arg8.view.read (Elt F) X8 := View.readAt_full _ _ _
  have hQ0 : View.readAt (Elt F) arg5.view (Rect.unit (s := S1x256x128) ![0, 0, 0] S1x128x128.size inb_S1x256x128_S1x128x128_0_0_0).toLoadRect X5
      = qgrp (arg5.view.read (Elt F) X5) 0 := rfl
  have hQ1 : View.readAt (Elt F) arg5.view (Rect.unit (s := S1x256x128) ![0, 128, 0] S1x128x128.size inb_S1x256x128_S1x128x128_0_128_0).toLoadRect X5
      = qgrp (arg5.view.read (Elt F) X5) 1 := rfl
  have hs0 : trip_mask.sl.r i arg4 X4 = qsc (arg4.view.read (Elt F) X4) i 0 := smem_scale i arg4 X4 0 (Gen.k0_off10_eq i 0) _ _
  have hs1 : trip_mask.sl.r_1 i arg4 X4 = qsc (arg4.view.read (Elt F) X4) i 1 := smem_scale i arg4 X4 1 (Gen.k0_off10_eq i 1) _ _
  simp only [hK, hS, hM, hQ0, hQ1, hs0, hs1]
  have hT : tileX i arg4 arg5 arg6 arg8 arg9 v0 v21 v45 v62 v83 v91 X4 X5 X6 X8 X9 n hlo t
      = piece false (k0_pay134 v83) (k0_pay135 v0) v91 (Scf.iv v62 1#32 t) (kblk (arg6.view.read (Elt F) X6) (hlo.blk t))
        (arg8.view.read (Elt F) X8) (sblk (arg9.view.read (Elt F) X9) (hlo.blk t)) (qgrp (arg5.view.read (Elt F) X5))
        (qsc (arg4.view.read (Elt F) X4) i) := by
    unfold tileX tile
    rw [decide_eq_false hc]
  rw [hT]
  simp only [mt00 v83 v0 v91 (Scf.iv v62 1#32 t) (kblk (arg6.view.read (Elt F) X6) (hlo.blk t)) (arg8.view.read (Elt F) X8) (sblk (arg9.view.read (Elt F) X9) (hlo.blk t)) (qgrp (arg5.view.read (Elt F) X5)) (qsc (arg4.view.read (Elt F) X4) i),
      mt01 v83 v0 v91 (Scf.iv v62 1#32 t) (kblk (arg6.view.read (Elt F) X6) (hlo.blk t)) (arg8.view.read (Elt F) X8) (sblk (arg9.view.read (Elt F) X9) (hlo.blk t)) (qgrp (arg5.view.read (Elt F) X5)) (qsc (arg4.view.read (Elt F) X4) i),
      mt02 v83 v0 v91 (Scf.iv v62 1#32 t) (kblk (arg6.view.read (Elt F) X6) (hlo.blk t)) (arg8.view.read (Elt F) X8) (sblk (arg9.view.read (Elt F) X9) (hlo.blk t)) (qgrp (arg5.view.read (Elt F) X5)) (qsc (arg4.view.read (Elt F) X4) i),
      mt03 v83 v0 v91 (Scf.iv v62 1#32 t) (kblk (arg6.view.read (Elt F) X6) (hlo.blk t)) (arg8.view.read (Elt F) X8) (sblk (arg9.view.read (Elt F) X9) (hlo.blk t)) (qgrp (arg5.view.read (Elt F) X5)) (qsc (arg4.view.read (Elt F) X4) i),
      mt10 v83 v0 v91 (Scf.iv v62 1#32 t) (kblk (arg6.view.read (Elt F) X6) (hlo.blk t)) (arg8.view.read (Elt F) X8) (sblk (arg9.view.read (Elt F) X9) (hlo.blk t)) (qgrp (arg5.view.read (Elt F) X5)) (qsc (arg4.view.read (Elt F) X4) i),
      mt11 v83 v0 v91 (Scf.iv v62 1#32 t) (kblk (arg6.view.read (Elt F) X6) (hlo.blk t)) (arg8.view.read (Elt F) X8) (sblk (arg9.view.read (Elt F) X9) (hlo.blk t)) (qgrp (arg5.view.read (Elt F) X5)) (qsc (arg4.view.read (Elt F) X4) i),
      mt12 v83 v0 v91 (Scf.iv v62 1#32 t) (kblk (arg6.view.read (Elt F) X6) (hlo.blk t)) (arg8.view.read (Elt F) X8) (sblk (arg9.view.read (Elt F) X9) (hlo.blk t)) (qgrp (arg5.view.read (Elt F) X5)) (qsc (arg4.view.read (Elt F) X4) i),
      mt13 v83 v0 v91 (Scf.iv v62 1#32 t) (kblk (arg6.view.read (Elt F) X6) (hlo.blk t)) (arg8.view.read (Elt F) X8) (sblk (arg9.view.read (Elt F) X9) (hlo.blk t)) (qgrp (arg5.view.read (Elt F) X5)) (qsc (arg4.view.read (Elt F) X4) i)]
  refine ⟨max_mask v83 v0 v91 (Scf.iv v62 1#32 t) (kblk (arg6.view.read (Elt F) X6) (hlo.blk t)) (arg8.view.read (Elt F) X8) (sblk (arg9.view.read (Elt F) X9) (hlo.blk t)) (qgrp (arg5.view.read (Elt F) X5)) (qsc (arg4.view.read (Elt F) X4) i) acc, fun c' y => ?_, fun y hy => ?_⟩
  · exact pieces_near arg13.view g (hlo.blk t)
      ![![k0_off11 i v21 t 0#32, k0_off11 i v21 t 128#32, k0_off11 i v21 t 256#32, k0_off11 i v21 t 384#32],
        ![k0_off12 i v21 t 0#32, k0_off12 i v21 t 128#32, k0_off12 i v21 t 256#32, k0_off12 i v21 t 384#32]]
      (offs_off11 hlo t) (inb_off11 hlo t) _ c' y
  · exact pieces_far arg13.view g (hlo.blk t)
      ![![k0_off11 i v21 t 0#32, k0_off11 i v21 t 128#32, k0_off11 i v21 t 256#32, k0_off11 i v21 t 384#32],
        ![k0_off12 i v21 t 0#32, k0_off12 i v21 t 128#32, k0_off12 i v21 t 256#32, k0_off12 i v21 t 384#32]]
      (offs_off11 hlo t) (inb_off11 hlo t) _ y hy

/-- One trip of the first loop, in either branch. -/
theorem trip (n : Nat) (hlo : Lo i v21 n) (E : Set ℕ) (t : Fin (k0_t1_loop i v21).trips) (acc : FVec F S256x128 .f32)
    (g : BufTy.Contents (Elt F) arg13.view.ty) :
    iprop(Reads c arg4 arg5 arg6 arg8 arg9 X4 X5 X6 X8 X9 ∗ (arg13.view.loc (c : Thread nD τ) ↦[arg13.view.set]{fullShare} g))
      ⊢ wp frame (wpE (defs₀ (F := F)) Variants.none c none) E
        (k0_t1_body (F := F) i arg3 harg3 arg4 harg4 arg5 harg5 arg6 harg6 arg7 harg7 arg8 harg8 arg9 harg9 arg10 harg10 arg11 harg11 arg12 harg12 arg13 harg13 arg0 arg1 arg2 v0 v21 k0_hw1 v45 k0_hw2 v62 v66 v77 v78 c0_i32_29 v83 v91 t acc)
        (fun r => iprop(Reads c arg4 arg5 arg6 arg8 arg9 X4 X5 X6 X8 X9 ∗ ∃ g', (arg13.view.loc (c : Thread nD τ) ↦[arg13.view.set]{fullShare} g')
          ∗ ⌜r = maxStep acc (tileX i arg4 arg5 arg6 arg8 arg9 v0 v21 v45 v62 v83 v91 X4 X5 X6 X8 X9 n hlo t)
            ∧ Stored arg13 (hlo.blk t) (tileX i arg4 arg5 arg6 arg8 arg9 v0 v21 v45 v62 v83 v91 X4 X5 X6 X8 X9 n hlo t) g g'⌝)) := by
  by_cases h : k0_cond1 i v21 v45 t = 1#1
  · exact trip_full c i arg3 harg3 arg4 harg4 arg5 harg5 arg6 harg6 arg7 harg7 arg8 harg8 arg9 harg9 arg10 harg10 arg11 harg11 arg12 harg12 arg13 harg13 arg0 arg1 arg2 v0 v21 k0_hw1 v45 k0_hw2 v62 v66 v77 v78 c0_i32_29 v83 v91 X4 X5 X6 X8 X9 n hlo E t acc g h
  · exact trip_mask c i arg3 harg3 arg4 harg4 arg5 harg5 arg6 harg6 arg7 harg7 arg8 harg8 arg9 harg9 arg10 harg10 arg11 harg11 arg12 harg12 arg13 harg13 arg0 arg1 arg2 v0 v21 k0_hw1 v45 k0_hw2 v62 v66 v77 v78 c0_i32_29 v83 v91 X4 X5 X6 X8 X9 n hlo E t acc g h

/-- The score buffer before trip `k`: the blocks of the trips so far hold their pieces. -/
def Holds (n : Nat) (hlo : Lo i v21 n) (k : Nat) (g : BufTy.Contents (Elt F) arg13.view.ty) : Prop :=
  ∀ t : Fin (k0_t1_loop i v21).trips, t.val < k → ∀ c y, arg13.view.read (Elt F) g (scoreAt (hlo.blk t) c y) = both (tileX i arg4 arg5 arg6 arg8 arg9 v0 v21 v45 v62 v83 v91 X4 X5 X6 X8 X9 n hlo t) c y

/-- The row maxima before trip `k`. -/
def maxAt (n : Nat) (hlo : Lo i v21 n) (k : Nat) : FVec F S256x128 .f32 :=
  carry (k0_t1_loop i v21).trips (fun t a => maxStep a (tileX i arg4 arg5 arg6 arg8 arg9 v0 v21 v45 v62 v83 v91 X4 X5 X6 X8 X9 n hlo t)) (k0_pay136 (F := F)) k

/-- The first loop's invariant. -/
def inv1 (n : Nat) (hlo : Lo i v21 n) (k : Nat) (acc : FVec F S256x128 .f32) : sProp 𝕄 :=
  iprop(Reads c arg4 arg5 arg6 arg8 arg9 X4 X5 X6 X8 X9 ∗ ∃ g, (arg13.view.loc (c : Thread nD τ) ↦[arg13.view.set]{fullShare} g)
    ∗ ⌜acc = maxAt i arg4 arg5 arg6 arg8 arg9 v0 v21 v45 v62 v83 v91 X4 X5 X6 X8 X9 n hlo k
      ∧ Holds i arg4 arg5 arg6 arg8 arg9 arg13 v0 v21 v45 v62 v83 v91 X4 X5 X6 X8 X9 n hlo k g⌝)

theorem step1 (n : Nat) (hlo : Lo i v21 n) (E : Set ℕ) (t : Fin (k0_t1_loop i v21).trips) (acc : FVec F S256x128 .f32) :
    inv1 c i arg4 arg5 arg6 arg8 arg9 arg13 v0 v21 v45 v62 v83 v91 X4 X5 X6 X8 X9 n hlo t.val acc
      ⊢ wp frame (wpE (defs₀ (F := F)) Variants.none c none) E
        (k0_t1_body (F := F) i arg3 harg3 arg4 harg4 arg5 harg5 arg6 harg6 arg7 harg7 arg8 harg8 arg9 harg9 arg10 harg10 arg11 harg11 arg12 harg12 arg13 harg13 arg0 arg1 arg2 v0 v21 k0_hw1 v45 k0_hw2 v62 v66 v77 v78 c0_i32_29 v83 v91 t acc)
        (inv1 c i arg4 arg5 arg6 arg8 arg9 arg13 v0 v21 v45 v62 v83 v91 X4 X5 X6 X8 X9 n hlo (t.val + 1)) := by
  unfold inv1
  iintro ⟨HR, ⟨%g, H13, %hg⟩⟩
  obtain ⟨hacc, hg⟩ := hg
  iapply (wp_wand_r frame _ (E := E))
  isplitl [HR H13]
  · iapply (trip c i arg3 harg3 arg4 harg4 arg5 harg5 arg6 harg6 arg7 harg7 arg8 harg8 arg9 harg9 arg10 harg10 arg11 harg11 arg12 harg12 arg13 harg13 arg0 arg1 arg2 v0 v21 k0_hw1 v45 k0_hw2 v62 v66 v77 v78 c0_i32_29 v83 v91 X4 X5 X6 X8 X9 n hlo E t acc g)
    isplitl [HR]; · iexact HR
    iexact H13
  iintro %r ⟨HR, ⟨%g', H13, %h⟩⟩
  obtain ⟨hr, hnear, hfar⟩ := h
  isplitl [HR]; · iexact HR
  iexists g'
  isplitl [H13]; · iexact H13
  ipureintro
  refine ⟨?_, fun t' ht' c' y => ?_⟩
  · unfold maxAt
    rw [carry_succ, hr, hacc]; rfl
  · rcases Nat.lt_succ_iff_lt_or_eq.mp ht' with h | h
    · rw [← hg t' h c' y]
      refine hfar _ (.inl ?_)
      have hy : (y 1).val < 128 := (y 1).isLt
      have hc := c'.isLt
      show 512 * (n / 512 + t'.val) + 128 * c'.val + (y 1).val < 512 * (n / 512 + t.val)
      omega
    · obtain rfl := Fin.ext h
      exact hnear c' y

set_option warn.classDefReducibility false in
/-- The first loop by its invariant. -/
def loop1 (n : Nat) (hlo : Lo i v21 n) (E : Set ℕ) :
    Gen.LoopInvTy_k0_t1 (F := F) Unit ℕ (UR sig nD τ) ℕ Variants.none c none E i arg3 harg3 arg4 harg4 arg5 harg5 arg6 harg6 arg7 harg7 arg8 harg8 arg9 harg9 arg10 harg10 arg11 harg11 arg12 harg12 arg13 harg13 arg0 arg1 arg2 v0 v21 k0_hw1 v45 k0_hw2 v62 v66 v77 v78 c0_i32_29 v83 v91 (k0_pay136 (F := F)) where
  inv := inv1 c i arg4 arg5 arg6 arg8 arg9 arg13 v0 v21 v45 v62 v83 v91 X4 X5 X6 X8 X9 n hlo
  step := step1 c i arg3 harg3 arg4 harg4 arg5 harg5 arg6 harg6 arg7 harg7 arg8 harg8 arg9 harg9 arg10 harg10 arg11 harg11 arg12 harg12 arg13 harg13 arg0 arg1 arg2 v0 v21 k0_hw1 v45 k0_hw2 v62 v66 v77 v78 c0_i32_29 v83 v91 X4 X5 X6 X8 X9 n hlo E

/-! ## The second pass -/

section Second

variable (v99 : FVec F S256x128 .f32) (X7 : BufTy.Contents (Elt F) arg7.view.ty) (X13 : BufTy.Contents (Elt F) arg13.view.ty)

/-- One trip of the second pass reads its block's scores and values. -/
theorem trip3 (n : Nat) (hlo : Lo i v21 n) (t : Fin (k0_t3_loop i v21).trips) (acc : FVec F S256x128 .f32 × FVec F S256x128 .f32) :
    tripR_k0_t3 (F := F) Variants.none c none i arg3 harg3 arg4 harg4 arg5 harg5 arg6 harg6 arg7 harg7 arg8 harg8 arg9 harg9 arg10 harg10 arg11 harg11 arg12 harg12 arg13 harg13 arg0 arg1 arg2 v0 v21 k0_hw1 v45 k0_hw2 v62 v66 v77 v78 c0_i32_29 v99 X7 X13 t acc
      = sumStep v99 (fun c' y => arg13.view.read (Elt F) X13 (scoreAt (hlo.blk t) c' y)) (kblk (arg7.view.read (Elt F) X7) (hlo.blk t)) acc := by
  have hV : View.readAt (Elt F) arg7.view (Rect.unit (s := S1x16384x128) (k0_off24 i v21 t) S1x512x128.size (k0_off24_inb i v21 k0_hw1 t)).toLoadRect X7
      = kblk (arg7.view.read (Elt F) X7) (hlo.blk t) := View.readAt_unit _ _ _ (hlo.off24 t) _
  have hX : ∀ c' : Fin 4, View.readAt (Elt F) arg13.view (Rect.unit (s := S256x16384) (k0_off23 i v21 t (BitVec.ofNat 32 (128 * c'.val))) S256x128.size
        (k0_off23_inb i v21 k0_hw1 t c')).toLoadRect X13
      = fun y => arg13.view.read (Elt F) X13 (scoreAt (hlo.blk t) c' y) := fun c' => by
    have hc := c'.isLt
    funext y
    refine congrArg (arg13.view.read (Elt F) X13) (funext fun a => Fin.ext ?_)
    have e := congrFun (hlo.off23 t (128 * c'.val) (by omega)) a
    refine (congrArg (· + 1 * (y a).val) e).trans ?_
    fin_cases a
    · show 0 + 1 * (y 0).val = (y 0).val
      omega
    · show 512 * (n / 512 + t.val) + 128 * c'.val + 1 * (y 1).val = 512 * (n / 512 + t.val) + 128 * c'.val + (y 1).val
      omega
  rw [← hV, show (fun c' y => arg13.view.read (Elt F) X13 (scoreAt (hlo.blk t) c' y)) = _ from funext fun c' => (hX c').symm]
  unfold tripR_k0_t3 trip_k0_t3
  rfl

/-- The row sums and weighted rows the second pass has gathered before trip `k`. -/
def sumAt (ms : FVec F S256x128 .f32) (n : Nat) (hlo : Lo i v21 n) (k : Nat) : FVec F S256x128 .f32 × FVec F S256x128 .f32 :=
  carry (k0_t1_loop i v21).trips (fun t a => sumStep ms (both (tileX i arg4 arg5 arg6 arg8 arg9 v0 v21 v45 v62 v83 v91 X4 X5 X6 X8 X9 n hlo t)) (kblk (arg7.view.read (Elt F) X7) (hlo.blk t)) a)
    (k0_pay142 (F := F), k0_pay142 (F := F)) k

/-- Over a buffer holding every block's pieces, what the second pass carries is `sumAt`. -/
theorem st3 (n : Nat) (hlo : Lo i v21 n) (h : Holds i arg4 arg5 arg6 arg8 arg9 arg13 v0 v21 v45 v62 v83 v91 X4 X5 X6 X8 X9 n hlo (k0_t1_loop i v21).trips X13) (k : Nat) (hk : k ≤ (k0_t1_loop i v21).trips) :
    st_k0_t3 (F := F) Variants.none c none i arg3 harg3 arg4 harg4 arg5 harg5 arg6 harg6 arg7 harg7 arg8 harg8 arg9 harg9 arg10 harg10 arg11 harg11 arg12 harg12 arg13 harg13 arg0 arg1 arg2 v0 v21 k0_hw1 v45 k0_hw2 v62 v66 v77 v78 c0_i32_29 v99 X7 X13 (k0_pay142 (F := F), k0_pay142 (F := F)) k
      = sumAt i arg4 arg5 arg6 arg7 arg8 arg9 v0 v21 v45 v62 v83 v91 X4 X5 X6 X8 X9 X7 v99 n hlo k := by
  induction k with
  | zero => rfl
  | succ k ih =>
    have e := st_k0_t3_succ (F := F) Variants.none c none i arg3 harg3 arg4 harg4 arg5 harg5 arg6 harg6 arg7 harg7 arg8 harg8 arg9 harg9 arg10 harg10 arg11 harg11 arg12 harg12 arg13 harg13 arg0 arg1 arg2 v0 v21 k0_hw1 v45 k0_hw2 v62 v66 v77 v78 c0_i32_29 v99 X7 X13 (k0_pay142 (F := F), k0_pay142 (F := F)) ⟨k, hk⟩
    refine e.trans ?_
    rw [ih (Nat.le_of_succ_le hk), trip3 c i arg3 harg3 arg4 harg4 arg5 harg5 arg6 harg6 arg7 harg7 arg8 harg8 arg9 harg9 arg10 harg10 arg11 harg11 arg12 harg12 arg13 harg13 arg0 arg1 arg2 v0 v21 k0_hw1 v45 k0_hw2 v62 v66 v77 v78 c0_i32_29 v99 X7 X13 n hlo ⟨k, hk⟩]
    unfold sumAt
    rw [carry_succ _ _ (⟨k, hk⟩ : Fin (k0_t1_loop i v21).trips)]
    rw [show (fun c' y => arg13.view.read (Elt F) X13 (scoreAt (hlo.blk ⟨k, hk⟩) c' y)) = both (tileX i arg4 arg5 arg6 arg8 arg9 v0 v21 v45 v62 v83 v91 X4 X5 X6 X8 X9 n hlo ⟨k, hk⟩) from
      funext fun c' => funext fun y => h ⟨k, hk⟩ hk c' y]

end Second

set_option maxHeartbeats 1000000 in
/-- The two passes: from any score buffer, the row sums and weighted rows over the blocks of the tile. -/
theorem passes (E : Set ℕ) (X7 : BufTy.Contents (Elt F) arg7.view.ty) (X11 : BufTy.Contents (Elt F) arg11.view.ty) (g : BufTy.Contents (Elt F) arg13.view.ty)
    (n : Nat) (hlo : Lo i v21 n) :
    iprop(Reads c arg4 arg5 arg6 arg8 arg9 X4 X5 X6 X8 X9 ∗ (arg7.view.loc (c : Thread nD τ) ↦[arg7.view.set]{fullShare} X7)
        ∗ (arg11.view.loc (c : Thread nD τ) ↦[arg11.view.set]{fullShare} X11) ∗ (arg13.view.loc (c : Thread nD τ) ↦[arg13.view.set]{fullShare} g))
      ⊢ wp frame (wpE (defs₀ (F := F)) Variants.none c none) E
        (k0_part21 (F := F) i arg3 harg3 arg4 harg4 arg5 harg5 arg6 harg6 arg7 harg7 arg8 harg8 arg9 harg9 arg10 harg10 arg11 harg11 arg12 harg12 arg13 harg13 arg0 arg1 arg2 v0 v21 k0_hw1 v45 k0_hw2 v62 v66 v77 v78 c0_i32_29)
        (fun r => iprop(Reads c arg4 arg5 arg6 arg8 arg9 X4 X5 X6 X8 X9 ∗ (arg7.view.loc (c : Thread nD τ) ↦[arg7.view.set]{fullShare} X7)
          ∗ (arg11.view.loc (c : Thread nD τ) ↦[arg11.view.set]{fullShare} X11) ∗ ∃ g', (arg13.view.loc (c : Thread nD τ) ↦[arg13.view.set]{fullShare} g')
          ∗ ⌜r = (let M := maxAt i arg4 arg5 arg6 arg8 arg9 v0 v21 v45 v62 (arg11.view.read (Elt F) X11) (iota .tc S256x128 32 [1] iota_S256x128_d1_w32) X4 X5 X6 X8 X9 n hlo (k0_t1_loop i v21).trips
              let S := sumAt i arg4 arg5 arg6 arg7 arg8 arg9 v0 v21 v45 v62 (arg11.view.read (Elt F) X11) (iota .tc S256x128 32 [1] iota_S256x128_d1_w32) X4 X5 X6 X8 X9 X7 M n hlo (k0_t1_loop i v21).trips
              ⟨k0_pay149 S.1, k0_pay150 S.2⟩)⌝)) := by
  rw [k0_part21_eq_skeleton]
  unfold k0_part21_skel
  iintro ⟨HR, H7, H11, H13⟩
  sl_exec
  sl_for (inv1 c i arg4 arg5 arg6 arg8 arg9 arg13 v0 v21 v45 v62 (arg11.view.read (Elt F) X11) (iota .tc S256x128 32 [1] iota_S256x128_d1_w32) X4 X5 X6 X8 X9 n hlo) $$ [HR H13]
  · intro k acc
    unfold passes.sl.prog.body_1 passes.sl.v91
    have h83 : (View.readAt (Elt F) arg11.view (Rect.unit (s := S1x1x1x256) ![0, 0, 0, 0] S1x1x1x256.size inb_S1x1x1x256_S1x1x1x256_0_0_0_0).toLoadRect X11) = arg11.view.read (Elt F) X11 := View.readAt_full _ _ _
    rw [h83]
    exact step1 c i arg3 harg3 arg4 harg4 arg5 harg5 arg6 harg6 arg7 harg7 arg8 harg8 arg9 harg9 arg10 harg10 arg11 harg11 arg12 harg12 arg13 harg13 arg0 arg1 arg2 v0 v21 k0_hw1 v45 k0_hw2 v62 v66 v77 v78 c0_i32_29 (arg11.view.read (Elt F) X11) (iota .tc S256x128 32 [1] iota_S256x128_d1_w32) X4 X5 X6 X8 X9 n hlo E k acc
  · unfold inv1
    isplitl [HR]; · iexact HR
    iexists g
    isplitl [H13]; · iexact H13
    ipureintro
    exact ⟨rfl, fun t ht => absurd ht (Nat.not_lt_zero _)⟩
  iintro %acc H
  unfold inv1
  icases H with ⟨HR, ⟨%g', H13, %h⟩⟩
  obtain ⟨hacc, hg⟩ := h
  sl_exec
  sl_step
  isplitl [HR]; · iexact HR
  isplitl [H7]; · iexact H7
  isplitl [H11]; · iexact H11
  iexists g'
  isplitl [H13]; · iexact H13
  ipureintro
  subst hacc
  have e := st3 c i arg3 harg3 arg4 harg4 arg5 harg5 arg6 harg6 arg7 harg7 arg8 harg8 arg9 harg9 arg10 harg10 arg11 harg11 arg12 harg12 arg13 harg13 arg0 arg1 arg2 v0 v21 k0_hw1 v45 k0_hw2 v62 v66 v77 v78 c0_i32_29 (arg11.view.read (Elt F) X11) (iota .tc S256x128 32 [1] iota_S256x128_d1_w32) X4 X5 X6 X8 X9 (maxAt i arg4 arg5 arg6 arg8 arg9 v0 v21 v45 v62 (arg11.view.read (Elt F) X11) (iota .tc S256x128 32 [1] iota_S256x128_d1_w32) X4 X5 X6 X8 X9 n hlo (k0_t1_loop i v21).trips) X7 g' n hlo hg (k0_t1_loop i v21).trips le_rfl
  exact congrArg (fun S : FVec F S256x128 .f32 × FVec F S256x128 .f32 => (⟨k0_pay149 S.1, k0_pay150 S.2⟩ : Σ' (_ : FVec F S256x1 .f32), FVec F S256x128 .f32)) e

end Trip

end Cert.Proof.Kernel

end
-- ==== Proof.K.Run.lean ====
module

public import proofs.«01_k».proof.Proof.K.Body

@[expose] public section

noncomputable section

/-! # One grid point of the attention kernel

The kernel's body at one grid point: from the staged blocks it reads its two words of the table of first keys, makes the two
passes of `Body.lean` and stores the block of results. -/

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What the body leaves in its output block, from the staged blocks -/

/-- The word of the table that names the first key of the tile's first row. -/
def loFirst (i : grid0.Coords) (x3 : Vec F S4x256 .i32) : BitVec 32 :=
  x3 (ix2 ⟨(i 0).val, (i 0).isLt⟩ ⟨4 * (i 2).val, by have h : (i 2).val < 64 := (i 2).isLt; omega⟩)

/-- The word that names the first key of the tile's last row. -/
def loLast (i : grid0.Coords) (x3 : Vec F S4x256 .i32) : BitVec 32 :=
  x3 (ix2 ⟨(i 0).val, (i 0).isLt⟩ ⟨4 * (i 2).val + 3, by have h : (i 2).val < 64 := (i 2).isLt; omega⟩)

section Out

variable {i : grid0.Coords} {v : BitVec 32} {n : Nat} (h : Lo i v n) (w : BitVec 32)
variable (x4 : Vec F S4x8x128 .f32) (x5 : Vec F S1x256x128 .fp8e4m3) (x6 x7 : Vec F S1x16384x128 .fp8e4m3)
  (x8 : Vec F S1x1x1x16x128 .bf16) (x9 : Vec F S1x1x1x16384 .f32) (x10 : Vec F S1x1x1x128 .f32) (x11 : Vec F S1x1x1x256 .i32)

/-- The scores of trip `t` of the tile. -/
abbrev tileT (t : Fin (k0_t1_loop i v).trips) : Fin 2 → Fin 4 → FVec F S128x128 .f32 :=
  tile h w (floorW v) (Scalar.muli (BitVec.ofNat 32 (i 2).val) 256#32) x11 (iota .tc S256x128 32 [1] iota_S256x128_d1_w32) x4 x5 x6 x8 x9 t

/-- The rows' maxima, lane by lane, before trip `k`. -/
def tileMax (k : Nat) : FVec F S256x128 .f32 :=
  carry (k0_t1_loop i v).trips (fun t a => maxStep a (tileT h w x4 x5 x6 x8 x9 x11 t)) (k0_pay136 (F := F)) k

/-- The row sums and the weighted rows before trip `k` of the second pass. -/
def tileSum (k : Nat) : FVec F S256x128 .f32 × FVec F S256x128 .f32 :=
  carry (k0_t1_loop i v).trips
    (fun t a => sumStep (tileMax h w x4 x5 x6 x8 x9 x11 (k0_t1_loop i v).trips) (both (tileT h w x4 x5 x6 x8 x9 x11 t)) (kblk x7 (h.blk t)) a)
    (k0_pay142 (F := F), k0_pay142 (F := F)) k

/-- The block of results. -/
def outTile : FVec F S1x256x128 .bf16 :=
  k0_pay1 (k0_pay149 (tileSum h w x4 x5 x6 x7 x8 x9 x11 (k0_t1_loop i v).trips).1)
    (k0_pay150 (tileSum h w x4 x5 x6 x7 x8 x9 x11 (k0_t1_loop i v).trips).2) x10

end Out

/-! ## The two words of the table -/

theorem smem_first (i : grid0.Coords) (arg3 : Memref sig .tc .smem S4x256 .i32) (X3 : BufTy.Contents (Elt F) arg3.view.ty)
    (inb : ∀ a, k0_off1 i a + S1x1.size a ≤ S4x256.size a) (hp) :
    View.readAt (Elt F) arg3.view (Rect.unit (s := S4x256) (k0_off1 i) S1x1.size inb).toLoadRect X3 (Shape.Idx.first hp)
      = loFirst i (arg3.view.read (Elt F) X3) := by
  refine congrArg (arg3.view.read (Elt F) X3) (funext fun a => Fin.ext ?_)
  have e := congrFun (Gen.k0_off1_eq i) a
  refine (Nat.add_zero _).trans (e.trans ?_)
  fin_cases a <;> rfl

theorem smem_last (i : grid0.Coords) (arg3 : Memref sig .tc .smem S4x256 .i32) (X3 : BufTy.Contents (Elt F) arg3.view.ty)
    (inb : ∀ a, k0_off2 i a + S1x1.size a ≤ S4x256.size a) (hp) :
    View.readAt (Elt F) arg3.view (Rect.unit (s := S4x256) (k0_off2 i) S1x1.size inb).toLoadRect X3 (Shape.Idx.first hp)
      = loLast i (arg3.view.read (Elt F) X3) := by
  refine congrArg (arg3.view.read (Elt F) X3) (funext fun a => Fin.ext ?_)
  have e := congrFun (Gen.k0_off2_eq i) a
  refine (Nat.add_zero _).trans (e.trans ?_)
  fin_cases a <;> rfl

section Run

variable (c : Dev nD) (i : grid0.Coords) (arg3 : Memref sig .tc .smem S4x256 .i32) (harg3 : arg3.IsWhole) (arg4 : Memref sig .tc .smem S4x8x128 .f32) (harg4 : arg4.IsWhole) (arg5 : Memref sig .tc .vmem S1x256x128 .fp8e4m3) (harg5 : arg5.IsWhole) (arg6 : Memref sig .tc .vmem S1x16384x128 .fp8e4m3) (harg6 : arg6.IsWhole) (arg7 : Memref sig .tc .vmem S1x16384x128 .fp8e4m3) (harg7 : arg7.IsWhole) (arg8 : Memref sig .tc .vmem S1x1x1x16x128 .bf16) (harg8 : arg8.IsWhole) (arg9 : Memref sig .tc .vmem S1x1x1x16384 .f32) (harg9 : arg9.IsWhole) (arg10 : Memref sig .tc .vmem S1x1x1x128 .f32) (harg10 : arg10.IsWhole) (arg11 : Memref sig .tc .vmem S1x1x1x256 .i32) (harg11 : arg11.IsWhole) (arg12 : Memref sig .tc .vmem S1x256x128 .bf16) (harg12 : arg12.IsWhole) (arg13 : Memref sig .tc .vmem S256x16384 .f32) (harg13 : arg13.IsWhole)

theorem head1 (E : Set ℕ) (X3 : BufTy.Contents (Elt F) arg3.view.ty) (n : Nat) (hlo : Lo i (loFirst i (arg3.view.read (Elt F) X3)) n) :
    (arg3.view.loc (c : Thread nD τ) ↦[arg3.view.set]{fullShare} X3 : sProp 𝕄)
      ⊢ wp frame (wpE (defs₀ (F := F)) Variants.none c none) E (k0_part19 (F := F) i arg3 harg3 arg4 harg4 arg5 harg5 arg6 harg6 arg7 harg7 arg8 harg8 arg9 harg9 arg10 harg10 arg11 harg11 arg12 harg12 arg13 harg13)
        (fun r => iprop((arg3.view.loc (c : Thread nD τ) ↦[arg3.view.set]{fullShare} X3)
          ∗ ⌜∃ a b, r = ⟨BitVec.ofNat 32 (i 0).val, BitVec.ofNat 32 (i 1).val, BitVec.ofNat 32 (i 2).val, Scalar.muli (BitVec.ofNat 32 (i 2).val) 256#32,
            loFirst i (arg3.view.read (Elt F) X3), hlo.chk1, a, b⟩⌝)) := by
  rw [k0_part19_eq_skeleton]
  unfold k0_part19_skel
  iintro H3
  sl_exec
  have e : head1.sl.r i arg3 X3 = loFirst i (arg3.view.read (Elt F) X3) := smem_first i arg3 X3 _ _
  rw [e]
  have h1 := hlo.chk1
  sl_exec
  sl_step
  isplitl [H3]; · iexact H3
  ipureintro
  exact ⟨_, _, rfl⟩

theorem head2 (E : Set ℕ) (X3 : BufTy.Contents (Elt F) arg3.view.ty) (n : Nat) (arg0 v0 v24 : BitVec 32) (v21 : Elt F .i32) (v38 : BitVec 1) (hlo : Lo i v21 n) :
    (arg3.view.loc (c : Thread nD τ) ↦[arg3.view.set]{fullShare} X3 : sProp 𝕄)
      ⊢ wp frame (wpE (defs₀ (F := F)) Variants.none c none) E (k0_part20 (F := F) i arg3 harg3 arg4 harg4 arg5 harg5 arg6 harg6 arg7 harg7 arg8 harg8 arg9 harg9 arg10 harg10 arg11 harg11 arg12 harg12 arg13 harg13 arg0 v0 v21 v24 v38)
        (fun r => iprop((arg3.view.loc (c : Thread nD τ) ↦[arg3.view.set]{fullShare} X3)
          ∗ ⌜∃ a b d e, r = ⟨loLast i (arg3.view.read (Elt F) X3), hlo.chk2 _, floorW v21, a, b, d, e⟩⌝)) := by
  rw [k0_part20_eq_skeleton]
  unfold k0_part20_skel
  iintro H3
  sl_exec
  have e : head2.sl.r i arg3 X3 = loLast i (arg3.view.read (Elt F) X3) := smem_last i arg3 X3 _ _
  rw [e]
  have h1 := hlo.chk2 (loLast i (arg3.view.read (Elt F) X3))
  sl_exec
  sl_step
  isplitl [H3]; · iexact H3
  ipureintro
  exact ⟨_, _, _, _, rfl⟩

set_option maxHeartbeats 1000000 in
/-- The body at one point: the staged blocks as they were, the block of results in the output's buffer, and the score buffer at some
    contents. -/
theorem sound_kernel (E : Set ℕ) (x3 : Vec F S4x256 .i32) (x4 : Vec F S4x8x128 .f32) (x5 : Vec F S1x256x128 .fp8e4m3) (x6 : Vec F S1x16384x128 .fp8e4m3) (x7 : Vec F S1x16384x128 .fp8e4m3) (x8 : Vec F S1x1x1x16x128 .bf16) (x9 : Vec F S1x1x1x16384 .f32) (x10 : Vec F S1x1x1x128 .f32) (x11 : Vec F S1x1x1x256 .i32) (n : Nat) (hlo : Lo i (loFirst i x3) n) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (outTile hlo (loLast i x3) x4 x5 x6 x7 x8 x9 x10 x11)
          ∗ (∃ d, owns (c : Thread nD τ) arg13 fullShare d)) -∗ K ⟨⟩))
      ⊢ wp frame (wpE (defs₀ (F := F)) Variants.none c none) E (cc0_attn (F := F) i arg3 harg3 arg4 harg4 arg5 harg5 arg6 harg6 arg7 harg7 arg8 harg8 arg9 harg9 arg10 harg10 arg11 harg11 arg12 harg12 arg13 harg13) K := by
  simp only [cc0_attn_eq_skeleton]; unfold cc0_attn_skel owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf3 hf4 hf5 hf6 hf7 hf8 hf9 hf10 hf11
  rw [wp_bind]
  iapply (wp_wand_r frame _ (E := E))
  isplitl [H3]
  · iapply (head1 c i arg3 harg3 arg4 harg4 arg5 harg5 arg6 harg6 arg7 harg7 arg8 harg8 arg9 harg9 arg10 harg10 arg11 harg11 arg12 harg12 arg13 harg13 E f3 n hlo); iexact H3
  iintro %r ⟨H3, %hr⟩
  obtain ⟨a, b, rfl⟩ := hr
  dsimp only
  rw [wp_bind]
  iapply (wp_wand_r frame _ (E := E))
  isplitl [H3]
  · iapply (head2 c i arg3 harg3 arg4 harg4 arg5 harg5 arg6 harg6 arg7 harg7 arg8 harg8 arg9 harg9 arg10 harg10 arg11 harg11 arg12 harg12 arg13 harg13 E f3 n _ _ _ _ _ hlo); iexact H3
  iintro %r ⟨H3, %hr⟩
  obtain ⟨a', b', d', e', rfl⟩ := hr
  dsimp only
  rw [wp_bind]
  iapply (wp_wand_r frame _ (E := E))
  isplitl [H4 H5 H6 H7 H8 H9 H11 H13]
  · iapply (passes c i arg3 harg3 arg4 harg4 arg5 harg5 arg6 harg6 arg7 harg7 arg8 harg8 arg9 harg9 arg10 harg10 arg11 harg11 arg12 harg12 arg13 harg13 _ _ _ _ _ _ _ _ _ _ _ _ _ f4 f5 f6 f8 f9 E f7 f11 f13 n hlo)
    unfold Reads
    isplitl [H4 H5 H6 H8 H9]
    · isplitl [H4]; · iexact H4
      isplitl [H5]; · iexact H5
      isplitl [H6]; · iexact H6
      isplitl [H8]; · iexact H8
      iexact H9
    isplitl [H7]; · iexact H7
    isplitl [H11]; · iexact H11
    iexact H13
  unfold Reads
  iintro %r ⟨⟨H4, H5, H6, H8, H9⟩, H7, H11, ⟨%g13, H13, %hr⟩⟩
  subst hr
  dsimp only
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    refine (View.read_writes_full arg12.view f12 inb_S1x256x128_S1x256x128_0_0_0 _ []).trans ?_
    have e10 : View.readAt (Elt F) arg10.view (Rect.unit (s := S1x1x1x128) ![0, 0, 0, 0] S1x1x1x128.size inb_S1x1x1x128_S1x1x1x128_0_0_0_0).toLoadRect f10
        = arg10.view.read (Elt F) f10 := View.readAt_full _ _ _
    exact congrArg (k0_pay1 _ _) e10
  iexists (arg13.view.read (Elt F) g13)
  iexists g13; isplitr; · ipureintro; rfl
  iexact H13

end Run

end Cert.Proof.Kernel
-- ==== Proof.K.Host.lean ====
module

public import proofs.«01_k».proof.Proof.K.Words
public import proofs.«01_k».proof.Proof.Gen.Kernel.Frame
public import Idealize.ShloMosaic.Lib.Claim

/-! # The table of document starts, as the host computes it -/

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ)

/-- Where a document may start: its position at a position whose id differs from the one before, and zero elsewhere. -/
def boundary (seg : IVec S4x16384 32) : IVec S4x16384 32 :=
  select (concatenate S4x16384 1 [⟨S4x1, (broadcastInDim S4x1 ![] bcast_S_S4x1 (constantI S_ 1 1#1) : IVec S4x1 1)⟩,
      ⟨S4x16383, cmpi .ne (extractStridedSlice S4x16383 ![0, 1] seg slices_S4x16384_S4x16383_0_1) (extractStridedSlice S4x16383 ![0, 0] seg slices_S4x16384_S4x16383_0_0)⟩]
      concatenates_S4x1_S4x16383_S4x16384_d1)
    (broadcastInDim S4x16384 ![0, 1] bcast_S1x16384_S4x16384_0_1 (broadcastInDim S1x16384 ![1] bcast_S16384_S1x16384_1 (iotaInDim S16384 32 0)))
    (broadcastInDim S4x16384 ![] bcast_S_S4x16384 (constantI S_ 32 0#32))

/-- The running maximum along the sequence. -/
def runningMax (x : IVec S4x16384 32) : IVec S4x16384 32 :=
  Host.reduceWindow IntOp.maxsi ![1, 16384] ![1, 1] ![0, 16383] ![0, 0] x (broadcastInDim S_ ![] bcast_S_S_ (constantI S_ 32 2147483648#32))
    reduceWindows_S4x16384_S4x16384_w1s1p0_0_w16384s1p16383_0 h_S_

/-- The table the launch reads: the first position of each position's document. -/
theorem V_start (c : Dev nD) : V m c main_v8 = runningMax (boundary (m ((c : Thread nD τ).loc main_arg7))) := by
  simp only [V, hostOps0, hostOps0_1, hostOps0_2, hostOps0_3, hostOps0_4, hostOps0_5, List.flatten_cons, List.flatten_nil, List.append_nil,
    List.cons_append, List.nil_append]
  after_results
  simp only [StableHlo.TRef.ofBuf_toBuf]
  have h8 : ∀ v : IVec S4x16384 32, (StableHlo.TRef.of main_v8 : StableHlo.TRef sig ⟨S4x16384, .i32⟩).toBuf (Val := Elt F) v = v := fun _ => rfl
  have h5 : ∀ v : IVec S4x16384 1, (StableHlo.TRef.of main_v5 : StableHlo.TRef sig ⟨S4x16384, .i1⟩).ofBuf (Val := Elt F) v = v := fun _ => rfl
  have h6 : ∀ v : IVec S1x16384 32, (StableHlo.TRef.of main_v6 : StableHlo.TRef sig ⟨S1x16384, .i32⟩).ofBuf (Val := Elt F) v = v := fun _ => rfl
  have h0 : ∀ v : IVec S_ 32, (StableHlo.TRef.of main_c_0 : StableHlo.TRef sig ⟨S_, .i32⟩).ofBuf (Val := Elt F) v = v := fun _ => rfl
  unfold runningMax boundary
  refine (h8 _).trans ?_
  rw [h5, h6, h0]
  rfl

theorem V_tile (c : Dev nD) : V m c main_v24 = shapeCast S4x64x1x256 (V m c main_v8) shapeCasts_S4x16384_S4x64x1x256 := by
  simp only [V, hostOps0, hostOps0_1, hostOps0_2, hostOps0_3, hostOps0_4, hostOps0_5, List.flatten_cons, List.flatten_nil, List.append_nil,
    List.cons_append, List.nil_append]
  after_results
  rfl

end Cert.Proof.Kernel
-- ==== Proof.K.Starts.lean ====
module

public import proofs.«01_k».proof.Proof.K.Host
public import Idealize.ShloMosaic.Lib.Pointwise
public import Idealize.ShloMosaic.Lib.Affine.Words
public import Idealize.ShloMosaic.Lib.Tactic.Disch

/-! # The table of document starts

The table holds, for each position, the last position at or before it where a document begins. Here: it never exceeds
the position, it is never negative, and it does not decrease along the sequence. -/

@[expose] public section

noncomputable section

namespace Cert.Proof.Kernel

open Cert.Kernel Cert.Kernel.Gen
open Idealize.ShloMosaic Idealize.ShloMosaic.TcCoe Idealize.ShloMosaic.Tactic

/-! ## Folding the signed maximum -/

theorem toInt_maxsi (x y : BitVec 32) : (IntOp.maxsi x y).toInt = max x.toInt y.toInt := by
  unfold IntOp.maxsi
  have h := @BitVec.slt_iff_toInt_lt 32 y x
  split
  · next hs => have := h.mp hs; omega
  · next hs => have : ¬ y.toInt < x.toInt := fun e => hs (h.mpr e); omega

theorem foldl_le {α : Type} (g : α → BitVec 32) (B : Int) : ∀ (l : List α) (v : BitVec 32), v.toInt ≤ B → (∀ n ∈ l, (g n).toInt ≤ B) →
    (l.foldl (fun r n => IntOp.maxsi r (g n)) v).toInt ≤ B
  | [], _, hv, _ => hv
  | a :: l, v, hv, h => foldl_le g B l _ (by rw [toInt_maxsi]; exact max_le hv (h a (List.mem_cons_self ..)))
      fun n hn => h n (List.mem_cons_of_mem _ hn)

theorem init_le_foldl {α : Type} (g : α → BitVec 32) : ∀ (l : List α) (v : BitVec 32), v.toInt ≤ (l.foldl (fun r n => IntOp.maxsi r (g n)) v).toInt
  | [], _ => le_refl _
  | a :: l, v => le_trans (by rw [toInt_maxsi]; exact le_max_left _ _) (init_le_foldl g l (IntOp.maxsi v (g a)))

theorem mem_le_foldl {α : Type} (g : α → BitVec 32) : ∀ (l : List α) (v : BitVec 32) (n : α), n ∈ l → (g n).toInt ≤ (l.foldl (fun r n => IntOp.maxsi r (g n)) v).toInt
  | a :: l, v, n, hn => by
    rcases List.mem_cons.mp hn with e | e
    · subst e
      exact le_trans (by rw [toInt_maxsi]; exact le_max_right _ _) (init_le_foldl g l (IntOp.maxsi v (g n)))
    · exact mem_le_foldl g l _ n e

/-! ## The running maximum -/

theorem runningMax_le (x : IVec S4x16384 32) (b : Fin 4) (q : Fin 16384) (B : Int) (hB : -2147483648 ≤ B)
    (h : ∀ k : Fin 16384, k.val ≤ q.val → (x (ix2 b k)).toInt ≤ B) : (runningMax x (ix2 b q)).toInt ≤ B := by
  unfold runningMax Host.reduceWindow
  refine foldl_le _ B _ _ hB fun n _ => ?_
  dsimp only
  split
  · next hin =>
    have w0 : ((Shape.rowMajor (⟨S4x16384.rank, ![1, 16384]⟩ : Shape)).symm n 0).val < 1 := Fin.isLt _
    have w1 : ((Shape.rowMajor (⟨S4x16384.rank, ![1, 16384]⟩ : Shape)).symm n 1).val < 16384 := Fin.isLt _
    have i1 : 16383 ≤ q.val * 1 + ((Shape.rowMajor (⟨S4x16384.rank, ![1, 16384]⟩ : Shape)).symm n 1).val
        ∧ q.val * 1 + ((Shape.rowMajor (⟨S4x16384.rank, ![1, 16384]⟩ : Shape)).symm n 1).val - 16383 < 16384 := hin 1
    refine le_of_eq_of_le (congrArg (fun j => (x j).toInt) (funext fun a => Fin.ext ?_))
      (h ⟨q.val * 1 + ((Shape.rowMajor (⟨S4x16384.rank, ![1, 16384]⟩ : Shape)).symm n 1).val - 16383, i1.2⟩ (by
        show q.val * 1 + ((Shape.rowMajor (⟨S4x16384.rank, ![1, 16384]⟩ : Shape)).symm n 1).val - 16383 ≤ q.val
        omega))
    match a with
    | ⟨0, _⟩ =>
      show b.val * 1 + ((Shape.rowMajor (⟨S4x16384.rank, ![1, 16384]⟩ : Shape)).symm n 0).val - 0 = b.val
      omega
    | ⟨1, _⟩ => rfl
  · exact hB

theorem le_runningMax (x : IVec S4x16384 32) (b : Fin 4) (q k : Fin 16384) (hk : k.val ≤ q.val) :
    (x (ix2 b k)).toInt ≤ (runningMax x (ix2 b q)).toInt := by
  unfold runningMax Host.reduceWindow
  let w : (⟨S4x16384.rank, ![1, 16384]⟩ : Shape).Idx := ix2 (⟨0, by decide⟩ : Fin 1) (⟨k.val + 16383 - q.val, by omega⟩ : Fin 16384)
  refine le_trans ?_ (mem_le_foldl _ _ _ (Shape.rowMajor (⟨S4x16384.rank, ![1, 16384]⟩ : Shape) w) (List.mem_finRange _))
  have hs := Equiv.symm_apply_apply (Shape.rowMajor (⟨S4x16384.rank, ![1, 16384]⟩ : Shape)) w
  generalize Shape.rowMajor (⟨S4x16384.rank, ![1, 16384]⟩ : Shape) w = n at hs ⊢
  have hw0 : ((Shape.rowMajor (⟨S4x16384.rank, ![1, 16384]⟩ : Shape)).symm n 0).val = 0 := by rw [hs]; rfl
  have hw1 : ((Shape.rowMajor (⟨S4x16384.rank, ![1, 16384]⟩ : Shape)).symm n 1).val = k.val + 16383 - q.val := by rw [hs]; rfl
  dsimp only
  have hq := q.isLt
  have hb := b.isLt
  rw [dif_pos fun a => by
    match a with
    | ⟨0, _⟩ =>
      show 0 ≤ b.val * 1 + ((Shape.rowMajor (⟨S4x16384.rank, ![1, 16384]⟩ : Shape)).symm n 0).val
        ∧ b.val * 1 + ((Shape.rowMajor (⟨S4x16384.rank, ![1, 16384]⟩ : Shape)).symm n 0).val - 0 < 4
      omega
    | ⟨1, _⟩ =>
      show 16383 ≤ q.val * 1 + ((Shape.rowMajor (⟨S4x16384.rank, ![1, 16384]⟩ : Shape)).symm n 1).val
        ∧ q.val * 1 + ((Shape.rowMajor (⟨S4x16384.rank, ![1, 16384]⟩ : Shape)).symm n 1).val - 16383 < 16384
      omega]
  refine le_of_eq (congrArg (fun j => (x j).toInt) (funext fun a => Fin.ext ?_))
  match a with
  | ⟨0, _⟩ =>
    show b.val = b.val * 1 + ((Shape.rowMajor (⟨S4x16384.rank, ![1, 16384]⟩ : Shape)).symm n 0).val - 0
    omega
  | ⟨1, _⟩ =>
    show k.val = q.val * 1 + ((Shape.rowMajor (⟨S4x16384.rank, ![1, 16384]⟩ : Shape)).symm n 1).val - 16383
    omega

theorem boundary_cases (seg : IVec S4x16384 32) (b : Fin 4) (k : Fin 16384) :
    boundary seg (ix2 b k) = BitVec.ofNat 32 k.val ∨ boundary seg (ix2 b k) = 0#32 := by
  unfold boundary select Scalar.select
  dsimp only
  split
  · left; rfl
  · right; rfl

/-- The table of document starts. -/
def starts (seg : IVec S4x16384 32) : IVec S4x16384 32 := runningMax (boundary seg)

theorem starts_le (seg : IVec S4x16384 32) (b : Fin 4) (q : Fin 16384) : (starts seg (ix2 b q)).toInt ≤ q.val := by
  refine runningMax_le _ b q _ (by omega) fun k hk => ?_
  have hq := q.isLt
  rcases boundary_cases seg b k with e | e <;> rw [e]
  · have := Disch.isInt_out (Affine.isInt_lit k.val (by omega))
    omega
  · show (0 : Int) ≤ _
    omega

theorem starts_nonneg (seg : IVec S4x16384 32) (b : Fin 4) (q : Fin 16384) : 0 ≤ (starts seg (ix2 b q)).toInt := by
  refine le_trans ?_ (le_runningMax _ b q q (le_refl _))
  have hq := q.isLt
  rcases boundary_cases seg b q with e | e <;> rw [e]
  · have := Disch.isInt_out (Affine.isInt_lit q.val (by omega))
    omega
  · exact le_refl (0 : Int)

theorem starts_mono (seg : IVec S4x16384 32) (b : Fin 4) (q q' : Fin 16384) (h : q.val ≤ q'.val) :
    (starts seg (ix2 b q)).toInt ≤ (starts seg (ix2 b q')).toInt :=
  runningMax_le _ b q _ (by have := BitVec.le_toInt (starts seg (ix2 b q')); simpa using this) fun k hk => le_runningMax _ b q' k (le_trans hk h)

/-- A document's first position, as a number. -/
def startAt (seg : IVec S4x16384 32) (b : Fin 4) (q : Fin 16384) : Nat := (starts seg (ix2 b q)).toNat

theorem starts_int (seg : IVec S4x16384 32) (b : Fin 4) (q : Fin 16384) : Affine.IsInt (starts seg (ix2 b q)) (startAt seg b q) := by
  have h0 := starts_nonneg seg b q
  have h1 := starts_le seg b q
  have hq := q.isLt
  refine Affine.isInt_toNat _ ?_
  have := BitVec.toInt_eq_toNat_cond (starts seg (ix2 b q))
  split at this <;> omega

theorem startAt_eq (seg : IVec S4x16384 32) (b : Fin 4) (q : Fin 16384) : (starts seg (ix2 b q)).toInt = (startAt seg b q : Int) :=
  Disch.isInt_out (starts_int seg b q)

theorem startAt_le (seg : IVec S4x16384 32) (b : Fin 4) (q : Fin 16384) : startAt seg b q ≤ q.val := by
  have := starts_le seg b q
  rw [startAt_eq] at this
  omega

theorem startAt_mono (seg : IVec S4x16384 32) (b : Fin 4) (q q' : Fin 16384) (h : q.val ≤ q'.val) : startAt seg b q ≤ startAt seg b q' := by
  have := starts_mono seg b q q' h
  rw [startAt_eq, startAt_eq] at this
  omega

end Cert.Proof.Kernel
-- ==== Proof.K.Table.lean ====
module

public import proofs.«01_k».proof.Proof.K.Starts

/-! # The words the launch reads to bound a tile's keys -/

@[expose] public section

set_option maxRecDepth 16384

noncomputable section

namespace Cert.Proof.Kernel

open Cert.Kernel Cert.Kernel.Gen
open Idealize.ShloMosaic Idealize.ShloMosaic.TcCoe Idealize.ShloMosaic.Tactic

variable {F : FTy → Type} [FloatOps F]
variable (m : (ℓ : Loc nD τ sig) → Buf (Elt F) ℓ)

/-- The first and the last entry of each 128 positions, side by side. -/
def bounds (x : IVec S4x16384 32) : IVec S4x256 32 :=
  shapeCast S4x256 (concatenate S4x128x2 2
    [⟨S4x128x1, (broadcastInDim S4x128x1 ![0, 1] bcast_S4x128_S4x128x1_0_1 (shapeCast S4x128 (extractStridedSlice S4x128x1 ![0, 0, 0]
        (shapeCast S4x128x128 x shapeCasts_S4x16384_S4x128x128 : IVec S4x128x128 32) slices_S4x128x128_S4x128x1_0_0_0) shapeCasts_S4x128x1_S4x128 : IVec S4x128 32) : IVec S4x128x1 32)⟩,
     ⟨S4x128x1, (broadcastInDim S4x128x1 ![0, 1] bcast_S4x128_S4x128x1_0_1 (shapeCast S4x128 (extractStridedSlice S4x128x1 ![0, 0, 127]
        (shapeCast S4x128x128 x shapeCasts_S4x16384_S4x128x128 : IVec S4x128x128 32) slices_S4x128x128_S4x128x1_0_0_127) shapeCasts_S4x128x1_S4x128 : IVec S4x128 32) : IVec S4x128x1 32)⟩]
    concatenates_S4x128x1_S4x128x1_S4x128x2_d2 : IVec S4x128x2 32) shapeCasts_S4x128x2_S4x256

theorem V_bounds (c : Dev nD) : V m c main_v17 = bounds (V m c main_v8) := by
  simp only [V, hostOps0, hostOps0_1, hostOps0_2, hostOps0_3, hostOps0_4, hostOps0_5, List.flatten_cons, List.flatten_nil, List.append_nil,
    List.cons_append, List.nil_append]
  after_results
  rfl

theorem bounds_first (x : IVec S4x16384 32) (b : Fin 4) (j : Fin 64) :
    bounds x (ix2 b ⟨4 * j.val, by omega⟩) = x (ix2 b ⟨256 * j.val, by omega⟩) := by
  unfold bounds
  pointwise
  rw [dif_pos (by omega)]
  exact congrArg x (congrArg (ix2 b) (Fin.ext (by show 4 * j.val / 2 * 128 = 256 * j.val; omega)))

theorem bounds_last (x : IVec S4x16384 32) (b : Fin 4) (j : Fin 64) :
    bounds x (ix2 b ⟨4 * j.val + 3, by omega⟩) = x (ix2 b ⟨256 * j.val + 255, by omega⟩) := by
  unfold bounds
  pointwise
  rw [dif_neg (by omega)]
  exact congrArg x (congrArg (ix2 b) (Fin.ext (by show (4 * j.val + 3) / 2 * 128 + 127 = 256 * j.val + 255; omega)))

end Cert.Proof.Kernel
-- ==== Proof.K.Frame.lean ====
module

public import proofs.«01_k».proof.Proof.K.Run
public import proofs.«01_k».proof.Proof.K.Table

/-! # The launch: its proof data, the body at every grid point, the run and the frame -/

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two table words at a grid point -/

/-- The segment ids as launched. -/
abbrev segOf (c : Dev nD) : IVec S4x16384 32 := m ((c : Thread nD τ).loc main_arg7)

/-- The batch entry of a point. -/
def bAt (i : grid0.Coords) : Fin 4 := ⟨(i 0).val, (i 0).isLt⟩

/-- The head of a point. -/
def hAt (i : grid0.Coords) : Fin 8 := ⟨(i 1).val, (i 1).isLt⟩

/-- The tile of queries of a point. -/
def jAt (i : grid0.Coords) : Fin 64 := ⟨(i 2).val, (i 2).isLt⟩

/-- The query at row `r` of a point's tile. -/
def rowAt (i : grid0.Coords) (r : Fin 256) : Fin 16384 := ⟨256 * (jAt i).val + r.val, by have h := (jAt i).isLt; omega⟩

theorem iblk_table (c : Dev nD) (t : Fin cfg0.N) (b : Fin 4) (k : Fin 256) : iblk m c 0 t (ix2 b k) = V m c main_v17 (ix2 b k) := by
  unfold iblk
  refine congrArg (V m c main_v17) (funext fun a => Fin.ext ?_)
  fin_cases a
  · exact (Pipeline.Window.rect_emb_val win0_0 t (ix2 b k) 0).trans (by show 0 * 4 + b.val = b.val; omega)
  · exact (Pipeline.Window.rect_emb_val win0_0 t (ix2 b k) 1).trans (by show 0 * 256 + k.val = k.val; omega)

theorem first_word (c : Dev nD) (t : Fin cfg0.N) :
    loFirst (grid0.coords t) (iblk m c 0 t) = starts (segOf m c) (ix2 (bAt (grid0.coords t)) (rowAt (grid0.coords t) 0)) := by
  unfold loFirst starts
  refine (iblk_table m c t _ _).trans ?_
  rw [V_bounds, V_start]
  exact bounds_first _ (bAt (grid0.coords t)) (jAt (grid0.coords t))

theorem last_word (c : Dev nD) (t : Fin cfg0.N) :
    loLast (grid0.coords t) (iblk m c 0 t) = starts (segOf m c) (ix2 (bAt (grid0.coords t)) (rowAt (grid0.coords t) 255)) := by
  unfold loLast starts
  refine (iblk_table m c t _ _).trans ?_
  rw [V_bounds, V_start]
  exact bounds_last _ (bAt (grid0.coords t)) (jAt (grid0.coords t))

/-- At every point the first word is a key no later than the tile's first row. -/
theorem loAt (c : Dev nD) (t : Fin cfg0.N) :
    Lo (grid0.coords t) (loFirst (grid0.coords t) (iblk m c 0 t)) (startAt (segOf m c) (bAt (grid0.coords t)) (rowAt (grid0.coords t) 0)) where
  word := by rw [first_word]; exact starts_int _ _ _
  le := startAt_le _ _ _

/-! ## The proof data -/

/-- What the body leaves in its output block at point `t`. -/
def outBlk (c : Dev nD) (t : Fin cfg0.N) : FVec F S1x256x128 .bf16 :=
  outTile (loAt m c t) (loLast (grid0.coords t) (iblk m c 0 t)) (iblk m c 1 t) (iblk m c 2 t) (iblk m c 3 t) (iblk m c 4 t) (iblk m c 5 t) (iblk m c 6 t) (iblk m c 7 t) (iblk m c 8 t)

/-- The launch's proof data: each input's buffer keeps its block, the output's is left at `outBlk`; the scratch is at the body's disposal. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlk m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outBlk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body at a point -/

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What the body returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl]
  unfold Pipeline.ΦA
  rw [scopedRest0_eq]
  iintro ⟨⟨⟨%f13, H13⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave H13 := (Entails.of_eq (owns_whole (c : Thread nD τ) cc0_scratch0 fullShare f13).symm) $$ H13
  unfold outBlk
  iapply (sound_kernel c _ _ _ _ _ _ _ _ _ _ _ _ _ _ _ _ _ _ _ _ _ _ _ Set.univ (iblk m c 0 t) (iblk m c 1 t) (iblk m c 2 t) (iblk m c 3 t) (iblk m c 4 t) (iblk m c 5 t) (iblk m c 6 t) (iblk m c 7 t) (iblk m c 8 t) _ (loAt m c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H13]; · iexists _; iexact H13
  iintro ⟨H0, H1, H2, H3, H4, H5, H6, H7, H8, H9, ⟨%d13, H13⟩⟩
  ihave H13 := (Entails.of_eq (owns_whole (c : Thread nD τ) cc0_scratch0 fullShare d13)) $$ H13
  isplitl [HR H13]
  · isplitl [H13]; · iexists _; iexact H13
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated . -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- The launch: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run of the program terminates with the arrays of the pipeline at what the proof data computes and every other unscoped buffer as the launch found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- Every run terminates, leaves every argument array unchanged, and leaves every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Proof.Kernel
-- ==== Proof.KI.Words.lean ====
/-
  The word arithmetic of the kernel's two loops.

  A grid point's loops run over the key blocks `j` from `lo / 512` (the block of the first key any of the tile's rows
  can see) up to the block that holds the tile's last row, exclusive. The program computes these bounds, the block's
  offsets and the "no mask needed" condition on 32-bit words; this module reads each of them as plain arithmetic, and
  proves the side conditions the body assumes of the table's words.
-/
module

public import proofs.«01_k».proof.Proof.Gen.KernelIdeal.Frame
public import Idealize.ShloMosaic.Lib.Affine

@[expose] public section

noncomputable section

namespace Cert.Proof.KernelIdeal

open Cert.KernelIdeal Cert.KernelIdeal.Gen
open Idealize.ShloMosaic Idealize.ShloMosaic.TcCoe

/-- Floor division of a word by 512, as the program spells it. -/
def floorW (v : BitVec 32) : BitVec 32 :=
  Scalar.select (Scalar.andi (Scalar.cmpi .ne
      (Scalar.subi (Scalar.extui (Scalar.cmpi .sgt v 0#32)) (Scalar.extui (Scalar.cmpi .slt v 0#32)))
      (Scalar.subi (Scalar.extui (Scalar.cmpi .sgt 512#32 0#32)) (Scalar.extui (Scalar.cmpi .slt 512#32 0#32))))
      (Scalar.cmpi .ne (Scalar.remsi v 512#32) 0#32))
    (Scalar.subi (Scalar.divsi v 512#32) 1#32) (Scalar.divsi v 512#32)

theorem floorW_int {v : BitVec 32} {n : Int} (hv : Affine.IsInt v n) (h0 : 0 ≤ n) (h1 : n < 2 ^ 30) :
    Affine.IsInt (floorW v) (n / 512) := by
  have z : Affine.IsInt 0#32 (0) := Affine.ofNat _ (by omega)
  have c : Affine.IsInt 512#32 (512) := Affine.ofNat _ (by omega)
  have o : Affine.IsInt 1#32 (1) := Affine.ofNat _ (by omega)
  have c1 : Affine.IsInt (Scalar.extui (Scalar.cmpi .sgt 512#32 0#32)) 1 :=
    Affine.extui_holds (Affine.sgt_holds c z (by omega)) (by omega)
  have c2 : Affine.IsInt (Scalar.extui (Scalar.cmpi .slt 512#32 0#32)) 0 :=
    Affine.extui_fails (Affine.slt_fails c z (by omega)) (by omega)
  have c3 := Affine.subi c1 c2 (e := 1) (by omega)
  have v2 : Affine.IsInt (Scalar.extui (Scalar.cmpi .slt v 0#32)) 0 :=
    Affine.extui_fails (Affine.slt_fails hv z (by omega)) (by omega)
  have q := Affine.divsi hv c (e := n / 512) (by omega)
  have q1 := Affine.subi q o (e := n / 512 - 1) (by omega)
  have r := Affine.remsi hv c (e := n % 512) (by omega)
  rcases (show n ≤ 0 ∨ 1 ≤ n by omega) with hs | hs
  · have r0 : Affine.Fails _ := Affine.ne_fails r z (by omega)
    exact Affine.select_fails (Affine.andi_fails_right trivial r0) q1 q rfl
  · have v1 : Affine.IsInt (Scalar.extui (Scalar.cmpi .sgt v 0#32)) 1 :=
      Affine.extui_holds (Affine.sgt_holds hv z (by omega)) (by omega)
    have v3 := Affine.subi v1 v2 (e := 1) (by omega)
    exact Affine.select_fails (Affine.andi_fails_left (Affine.ne_fails v3 c3 rfl) trivial) q1 q rfl

/-- The end of a point's loops, as the program spells it. -/
def endW (i : grid0.Coords) : BitVec 32 :=
  floorW (Scalar.subi (Scalar.addi (Scalar.addi (Scalar.muli (BitVec.ofNat 32 (i 2).val) 256#32) 256#32) 512#32) 1#32)

/-- The end of a point's loops: one past the block of its last row. -/
def jend (i : grid0.Coords) : Nat := (256 * (i 2).val + 767) / 512

theorem endW_int (i : grid0.Coords) : Affine.IsInt (endW i) (jend i) := by
  have r2 : (i 2).val < 64 := (i 2).isLt
  have a : Affine.IsInt (BitVec.ofNat 32 (i 2).val) ((i 2).val : Int) := Affine.ofNat _ (by omega)
  have c256 : Affine.IsInt 256#32 (256) := Affine.ofNat _ (by omega)
  have c512 : Affine.IsInt 512#32 (512) := Affine.ofNat _ (by omega)
  have c1 : Affine.IsInt 1#32 (1) := Affine.ofNat _ (by omega)
  have h1 := Affine.muli a c256 (e := 256 * ((i 2).val : Int)) (by omega)
  have h2 := Affine.addi h1 c256 (e := 256 * ((i 2).val : Int) + 256) (by omega)
  have h3 := Affine.addi h2 c512 (e := 256 * ((i 2).val : Int) + 768) (by omega)
  have h4 := Affine.subi h3 c1 (e := 256 * ((i 2).val : Int) + 767) (by omega)
  exact Affine.relit (floorW_int h4 (by omega) (by omega)) (by simp [jend])

/-- What the body needs of the table word `v`: it is the number `n`, a key no later than the tile's first row. -/
structure Lo (i : grid0.Coords) (v : BitVec 32) (n : Nat) : Prop where
  word : Affine.IsInt v n
  le : n ≤ 256 * (i 2).val

variable {i : grid0.Coords} {v : BitVec 32} {n : Nat}

theorem t1_loop_eq (i : grid0.Coords) (v : BitVec 32) : k0_t1_loop i v
    = ⟨floorW v, Scalar.addi (floorW v) (Scalar.muli (Scalar.divsi (Scalar.subi (endW i) (floorW v)) 1#32) 1#32), 1#32⟩ := rfl

theorem t2_loop_eq (i : grid0.Coords) (v : BitVec 32) : k0_t2_loop i v
    = ⟨Scalar.addi (floorW v) (Scalar.muli (Scalar.divsi (Scalar.subi (endW i) (floorW v)) 1#32) 1#32),
       Scalar.addi (floorW v) (Scalar.subi (endW i) (floorW v)), 1#32⟩ := rfl

theorem t3_loop_eq (i : grid0.Coords) (v : BitVec 32) : k0_t3_loop i v = k0_t1_loop i v := rfl
theorem t4_loop_eq (i : grid0.Coords) (v : BitVec 32) : k0_t4_loop i v = k0_t2_loop i v := rfl

namespace Lo

/-- The first block. -/
theorem first (h : Lo i v n) : Affine.IsInt (floorW v) ((n / 512 : Nat) : Int) := by
  have r2 : (i 2).val < 64 := (i 2).isLt
  have := h.le
  exact Affine.relit (floorW_int h.word (by omega) (by omega)) (by omega)

theorem n_lt (h : Lo i v n) : n / 512 < jend i ∧ jend i ≤ 32 := by
  have r2 : (i 2).val < 64 := (i 2).isLt
  have := h.le
  unfold jend; omega

theorem span (h : Lo i v n) : Affine.IsInt (Scalar.subi (endW i) (floorW v)) ((jend i - n / 512 : Nat) : Int) := by
  have := h.n_lt
  exact Affine.subi (endW_int i) h.first (by omega)

theorem stop (h : Lo i v n) : Affine.IsInt
    (Scalar.addi (floorW v) (Scalar.muli (Scalar.divsi (Scalar.subi (endW i) (floorW v)) 1#32) 1#32)) (jend i : Int) := by
  have := h.n_lt
  have c1 : Affine.IsInt 1#32 (1) := Affine.ofNat _ (by omega)
  exact Affine.addi h.first (Affine.muli (Affine.divsi_one h.span c1 ⟨rfl, rfl⟩) c1 (e := ((jend i - n / 512 : Nat) : Int)) (by omega)) (by omega)

theorem stop' (h : Lo i v n) : Affine.IsInt (Scalar.addi (floorW v) (Scalar.subi (endW i) (floorW v))) (jend i : Int) := by
  have := h.n_lt
  exact Affine.addi h.first h.span (by omega)

theorem trips1 (h : Lo i v n) : (k0_t1_loop i v).trips = jend i - n / 512 := by
  have := h.n_lt
  have c1 : Affine.IsInt 1#32 (1) := Affine.ofNat _ (by omega)
  rw [t1_loop_eq]
  exact Affine.trips_eq h.first h.stop c1 _ (by omega)

theorem trips2 (h : Lo i v n) : (k0_t2_loop i v).trips = 0 := by
  have c1 : Affine.IsInt 1#32 (1) := Affine.ofNat _ (by omega)
  rw [t2_loop_eq]
  exact Affine.trips_eq h.stop h.stop' c1 _ (by omega)

theorem ok1 (h : Lo i v n) : (k0_t1_loop i v).OK := by
  have := h.n_lt
  have c1 : Affine.IsInt 1#32 (1) := Affine.ofNat _ (by omega)
  rw [t1_loop_eq]
  exact Affine.ok h.first h.stop c1 (by omega)

theorem ok2 (h : Lo i v n) : (k0_t2_loop i v).OK := by
  have := h.n_lt
  have c1 : Affine.IsInt 1#32 (1) := Affine.ofNat _ (by omega)
  rw [t2_loop_eq]
  exact Affine.ok h.stop h.stop' c1 (by omega)

/-- Trip `t` runs block `n / 512 + t`. -/
theorem block (h : Lo i v n) (t : Fin (k0_t1_loop i v).trips) : n / 512 + t.val < jend i := by
  have h1 := t.isLt
  have h2 := h.trips1
  omega

theorem iv (h : Lo i v n) (t : Fin (k0_t1_loop i v).trips) :
    Affine.IsInt (Scf.iv (floorW v) 1#32 t) ((n / 512 + t.val : Nat) : Int) := by
  have h1 := h.block t
  have h2 := h.n_lt
  have c1 : Affine.IsInt 1#32 (1) := Affine.ofNat _ (by omega)
  exact Affine.iv h.first c1 _ (by omega)

theorem key0 (h : Lo i v n) (t : Fin (k0_t1_loop i v).trips) :
    Affine.IsInt (Scalar.muli (Scf.iv (floorW v) 1#32 t) 512#32) ((512 * (n / 512 + t.val) : Nat) : Int) := by
  have h1 := h.block t
  have h2 := h.n_lt
  have c : Affine.IsInt 512#32 (512) := Affine.ofNat _ (by omega)
  exact Affine.muli (h.iv t) c (by omega)

theorem key (h : Lo i v n) (t : Fin (k0_t1_loop i v).trips) (c : Nat) (hc : c ≤ 512) :
    Affine.IsInt (Scalar.addi (Scalar.muli (Scf.iv (floorW v) 1#32 t) 512#32) (BitVec.ofNat 32 c))
      ((512 * (n / 512 + t.val) + c : Nat) : Int) := by
  have h1 := h.block t
  have h2 := h.n_lt
  have hcw : Affine.IsInt (BitVec.ofNat 32 c) (c : Int) := Affine.ofNat _ (by omega)
  exact Affine.addi (h.key0 t) hcw (by omega)

theorem key0_nat (h : Lo i v n) (t : Fin (k0_t1_loop i v).trips) :
    (Scalar.muli (Scf.iv (floorW v) 1#32 t) 512#32).toNat = 512 * (n / 512 + t.val) := by
  have := Affine.toNat_of (h.key0 t) (by omega); omega

theorem key_nat (h : Lo i v n) (t : Fin (k0_t1_loop i v).trips) (c : Nat) (hc : c ≤ 512) :
    (Scalar.addi (Scalar.muli (Scf.iv (floorW v) 1#32 t) 512#32) (BitVec.ofNat 32 c)).toNat = 512 * (n / 512 + t.val) + c := by
  have := Affine.toNat_of (h.key t c hc) (by omega); omega

/-! The rectangles of a block, in closed form. -/

theorem off3 (h : Lo i v n) (t : Fin (k0_t1_loop i v).trips) : k0_off3 i v t = ![0, 512 * (n / 512 + t.val), 0] := by
  rw [← h.key0_nat t]; rfl
theorem off4 (h : Lo i v n) (t : Fin (k0_t1_loop i v).trips) : k0_off4 i v t = ![0, 0, 0, 512 * (n / 512 + t.val)] := by
  rw [← h.key0_nat t]; rfl
theorem off8 (h : Lo i v n) (t : Fin (k0_t1_loop i v).trips) : k0_off8 i v t = ![0, 512 * (n / 512 + t.val), 0] := by
  rw [← h.key0_nat t]; rfl
theorem off9 (h : Lo i v n) (t : Fin (k0_t1_loop i v).trips) : k0_off9 i v t = ![0, 0, 0, 512 * (n / 512 + t.val)] := by
  rw [← h.key0_nat t]; rfl
theorem off24 (h : Lo i v n) (t : Fin (k0_t3_loop i v).trips) : k0_off24 i v t = ![0, 512 * (n / 512 + t.val), 0] := by
  rw [← h.key0_nat t]; rfl
theorem off6 (h : Lo i v n) (t : Fin (k0_t1_loop i v).trips) (c : Nat) (hc : c ≤ 512) :
    k0_off6 i v t (BitVec.ofNat 32 c) = ![0, 512 * (n / 512 + t.val) + c] := by
  rw [← h.key_nat t c hc]; rfl
theorem off7 (h : Lo i v n) (t : Fin (k0_t1_loop i v).trips) (c : Nat) (hc : c ≤ 512) :
    k0_off7 i v t (BitVec.ofNat 32 c) = ![128, 512 * (n / 512 + t.val) + c] := by
  rw [← h.key_nat t c hc]; rfl
theorem off11 (h : Lo i v n) (t : Fin (k0_t1_loop i v).trips) (c : Nat) (hc : c ≤ 512) :
    k0_off11 i v t (BitVec.ofNat 32 c) = ![0, 512 * (n / 512 + t.val) + c] := by
  rw [← h.key_nat t c hc]; rfl
theorem off12 (h : Lo i v n) (t : Fin (k0_t1_loop i v).trips) (c : Nat) (hc : c ≤ 512) :
    k0_off12 i v t (BitVec.ofNat 32 c) = ![128, 512 * (n / 512 + t.val) + c] := by
  rw [← h.key_nat t c hc]; rfl
theorem off23 (h : Lo i v n) (t : Fin (k0_t3_loop i v).trips) (c : Nat) (hc : c ≤ 512) :
    k0_off23 i v t (BitVec.ofNat 32 c) = ![0, 512 * (n / 512 + t.val) + c] := by
  rw [← h.key_nat t c hc]; rfl

/-! The bounds of the block's rectangles. -/

theorem inb3 (h : Lo i v n) (t : Fin (k0_t1_loop i v).trips) :
    ∀ a, (![0, 512 * (n / 512 + t.val), 0] : Fin 3 → Nat) a + S1x512x128.size a ≤ S1x16384x128.size a := by
  have h1 := h.block t
  have h2 := h.n_lt
  intro a; fin_cases a
  · show 0 + 1 ≤ 1; omega
  · show 512 * (n / 512 + t.val) + 512 ≤ 16384; omega
  · show 0 + 128 ≤ 128; omega
theorem inb4 (h : Lo i v n) (t : Fin (k0_t1_loop i v).trips) :
    ∀ a, (![0, 0, 0, 512 * (n / 512 + t.val)] : Fin 4 → Nat) a + S1x1x1x512.size a ≤ S1x1x1x16384.size a := by
  have h1 := h.block t
  have h2 := h.n_lt
  intro a; fin_cases a
  · show 0 + 1 ≤ 1; omega
  · show 0 + 1 ≤ 1; omega
  · show 0 + 1 ≤ 1; omega
  · show 512 * (n / 512 + t.val) + 512 ≤ 16384; omega
theorem inbS (h : Lo i v n) (t : Fin (k0_t1_loop i v).trips) (g c : Nat) (hg : g ≤ 128) (hc : c ≤ 384) :
    ∀ a, (![g, 512 * (n / 512 + t.val) + c] : Fin 2 → Nat) a + S128x128.size a ≤ S256x16384.size a := by
  have h1 := h.block t
  have h2 := h.n_lt
  intro a; fin_cases a
  · show g + 128 ≤ 256; omega
  · show 512 * (n / 512 + t.val) + c + 128 ≤ 16384; omega
theorem inbL (h : Lo i v n) (t : Fin (k0_t1_loop i v).trips) (c : Nat) (hc : c ≤ 384) :
    ∀ a, (![0, 512 * (n / 512 + t.val) + c] : Fin 2 → Nat) a + S256x128.size a ≤ S256x16384.size a := by
  have h1 := h.block t
  have h2 := h.n_lt
  intro a; fin_cases a
  · show 0 + 256 ≤ 256; omega
  · show 512 * (n / 512 + t.val) + c + 128 ≤ 16384; omega

theorem dvd (h : Lo i v n) (t : Fin (k0_t1_loop i v).trips) (c : Nat) (hc : c ≤ 512) (hd : 128 ∣ c) :
    128 ∣ (Scalar.addi (Scalar.muli (Scf.iv (floorW v) 1#32 t) 512#32) (BitVec.ofNat 32 c)).toNat := by
  rw [h.key_nat t c hc]; omega

theorem dvd512 (h : Lo i v n) (t : Fin (k0_t1_loop i v).trips) :
    512 ∣ (Scalar.muli (Scf.iv (floorW v) 1#32 t) 512#32).toNat := by
  rw [h.key0_nat t]; omega

/-- No trip of an empty loop. -/
theorem none2 (h : Lo i v n) {P : Prop} (t : Fin (k0_t2_loop i v).trips) : P :=
  absurd t.isLt (by have := h.trips2; omega)

theorem chk1 (h : Lo i v n) : k0_chk1 i v := by
  refine ⟨h.ok1, h.ok2, h.ok1, fun t => h.dvd512 t, fun t => h.dvd t 0 (by omega) (by omega), fun t r => ?_,
    fun t => h.dvd t 128 (by omega) (by omega), fun t => h.dvd t 256 (by omega) (by omega),
    fun t => h.dvd t 384 (by omega) (by omega), fun t => ?_, h.ok2, fun t => h.none2 t, fun t => h.none2 t,
    fun t => h.none2 t, fun t => h.none2 t, fun t => h.none2 t, fun t => h.none2 t, fun t => h.none2 t⟩
  · have := r.isLt
    rw [h.off23 t _ (by omega)]; exact h.inbL t _ (by omega)
  · rw [h.off24 t]; exact h.inb3 t

theorem chk2 (h : Lo i v n) (w : BitVec 32) : k0_chk2 i v w := by
  refine ⟨⟨?_, ?_, ?_, ?_, ?_, ?_, ?_, ?_, ?_, ?_, ?_, ?_, ?_, ?_, ?_, ?_, ?_, ?_, ?_, ?_, ?_, ?_, ?_, ?_,
    fun t => h.none2 t, fun t => h.none2 t, fun t => h.none2 t, fun t => h.none2 t, fun t => h.none2 t,
    fun t => h.none2 t, fun t => h.none2 t, fun t => h.none2 t⟩,
    fun t => h.none2 t, fun t => h.none2 t, fun t => h.none2 t, fun t => h.none2 t, fun t => h.none2 t,
    fun t => h.none2 t, fun t => h.none2 t, fun t => h.none2 t, fun t => h.none2 t, fun t => h.none2 t,
    fun t => h.none2 t, fun t => h.none2 t, fun t => h.none2 t, fun t => h.none2 t, fun t => h.none2 t,
    fun t => h.none2 t⟩
  · intro t _; rw [h.off3 t]; exact h.inb3 t
  · intro t _; rw [h.off4 t]; exact h.inb4 t
  · intro t _; exact h.dvd t 0 (by omega) (by omega)
  · intro t _ r; have := r.isLt; rw [h.off6 t _ (by omega)]; exact h.inbS t _ _ (by omega) (by omega)
  · intro t _; exact h.dvd t 128 (by omega) (by omega)
  · intro t _; exact h.dvd t 256 (by omega) (by omega)
  · intro t _; exact h.dvd t 384 (by omega) (by omega)
  · intro t _; exact h.dvd t 0 (by omega) (by omega)
  · intro t _ r; have := r.isLt; rw [h.off7 t _ (by omega)]; exact h.inbS t _ _ (by omega) (by omega)
  · intro t _; exact h.dvd t 128 (by omega) (by omega)
  · intro t _; exact h.dvd t 256 (by omega) (by omega)
  · intro t _; exact h.dvd t 384 (by omega) (by omega)
  · intro t _; rw [h.off8 t]; exact h.inb3 t
  · intro t _; rw [h.off9 t]; exact h.inb4 t
  · intro t _; exact h.dvd t 0 (by omega) (by omega)
  · intro t _ r; have := r.isLt; rw [h.off11 t _ (by omega)]; exact h.inbS t _ _ (by omega) (by omega)
  · intro t _; exact h.dvd t 128 (by omega) (by omega)
  · intro t _; exact h.dvd t 256 (by omega) (by omega)
  · intro t _; exact h.dvd t 384 (by omega) (by omega)
  · intro t _; exact h.dvd t 0 (by omega) (by omega)
  · intro t _ r; have := r.isLt; rw [h.off12 t _ (by omega)]; exact h.inbS t _ _ (by omega) (by omega)
  · intro t _; exact h.dvd t 128 (by omega) (by omega)
  · intro t _; exact h.dvd t 256 (by omega) (by omega)
  · intro t _; exact h.dvd t 384 (by omega) (by omega)

/-- When the "no mask" branch is taken: every key of the block is at or after `w`'s number and at or before the tile's
    first row. -/
theorem cond (h : Lo i v n) {w : BitVec 32} {p : Nat} (hw : Affine.IsInt w p) (t : Fin (k0_t1_loop i v).trips)
    (hc : k0_cond1 i v w t = 1#1) : p ≤ 512 * (n / 512 + t.val) ∧ 512 * (n / 512 + t.val) + 512 ≤ 256 * (i 2).val := by
  have r2 : (i 2).val < 64 := (i 2).isLt
  have a : Affine.IsInt (BitVec.ofNat 32 (i 2).val) ((i 2).val : Int) := Affine.ofNat _ (by omega)
  have c256 : Affine.IsInt 256#32 (256) := Affine.ofNat _ (by omega)
  have h1 := Affine.muli a c256 (e := 256 * ((i 2).val : Int)) (by omega)
  by_contra hn
  refine absurd hc ?_
  have z : Affine.IsInt 0#32 (0) := Affine.ofNat _ (by omega)
  have key : Affine.Fails (Scalar.andi (Scalar.cmpi .sge (Scalar.muli (Scf.iv (floorW v) 1#32 t) 512#32) w)
      (Scalar.cmpi .sle (Scalar.addi (Scalar.muli (Scf.iv (floorW v) 1#32 t) 512#32) 512#32)
        (Scalar.muli (BitVec.ofNat 32 (i 2).val) 256#32))) := by
    by_cases hp : p ≤ 512 * (n / 512 + t.val)
    · exact Affine.andi_fails_right trivial (Affine.sle_fails (h.key t 512 (by omega)) h1 (by omega))
    · exact Affine.andi_fails_left (Affine.sge_fails (h.key0 t) hw (by omega)) trivial
  exact Affine.ne_fails (Affine.extui_fails key rfl) z rfl

end Lo

end Cert.Proof.KernelIdeal

end
-- ==== Proof.KI.Tiles.lean ====
/-
  What one key block contributes, as functions of the loaded vectors.

  The kernel takes a tile of 256 query rows (two groups `g` of 128 rows, each with one quantisation scale) against one
  block of 512 keys (four pieces `c` of 128 keys). In its first pass it stores the scores of the block, masked piece by
  piece unless the block needs no mask, and folds them into a running maximum; in its second pass it reads the scores
  back, takes weights, and accumulates the weights and the weighted values.
-/
module

public import proofs.«01_k».proof.Proof.KI.Words
public import proofs.«01_k».proof.Proof.Gen.KernelIdeal.Loops
public import Idealize.ShloMosaic.Lib.VecWindow
public import Idealize.ShloMosaic.Lib.Pipeline.Value
public import Idealize.ShloMosaic.Lib.WritesUnit
public import Idealize.ShloMosaic.Lib.Pointwise

@[expose] public section

noncomputable section

namespace Cert.Proof.KernelIdeal

open Cert.KernelIdeal Cert.KernelIdeal.Gen
open Idealize.ShloMosaic Idealize.ShloMosaic.TcCoe

variable {F : FTy → Type} [FloatOps F]

/-- The scores of 128 query rows `q` (scale `s`) against 512 keys, with the correction row of their group. -/
def score (g : Fin 2) (kc : Vec F S1x512x128 .fp8e4m3) (mq : Vec F S1x1x1x16x128 .bf16) (sk : Vec F S1x1x1x512 .f32)
    (q : Vec F S1x128x128 .fp8e4m3) (s : Elt F .f32) : FVec F S128x512 .f32 :=
  match g with
  | 0 => k0_pay31 kc mq sk q s
  | 1 => k0_pay50 (k0_pay30 kc mq sk) (k0_pay48 (k0_pay28 kc) q) (k0_pay49 (k0_pay29 sk) s)

/-- Piece `c` of a block's scores: its 128 columns. -/
def cut (c : Fin 4) (t : FVec F S128x512 .f32) : FVec F S128x128 .f32 :=
  match c with
  | 0 => extractStridedSlice S128x128 ![0, 0] t slices_S128x512_o0_0_S128x128
  | 1 => extractStridedSlice S128x128 ![0, 128] t slices_S128x512_o0_128_S128x128
  | 2 => extractStridedSlice S128x128 ![0, 256] t slices_S128x512_o0_256_S128x128
  | 3 => extractStridedSlice S128x128 ![0, 384] t slices_S128x512_o0_384_S128x128

/-- Group `g` of a tile of 256 rows: its 128 rows. -/
def rows {α : Type} (g : Fin 2) (x : S256x128.Idx → α) : S128x128.Idx → α :=
  match g with
  | 0 => extractStridedSlice S128x128 ![0, 0] x slices_S256x128_o0_0_S128x128
  | 1 => extractStridedSlice S128x128 ![128, 0] x slices_S256x128_o128_0_S128x128

/-- The word by which piece `c` starts after its block. -/
def pieceW (c : Fin 4) : BitVec 32 := BitVec.ofNat 32 (128 * c.val)

/-- A piece under the mask: a score stays where its key's position is at least the row's first visible position and at
    most the row's own; elsewhere minus infinity. `lo` and `pos` are those two words of every row, `lane` the position
    within the piece, `j` the block. -/
def masked (lo pos lane : IVec S256x128 32) (j : BitVec 32) (g : Fin 2) (c : Fin 4) (x : FVec F S128x128 .f32) : FVec F S128x128 .f32 :=
  let k : IVec S128x128 32 := addi (broadcast S128x128 (Scalar.addi (Scalar.muli j 512#32) (pieceW c))) (rows g lane)
  select (andi (cmpi .sge k (rows g lo)) (cmpi .sle k (rows g pos))) x (broadcast S128x128 (Scalar.ofBits .f32 0xFF800000#32))

/-- Piece `(g, c)` as stored: under the mask unless the block is `full`. -/
def piece (full : Bool) (lo pos lane : IVec S256x128 32) (j : BitVec 32) (kc : Vec F S1x512x128 .fp8e4m3) (mq : Vec F S1x1x1x16x128 .bf16)
    (sk : Vec F S1x1x1x512 .f32) (q : Fin 2 → Vec F S1x128x128 .fp8e4m3) (s : Fin 2 → Elt F .f32) (g : Fin 2) (c : Fin 4) :
    FVec F S128x128 .f32 :=
  match full with
  | true => cut c (score g kc mq sk (q g) (s g))
  | false => masked lo pos lane j g c (cut c (score g kc mq sk (q g) (s g)))

/-- The running maximum of group `g` after the four pieces of a block. -/
def maxGroup (acc : FVec F S256x128 .f32) (p : Fin 2 → Fin 4 → FVec F S128x128 .f32) (g : Fin 2) : FVec F S128x128 .f32 :=
  maximumf (maximumf (maximumf (maximumf (rows g acc) (p g 0)) (p g 1)) (p g 2)) (p g 3)

/-- The running maximum after a block. -/
def maxStep (acc : FVec F S256x128 .f32) (p : Fin 2 → Fin 4 → FVec F S128x128 .f32) : FVec F S256x128 .f32 :=
  concatenate S256x128 0 [⟨S128x128, maxGroup acc p 0⟩, ⟨S128x128, maxGroup acc p 1⟩] concatenates_S128x128_S128x128_S256x128_d0

/-- Columns `128 c …` of a block's scores over all 256 rows. -/
def both (p : Fin 2 → Fin 4 → FVec F S128x128 .f32) (c : Fin 4) : FVec F S256x128 .f32 := fun x =>
  p ⟨(x 0).val / 128, by have h : (x 0).val < 256 := (x 0).isLt; omega⟩ c
    (ix2 ⟨(x 0).val % 128, Nat.mod_lt _ (by omega)⟩ ⟨(x 1).val, by have h : (x 1).val < 128 := (x 1).isLt; exact h⟩)

/-- The second pass over a block: the sums of weights and of weighted values, from the row maxima `ms`, the scores `X`
    and the values `v`. -/
def sumStep (ms : FVec F S256x128 .f32) (X : Fin 4 → FVec F S256x128 .f32) (v : Vec F S1x512x128 .fp8e4m3)
    (lo : FVec F S256x128 .f32 × FVec F S256x128 .f32) : FVec F S256x128 .f32 × FVec F S256x128 .f32 :=
  (k0_pay144 ms (k0_pay125 (k0_pay141 ms) lo.1 (X 0) (X 1) (X 2)) (X 3),
   k0_pay145 ms lo.2 (k0_pay121 (k0_pay141 ms) (X 0)) (k0_pay123 (k0_pay141 ms) (X 1)) (k0_pay126 (k0_pay141 ms) (X 2)) (X 3) v)

/-- A value carried over `n` trips. -/
def carry {α : Type} (n : Nat) (f : Fin n → α → α) (a : α) : Nat → α
  | 0 => a
  | k + 1 => if h : k < n then f ⟨k, h⟩ (carry n f a k) else carry n f a k

theorem carry_succ {α : Type} {n : Nat} (f : Fin n → α → α) (a : α) (k : Fin n) :
    carry n f a (k.val + 1) = f k (carry n f a k.val) := by
  rw [carry, dif_pos k.isLt]

/-! ## Windows of the staged blocks -/

theorem kblk_inb (j : Fin 32) : ∀ a, (![0, 512 * j.val, 0] : Fin 3 → ℕ) a + S1x512x128.size a ≤ S1x16384x128.size a := by
  intro a; have := j.isLt; fin_cases a
  · exact Nat.le_refl 1
  · show 512 * j.val + 512 ≤ 16384; omega
  · exact Nat.le_refl 128

/-- Block `j` of the keys (or of the values). -/
def kblk (x : Vec F S1x16384x128 .fp8e4m3) (j : Fin 32) : Vec F S1x512x128 .fp8e4m3 :=
  VecWindow.window x ![0, 512 * j.val, 0] S1x512x128.size (kblk_inb j)

theorem sblk_inb (j : Fin 32) : ∀ a, (![0, 0, 0, 512 * j.val] : Fin 4 → ℕ) a + S1x1x1x512.size a ≤ S1x1x1x16384.size a := by
  intro a; have := j.isLt; fin_cases a
  · exact Nat.le_refl 1
  · exact Nat.le_refl 1
  · exact Nat.le_refl 1
  · show 512 * j.val + 512 ≤ 16384; omega

/-- Block `j` of the key scales. -/
def sblk (x : Vec F S1x1x1x16384 .f32) (j : Fin 32) : Vec F S1x1x1x512 .f32 :=
  VecWindow.window x ![0, 0, 0, 512 * j.val] S1x1x1x512.size (sblk_inb j)

theorem qgrp_inb (g : Fin 2) : ∀ a, (![0, 128 * g.val, 0] : Fin 3 → ℕ) a + S1x128x128.size a ≤ S1x256x128.size a := by
  intro a; have := g.isLt; fin_cases a
  · exact Nat.le_refl 1
  · show 128 * g.val + 128 ≤ 256; omega
  · exact Nat.le_refl 128

/-- Group `g` of the query rows. -/
def qgrp (x : Vec F S1x256x128 .fp8e4m3) (g : Fin 2) : Vec F S1x128x128 .fp8e4m3 :=
  VecWindow.window x ![0, 128 * g.val, 0] S1x128x128.size (qgrp_inb g)

/-- The quantisation scale of group `g` at point `i`. -/
def qsc (x : Vec F S4x8x128 .f32) (i : grid0.Coords) (g : Fin 2) : Elt F .f32 :=
  x (ix3 ⟨(i 0).val, (i 0).isLt⟩ ⟨(i 1).val, (i 1).isLt⟩ ⟨2 * (i 2).val + g.val, by have h : (i 2).val < 64 := (i 2).isLt; omega⟩)

/-- The key block of trip `t`. -/
def Lo.blk {i : grid0.Coords} {v : BitVec 32} {n : Nat} (h : Lo i v n) (t : Fin (k0_t1_loop i v).trips) : Fin 32 :=
  ⟨n / 512 + t.val, lt_of_lt_of_le (h.block t) h.n_lt.2⟩

/-- What trip `t` stores: the pieces of its block, from the staged blocks `x4 … x9`. -/
def tile {i : grid0.Coords} {v : BitVec 32} {n : Nat} (h : Lo i v n) (w b r : BitVec 32) (lo : Vec F S1x1x1x256 .i32)
    (lane : IVec S256x128 32) (x4 : Vec F S4x8x128 .f32) (x5 : Vec F S1x256x128 .fp8e4m3) (x6 : Vec F S1x16384x128 .fp8e4m3)
    (x8 : Vec F S1x1x1x16x128 .bf16) (x9 : Vec F S1x1x1x16384 .f32) (t : Fin (k0_t1_loop i v).trips) :
    Fin 2 → Fin 4 → FVec F S128x128 .f32 :=
  piece (decide (k0_cond1 i v w t = 1#1)) (k0_pay134 lo) (k0_pay135 r) lane (Scf.iv b 1#32 t) (kblk x6 (h.blk t)) x8 (sblk x9 (h.blk t))
    (qgrp x5) (qsc x4 i)

/-! ## The scratch buffer of scores -/

/-- Position `(r, 128 c + l)` of block `j` in the score buffer. -/
def scoreAt (j : Fin 32) (c : Fin 4) (y : S256x128.Idx) : S256x16384.Idx :=
  ix2 ⟨(y 0).val, (y 0).isLt⟩ ⟨512 * j.val + 128 * c.val + (y 1).val, by have h : (y 1).val < 128 := (y 1).isLt; omega⟩

section Writes

variable {sig : RefSig} {κ : Kind} {sp : Space} (v : View sig κ sp S256x16384 .f32) (f : v.ty.Contents (Elt F))
  (j : Fin 32) (o : Fin 2 → Fin 4 → Fin 2 → ℕ) (ho : ∀ g c, o g c = ![128 * g.val, 512 * j.val + 128 * c.val])
  (inb : ∀ g c a, o g c a + S128x128.size a ≤ S256x16384.size a) (w : Fin 2 → Fin 4 → FVec F S128x128 .f32)

/-- The eight pieces of a block, newest first. -/
abbrev pieces : List (View.Piece (Elt F) S256x16384 .f32) :=
  [⟨Rect.unit (o 1 3) S128x128.size (inb 1 3), w 1 3⟩, ⟨Rect.unit (o 1 2) S128x128.size (inb 1 2), w 1 2⟩,
   ⟨Rect.unit (o 1 1) S128x128.size (inb 1 1), w 1 1⟩, ⟨Rect.unit (o 1 0) S128x128.size (inb 1 0), w 1 0⟩,
   ⟨Rect.unit (o 0 3) S128x128.size (inb 0 3), w 0 3⟩, ⟨Rect.unit (o 0 2) S128x128.size (inb 0 2), w 0 2⟩,
   ⟨Rect.unit (o 0 1) S128x128.size (inb 0 1), w 0 1⟩, ⟨Rect.unit (o 0 0) S128x128.size (inb 0 0), w 0 0⟩]

include ho in
/-- Outside the block's columns the stores change nothing. -/
theorem pieces_far (y : S256x16384.Idx) (hy : (y 1).val < 512 * j.val ∨ 512 * j.val + 512 ≤ (y 1).val) :
    v.read (Elt F) (v.writes (Elt F) f (pieces o inb w)) y = v.read (Elt F) f y := by
  have go : ∀ (g : Fin 2) (c : Fin 4) (L : List (View.Piece (Elt F) S256x16384 .f32)),
      v.read (Elt F) (v.writes (Elt F) f (⟨Rect.unit (o g c) S128x128.size (inb g c), w g c⟩ :: L)) y
        = v.read (Elt F) (v.writes (Elt F) f L) y := fun g c L =>
    View.read_writes_cons_unit_of_not_mem v f (inb g c) (w g c) L y (ho g c) 1 (by
      have := c.isLt
      show (y 1).val < 512 * j.val + 128 * c.val ∨ 512 * j.val + 128 * c.val + 128 ≤ (y 1).val
      omega)
  unfold pieces
  rw [go, go, go, go, go, go, go, go]; rfl

include ho in
/-- Within the block's columns the stores leave the pieces. -/
theorem pieces_near (c : Fin 4) (y : S256x128.Idx) :
    v.read (Elt F) (v.writes (Elt F) f (pieces o inb w)) (scoreAt j c y) = both w c y := by
  have h0 : (y 0).val < 256 := (y 0).isLt
  have h1 : (y 1).val < 128 := (y 1).isLt
  have miss : ∀ (g' : Fin 2) (c' : Fin 4) (L : List (View.Piece (Elt F) S256x16384 .f32)), (g'.val ≠ (y 0).val / 128 ∨ c' ≠ c) →
      v.read (Elt F) (v.writes (Elt F) f (⟨Rect.unit (o g' c') S128x128.size (inb g' c'), w g' c'⟩ :: L)) (scoreAt j c y)
        = v.read (Elt F) (v.writes (Elt F) f L) (scoreAt j c y) := fun g' c' L h => by
    rcases h with h | h
    · refine View.read_writes_cons_unit_of_not_mem v f (inb g' c') (w g' c') L _ (ho g' c') 0 ?_
      show (y 0).val < 128 * g'.val ∨ 128 * g'.val + 128 ≤ (y 0).val
      omega
    · refine View.read_writes_cons_unit_of_not_mem v f (inb g' c') (w g' c') L _ (ho g' c') 1 ?_
      have : c'.val ≠ c.val := fun e => h (Fin.ext e)
      show 512 * j.val + 128 * c.val + (y 1).val < 512 * j.val + 128 * c'.val
        ∨ 512 * j.val + 128 * c'.val + 128 ≤ 512 * j.val + 128 * c.val + (y 1).val
      omega
  have hit : ∀ (g : Fin 2) (L : List (View.Piece (Elt F) S256x16384 .f32)), g.val = (y 0).val / 128 →
      v.read (Elt F) (v.writes (Elt F) f (⟨Rect.unit (o g c) S128x128.size (inb g c), w g c⟩ :: L)) (scoreAt j c y) = both w c y :=
    fun g L hg => by
      have e : (⟨(y 0).val / 128, by omega⟩ : Fin 2) = g := Fin.ext hg.symm
      unfold both
      rw [e]
      refine View.read_writes_cons_unit_of_mem v f (inb g c) (w g c) L _ _ (ho g c) (fun a => ?_)
      fin_cases a
      · show (y 0).val = 128 * g.val + (y 0).val % 128
        omega
      · show 512 * j.val + 128 * c.val + (y 1).val = 512 * j.val + 128 * c.val + (y 1).val
        rfl
  unfold pieces
  rcases (show (y 0).val / 128 = 0 ∨ (y 0).val / 128 = 1 by omega) with hg | hg
  · rw [miss 1 3 _ (.inl (by rw [hg]; decide)), miss 1 2 _ (.inl (by rw [hg]; decide)), miss 1 1 _ (.inl (by rw [hg]; decide)),
      miss 1 0 _ (.inl (by rw [hg]; decide))]
    fin_cases c
    · rw [miss 0 3 _ (.inr (by decide)), miss 0 2 _ (.inr (by decide)), miss 0 1 _ (.inr (by decide))]
      exact hit 0 _ hg.symm
    · rw [miss 0 3 _ (.inr (by decide)), miss 0 2 _ (.inr (by decide))]
      exact hit 0 _ hg.symm
    · rw [miss 0 3 _ (.inr (by decide))]
      exact hit 0 _ hg.symm
    · exact hit 0 _ hg.symm
  · fin_cases c
    · rw [miss 1 3 _ (.inr (by decide)), miss 1 2 _ (.inr (by decide)), miss 1 1 _ (.inr (by decide))]
      exact hit 1 _ hg.symm
    · rw [miss 1 3 _ (.inr (by decide)), miss 1 2 _ (.inr (by decide))]
      exact hit 1 _ hg.symm
    · rw [miss 1 3 _ (.inr (by decide))]
      exact hit 1 _ hg.symm
    · exact hit 1 _ hg.symm

end Writes

end Cert.Proof.KernelIdeal

end
-- ==== Proof.KI.Payloads.lean ====
/-
  The program's stored payloads and carried maxima are the functions of the tiles module: every name the printer gives a
  stretch of vector operations is opened once, here, at variables.
-/
module

public import proofs.«01_k».proof.Proof.KI.Tiles

@[expose] public section

noncomputable section

namespace Cert.Proof.KernelIdeal

open Cert.KernelIdeal Cert.KernelIdeal.Gen
open Idealize.ShloMosaic Idealize.ShloMosaic.TcCoe

variable {F : FTy → Type} [FloatOps F]
variable (lo : Vec F S1x1x1x256 .i32) (r : BitVec 32) (lane : IVec S256x128 32) (j : BitVec 32) (kc : Vec F S1x512x128 .fp8e4m3)
  (mq : Vec F S1x1x1x16x128 .bf16) (sk : Vec F S1x1x1x512 .f32) (q : Fin 2 → Vec F S1x128x128 .fp8e4m3) (s : Fin 2 → Elt F .f32)
  (acc : FVec F S256x128 .f32)

theorem st00 : k0_pay8 (k0_pay7 kc mq sk (q 0) (s 0))
    = piece true (k0_pay134 lo) (k0_pay135 r) lane j kc mq sk q s 0 0 := by
  simp only [piece, score, cut, masked, rows, pieceW, shapeCast_self, k0_pay2, k0_pay3, k0_pay4, k0_pay5, k0_pay7, k0_pay8]
  rfl

theorem st01 : k0_pay10 (k0_pay5 kc mq sk (q 0) (s 0))
    = piece true (k0_pay134 lo) (k0_pay135 r) lane j kc mq sk q s 0 1 := by
  simp only [piece, score, cut, masked, rows, pieceW, shapeCast_self, k0_pay2, k0_pay3, k0_pay4, k0_pay5, k0_pay9, k0_pay10]
  rfl

theorem st02 : k0_pay12 (k0_pay5 kc mq sk (q 0) (s 0))
    = piece true (k0_pay134 lo) (k0_pay135 r) lane j kc mq sk q s 0 2 := by
  simp only [piece, score, cut, masked, rows, pieceW, shapeCast_self, k0_pay2, k0_pay3, k0_pay4, k0_pay5, k0_pay11, k0_pay12]
  rfl

theorem st03 : k0_pay14 (k0_pay5 kc mq sk (q 0) (s 0))
    = piece true (k0_pay134 lo) (k0_pay135 r) lane j kc mq sk q s 0 3 := by
  simp only [piece, score, cut, masked, rows, pieceW, shapeCast_self, k0_pay2, k0_pay3, k0_pay4, k0_pay5, k0_pay13, k0_pay14]
  rfl

theorem st10 : k0_pay20 (k0_pay4 kc mq sk) (k0_pay16 (k0_pay2 kc) (q 1)) (k0_pay17 (k0_pay3 sk) (s 1))
    = piece true (k0_pay134 lo) (k0_pay135 r) lane j kc mq sk q s 1 0 := by
  simp only [piece, score, cut, masked, rows, pieceW, shapeCast_self, k0_pay2, k0_pay3, k0_pay4, k0_pay16, k0_pay17, k0_pay18, k0_pay19, k0_pay20]
  rfl

theorem st11 : k0_pay22 (k0_pay4 kc mq sk) (k0_pay16 (k0_pay2 kc) (q 1)) (k0_pay17 (k0_pay3 sk) (s 1))
    = piece true (k0_pay134 lo) (k0_pay135 r) lane j kc mq sk q s 1 1 := by
  simp only [piece, score, cut, masked, rows, pieceW, shapeCast_self, k0_pay2, k0_pay3, k0_pay4, k0_pay16, k0_pay17, k0_pay18, k0_pay21, k0_pay22]
  rfl

theorem st12 : k0_pay24 (k0_pay4 kc mq sk) (k0_pay16 (k0_pay2 kc) (q 1)) (k0_pay17 (k0_pay3 sk) (s 1))
    = piece true (k0_pay134 lo) (k0_pay135 r) lane j kc mq sk q s 1 2 := by
  simp only [piece, score, cut, masked, rows, pieceW, shapeCast_self, k0_pay2, k0_pay3, k0_pay4, k0_pay16, k0_pay17, k0_pay18, k0_pay23, k0_pay24]
  rfl

theorem st13 : k0_pay26 (k0_pay4 kc mq sk) (k0_pay16 (k0_pay2 kc) (q 1)) (k0_pay17 (k0_pay3 sk) (s 1))
    = piece true (k0_pay134 lo) (k0_pay135 r) lane j kc mq sk q s 1 3 := by
  simp only [piece, score, cut, masked, rows, pieceW, shapeCast_self, k0_pay2, k0_pay3, k0_pay4, k0_pay16, k0_pay17, k0_pay18, k0_pay25, k0_pay26]
  rfl

theorem mt00 : k0_pay37 (k0_pay135 r) (k0_pay33 kc mq sk (q 0) (s 0)) (k0_pay34 lane j) (k0_pay35 (k0_pay134 lo))
    = piece false (k0_pay134 lo) (k0_pay135 r) lane j kc mq sk q s 0 0 := by
  simp only [piece, score, cut, masked, rows, pieceW, shapeCast_self, k0_pay28, k0_pay29, k0_pay30, k0_pay31, k0_pay33, k0_pay34, k0_pay35, k0_pay36, k0_pay37]
  rfl

theorem mt01 : k0_pay39 (k0_pay134 lo) (k0_pay135 r) lane j (k0_pay31 kc mq sk (q 0) (s 0))
    = piece false (k0_pay134 lo) (k0_pay135 r) lane j kc mq sk q s 0 1 := by
  simp only [piece, score, cut, masked, rows, pieceW, shapeCast_self, k0_pay28, k0_pay29, k0_pay30, k0_pay31, k0_pay38, k0_pay39]
  rfl

theorem mt02 : k0_pay44 (k0_pay41 (k0_pay31 kc mq sk (q 0) (s 0))) (k0_pay42 (k0_pay134 lo) (k0_pay135 r) lane j)
    = piece false (k0_pay134 lo) (k0_pay135 r) lane j kc mq sk q s 0 2 := by
  simp only [piece, score, cut, masked, rows, pieceW, shapeCast_self, k0_pay28, k0_pay29, k0_pay30, k0_pay31, k0_pay41, k0_pay42, k0_pay43, k0_pay44]
  rfl

theorem mt03 : k0_pay46 (k0_pay134 lo) (k0_pay135 r) lane j (k0_pay31 kc mq sk (q 0) (s 0))
    = piece false (k0_pay134 lo) (k0_pay135 r) lane j kc mq sk q s 0 3 := by
  simp only [piece, score, cut, masked, rows, pieceW, shapeCast_self, k0_pay28, k0_pay29, k0_pay30, k0_pay31, k0_pay45, k0_pay46]
  rfl

theorem mt10 : k0_pay52 (k0_pay134 lo) (k0_pay135 r) lane j (k0_pay30 kc mq sk) (k0_pay48 (k0_pay28 kc) (q 1)) (k0_pay49 (k0_pay29 sk) (s 1))
    = piece false (k0_pay134 lo) (k0_pay135 r) lane j kc mq sk q s 1 0 := by
  simp only [piece, score, cut, masked, rows, pieceW, shapeCast_self, k0_pay28, k0_pay29, k0_pay30, k0_pay48, k0_pay49, k0_pay50, k0_pay51, k0_pay52]
  rfl

theorem mt11 : k0_pay55 (k0_pay134 lo) (k0_pay135 r) lane j (k0_pay30 kc mq sk) (k0_pay48 (k0_pay28 kc) (q 1)) (k0_pay49 (k0_pay29 sk) (s 1))
    = piece false (k0_pay134 lo) (k0_pay135 r) lane j kc mq sk q s 1 1 := by
  simp only [piece, score, cut, masked, rows, pieceW, shapeCast_self, k0_pay28, k0_pay29, k0_pay30, k0_pay48, k0_pay49, k0_pay50, k0_pay54, k0_pay55]
  rfl

theorem mt12 : k0_pay57 (k0_pay134 lo) (k0_pay135 r) lane j (k0_pay50 (k0_pay30 kc mq sk) (k0_pay48 (k0_pay28 kc) (q 1)) (k0_pay49 (k0_pay29 sk) (s 1)))
    = piece false (k0_pay134 lo) (k0_pay135 r) lane j kc mq sk q s 1 2 := by
  simp only [piece, score, cut, masked, rows, pieceW, shapeCast_self, k0_pay28, k0_pay29, k0_pay30, k0_pay48, k0_pay49, k0_pay50, k0_pay56, k0_pay57]
  rfl

theorem mt13 : k0_pay60 (k0_pay134 lo) (k0_pay135 r) lane j (k0_pay50 (k0_pay30 kc mq sk) (k0_pay48 (k0_pay28 kc) (q 1)) (k0_pay49 (k0_pay29 sk) (s 1)))
    = piece false (k0_pay134 lo) (k0_pay135 r) lane j kc mq sk q s 1 3 := by
  simp only [piece, score, cut, masked, rows, pieceW, shapeCast_self, k0_pay28, k0_pay29, k0_pay30, k0_pay48, k0_pay49, k0_pay50, k0_pay59, k0_pay60]
  rfl

theorem max_full : k0_pay137 (k0_pay15 (k0_pay5 kc mq sk (q 0) (s 0)) (k0_pay6 acc) (k0_pay7 kc mq sk (q 0) (s 0))) (k0_pay27 acc (k0_pay4 kc mq sk) (k0_pay16 (k0_pay2 kc) (q 1)) (k0_pay17 (k0_pay3 sk) (s 1)))
    = maxStep acc (piece true (k0_pay134 lo) (k0_pay135 r) lane j kc mq sk q s) := by
  simp only [maxStep, maxGroup, piece, score, cut, masked, rows, pieceW, shapeCast_self, k0_pay2, k0_pay3, k0_pay4, k0_pay5, k0_pay6, k0_pay7, k0_pay9, k0_pay11, k0_pay13, k0_pay15, k0_pay16, k0_pay17, k0_pay18, k0_pay19, k0_pay21, k0_pay23, k0_pay25, k0_pay27, k0_pay137]
  rfl

theorem max_mask : k0_pay138 (k0_pay47 (k0_pay134 lo) (k0_pay135 r) lane j (k0_pay31 kc mq sk (q 0) (s 0)) (k0_pay40 (k0_pay134 lo) (k0_pay135 r) lane j (k0_pay31 kc mq sk (q 0) (s 0)) (k0_pay32 acc) (k0_pay33 kc mq sk (q 0) (s 0)) (k0_pay34 lane j) (k0_pay35 (k0_pay134 lo))) (k0_pay41 (k0_pay31 kc mq sk (q 0) (s 0))) (k0_pay42 (k0_pay134 lo) (k0_pay135 r) lane j))
      (k0_pay58 (k0_pay134 lo) (k0_pay135 r) lane j (k0_pay50 (k0_pay30 kc mq sk) (k0_pay48 (k0_pay28 kc) (q 1)) (k0_pay49 (k0_pay29 sk) (s 1))) (k0_pay53 (k0_pay134 lo) (k0_pay135 r) lane acc j (k0_pay30 kc mq sk) (k0_pay48 (k0_pay28 kc) (q 1)) (k0_pay49 (k0_pay29 sk) (s 1))) (k0_pay54 (k0_pay134 lo) (k0_pay135 r) lane j (k0_pay30 kc mq sk) (k0_pay48 (k0_pay28 kc) (q 1)) (k0_pay49 (k0_pay29 sk) (s 1)))) (k0_pay59 (k0_pay134 lo) (k0_pay135 r) lane j (k0_pay50 (k0_pay30 kc mq sk) (k0_pay48 (k0_pay28 kc) (q 1)) (k0_pay49 (k0_pay29 sk) (s 1))))
    = maxStep acc (piece false (k0_pay134 lo) (k0_pay135 r) lane j kc mq sk q s) := by
  simp only [maxStep, maxGroup, piece, score, cut, masked, rows, pieceW, shapeCast_self, k0_pay28, k0_pay29, k0_pay30, k0_pay31, k0_pay32, k0_pay33, k0_pay34, k0_pay35, k0_pay36, k0_pay38, k0_pay40, k0_pay41, k0_pay42, k0_pay43, k0_pay45, k0_pay47, k0_pay48, k0_pay49, k0_pay50, k0_pay51, k0_pay53, k0_pay54, k0_pay56, k0_pay58, k0_pay59, k0_pay138]
  rfl

end Cert.Proof.KernelIdeal

end
-- ==== Proof.KI.Body.lean ====
module

public import proofs.«01_k».proof.Proof.KI.Payloads
public import Idealize.ShloMosaic.Lib.LoopRemainder
public import Idealize.ShloMosaic.Lib.WritesUnit
public import Idealize.ShloMosaic.Lib.Tactic

/-! # The two passes over the keys

The body loops over blocks of 512 keys twice: once to compute the scores, with the mask on the blocks that need it, and the
maximum of each row; once to weigh the values. -/

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A word-memory read of one query scale. -/
theorem smem_scale (i : grid0.Coords) (arg4 : Memref sig .tc .smem S4x8x128 .f32) (X4 : BufTy.Contents (Elt F) arg4.view.ty) (g : Fin 2)
    {off : Fin 3 → ℕ} (h : off = ![(i 0).val, (i 1).val, 2 * (i 2).val + g.val]) (inb : ∀ a, off a + S1x1x1.size a ≤ S4x8x128.size a) (hp) :
    View.readAt (Elt F) arg4.view (Rect.unit (s := S4x8x128) off S1x1x1.size inb).toLoadRect X4 (Shape.Idx.first hp)
      = qsc (arg4.view.read (Elt F) X4) i g := by
  subst h
  refine congrArg (arg4.view.read (Elt F) X4) (funext fun a => Fin.ext ?_)
  fin_cases a <;> rfl

/-! ## The offsets of a trip's eight stores, in the two branches -/

theorem offs_off6 {i : grid0.Coords} {v : BitVec 32} {n : Nat} (h : Lo i v n) (t : Fin (k0_t1_loop i v).trips) (g : Fin 2) (c : Fin 4) :
    (![![k0_off6 i v t 0#32, k0_off6 i v t 128#32, k0_off6 i v t 256#32, k0_off6 i v t 384#32],
      ![k0_off7 i v t 0#32, k0_off7 i v t 128#32, k0_off7 i v t 256#32, k0_off7 i v t 384#32]] : Fin 2 → Fin 4 → Fin 2 → ℕ) g c = ![128 * g.val, 512 * (h.blk t).val + 128 * c.val] := by
  fin_cases g <;> fin_cases c
  · exact h.off6 t 0 (by omega)
  · exact h.off6 t 128 (by omega)
  · exact h.off6 t 256 (by omega)
  · exact h.off6 t 384 (by omega)
  · exact h.off7 t 0 (by omega)
  · exact h.off7 t 128 (by omega)
  · exact h.off7 t 256 (by omega)
  · exact h.off7 t 384 (by omega)

theorem inb_off6 {i : grid0.Coords} {v : BitVec 32} {n : Nat} (h : Lo i v n) (t : Fin (k0_t1_loop i v).trips) (g : Fin 2) (c : Fin 4)
    (a : Fin 2) :
    (![![k0_off6 i v t 0#32, k0_off6 i v t 128#32, k0_off6 i v t 256#32, k0_off6 i v t 384#32],
      ![k0_off7 i v t 0#32, k0_off7 i v t 128#32, k0_off7 i v t 256#32, k0_off7 i v t 384#32]] : Fin 2 → Fin 4 → Fin 2 → ℕ) g c a + S128x128.size a ≤ S256x16384.size a := by
  have e := congrFun (offs_off6 h t g c) a
  refine le_trans (Nat.add_le_add_right (le_of_eq e) _) ?_
  have hb := (h.blk t).isLt
  have hg := g.isLt
  have hcc := c.isLt
  fin_cases a
  · show 128 * g.val + 128 ≤ 256; omega
  · show 512 * (h.blk t).val + 128 * c.val + 128 ≤ 16384; omega

theorem offs_off11 {i : grid0.Coords} {v : BitVec 32} {n : Nat} (h : Lo i v n) (t : Fin (k0_t1_loop i v).trips) (g : Fin 2) (c : Fin 4) :
    (![![k0_off11 i v t 0#32, k0_off11 i v t 128#32, k0_off11 i v t 256#32, k0_off11 i v t 384#32],
      ![k0_off12 i v t 0#32, k0_off12 i v t 128#32, k0_off12 i v t 256#32, k0_off12 i v t 384#32]] : Fin 2 → Fin 4 → Fin 2 → ℕ) g c = ![128 * g.val, 512 * (h.blk t).val + 128 * c.val] := by
  fin_cases g <;> fin_cases c
  · exact h.off11 t 0 (by omega)
  · exact h.off11 t 128 (by omega)
  · exact h.off11 t 256 (by omega)
  · exact h.off11 t 384 (by omega)
  · exact h.off12 t 0 (by omega)
  · exact h.off12 t 128 (by omega)
  · exact h.off12 t 256 (by omega)
  · exact h.off12 t 384 (by omega)

theorem inb_off11 {i : grid0.Coords} {v : BitVec 32} {n : Nat} (h : Lo i v n) (t : Fin (k0_t1_loop i v).trips) (g : Fin 2) (c : Fin 4)
    (a : Fin 2) :
    (![![k0_off11 i v t 0#32, k0_off11 i v t 128#32, k0_off11 i v t 256#32, k0_off11 i v t 384#32],
      ![k0_off12 i v t 0#32, k0_off12 i v t 128#32, k0_off12 i v t 256#32, k0_off12 i v t 384#32]] : Fin 2 → Fin 4 → Fin 2 → ℕ) g c a + S128x128.size a ≤ S256x16384.size a := by
  have e := congrFun (offs_off11 h t g c) a
  refine le_trans (Nat.add_le_add_right (le_of_eq e) _) ?_
  have hb := (h.blk t).isLt
  have hg := g.isLt
  have hcc := c.isLt
  fin_cases a
  · show 128 * g.val + 128 ≤ 256; omega
  · show 512 * (h.blk t).val + 128 * c.val + 128 ≤ 16384; omega

section Trip
variable (c : Dev nD) (i : grid0.Coords)
  (arg3 : Memref sig .tc .smem S4x256 .i32) (harg3 : arg3.IsWhole) (arg4 : Memref sig .tc .smem S4x8x128 .f32) (harg4 : arg4.IsWhole)
  (arg5 : Memref sig .tc .vmem S1x256x128 .fp8e4m3) (harg5 : arg5.IsWhole) (arg6 : Memref sig .tc .vmem S1x16384x128 .fp8e4m3) (harg6 : arg6.IsWhole)
  (arg7 : Memref sig .tc .vmem S1x16384x128 .fp8e4m3) (harg7 : arg7.IsWhole) (arg8 : Memref sig .tc .vmem S1x1x1x16x128 .bf16) (harg8 : arg8.IsWhole)
  (arg9 : Memref sig .tc .vmem S1x1x1x16384 .f32) (harg9 : arg9.IsWhole) (arg10 : Memref sig .tc .vmem S1x1x1x128 .f32) (harg10 : arg10.IsWhole)
  (arg11 : Memref sig .tc .vmem S1x1x1x256 .i32) (harg11 : arg11.IsWhole) (arg12 : Memref sig .tc .vmem S1x256x128 .bf16) (harg12 : arg12.IsWhole)
  (arg13 : Memref sig .tc .vmem S256x16384 .f32) (harg13 : arg13.IsWhole)
  (arg0 arg1 arg2 v0 : BitVec 32) (v21 : Elt F .i32) (k0_hw1 : k0_chk1 i v21) (v45 : Elt F .i32) (k0_hw2 : k0_chk2 i v21 v45)
  (v62 v66 : BitVec 32) (v77 : BitVec 1) (v78 c0_i32_29 : BitVec 32) (v83 : Vec F S1x1x1x256 .i32) (v91 : IVec S256x128 32)
  (X4 : BufTy.Contents (Elt F) arg4.view.ty) (X5 : BufTy.Contents (Elt F) arg5.view.ty) (X6 : BufTy.Contents (Elt F) arg6.view.ty)
  (X8 : BufTy.Contents (Elt F) arg8.view.ty) (X9 : BufTy.Contents (Elt F) arg9.view.ty)

/-- The buffers the first loop reads. -/
abbrev Reads : sProp 𝕄 :=
  iprop((arg4.view.loc (c : Thread nD τ) ↦[arg4.view.set]{fullShare} X4) ∗ (arg5.view.loc (c : Thread nD τ) ↦[arg5.view.set]{fullShare} X5)
    ∗ (arg6.view.loc (c : Thread nD τ) ↦[arg6.view.set]{fullShare} X6) ∗ (arg8.view.loc (c : Thread nD τ) ↦[arg8.view.set]{fullShare} X8)
    ∗ (arg9.view.loc (c : Thread nD τ) ↦[arg9.view.set]{fullShare} X9))

/-- The contents after a trip: the trip's block holds its pieces, the rest is as before. -/
def Stored (j : Fin 32) (P : Fin 2 → Fin 4 → FVec F S128x128 .f32) (g g' : BufTy.Contents (Elt F) arg13.view.ty) : Prop :=
  (∀ c y, arg13.view.read (Elt F) g' (scoreAt j c y) = both P c y)
  ∧ ∀ y : S256x16384.Idx, ((y 1).val < 512 * j.val ∨ 512 * j.val + 512 ≤ (y 1).val) →
      arg13.view.read (Elt F) g' y = arg13.view.read (Elt F) g y

/-- The pieces of trip `t` from the buffers' contents. -/
abbrev tileX (n : Nat) (hlo : Lo i v21 n) (t : Fin (k0_t1_loop i v21).trips) : Fin 2 → Fin 4 → FVec F S128x128 .f32 :=
  tile hlo v45 v62 v0 v83 v91 (arg4.view.read (Elt F) X4) (arg5.view.read (Elt F) X5) (arg6.view.read (Elt F) X6)
    (arg8.view.read (Elt F) X8) (arg9.view.read (Elt F) X9) t

set_option maxHeartbeats 1000000 in
theorem trip_full (n : Nat) (hlo : Lo i v21 n) (E : Set ℕ) (t : Fin (k0_t1_loop i v21).trips) (acc : FVec F S256x128 .f32)
    (g : BufTy.Contents (Elt F) arg13.view.ty) (hc : (k0_cond1 i v21 v45 t = 1#1)) :
    iprop(Reads c arg4 arg5 arg6 arg8 arg9 X4 X5 X6 X8 X9 ∗ (arg13.view.loc (c : Thread nD τ) ↦[arg13.view.set]{fullShare} g))
      ⊢ wp frame (wpE (defs₀ (F := F)) Variants.none c none) E
        (k0_t1_body (F := F) i arg3 harg3 arg4 harg4 arg5 harg5 arg6 harg6 arg7 harg7 arg8 harg8 arg9 harg9 arg10 harg10 arg11 harg11 arg12 harg12 arg13 harg13 arg0 arg1 arg2 v0 v21 k0_hw1 v45 k0_hw2 v62 v66 v77 v78 c0_i32_29 v83 v91 t acc)
        (fun r => iprop(Reads c arg4 arg5 arg6 arg8 arg9 X4 X5 X6 X8 X9 ∗ ∃ g', (arg13.view.loc (c : Thread nD τ) ↦[arg13.view.set]{fullShare} g')
          ∗ ⌜r = maxStep acc (tileX i arg4 arg5 arg6 arg8 arg9 v0 v21 v45 v62 v83 v91 X4 X5 X6 X8 X9 n hlo t)
            ∧ Stored arg13 (hlo.blk t) (tileX i arg4 arg5 arg6 arg8 arg9 v0 v21 v45 v62 v83 v91 X4 X5 X6 X8 X9 n hlo t) g g'⌝)) := by
  unfold k0_t1_body Reads
  iintro ⟨⟨H4, H5, H6, H8, H9⟩, H13⟩
  simp only [dif_pos hc, k0_part3_eq_skeleton]; unfold k0_part3_skel
  simp only [k0_part1_eq_skeleton, k0_part2_eq_skeleton]; unfold k0_part1_skel k0_part2_skel
  sl_exec
  sl_step
  isplitl [H4 H5 H6 H8 H9]
  · isplitl [H4]; · iexact H4
    isplitl [H5]; · iexact H5
    isplitl [H6]; · iexact H6
    isplitl [H8]; · iexact H8
    iexact H9
  iexists _
  isplitl [H13]; · iexact H13
  ipureintro
  have hK : View.readAt (Elt F) arg6.view (Rect.unit (s := S1x16384x128) (k0_off3 i v21 t) S1x512x128.size (k0_off3_inb i v21 v45 k0_hw2 t hc)).toLoadRect X6
      = kblk (arg6.view.read (Elt F) X6) (hlo.blk t) := View.readAt_unit _ _ _ (hlo.off3 t) _
  have hS : View.readAt (Elt F) arg9.view (Rect.unit (s := S1x1x1x16384) (k0_off4 i v21 t) S1x1x1x512.size (k0_off4_inb i v21 v45 k0_hw2 t hc)).toLoadRect X9
      = sblk (arg9.view.read (Elt F) X9) (hlo.blk t) := View.readAt_unit _ _ _ (hlo.off4 t) _
  have hM : View.readAt (Elt F) arg8.view (Rect.unit (s := S1x1x1x16x128) ![0, 0, 0, 0, 0] S1x1x1x16x128.size inb_S1x1x1x16x128_S1x1x1x16x128_0_0_0_0_0).toLoadRect X8
      = arg8.view.read (Elt F) X8 := View.readAt_full _ _ _
  have hQ0 : View.readAt (Elt F) arg5.view (Rect.unit (s := S1x256x128) ![0, 0, 0] S1x128x128.size inb_S1x256x128_S1x128x128_0_0_0).toLoadRect X5
      = qgrp (arg5.view.read (Elt F) X5) 0 := rfl
  have hQ1 : View.readAt (Elt F) arg5.view (Rect.unit (s := S1x256x128) ![0, 128, 0] S1x128x128.size inb_S1x256x128_S1x128x128_0_128_0).toLoadRect X5
      = qgrp (arg5.view.read (Elt F) X5) 1 := rfl
  have hs0 : trip_full.sl.r i arg4 X4 = qsc (arg4.view.read (Elt F) X4) i 0 := smem_scale i arg4 X4 0 (Gen.k0_off5_eq i 0) _ _
  have hs1 : trip_full.sl.r_1 i arg4 X4 = qsc (arg4.view.read (Elt F) X4) i 1 := smem_scale i arg4 X4 1 (Gen.k0_off5_eq i 1) _ _
  simp only [hK, hS, hM, hQ0, hQ1, hs0, hs1]
  have hT : tileX i arg4 arg5 arg6 arg8 arg9 v0 v21 v45 v62 v83 v91 X4 X5 X6 X8 X9 n hlo t
      = piece true (k0_pay134 v83) (k0_pay135 v0) v91 (Scf.iv v62 1#32 t) (kblk (arg6.view.read (Elt F) X6) (hlo.blk t))
        (arg8.view.read (Elt F) X8) (sblk (arg9.view.read (Elt F) X9) (hlo.blk t)) (qgrp (arg5.view.read (Elt F) X5))
        (qsc (arg4.view.read (Elt F) X4) i) := by
    unfold tileX tile
    rw [decide_eq_true hc]
  rw [hT]
  simp only [st00 v83 v0 v91 (Scf.iv v62 1#32 t) (kblk (arg6.view.read (Elt F) X6) (hlo.blk t)) (arg8.view.read (Elt F) X8) (sblk (arg9.view.read (Elt F) X9) (hlo.blk t)) (qgrp (arg5.view.read (Elt F) X5)) (qsc (arg4.view.read (Elt F) X4) i),
      st01 v83 v0 v91 (Scf.iv v62 1#32 t) (kblk (arg6.view.read (Elt F) X6) (hlo.blk t)) (arg8.view.read (Elt F) X8) (sblk (arg9.view.read (Elt F) X9) (hlo.blk t)) (qgrp (arg5.view.read (Elt F) X5)) (qsc (arg4.view.read (Elt F) X4) i),
      st02 v83 v0 v91 (Scf.iv v62 1#32 t) (kblk (arg6.view.read (Elt F) X6) (hlo.blk t)) (arg8.view.read (Elt F) X8) (sblk (arg9.view.read (Elt F) X9) (hlo.blk t)) (qgrp (arg5.view.read (Elt F) X5)) (qsc (arg4.view.read (Elt F) X4) i),
      st03 v83 v0 v91 (Scf.iv v62 1#32 t) (kblk (arg6.view.read (Elt F) X6) (hlo.blk t)) (arg8.view.read (Elt F) X8) (sblk (arg9.view.read (Elt F) X9) (hlo.blk t)) (qgrp (arg5.view.read (Elt F) X5)) (qsc (arg4.view.read (Elt F) X4) i),
      st10 v83 v0 v91 (Scf.iv v62 1#32 t) (kblk (arg6.view.read (Elt F) X6) (hlo.blk t)) (arg8.view.read (Elt F) X8) (sblk (arg9.view.read (Elt F) X9) (hlo.blk t)) (qgrp (arg5.view.read (Elt F) X5)) (qsc (arg4.view.read (Elt F) X4) i),
      st11 v83 v0 v91 (Scf.iv v62 1#32 t) (kblk (arg6.view.read (Elt F) X6) (hlo.blk t)) (arg8.view.read (Elt F) X8) (sblk (arg9.view.read (Elt F) X9) (hlo.blk t)) (qgrp (arg5.view.read (Elt F) X5)) (qsc (arg4.view.read (Elt F) X4) i),
      st12 v83 v0 v91 (Scf.iv v62 1#32 t) (kblk (arg6.view.read (Elt F) X6) (hlo.blk t)) (arg8.view.read (Elt F) X8) (sblk (arg9.view.read (Elt F) X9) (hlo.blk t)) (qgrp (arg5.view.read (Elt F) X5)) (qsc (arg4.view.read (Elt F) X4) i),
      st13 v83 v0 v91 (Scf.iv v62 1#32 t) (kblk (arg6.view.read (Elt F) X6) (hlo.blk t)) (arg8.view.read (Elt F) X8) (sblk (arg9.view.read (Elt F) X9) (hlo.blk t)) (qgrp (arg5.view.read (Elt F) X5)) (qsc (arg4.view.read (Elt F) X4) i)]
  refine ⟨max_full v83 v0 v91 (Scf.iv v62 1#32 t) (kblk (arg6.view.read (Elt F) X6) (hlo.blk t)) (arg8.view.read (Elt F) X8) (sblk (arg9.view.read (Elt F) X9) (hlo.blk t)) (qgrp (arg5.view.read (Elt F) X5)) (qsc (arg4.view.read (Elt F) X4) i) acc, fun c' y => ?_, fun y hy => ?_⟩
  · exact pieces_near arg13.view g (hlo.blk t)
      ![![k0_off6 i v21 t 0#32, k0_off6 i v21 t 128#32, k0_off6 i v21 t 256#32, k0_off6 i v21 t 384#32],
        ![k0_off7 i v21 t 0#32, k0_off7 i v21 t 128#32, k0_off7 i v21 t 256#32, k0_off7 i v21 t 384#32]]
      (offs_off6 hlo t) (inb_off6 hlo t) _ c' y
  · exact pieces_far arg13.view g (hlo.blk t)
      ![![k0_off6 i v21 t 0#32, k0_off6 i v21 t 128#32, k0_off6 i v21 t 256#32, k0_off6 i v21 t 384#32],
        ![k0_off7 i v21 t 0#32, k0_off7 i v21 t 128#32, k0_off7 i v21 t 256#32, k0_off7 i v21 t 384#32]]
      (offs_off6 hlo t) (inb_off6 hlo t) _ y hy

set_option maxHeartbeats 1000000 in
theorem trip_mask (n : Nat) (hlo : Lo i v21 n) (E : Set ℕ) (t : Fin (k0_t1_loop i v21).trips) (acc : FVec F S256x128 .f32)
    (g : BufTy.Contents (Elt F) arg13.view.ty) (hc : ¬(k0_cond1 i v21 v45 t = 1#1)) :
    iprop(Reads c arg4 arg5 arg6 arg8 arg9 X4 X5 X6 X8 X9 ∗ (arg13.view.loc (c : Thread nD τ) ↦[arg13.view.set]{fullShare} g))
      ⊢ wp frame (wpE (defs₀ (F := F)) Variants.none c none) E
        (k0_t1_body (F := F) i arg3 harg3 arg4 harg4 arg5 harg5 arg6 harg6 arg7 harg7 arg8 harg8 arg9 harg9 arg10 harg10 arg11 harg11 arg12 harg12 arg13 harg13 arg0 arg1 arg2 v0 v21 k0_hw1 v45 k0_hw2 v62 v66 v77 v78 c0_i32_29 v83 v91 t acc)
        (fun r => iprop(Reads c arg4 arg5 arg6 arg8 arg9 X4 X5 X6 X8 X9 ∗ ∃ g', (arg13.view.loc (c : Thread nD τ) ↦[arg13.view.set]{fullShare} g')
          ∗ ⌜r = maxStep acc (tileX i arg4 arg5 arg6 arg8 arg9 v0 v21 v45 v62 v83 v91 X4 X5 X6 X8 X9 n hlo t)
            ∧ Stored arg13 (hlo.blk t) (tileX i arg4 arg5 arg6 arg8 arg9 v0 v21 v45 v62 v83 v91 X4 X5 X6 X8 X9 n hlo t) g g'⌝)) := by
  unfold k0_t1_body Reads
  iintro ⟨⟨H4, H5, H6, H8, H9⟩, H13⟩
  simp only [dif_neg hc, k0_part8_eq_skeleton]; unfold k0_part8_skel
  simp only [k0_part4_eq_skeleton, k0_part5_eq_skeleton, k0_part6_eq_skeleton, k0_part7_eq_skeleton]
  unfold k0_part4_skel k0_part5_skel k0_part6_skel k0_part7_skel
  sl_exec
  sl_step
  isplitl [H4 H5 H6 H8 H9]
  · isplitl [H4]; · iexact H4
    isplitl [H5]; · iexact H5
    isplitl [H6]; · iexact H6
    isplitl [H8]; · iexact H8
    iexact H9
  iexists _
  isplitl [H13]; · iexact H13
  ipureintro
  have hK : View.readAt (Elt F) arg6.view (Rect.unit (s := S1x16384x128) (k0_off8 i v21 t) S1x512x128.size (k0_off8_inb i v21 v45 k0_hw2 t hc)).toLoadRect X6
      = kblk (arg6.view.read (Elt F) X6) (hlo.blk t) := View.readAt_unit _ _ _ (hlo.off8 t) _
  have hS : View.readAt (Elt F) arg9.view (Rect.unit (s := S1x1x1x16384) (k0_off9 i v21 t) S1x1x1x512.size (k0_off9_inb i v21 v45 k0_hw2 t hc)).toLoadRect X9
      = sblk (arg9.view.read (Elt F) X9) (hlo.blk t) := View.readAt_unit _ _ _ (hlo.off9 t) _
  have hM : View.readAt (Elt F) arg8.view (Rect.unit (s := S1x1x1x16x128) ![0, 0, 0, 0, 0] S1x1x1x16x128.size inb_S1x1x1x16x128_S1x1x1x16x128_0_0_0_0_0).toLoadRect X8
      = arg8.view.read (Elt F) X8 := View.readAt_full _ _ _
  have hQ0 : View.readAt (Elt F) arg5.view (Rect.unit (s := S1x256x128) ![0, 0, 0] S1x128x128.size inb_S1x256x128_S1x128x128_0_0_0).toLoadRect X5
      = qgrp (arg5.view.read (Elt F) X5) 0 := rfl
  have hQ1 : View.readAt (Elt F) arg5.view (Rect.unit (s := S1x256x128) ![0, 128, 0] S1x128x128.size inb_S1x256x128_S1x128x128_0_128_0).toLoadRect X5
      = qgrp (arg5.view.read (Elt F) X5) 1 := rfl
  have hs0 : trip_mask.sl.r i arg4 X4 = qsc (arg4.view.read (Elt F) X4) i 0 := smem_scale i arg4 X4 0 (Gen.k0_off10_eq i 0) _ _
  have hs1 : trip_mask.sl.r_1 i arg4 X4 = qsc (arg4.view.read (Elt F) X4) i 1 := smem_scale i arg4 X4 1 (Gen.k0_off10_eq i 1) _ _
  simp only [hK, hS, hM, hQ0, hQ1, hs0, hs1]
  have hT : tileX i arg4 arg5 arg6 arg8 arg9 v0 v21 v45 v62 v83 v91 X4 X5 X6 X8 X9 n hlo t
      = piece false (k0_pay134 v83) (k0_pay135 v0) v91 (Scf.iv v62 1#32 t) (kblk (arg6.view.read (Elt F) X6) (hlo.blk t))
        (arg8.view.read (Elt F) X8) (sblk (arg9.view.read (Elt F) X9) (hlo.blk t)) (qgrp (arg5.view.read (Elt F) X5))
        (qsc (arg4.view.read (Elt F) X4) i) := by
    unfold tileX tile
    rw [decide_eq_false hc]
  rw [hT]
  simp only [mt00 v83 v0 v91 (Scf.iv v62 1#32 t) (kblk (arg6.view.read (Elt F) X6) (hlo.blk t)) (arg8.view.read (Elt F) X8) (sblk (arg9.view.read (Elt F) X9) (hlo.blk t)) (qgrp (arg5.view.read (Elt F) X5)) (qsc (arg4.view.read (Elt F) X4) i),
      mt01 v83 v0 v91 (Scf.iv v62 1#32 t) (kblk (arg6.view.read (Elt F) X6) (hlo.blk t)) (arg8.view.read (Elt F) X8) (sblk (arg9.view.read (Elt F) X9) (hlo.blk t)) (qgrp (arg5.view.read (Elt F) X5)) (qsc (arg4.view.read (Elt F) X4) i),
      mt02 v83 v0 v91 (Scf.iv v62 1#32 t) (kblk (arg6.view.read (Elt F) X6) (hlo.blk t)) (arg8.view.read (Elt F) X8) (sblk (arg9.view.read (Elt F) X9) (hlo.blk t)) (qgrp (arg5.view.read (Elt F) X5)) (qsc (arg4.view.read (Elt F) X4) i),
      mt03 v83 v0 v91 (Scf.iv v62 1#32 t) (kblk (arg6.view.read (Elt F) X6) (hlo.blk t)) (arg8.view.read (Elt F) X8) (sblk (arg9.view.read (Elt F) X9) (hlo.blk t)) (qgrp (arg5.view.read (Elt F) X5)) (qsc (arg4.view.read (Elt F) X4) i),
      mt10 v83 v0 v91 (Scf.iv v62 1#32 t) (kblk (arg6.view.read (Elt F) X6) (hlo.blk t)) (arg8.view.read (Elt F) X8) (sblk (arg9.view.read (Elt F) X9) (hlo.blk t)) (qgrp (arg5.view.read (Elt F) X5)) (qsc (arg4.view.read (Elt F) X4) i),
      mt11 v83 v0 v91 (Scf.iv v62 1#32 t) (kblk (arg6.view.read (Elt F) X6) (hlo.blk t)) (arg8.view.read (Elt F) X8) (sblk (arg9.view.read (Elt F) X9) (hlo.blk t)) (qgrp (arg5.view.read (Elt F) X5)) (qsc (arg4.view.read (Elt F) X4) i),
      mt12 v83 v0 v91 (Scf.iv v62 1#32 t) (kblk (arg6.view.read (Elt F) X6) (hlo.blk t)) (arg8.view.read (Elt F) X8) (sblk (arg9.view.read (Elt F) X9) (hlo.blk t)) (qgrp (arg5.view.read (Elt F) X5)) (qsc (arg4.view.read (Elt F) X4) i),
      mt13 v83 v0 v91 (Scf.iv v62 1#32 t) (kblk (arg6.view.read (Elt F) X6) (hlo.blk t)) (arg8.view.read (Elt F) X8) (sblk (arg9.view.read (Elt F) X9) (hlo.blk t)) (qgrp (arg5.view.read (Elt F) X5)) (qsc (arg4.view.read (Elt F) X4) i)]
  refine ⟨max_mask v83 v0 v91 (Scf.iv v62 1#32 t) (kblk (arg6.view.read (Elt F) X6) (hlo.blk t)) (arg8.view.read (Elt F) X8) (sblk (arg9.view.read (Elt F) X9) (hlo.blk t)) (qgrp (arg5.view.read (Elt F) X5)) (qsc (arg4.view.read (Elt F) X4) i) acc, fun c' y => ?_, fun y hy => ?_⟩
  · exact pieces_near arg13.view g (hlo.blk t)
      ![![k0_off11 i v21 t 0#32, k0_off11 i v21 t 128#32, k0_off11 i v21 t 256#32, k0_off11 i v21 t 384#32],
        ![k0_off12 i v21 t 0#32, k0_off12 i v21 t 128#32, k0_off12 i v21 t 256#32, k0_off12 i v21 t 384#32]]
      (offs_off11 hlo t) (inb_off11 hlo t) _ c' y
  · exact pieces_far arg13.view g (hlo.blk t)
      ![![k0_off11 i v21 t 0#32, k0_off11 i v21 t 128#32, k0_off11 i v21 t 256#32, k0_off11 i v21 t 384#32],
        ![k0_off12 i v21 t 0#32, k0_off12 i v21 t 128#32, k0_off12 i v21 t 256#32, k0_off12 i v21 t 384#32]]
      (offs_off11 hlo t) (inb_off11 hlo t) _ y hy

/-- One trip of the first loop, in either branch. -/
theorem trip (n : Nat) (hlo : Lo i v21 n) (E : Set ℕ) (t : Fin (k0_t1_loop i v21).trips) (acc : FVec F S256x128 .f32)
    (g : BufTy.Contents (Elt F) arg13.view.ty) :
    iprop(Reads c arg4 arg5 arg6 arg8 arg9 X4 X5 X6 X8 X9 ∗ (arg13.view.loc (c : Thread nD τ) ↦[arg13.view.set]{fullShare} g))
      ⊢ wp frame (wpE (defs₀ (F := F)) Variants.none c none) E
        (k0_t1_body (F := F) i arg3 harg3 arg4 harg4 arg5 harg5 arg6 harg6 arg7 harg7 arg8 harg8 arg9 harg9 arg10 harg10 arg11 harg11 arg12 harg12 arg13 harg13 arg0 arg1 arg2 v0 v21 k0_hw1 v45 k0_hw2 v62 v66 v77 v78 c0_i32_29 v83 v91 t acc)
        (fun r => iprop(Reads c arg4 arg5 arg6 arg8 arg9 X4 X5 X6 X8 X9 ∗ ∃ g', (arg13.view.loc (c : Thread nD τ) ↦[arg13.view.set]{fullShare} g')
          ∗ ⌜r = maxStep acc (tileX i arg4 arg5 arg6 arg8 arg9 v0 v21 v45 v62 v83 v91 X4 X5 X6 X8 X9 n hlo t)
            ∧ Stored arg13 (hlo.blk t) (tileX i arg4 arg5 arg6 arg8 arg9 v0 v21 v45 v62 v83 v91 X4 X5 X6 X8 X9 n hlo t) g g'⌝)) := by
  by_cases h : k0_cond1 i v21 v45 t = 1#1
  · exact trip_full c i arg3 harg3 arg4 harg4 arg5 harg5 arg6 harg6 arg7 harg7 arg8 harg8 arg9 harg9 arg10 harg10 arg11 harg11 arg12 harg12 arg13 harg13 arg0 arg1 arg2 v0 v21 k0_hw1 v45 k0_hw2 v62 v66 v77 v78 c0_i32_29 v83 v91 X4 X5 X6 X8 X9 n hlo E t acc g h
  · exact trip_mask c i arg3 harg3 arg4 harg4 arg5 harg5 arg6 harg6 arg7 harg7 arg8 harg8 arg9 harg9 arg10 harg10 arg11 harg11 arg12 harg12 arg13 harg13 arg0 arg1 arg2 v0 v21 k0_hw1 v45 k0_hw2 v62 v66 v77 v78 c0_i32_29 v83 v91 X4 X5 X6 X8 X9 n hlo E t acc g h

/-- The score buffer before trip `k`: the blocks of the trips so far hold their pieces. -/
def Holds (n : Nat) (hlo : Lo i v21 n) (k : Nat) (g : BufTy.Contents (Elt F) arg13.view.ty) : Prop :=
  ∀ t : Fin (k0_t1_loop i v21).trips, t.val < k → ∀ c y, arg13.view.read (Elt F) g (scoreAt (hlo.blk t) c y) = both (tileX i arg4 arg5 arg6 arg8 arg9 v0 v21 v45 v62 v83 v91 X4 X5 X6 X8 X9 n hlo t) c y

/-- The row maxima before trip `k`. -/
def maxAt (n : Nat) (hlo : Lo i v21 n) (k : Nat) : FVec F S256x128 .f32 :=
  carry (k0_t1_loop i v21).trips (fun t a => maxStep a (tileX i arg4 arg5 arg6 arg8 arg9 v0 v21 v45 v62 v83 v91 X4 X5 X6 X8 X9 n hlo t)) (k0_pay136 (F := F)) k

/-- The first loop's invariant. -/
def inv1 (n : Nat) (hlo : Lo i v21 n) (k : Nat) (acc : FVec F S256x128 .f32) : sProp 𝕄 :=
  iprop(Reads c arg4 arg5 arg6 arg8 arg9 X4 X5 X6 X8 X9 ∗ ∃ g, (arg13.view.loc (c : Thread nD τ) ↦[arg13.view.set]{fullShare} g)
    ∗ ⌜acc = maxAt i arg4 arg5 arg6 arg8 arg9 v0 v21 v45 v62 v83 v91 X4 X5 X6 X8 X9 n hlo k
      ∧ Holds i arg4 arg5 arg6 arg8 arg9 arg13 v0 v21 v45 v62 v83 v91 X4 X5 X6 X8 X9 n hlo k g⌝)

theorem step1 (n : Nat) (hlo : Lo i v21 n) (E : Set ℕ) (t : Fin (k0_t1_loop i v21).trips) (acc : FVec F S256x128 .f32) :
    inv1 c i arg4 arg5 arg6 arg8 arg9 arg13 v0 v21 v45 v62 v83 v91 X4 X5 X6 X8 X9 n hlo t.val acc
      ⊢ wp frame (wpE (defs₀ (F := F)) Variants.none c none) E
        (k0_t1_body (F := F) i arg3 harg3 arg4 harg4 arg5 harg5 arg6 harg6 arg7 harg7 arg8 harg8 arg9 harg9 arg10 harg10 arg11 harg11 arg12 harg12 arg13 harg13 arg0 arg1 arg2 v0 v21 k0_hw1 v45 k0_hw2 v62 v66 v77 v78 c0_i32_29 v83 v91 t acc)
        (inv1 c i arg4 arg5 arg6 arg8 arg9 arg13 v0 v21 v45 v62 v83 v91 X4 X5 X6 X8 X9 n hlo (t.val + 1)) := by
  unfold inv1
  iintro ⟨HR, ⟨%g, H13, %hg⟩⟩
  obtain ⟨hacc, hg⟩ := hg
  iapply (wp_wand_r frame _ (E := E))
  isplitl [HR H13]
  · iapply (trip c i arg3 harg3 arg4 harg4 arg5 harg5 arg6 harg6 arg7 harg7 arg8 harg8 arg9 harg9 arg10 harg10 arg11 harg11 arg12 harg12 arg13 harg13 arg0 arg1 arg2 v0 v21 k0_hw1 v45 k0_hw2 v62 v66 v77 v78 c0_i32_29 v83 v91 X4 X5 X6 X8 X9 n hlo E t acc g)
    isplitl [HR]; · iexact HR
    iexact H13
  iintro %r ⟨HR, ⟨%g', H13, %h⟩⟩
  obtain ⟨hr, hnear, hfar⟩ := h
  isplitl [HR]; · iexact HR
  iexists g'
  isplitl [H13]; · iexact H13
  ipureintro
  refine ⟨?_, fun t' ht' c' y => ?_⟩
  · unfold maxAt
    rw [carry_succ, hr, hacc]; rfl
  · rcases Nat.lt_succ_iff_lt_or_eq.mp ht' with h | h
    · rw [← hg t' h c' y]
      refine hfar _ (.inl ?_)
      have hy : (y 1).val < 128 := (y 1).isLt
      have hc := c'.isLt
      show 512 * (n / 512 + t'.val) + 128 * c'.val + (y 1).val < 512 * (n / 512 + t.val)
      omega
    · obtain rfl := Fin.ext h
      exact hnear c' y

set_option warn.classDefReducibility false in
/-- The first loop by its invariant. -/
def loop1 (n : Nat) (hlo : Lo i v21 n) (E : Set ℕ) :
    Gen.LoopInvTy_k0_t1 (F := F) Unit ℕ (UR sig nD τ) ℕ Variants.none c none E i arg3 harg3 arg4 harg4 arg5 harg5 arg6 harg6 arg7 harg7 arg8 harg8 arg9 harg9 arg10 harg10 arg11 harg11 arg12 harg12 arg13 harg13 arg0 arg1 arg2 v0 v21 k0_hw1 v45 k0_hw2 v62 v66 v77 v78 c0_i32_29 v83 v91 (k0_pay136 (F := F)) where
  inv := inv1 c i arg4 arg5 arg6 arg8 arg9 arg13 v0 v21 v45 v62 v83 v91 X4 X5 X6 X8 X9 n hlo
  step := step1 c i arg3 harg3 arg4 harg4 arg5 harg5 arg6 harg6 arg7 harg7 arg8 harg8 arg9 harg9 arg10 harg10 arg11 harg11 arg12 harg12 arg13 harg13 arg0 arg1 arg2 v0 v21 k0_hw1 v45 k0_hw2 v62 v66 v77 v78 c0_i32_29 v83 v91 X4 X5 X6 X8 X9 n hlo E

/-! ## The second pass -/

section Second

variable (v99 : FVec F S256x128 .f32) (X7 : BufTy.Contents (Elt F) arg7.view.ty) (X13 : BufTy.Contents (Elt F) arg13.view.ty)

/-- One trip of the second pass reads its block's scores and values. -/
theorem trip3 (n : Nat) (hlo : Lo i v21 n) (t : Fin (k0_t3_loop i v21).trips) (acc : FVec F S256x128 .f32 × FVec F S256x128 .f32) :
    tripR_k0_t3 (F := F) Variants.none c none i arg3 harg3 arg4 harg4 arg5 harg5 arg6 harg6 arg7 harg7 arg8 harg8 arg9 harg9 arg10 harg10 arg11 harg11 arg12 harg12 arg13 harg13 arg0 arg1 arg2 v0 v21 k0_hw1 v45 k0_hw2 v62 v66 v77 v78 c0_i32_29 v99 X7 X13 t acc
      = sumStep v99 (fun c' y => arg13.view.read (Elt F) X13 (scoreAt (hlo.blk t) c' y)) (kblk (arg7.view.read (Elt F) X7) (hlo.blk t)) acc := by
  have hV : View.readAt (Elt F) arg7.view (Rect.unit (s := S1x16384x128) (k0_off24 i v21 t) S1x512x128.size (k0_off24_inb i v21 k0_hw1 t)).toLoadRect X7
      = kblk (arg7.view.read (Elt F) X7) (hlo.blk t) := View.readAt_unit _ _ _ (hlo.off24 t) _
  have hX : ∀ c' : Fin 4, View.readAt (Elt F) arg13.view (Rect.unit (s := S256x16384) (k0_off23 i v21 t (BitVec.ofNat 32 (128 * c'.val))) S256x128.size
        (k0_off23_inb i v21 k0_hw1 t c')).toLoadRect X13
      = fun y => arg13.view.read (Elt F) X13 (scoreAt (hlo.blk t) c' y) := fun c' => by
    have hc := c'.isLt
    funext y
    refine congrArg (arg13.view.read (Elt F) X13) (funext fun a => Fin.ext ?_)
    have e := congrFun (hlo.off23 t (128 * c'.val) (by omega)) a
    refine (congrArg (· + 1 * (y a).val) e).trans ?_
    fin_cases a
    · show 0 + 1 * (y 0).val = (y 0).val
      omega
    · show 512 * (n / 512 + t.val) + 128 * c'.val + 1 * (y 1).val = 512 * (n / 512 + t.val) + 128 * c'.val + (y 1).val
      omega
  rw [← hV, show (fun c' y => arg13.view.read (Elt F) X13 (scoreAt (hlo.blk t) c' y)) = _ from funext fun c' => (hX c').symm]
  unfold tripR_k0_t3 trip_k0_t3
  rfl

/-- The row sums and weighted rows the second pass has gathered before trip `k`. -/
def sumAt (ms : FVec F S256x128 .f32) (n : Nat) (hlo : Lo i v21 n) (k : Nat) : FVec F S256x128 .f32 × FVec F S256x128 .f32 :=
  carry (k0_t1_loop i v21).trips (fun t a => sumStep ms (both (tileX i arg4 arg5 arg6 arg8 arg9 v0 v21 v45 v62 v83 v91 X4 X5 X6 X8 X9 n hlo t)) (kblk (arg7.view.read (Elt F) X7) (hlo.blk t)) a)
    (k0_pay142 (F := F), k0_pay142 (F := F)) k

/-- Over a buffer holding every block's pieces, what the second pass carries is `sumAt`. -/
theorem st3 (n : Nat) (hlo : Lo i v21 n) (h : Holds i arg4 arg5 arg6 arg8 arg9 arg13 v0 v21 v45 v62 v83 v91 X4 X5 X6 X8 X9 n hlo (k0_t1_loop i v21).trips X13) (k : Nat) (hk : k ≤ (k0_t1_loop i v21).trips) :
    st_k0_t3 (F := F) Variants.none c none i arg3 harg3 arg4 harg4 arg5 harg5 arg6 harg6 arg7 harg7 arg8 harg8 arg9 harg9 arg10 harg10 arg11 harg11 arg12 harg12 arg13 harg13 arg0 arg1 arg2 v0 v21 k0_hw1 v45 k0_hw2 v62 v66 v77 v78 c0_i32_29 v99 X7 X13 (k0_pay142 (F := F), k0_pay142 (F := F)) k
      = sumAt i arg4 arg5 arg6 arg7 arg8 arg9 v0 v21 v45 v62 v83 v91 X4 X5 X6 X8 X9 X7 v99 n hlo k := by
  induction k with
  | zero => rfl
  | succ k ih =>
    have e := st_k0_t3_succ (F := F) Variants.none c none i arg3 harg3 arg4 harg4 arg5 harg5 arg6 harg6 arg7 harg7 arg8 harg8 arg9 harg9 arg10 harg10 arg11 harg11 arg12 harg12 arg13 harg13 arg0 arg1 arg2 v0 v21 k0_hw1 v45 k0_hw2 v62 v66 v77 v78 c0_i32_29 v99 X7 X13 (k0_pay142 (F := F), k0_pay142 (F := F)) ⟨k, hk⟩
    refine e.trans ?_
    rw [ih (Nat.le_of_succ_le hk), trip3 c i arg3 harg3 arg4 harg4 arg5 harg5 arg6 harg6 arg7 harg7 arg8 harg8 arg9 harg9 arg10 harg10 arg11 harg11 arg12 harg12 arg13 harg13 arg0 arg1 arg2 v0 v21 k0_hw1 v45 k0_hw2 v62 v66 v77 v78 c0_i32_29 v99 X7 X13 n hlo ⟨k, hk⟩]
    unfold sumAt
    rw [carry_succ _ _ (⟨k, hk⟩ : Fin (k0_t1_loop i v21).trips)]
    rw [show (fun c' y => arg13.view.read (Elt F) X13 (scoreAt (hlo.blk ⟨k, hk⟩) c' y)) = both (tileX i arg4 arg5 arg6 arg8 arg9 v0 v21 v45 v62 v83 v91 X4 X5 X6 X8 X9 n hlo ⟨k, hk⟩) from
      funext fun c' => funext fun y => h ⟨k, hk⟩ hk c' y]

end Second

set_option maxHeartbeats 1000000 in
/-- The two passes: from any score buffer, the row sums and weighted rows over the blocks of the tile. -/
theorem passes (E : Set ℕ) (X7 : BufTy.Contents (Elt F) arg7.view.ty) (X11 : BufTy.Contents (Elt F) arg11.view.ty) (g : BufTy.Contents (Elt F) arg13.view.ty)
    (n : Nat) (hlo : Lo i v21 n) :
    iprop(Reads c arg4 arg5 arg6 arg8 arg9 X4 X5 X6 X8 X9 ∗ (arg7.view.loc (c : Thread nD τ) ↦[arg7.view.set]{fullShare} X7)
        ∗ (arg11.view.loc (c : Thread nD τ) ↦[arg11.view.set]{fullShare} X11) ∗ (arg13.view.loc (c : Thread nD τ) ↦[arg13.view.set]{fullShare} g))
      ⊢ wp frame (wpE (defs₀ (F := F)) Variants.none c none) E
        (k0_part21 (F := F) i arg3 harg3 arg4 harg4 arg5 harg5 arg6 harg6 arg7 harg7 arg8 harg8 arg9 harg9 arg10 harg10 arg11 harg11 arg12 harg12 arg13 harg13 arg0 arg1 arg2 v0 v21 k0_hw1 v45 k0_hw2 v62 v66 v77 v78 c0_i32_29)
        (fun r => iprop(Reads c arg4 arg5 arg6 arg8 arg9 X4 X5 X6 X8 X9 ∗ (arg7.view.loc (c : Thread nD τ) ↦[arg7.view.set]{fullShare} X7)
          ∗ (arg11.view.loc (c : Thread nD τ) ↦[arg11.view.set]{fullShare} X11) ∗ ∃ g', (arg13.view.loc (c : Thread nD τ) ↦[arg13.view.set]{fullShare} g')
          ∗ ⌜r = (let M := maxAt i arg4 arg5 arg6 arg8 arg9 v0 v21 v45 v62 (arg11.view.read (Elt F) X11) (iota .tc S256x128 32 [1] iota_S256x128_d1_w32) X4 X5 X6 X8 X9 n hlo (k0_t1_loop i v21).trips
              let S := sumAt i arg4 arg5 arg6 arg7 arg8 arg9 v0 v21 v45 v62 (arg11.view.read (Elt F) X11) (iota .tc S256x128 32 [1] iota_S256x128_d1_w32) X4 X5 X6 X8 X9 X7 M n hlo (k0_t1_loop i v21).trips
              ⟨k0_pay149 S.1, k0_pay150 S.2⟩)⌝)) := by
  rw [k0_part21_eq_skeleton]
  unfold k0_part21_skel
  iintro ⟨HR, H7, H11, H13⟩
  sl_exec
  sl_for (inv1 c i arg4 arg5 arg6 arg8 arg9 arg13 v0 v21 v45 v62 (arg11.view.read (Elt F) X11) (iota .tc S256x128 32 [1] iota_S256x128_d1_w32) X4 X5 X6 X8 X9 n hlo) $$ [HR H13]
  · intro k acc
    unfold passes.sl.prog.body_1 passes.sl.v91
    have h83 : (View.readAt (Elt F) arg11.view (Rect.unit (s := S1x1x1x256) ![0, 0, 0, 0] S1x1x1x256.size inb_S1x1x1x256_S1x1x1x256_0_0_0_0).toLoadRect X11) = arg11.view.read (Elt F) X11 := View.readAt_full _ _ _
    rw [h83]
    exact step1 c i arg3 harg3 arg4 harg4 arg5 harg5 arg6 harg6 arg7 harg7 arg8 harg8 arg9 harg9 arg10 harg10 arg11 harg11 arg12 harg12 arg13 harg13 arg0 arg1 arg2 v0 v21 k0_hw1 v45 k0_hw2 v62 v66 v77 v78 c0_i32_29 (arg11.view.read (Elt F) X11) (iota .tc S256x128 32 [1] iota_S256x128_d1_w32) X4 X5 X6 X8 X9 n hlo E k acc
  · unfold inv1
    isplitl [HR]; · iexact HR
    iexists g
    isplitl [H13]; · iexact H13
    ipureintro
    exact ⟨rfl, fun t ht => absurd ht (Nat.not_lt_zero _)⟩
  iintro %acc H
  unfold inv1
  icases H with ⟨HR, ⟨%g', H13, %h⟩⟩
  obtain ⟨hacc, hg⟩ := h
  sl_exec
  sl_step
  isplitl [HR]; · iexact HR
  isplitl [H7]; · iexact H7
  isplitl [H11]; · iexact H11
  iexists g'
  isplitl [H13]; · iexact H13
  ipureintro
  subst hacc
  have e := st3 c i arg3 harg3 arg4 harg4 arg5 harg5 arg6 harg6 arg7 harg7 arg8 harg8 arg9 harg9 arg10 harg10 arg11 harg11 arg12 harg12 arg13 harg13 arg0 arg1 arg2 v0 v21 k0_hw1 v45 k0_hw2 v62 v66 v77 v78 c0_i32_29 (arg11.view.read (Elt F) X11) (iota .tc S256x128 32 [1] iota_S256x128_d1_w32) X4 X5 X6 X8 X9 (maxAt i arg4 arg5 arg6 arg8 arg9 v0 v21 v45 v62 (arg11.view.read (Elt F) X11) (iota .tc S256x128 32 [1] iota_S256x128_d1_w32) X4 X5 X6 X8 X9 n hlo (k0_t1_loop i v21).trips) X7 g' n hlo hg (k0_t1_loop i v21).trips le_rfl
  exact congrArg (fun S : FVec F S256x128 .f32 × FVec F S256x128 .f32 => (⟨k0_pay149 S.1, k0_pay150 S.2⟩ : Σ' (_ : FVec F S256x1 .f32), FVec F S256x128 .f32)) e

end Trip

end Cert.Proof.KernelIdeal

end
-- ==== Proof.KI.Run.lean ====
module

public import proofs.«01_k».proof.Proof.KI.Body

@[expose] public section

noncomputable section

/-! # One grid point of the attention kernel

The kernel's body at one grid point: from the staged blocks it reads its two words of the table of first keys, makes the two
passes of `Body.lean` and stores the block of results. -/

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What the body leaves in its output block, from the staged blocks -/

/-- The word of the table that names the first key of the tile's first row. -/
def loFirst (i : grid0.Coords) (x3 : Vec F S4x256 .i32) : BitVec 32 :=
  x3 (ix2 ⟨(i 0).val, (i 0).isLt⟩ ⟨4 * (i 2).val, by have h : (i 2).val < 64 := (i 2).isLt; omega⟩)

/-- The word that names the first key of the tile's last row. -/
def loLast (i : grid0.Coords) (x3 : Vec F S4x256 .i32) : BitVec 32 :=
  x3 (ix2 ⟨(i 0).val, (i 0).isLt⟩ ⟨4 * (i 2).val + 3, by have h : (i 2).val < 64 := (i 2).isLt; omega⟩)

section Out

variable {i : grid0.Coords} {v : BitVec 32} {n : Nat} (h : Lo i v n) (w : BitVec 32)
variable (x4 : Vec F S4x8x128 .f32) (x5 : Vec F S1x256x128 .fp8e4m3) (x6 x7 : Vec F S1x16384x128 .fp8e4m3)
  (x8 : Vec F S1x1x1x16x128 .bf16) (x9 : Vec F S1x1x1x16384 .f32) (x10 : Vec F S1x1x1x128 .f32) (x11 : Vec F S1x1x1x256 .i32)

/-- The scores of trip `t` of the tile. -/
abbrev tileT (t : Fin (k0_t1_loop i v).trips) : Fin 2 → Fin 4 → FVec F S128x128 .f32 :=
  tile h w (floorW v) (Scalar.muli (BitVec.ofNat 32 (i 2).val) 256#32) x11 (iota .tc S256x128 32 [1] iota_S256x128_d1_w32) x4 x5 x6 x8 x9 t

/-- The rows' maxima, lane by lane, before trip `k`. -/
def tileMax (k : Nat) : FVec F S256x128 .f32 :=
  carry (k0_t1_loop i v).trips (fun t a => maxStep a (tileT h w x4 x5 x6 x8 x9 x11 t)) (k0_pay136 (F := F)) k

/-- The row sums and the weighted rows before trip `k` of the second pass. -/
def tileSum (k : Nat) : FVec F S256x128 .f32 × FVec F S256x128 .f32 :=
  carry (k0_t1_loop i v).trips
    (fun t a => sumStep (tileMax h w x4 x5 x6 x8 x9 x11 (k0_t1_loop i v).trips) (both (tileT h w x4 x5 x6 x8 x9 x11 t)) (kblk x7 (h.blk t)) a)
    (k0_pay142 (F := F), k0_pay142 (F := F)) k

/-- The block of results. -/
def outTile : FVec F S1x256x128 .bf16 :=
  k0_pay1 (k0_pay149 (tileSum h w x4 x5 x6 x7 x8 x9 x11 (k0_t1_loop i v).trips).1)
    (k0_pay150 (tileSum h w x4 x5 x6 x7 x8 x9 x11 (k0_t1_loop i v).trips).2) x10

end Out

/-! ## The two words of the table -/

theorem smem_first (i : grid0.Coords) (arg3 : Memref sig .tc .smem S4x256 .i32) (X3 : BufTy.Contents (Elt F) arg3.view.ty)
    (inb : ∀ a, k0_off1 i a + S1x1.size a ≤ S4x256.size a) (hp) :
    View.readAt (Elt F) arg3.view (Rect.unit (s := S4x256) (k0_off1 i) S1x1.size inb).toLoadRect X3 (Shape.Idx.first hp)
      = loFirst i (arg3.view.read (Elt F) X3) := by
  refine congrArg (arg3.view.read (Elt F) X3) (funext fun a => Fin.ext ?_)
  have e := congrFun (Gen.k0_off1_eq i) a
  refine (Nat.add_zero _).trans (e.trans ?_)
  fin_cases a <;> rfl

theorem smem_last (i : grid0.Coords) (arg3 : Memref sig .tc .smem S4x256 .i32) (X3 : BufTy.Contents (Elt F) arg3.view.ty)
    (inb : ∀ a, k0_off2 i a + S1x1.size a ≤ S4x256.size a) (hp) :
    View.readAt (Elt F) arg3.view (Rect.unit (s := S4x256) (k0_off2 i) S1x1.size inb).toLoadRect X3 (Shape.Idx.first hp)
      = loLast i (arg3.view.read (Elt F) X3) := by
  refine congrArg (arg3.view.read (Elt F) X3) (funext fun a => Fin.ext ?_)
  have e := congrFun (Gen.k0_off2_eq i) a
  refine (Nat.add_zero _).trans (e.trans ?_)
  fin_cases a <;> rfl

section Run

variable (c : Dev nD) (i : grid0.Coords) (arg3 : Memref sig .tc .smem S4x256 .i32) (harg3 : arg3.IsWhole) (arg4 : Memref sig .tc .smem S4x8x128 .f32) (harg4 : arg4.IsWhole) (arg5 : Memref sig .tc .vmem S1x256x128 .fp8e4m3) (harg5 : arg5.IsWhole) (arg6 : Memref sig .tc .vmem S1x16384x128 .fp8e4m3) (harg6 : arg6.IsWhole) (arg7 : Memref sig .tc .vmem S1x16384x128 .fp8e4m3) (harg7 : arg7.IsWhole) (arg8 : Memref sig .tc .vmem S1x1x1x16x128 .bf16) (harg8 : arg8.IsWhole) (arg9 : Memref sig .tc .vmem S1x1x1x16384 .f32) (harg9 : arg9.IsWhole) (arg10 : Memref sig .tc .vmem S1x1x1x128 .f32) (harg10 : arg10.IsWhole) (arg11 : Memref sig .tc .vmem S1x1x1x256 .i32) (harg11 : arg11.IsWhole) (arg12 : Memref sig .tc .vmem S1x256x128 .bf16) (harg12 : arg12.IsWhole) (arg13 : Memref sig .tc .vmem S256x16384 .f32) (harg13 : arg13.IsWhole)

theorem head1 (E : Set ℕ) (X3 : BufTy.Contents (Elt F) arg3.view.ty) (n : Nat) (hlo : Lo i (loFirst i (arg3.view.read (Elt F) X3)) n) :
    (arg3.view.loc (c : Thread nD τ) ↦[arg3.view.set]{fullShare} X3 : sProp 𝕄)
      ⊢ wp frame (wpE (defs₀ (F := F)) Variants.none c none) E (k0_part19 (F := F) i arg3 harg3 arg4 harg4 arg5 harg5 arg6 harg6 arg7 harg7 arg8 harg8 arg9 harg9 arg10 harg10 arg11 harg11 arg12 harg12 arg13 harg13)
        (fun r => iprop((arg3.view.loc (c : Thread nD τ) ↦[arg3.view.set]{fullShare} X3)
          ∗ ⌜∃ a b, r = ⟨BitVec.ofNat 32 (i 0).val, BitVec.ofNat 32 (i 1).val, BitVec.ofNat 32 (i 2).val, Scalar.muli (BitVec.ofNat 32 (i 2).val) 256#32,
            loFirst i (arg3.view.read (Elt F) X3), hlo.chk1, a, b⟩⌝)) := by
  rw [k0_part19_eq_skeleton]
  unfold k0_part19_skel
  iintro H3
  sl_exec
  have e : head1.sl.r i arg3 X3 = loFirst i (arg3.view.read (Elt F) X3) := smem_first i arg3 X3 _ _
  rw [e]
  have h1 := hlo.chk1
  sl_exec
  sl_step
  isplitl [H3]; · iexact H3
  ipureintro
  exact ⟨_, _, rfl⟩

theorem head2 (E : Set ℕ) (X3 : BufTy.Contents (Elt F) arg3.view.ty) (n : Nat) (arg0 v0 v24 : BitVec 32) (v21 : Elt F .i32) (v38 : BitVec 1) (hlo : Lo i v21 n) :
    (arg3.view.loc (c : Thread nD τ) ↦[arg3.view.set]{fullShare} X3 : sProp 𝕄)
      ⊢ wp frame (wpE (defs₀ (F := F)) Variants.none c none) E (k0_part20 (F := F) i arg3 harg3 arg4 harg4 arg5 harg5 arg6 harg6 arg7 harg7 arg8 harg8 arg9 harg9 arg10 harg10 arg11 harg11 arg12 harg12 arg13 harg13 arg0 v0 v21 v24 v38)
        (fun r => iprop((arg3.view.loc (c : Thread nD τ) ↦[arg3.view.set]{fullShare} X3)
          ∗ ⌜∃ a b d e, r = ⟨loLast i (arg3.view.read (Elt F) X3), hlo.chk2 _, floorW v21, a, b, d, e⟩⌝)) := by
  rw [k0_part20_eq_skeleton]
  unfold k0_part20_skel
  iintro H3
  sl_exec
  have e : head2.sl.r i arg3 X3 = loLast i (arg3.view.read (Elt F) X3) := smem_last i arg3 X3 _ _
  rw [e]
  have h1 := hlo.chk2 (loLast i (arg3.view.read (Elt F) X3))
  sl_exec
  sl_step
  isplitl [H3]; · iexact H3
  ipureintro
  exact ⟨_, _, _, _, rfl⟩

set_option maxHeartbeats 1000000 in
/-- The body at one point: the staged blocks as they were, the block of results in the output's buffer, and the score buffer at some
    contents. -/
theorem sound_kernel (E : Set ℕ) (x3 : Vec F S4x256 .i32) (x4 : Vec F S4x8x128 .f32) (x5 : Vec F S1x256x128 .fp8e4m3) (x6 : Vec F S1x16384x128 .fp8e4m3) (x7 : Vec F S1x16384x128 .fp8e4m3) (x8 : Vec F S1x1x1x16x128 .bf16) (x9 : Vec F S1x1x1x16384 .f32) (x10 : Vec F S1x1x1x128 .f32) (x11 : Vec F S1x1x1x256 .i32) (n : Nat) (hlo : Lo i (loFirst i x3) n) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (outTile hlo (loLast i x3) x4 x5 x6 x7 x8 x9 x10 x11)
          ∗ (∃ d, owns (c : Thread nD τ) arg13 fullShare d)) -∗ K ⟨⟩))
      ⊢ wp frame (wpE (defs₀ (F := F)) Variants.none c none) E (cc0_attn (F := F) i arg3 harg3 arg4 harg4 arg5 harg5 arg6 harg6 arg7 harg7 arg8 harg8 arg9 harg9 arg10 harg10 arg11 harg11 arg12 harg12 arg13 harg13) K := by
  simp only [cc0_attn_eq_skeleton]; unfold cc0_attn_skel owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf3 hf4 hf5 hf6 hf7 hf8 hf9 hf10 hf11
  rw [wp_bind]
  iapply (wp_wand_r frame _ (E := E))
  isplitl [H3]
  · iapply (head1 c i arg3 harg3 arg4 harg4 arg5 harg5 arg6 harg6 arg7 harg7 arg8 harg8 arg9 harg9 arg10 harg10 arg11 harg11 arg12 harg12 arg13 harg13 E f3 n hlo); iexact H3
  iintro %r ⟨H3, %hr⟩
  obtain ⟨a, b, rfl⟩ := hr
  dsimp only
  rw [wp_bind]
  iapply (wp_wand_r frame _ (E := E))
  isplitl [H3]
  · iapply (head2 c i arg3 harg3 arg4 harg4 arg5 harg5 arg6 harg6 arg7 harg7 arg8 harg8 arg9 harg9 arg10 harg10 arg11 harg11 arg12 harg12 arg13 harg13 E f3 n _ _ _ _ _ hlo); iexact H3
  iintro %r ⟨H3, %hr⟩
  obtain ⟨a', b', d', e', rfl⟩ := hr
  dsimp only
  rw [wp_bind]
  iapply (wp_wand_r frame _ (E := E))
  isplitl [H4 H5 H6 H7 H8 H9 H11 H13]
  · iapply (passes c i arg3 harg3 arg4 harg4 arg5 harg5 arg6 harg6 arg7 harg7 arg8 harg8 arg9 harg9 arg10 harg10 arg11 harg11 arg12 harg12 arg13 harg13 _ _ _ _ _ _ _ _ _ _ _ _ _ f4 f5 f6 f8 f9 E f7 f11 f13 n hlo)
    unfold Reads
    isplitl [H4 H5 H6 H8 H9]
    · isplitl [H4]; · iexact H4
      isplitl [H5]; · iexact H5
      isplitl [H6]; · iexact H6
      isplitl [H8]; · iexact H8
      iexact H9
    isplitl [H7]; · iexact H7
    isplitl [H11]; · iexact H11
    iexact H13
  unfold Reads
  iintro %r ⟨⟨H4, H5, H6, H8, H9⟩, H7, H11, ⟨%g13, H13, %hr⟩⟩
  subst hr
  dsimp only
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    refine (View.read_writes_full arg12.view f12 inb_S1x256x128_S1x256x128_0_0_0 _ []).trans ?_
    have e10 : View.readAt (Elt F) arg10.view (Rect.unit (s := S1x1x1x128) ![0, 0, 0, 0] S1x1x1x128.size inb_S1x1x1x128_S1x1x1x128_0_0_0_0).toLoadRect f10
        = arg10.view.read (Elt F) f10 := View.readAt_full _ _ _
    exact congrArg (k0_pay1 _ _) e10
  iexists (arg13.view.read (Elt F) g13)
  iexists g13; isplitr; · ipureintro; rfl
  iexact H13

end Run

end Cert.Proof.KernelIdeal
-- ==== Proof.KI.Host.lean ====
module

public import proofs.«01_k».proof.Proof.KI.Words
public import proofs.«01_k».proof.Proof.Gen.KernelIdeal.Frame
public import Idealize.ShloMosaic.Lib.Claim

/-! # The table of document starts, as the host computes it -/

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ)

/-- Where a document may start: its position at a position whose id differs from the one before, and zero elsewhere. -/
def boundary (seg : IVec S4x16384 32) : IVec S4x16384 32 :=
  select (concatenate S4x16384 1 [⟨S4x1, (broadcastInDim S4x1 ![] bcast_S_S4x1 (constantI S_ 1 1#1) : IVec S4x1 1)⟩,
      ⟨S4x16383, cmpi .ne (extractStridedSlice S4x16383 ![0, 1] seg slices_S4x16384_S4x16383_0_1) (extractStridedSlice S4x16383 ![0, 0] seg slices_S4x16384_S4x16383_0_0)⟩]
      concatenates_S4x1_S4x16383_S4x16384_d1)
    (broadcastInDim S4x16384 ![0, 1] bcast_S1x16384_S4x16384_0_1 (broadcastInDim S1x16384 ![1] bcast_S16384_S1x16384_1 (iotaInDim S16384 32 0)))
    (broadcastInDim S4x16384 ![] bcast_S_S4x16384 (constantI S_ 32 0#32))

/-- The running maximum along the sequence. -/
def runningMax (x : IVec S4x16384 32) : IVec S4x16384 32 :=
  Host.reduceWindow IntOp.maxsi ![1, 16384] ![1, 1] ![0, 16383] ![0, 0] x (broadcastInDim S_ ![] bcast_S_S_ (constantI S_ 32 2147483648#32))
    reduceWindows_S4x16384_S4x16384_w1s1p0_0_w16384s1p16383_0 h_S_

/-- The table the launch reads: the first position of each position's document. -/
theorem V_start (c : Dev nD) : V m c main_v8 = runningMax (boundary (m ((c : Thread nD τ).loc main_arg7))) := by
  simp only [V, hostOps0, hostOps0_1, hostOps0_2, hostOps0_3, hostOps0_4, hostOps0_5, List.flatten_cons, List.flatten_nil, List.append_nil,
    List.cons_append, List.nil_append]
  after_results
  simp only [StableHlo.TRef.ofBuf_toBuf]
  have h8 : ∀ v : IVec S4x16384 32, (StableHlo.TRef.of main_v8 : StableHlo.TRef sig ⟨S4x16384, .i32⟩).toBuf (Val := Elt F) v = v := fun _ => rfl
  have h5 : ∀ v : IVec S4x16384 1, (StableHlo.TRef.of main_v5 : StableHlo.TRef sig ⟨S4x16384, .i1⟩).ofBuf (Val := Elt F) v = v := fun _ => rfl
  have h6 : ∀ v : IVec S1x16384 32, (StableHlo.TRef.of main_v6 : StableHlo.TRef sig ⟨S1x16384, .i32⟩).ofBuf (Val := Elt F) v = v := fun _ => rfl
  have h0 : ∀ v : IVec S_ 32, (StableHlo.TRef.of main_c_0 : StableHlo.TRef sig ⟨S_, .i32⟩).ofBuf (Val := Elt F) v = v := fun _ => rfl
  unfold runningMax boundary
  refine (h8 _).trans ?_
  rw [h5, h6, h0]
  rfl

theorem V_tile (c : Dev nD) : V m c main_v24 = shapeCast S4x64x1x256 (V m c main_v8) shapeCasts_S4x16384_S4x64x1x256 := by
  simp only [V, hostOps0, hostOps0_1, hostOps0_2, hostOps0_3, hostOps0_4, hostOps0_5, List.flatten_cons, List.flatten_nil, List.append_nil,
    List.cons_append, List.nil_append]
  after_results
  rfl

end Cert.Proof.KernelIdeal
-- ==== Proof.KI.Starts.lean ====
module

public import proofs.«01_k».proof.Proof.KI.Host
public import Idealize.ShloMosaic.Lib.Pointwise
public import Idealize.ShloMosaic.Lib.Affine.Words
public import Idealize.ShloMosaic.Lib.Tactic.Disch

/-! # The table of document starts

The table holds, for each position, the last position at or before it where a document begins. Here: it never exceeds
the position, it is never negative, and it does not decrease along the sequence. -/

@[expose] public section

noncomputable section

namespace Cert.Proof.KernelIdeal

open Cert.KernelIdeal Cert.KernelIdeal.Gen
open Idealize.ShloMosaic Idealize.ShloMosaic.TcCoe Idealize.ShloMosaic.Tactic

/-! ## Folding the signed maximum -/

theorem toInt_maxsi (x y : BitVec 32) : (IntOp.maxsi x y).toInt = max x.toInt y.toInt := by
  unfold IntOp.maxsi
  have h := @BitVec.slt_iff_toInt_lt 32 y x
  split
  · next hs => have := h.mp hs; omega
  · next hs => have : ¬ y.toInt < x.toInt := fun e => hs (h.mpr e); omega

theorem foldl_le {α : Type} (g : α → BitVec 32) (B : Int) : ∀ (l : List α) (v : BitVec 32), v.toInt ≤ B → (∀ n ∈ l, (g n).toInt ≤ B) →
    (l.foldl (fun r n => IntOp.maxsi r (g n)) v).toInt ≤ B
  | [], _, hv, _ => hv
  | a :: l, v, hv, h => foldl_le g B l _ (by rw [toInt_maxsi]; exact max_le hv (h a (List.mem_cons_self ..)))
      fun n hn => h n (List.mem_cons_of_mem _ hn)

theorem init_le_foldl {α : Type} (g : α → BitVec 32) : ∀ (l : List α) (v : BitVec 32), v.toInt ≤ (l.foldl (fun r n => IntOp.maxsi r (g n)) v).toInt
  | [], _ => le_refl _
  | a :: l, v => le_trans (by rw [toInt_maxsi]; exact le_max_left _ _) (init_le_foldl g l (IntOp.maxsi v (g a)))

theorem mem_le_foldl {α : Type} (g : α → BitVec 32) : ∀ (l : List α) (v : BitVec 32) (n : α), n ∈ l → (g n).toInt ≤ (l.foldl (fun r n => IntOp.maxsi r (g n)) v).toInt
  | a :: l, v, n, hn => by
    rcases List.mem_cons.mp hn with e | e
    · subst e
      exact le_trans (by rw [toInt_maxsi]; exact le_max_right _ _) (init_le_foldl g l (IntOp.maxsi v (g n)))
    · exact mem_le_foldl g l _ n e

/-! ## The running maximum -/

theorem runningMax_le (x : IVec S4x16384 32) (b : Fin 4) (q : Fin 16384) (B : Int) (hB : -2147483648 ≤ B)
    (h : ∀ k : Fin 16384, k.val ≤ q.val → (x (ix2 b k)).toInt ≤ B) : (runningMax x (ix2 b q)).toInt ≤ B := by
  unfold runningMax Host.reduceWindow
  refine foldl_le _ B _ _ hB fun n _ => ?_
  dsimp only
  split
  · next hin =>
    have w0 : ((Shape.rowMajor (⟨S4x16384.rank, ![1, 16384]⟩ : Shape)).symm n 0).val < 1 := Fin.isLt _
    have w1 : ((Shape.rowMajor (⟨S4x16384.rank, ![1, 16384]⟩ : Shape)).symm n 1).val < 16384 := Fin.isLt _
    have i1 : 16383 ≤ q.val * 1 + ((Shape.rowMajor (⟨S4x16384.rank, ![1, 16384]⟩ : Shape)).symm n 1).val
        ∧ q.val * 1 + ((Shape.rowMajor (⟨S4x16384.rank, ![1, 16384]⟩ : Shape)).symm n 1).val - 16383 < 16384 := hin 1
    refine le_of_eq_of_le (congrArg (fun j => (x j).toInt) (funext fun a => Fin.ext ?_))
      (h ⟨q.val * 1 + ((Shape.rowMajor (⟨S4x16384.rank, ![1, 16384]⟩ : Shape)).symm n 1).val - 16383, i1.2⟩ (by
        show q.val * 1 + ((Shape.rowMajor (⟨S4x16384.rank, ![1, 16384]⟩ : Shape)).symm n 1).val - 16383 ≤ q.val
        omega))
    match a with
    | ⟨0, _⟩ =>
      show b.val * 1 + ((Shape.rowMajor (⟨S4x16384.rank, ![1, 16384]⟩ : Shape)).symm n 0).val - 0 = b.val
      omega
    | ⟨1, _⟩ => rfl
  · exact hB

theorem le_runningMax (x : IVec S4x16384 32) (b : Fin 4) (q k : Fin 16384) (hk : k.val ≤ q.val) :
    (x (ix2 b k)).toInt ≤ (runningMax x (ix2 b q)).toInt := by
  unfold runningMax Host.reduceWindow
  let w : (⟨S4x16384.rank, ![1, 16384]⟩ : Shape).Idx := ix2 (⟨0, by decide⟩ : Fin 1) (⟨k.val + 16383 - q.val, by omega⟩ : Fin 16384)
  refine le_trans ?_ (mem_le_foldl _ _ _ (Shape.rowMajor (⟨S4x16384.rank, ![1, 16384]⟩ : Shape) w) (List.mem_finRange _))
  have hs := Equiv.symm_apply_apply (Shape.rowMajor (⟨S4x16384.rank, ![1, 16384]⟩ : Shape)) w
  generalize Shape.rowMajor (⟨S4x16384.rank, ![1, 16384]⟩ : Shape) w = n at hs ⊢
  have hw0 : ((Shape.rowMajor (⟨S4x16384.rank, ![1, 16384]⟩ : Shape)).symm n 0).val = 0 := by rw [hs]; rfl
  have hw1 : ((Shape.rowMajor (⟨S4x16384.rank, ![1, 16384]⟩ : Shape)).symm n 1).val = k.val + 16383 - q.val := by rw [hs]; rfl
  dsimp only
  have hq := q.isLt
  have hb := b.isLt
  rw [dif_pos fun a => by
    match a with
    | ⟨0, _⟩ =>
      show 0 ≤ b.val * 1 + ((Shape.rowMajor (⟨S4x16384.rank, ![1, 16384]⟩ : Shape)).symm n 0).val
        ∧ b.val * 1 + ((Shape.rowMajor (⟨S4x16384.rank, ![1, 16384]⟩ : Shape)).symm n 0).val - 0 < 4
      omega
    | ⟨1, _⟩ =>
      show 16383 ≤ q.val * 1 + ((Shape.rowMajor (⟨S4x16384.rank, ![1, 16384]⟩ : Shape)).symm n 1).val
        ∧ q.val * 1 + ((Shape.rowMajor (⟨S4x16384.rank, ![1, 16384]⟩ : Shape)).symm n 1).val - 16383 < 16384
      omega]
  refine le_of_eq (congrArg (fun j => (x j).toInt) (funext fun a => Fin.ext ?_))
  match a with
  | ⟨0, _⟩ =>
    show b.val = b.val * 1 + ((Shape.rowMajor (⟨S4x16384.rank, ![1, 16384]⟩ : Shape)).symm n 0).val - 0
    omega
  | ⟨1, _⟩ =>
    show k.val = q.val * 1 + ((Shape.rowMajor (⟨S4x16384.rank, ![1, 16384]⟩ : Shape)).symm n 1).val - 16383
    omega

theorem boundary_cases (seg : IVec S4x16384 32) (b : Fin 4) (k : Fin 16384) :
    boundary seg (ix2 b k) = BitVec.ofNat 32 k.val ∨ boundary seg (ix2 b k) = 0#32 := by
  unfold boundary select Scalar.select
  dsimp only
  split
  · left; rfl
  · right; rfl

/-- The table of document starts. -/
def starts (seg : IVec S4x16384 32) : IVec S4x16384 32 := runningMax (boundary seg)

theorem starts_le (seg : IVec S4x16384 32) (b : Fin 4) (q : Fin 16384) : (starts seg (ix2 b q)).toInt ≤ q.val := by
  refine runningMax_le _ b q _ (by omega) fun k hk => ?_
  have hq := q.isLt
  rcases boundary_cases seg b k with e | e <;> rw [e]
  · have := Disch.isInt_out (Affine.isInt_lit k.val (by omega))
    omega
  · show (0 : Int) ≤ _
    omega

theorem starts_nonneg (seg : IVec S4x16384 32) (b : Fin 4) (q : Fin 16384) : 0 ≤ (starts seg (ix2 b q)).toInt := by
  refine le_trans ?_ (le_runningMax _ b q q (le_refl _))
  have hq := q.isLt
  rcases boundary_cases seg b q with e | e <;> rw [e]
  · have := Disch.isInt_out (Affine.isInt_lit q.val (by omega))
    omega
  · exact le_refl (0 : Int)

theorem starts_mono (seg : IVec S4x16384 32) (b : Fin 4) (q q' : Fin 16384) (h : q.val ≤ q'.val) :
    (starts seg (ix2 b q)).toInt ≤ (starts seg (ix2 b q')).toInt :=
  runningMax_le _ b q _ (by have := BitVec.le_toInt (starts seg (ix2 b q')); simpa using this) fun k hk => le_runningMax _ b q' k (le_trans hk h)

/-- A document's first position, as a number. -/
def startAt (seg : IVec S4x16384 32) (b : Fin 4) (q : Fin 16384) : Nat := (starts seg (ix2 b q)).toNat

theorem starts_int (seg : IVec S4x16384 32) (b : Fin 4) (q : Fin 16384) : Affine.IsInt (starts seg (ix2 b q)) (startAt seg b q) := by
  have h0 := starts_nonneg seg b q
  have h1 := starts_le seg b q
  have hq := q.isLt
  refine Affine.isInt_toNat _ ?_
  have := BitVec.toInt_eq_toNat_cond (starts seg (ix2 b q))
  split at this <;> omega

theorem startAt_eq (seg : IVec S4x16384 32) (b : Fin 4) (q : Fin 16384) : (starts seg (ix2 b q)).toInt = (startAt seg b q : Int) :=
  Disch.isInt_out (starts_int seg b q)

theorem startAt_le (seg : IVec S4x16384 32) (b : Fin 4) (q : Fin 16384) : startAt seg b q ≤ q.val := by
  have := starts_le seg b q
  rw [startAt_eq] at this
  omega

theorem startAt_mono (seg : IVec S4x16384 32) (b : Fin 4) (q q' : Fin 16384) (h : q.val ≤ q'.val) : startAt seg b q ≤ startAt seg b q' := by
  have := starts_mono seg b q q' h
  rw [startAt_eq, startAt_eq] at this
  omega

end Cert.Proof.KernelIdeal
-- ==== Proof.KI.Table.lean ====
module

public import proofs.«01_k».proof.Proof.KI.Starts

/-! # The words the launch reads to bound a tile's keys -/

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

variable {F : FTy → Type} [FloatOps F]
variable (m : (ℓ : Loc nD τ sig) → Buf (Elt F) ℓ)

/-- The first and the last entry of each 128 positions, side by side. -/
def bounds (x : IVec S4x16384 32) : IVec S4x256 32 :=
  shapeCast S4x256 (concatenate S4x128x2 2
    [⟨S4x128x1, (broadcastInDim S4x128x1 ![0, 1] bcast_S4x128_S4x128x1_0_1 (shapeCast S4x128 (extractStridedSlice S4x128x1 ![0, 0, 0]
        (shapeCast S4x128x128 x shapeCasts_S4x16384_S4x128x128 : IVec S4x128x128 32) slices_S4x128x128_S4x128x1_0_0_0) shapeCasts_S4x128x1_S4x128 : IVec S4x128 32) : IVec S4x128x1 32)⟩,
     ⟨S4x128x1, (broadcastInDim S4x128x1 ![0, 1] bcast_S4x128_S4x128x1_0_1 (shapeCast S4x128 (extractStridedSlice S4x128x1 ![0, 0, 127]
        (shapeCast S4x128x128 x shapeCasts_S4x16384_S4x128x128 : IVec S4x128x128 32) slices_S4x128x128_S4x128x1_0_0_127) shapeCasts_S4x128x1_S4x128 : IVec S4x128 32) : IVec S4x128x1 32)⟩]
    concatenates_S4x128x1_S4x128x1_S4x128x2_d2 : IVec S4x128x2 32) shapeCasts_S4x128x2_S4x256

theorem V_bounds (c : Dev nD) : V m c main_v17 = bounds (V m c main_v8) := by
  simp only [V, hostOps0, hostOps0_1, hostOps0_2, hostOps0_3, hostOps0_4, hostOps0_5, List.flatten_cons, List.flatten_nil, List.append_nil,
    List.cons_append, List.nil_append]
  after_results
  rfl

theorem bounds_first (x : IVec S4x16384 32) (b : Fin 4) (j : Fin 64) :
    bounds x (ix2 b ⟨4 * j.val, by omega⟩) = x (ix2 b ⟨256 * j.val, by omega⟩) := by
  unfold bounds
  pointwise
  rw [dif_pos (by omega)]
  exact congrArg x (congrArg (ix2 b) (Fin.ext (by show 4 * j.val / 2 * 128 = 256 * j.val; omega)))

theorem bounds_last (x : IVec S4x16384 32) (b : Fin 4) (j : Fin 64) :
    bounds x (ix2 b ⟨4 * j.val + 3, by omega⟩) = x (ix2 b ⟨256 * j.val + 255, by omega⟩) := by
  unfold bounds
  pointwise
  rw [dif_neg (by omega)]
  exact congrArg x (congrArg (ix2 b) (Fin.ext (by show (4 * j.val + 3) / 2 * 128 + 127 = 256 * j.val + 255; omega)))

end Cert.Proof.KernelIdeal
-- ==== Proof.KI.Frame.lean ====
module

public import proofs.«01_k».proof.Proof.KI.Run
public import proofs.«01_k».proof.Proof.KI.Table

/-! # The launch: its proof data, the body at every grid point, the run and the frame -/

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two table words at a grid point -/

/-- The segment ids as launched. -/
abbrev segOf (c : Dev nD) : IVec S4x16384 32 := m ((c : Thread nD τ).loc main_arg7)

/-- The batch entry of a point. -/
def bAt (i : grid0.Coords) : Fin 4 := ⟨(i 0).val, (i 0).isLt⟩

/-- The head of a point. -/
def hAt (i : grid0.Coords) : Fin 8 := ⟨(i 1).val, (i 1).isLt⟩

/-- The tile of queries of a point. -/
def jAt (i : grid0.Coords) : Fin 64 := ⟨(i 2).val, (i 2).isLt⟩

/-- The query at row `r` of a point's tile. -/
def rowAt (i : grid0.Coords) (r : Fin 256) : Fin 16384 := ⟨256 * (jAt i).val + r.val, by have h := (jAt i).isLt; omega⟩

theorem iblk_table (c : Dev nD) (t : Fin cfg0.N) (b : Fin 4) (k : Fin 256) : iblk m c 0 t (ix2 b k) = V m c main_v17 (ix2 b k) := by
  unfold iblk
  refine congrArg (V m c main_v17) (funext fun a => Fin.ext ?_)
  fin_cases a
  · exact (Pipeline.Window.rect_emb_val win0_0 t (ix2 b k) 0).trans (by show 0 * 4 + b.val = b.val; omega)
  · exact (Pipeline.Window.rect_emb_val win0_0 t (ix2 b k) 1).trans (by show 0 * 256 + k.val = k.val; omega)

theorem first_word (c : Dev nD) (t : Fin cfg0.N) :
    loFirst (grid0.coords t) (iblk m c 0 t) = starts (segOf m c) (ix2 (bAt (grid0.coords t)) (rowAt (grid0.coords t) 0)) := by
  unfold loFirst starts
  refine (iblk_table m c t _ _).trans ?_
  rw [V_bounds, V_start]
  exact bounds_first _ (bAt (grid0.coords t)) (jAt (grid0.coords t))

theorem last_word (c : Dev nD) (t : Fin cfg0.N) :
    loLast (grid0.coords t) (iblk m c 0 t) = starts (segOf m c) (ix2 (bAt (grid0.coords t)) (rowAt (grid0.coords t) 255)) := by
  unfold loLast starts
  refine (iblk_table m c t _ _).trans ?_
  rw [V_bounds, V_start]
  exact bounds_last _ (bAt (grid0.coords t)) (jAt (grid0.coords t))

/-- At every point the first word is a key no later than the tile's first row. -/
theorem loAt (c : Dev nD) (t : Fin cfg0.N) :
    Lo (grid0.coords t) (loFirst (grid0.coords t) (iblk m c 0 t)) (startAt (segOf m c) (bAt (grid0.coords t)) (rowAt (grid0.coords t) 0)) where
  word := by rw [first_word]; exact starts_int _ _ _
  le := startAt_le _ _ _

/-! ## The proof data -/

/-- What the body leaves in its output block at point `t`. -/
def outBlk (c : Dev nD) (t : Fin cfg0.N) : FVec F S1x256x128 .bf16 :=
  outTile (loAt m c t) (loLast (grid0.coords t) (iblk m c 0 t)) (iblk m c 1 t) (iblk m c 2 t) (iblk m c 3 t) (iblk m c 4 t) (iblk m c 5 t) (iblk m c 6 t) (iblk m c 7 t) (iblk m c 8 t)

/-- The launch's proof data: each input's buffer keeps its block, the output's is left at `outBlk`; the scratch is at the body's disposal. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlk m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outBlk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body at a point -/

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What the body returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl]
  unfold Pipeline.ΦA
  rw [scopedRest0_eq]
  iintro ⟨⟨⟨%f13, H13⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave H13 := (Entails.of_eq (owns_whole (c : Thread nD τ) cc0_scratch0 fullShare f13).symm) $$ H13
  unfold outBlk
  iapply (sound_kernel c _ _ _ _ _ _ _ _ _ _ _ _ _ _ _ _ _ _ _ _ _ _ _ Set.univ (iblk m c 0 t) (iblk m c 1 t) (iblk m c 2 t) (iblk m c 3 t) (iblk m c 4 t) (iblk m c 5 t) (iblk m c 6 t) (iblk m c 7 t) (iblk m c 8 t) _ (loAt m c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H13]; · iexists _; iexact H13
  iintro ⟨H0, H1, H2, H3, H4, H5, H6, H7, H8, H9, ⟨%d13, H13⟩⟩
  ihave H13 := (Entails.of_eq (owns_whole (c : Thread nD τ) cc0_scratch0 fullShare d13)) $$ H13
  isplitl [HR H13]
  · isplitl [H13]; · iexists _; iexact H13
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated . -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- The launch: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run of the program terminates with the arrays of the pipeline at what the proof data computes and every other unscoped buffer as the launch found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- Every run terminates, leaves every argument array unchanged, and leaves every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Proof.KernelIdeal
-- ==== Proof.Value.Real.lean ====
/-
  The extended-real arithmetic of one softmax row.

  The reference takes the weights `2 ^ (T - M)` of a row of scores `T` with maximum `M`, and rounds 256 times each weight
  to a code. The kernel takes `2 ^ (T - (M - 8))` instead, which is 256 times the weight, and divides the sum of these
  back by 256. The two agree at every extended real.
-/
module

public import Idealize.ShloMosaic.PureOps.Ideal
public import Idealize.ShloMosaic.PureOps.Ideal.Laws
public import Idealize.ShloMosaic.Lib.IdealHost
public import Idealize.ShloMosaic.Lib.Pointwise

@[expose] public section

noncomputable section

namespace Cert.Proof.Value

open Idealize.ShloMosaic

/-- `8` in the kernel's shift of the row maximum. -/
abbrev eight : EReal := Ideal.ofBits .f32 1090519040#32
/-- `256`, the scale of the codes. -/
abbrev c256 : EReal := Ideal.ofBits .f32 1132462080#32
/-- `1 / 256`. -/
abbrev inv256 : EReal := Ideal.ofBits .f32 998244352#32
/-- Minus infinity. -/
abbrev negInf : EReal := Ideal.ofBits .f32 4286578688#32
/-- The largest code. -/
abbrev codeMax : EReal := Ideal.ofBits .f32 1138753536#32
/-- The smallest code. -/
abbrev codeMin : EReal := Ideal.ofBits .f32 3286237184#32

theorem eight_eq : eight = ((8 : ℝ) : EReal) := by
  simp [eight, Ideal.ofBits, Ideal.ieee, -EReal.coe_mul]; norm_num

theorem c256_eq : c256 = ((256 : ℝ) : EReal) := by
  simp [c256, Ideal.ofBits, Ideal.ieee, -EReal.coe_mul]; norm_num

theorem inv256_eq : inv256 = ((1 / 256 : ℝ) : EReal) := by
  simp [inv256, Ideal.ofBits, Ideal.ieee, -EReal.coe_mul]; norm_num

theorem negInf_eq : negInf = ⊥ := by
  simp [negInf, Ideal.ofBits, Ideal.ieee]

theorem codeMax_eq : codeMax = ((448 : ℝ) : EReal) := by
  simp [codeMax, Ideal.ofBits, Ideal.ieee, -EReal.coe_mul]; norm_num

theorem codeMin_eq : codeMin = ((-448 : ℝ) : EReal) := by
  simp [codeMin, Ideal.ofBits, Ideal.ieee, -EReal.coe_mul, -EReal.coe_neg]; norm_num

theorem exp2_nonneg (x : EReal) : 0 ≤ Ideal.exp2 x := by
  induction x with
  | bot => exact le_refl _
  | top => exact le_top
  | coe r => exact EReal.coe_nonneg.mpr (Real.rpow_nonneg (by norm_num) r)

/-- Lowering the maximum by eight multiplies a weight by 256. -/
theorem exp2_shift (t m : EReal) : Ideal.exp2 (t - (m - eight)) = Ideal.exp2 (t - m) * c256 := by
  rw [eight_eq, c256_eq]
  induction t with
  | bot => simp [Ideal.exp2_bot]
  | top =>
    induction m with
    | bot => simp [EReal.top_mul_coe_of_pos]
    | top => simp
    | coe b =>
      rw [← EReal.coe_sub, EReal.top_sub_coe, EReal.top_sub_coe, Ideal.exp2_top, EReal.top_mul_coe_of_pos (by norm_num)]
  | coe a =>
    induction m with
    | bot => simp [EReal.top_mul_coe_of_pos]
    | top => simp
    | coe b =>
      rw [← EReal.coe_sub, ← EReal.coe_sub, ← EReal.coe_sub, Ideal.exp2_coe, Ideal.exp2_coe, ← EReal.coe_mul]
      refine congrArg _ ?_
      have e : a - (b - 8) = (a - b) + 8 := by ring
      rw [e]
      show (2 : ℝ) ^ (a - b + 8) = (2 : ℝ) ^ (a - b) * 256
      rw [Real.rpow_add (by norm_num)]
      norm_num

theorem sum_mul_of_nonneg {ι : Type} (s : Finset ι) (f : ι → EReal) (hf : ∀ i, 0 ≤ f i) (c : EReal) :
    (∑ i ∈ s, f i) * c = ∑ i ∈ s, f i * c := by
  classical
  induction s using Finset.induction_on with
  | empty => simp
  | insert a s ha ih =>
    rw [Finset.sum_insert ha, Finset.sum_insert ha, ← ih, EReal.right_distrib_of_nonneg (hf a) (Finset.sum_nonneg fun i _ => hf i)]

theorem c256_mul_inv256 : c256 * inv256 = 1 := by
  rw [c256_eq, inv256_eq, ← EReal.coe_mul]; norm_num

/-- The sum of the shifted weights, scaled back, is the sum of the weights. -/
theorem sum_shift {ι : Type} [Fintype ι] (t : ι → EReal) (m : EReal) :
    (∑ i, Ideal.exp2 (t i - (m - eight))) * inv256 = ∑ i, Ideal.exp2 (t i - m) := by
  rw [sum_mul_of_nonneg _ _ (fun _ => exp2_nonneg _)]
  refine Finset.sum_congr rfl fun i _ => ?_
  rw [exp2_shift, mul_assoc, c256_mul_inv256, mul_one]

/-- The code of a shifted weight. -/
def code (x : EReal) : EReal := min codeMax (max codeMin x)

theorem code_zero : code 0 = 0 := by
  unfold code
  rw [codeMax_eq, codeMin_eq, max_eq_right (by exact_mod_cast (by norm_num : (-448 : ℝ) ≤ 0)),
    min_eq_right (by exact_mod_cast (by norm_num : (0 : ℝ) ≤ 448))]

/-- The attention of one row of scores `T` on one column of values `v`, whose scale is `vs`. -/
def attend (T : Fin 16384 → EReal) (v : Fin 16384 → EReal) (vs : EReal) : EReal :=
  let M := Finset.univ.fold max negInf T
  Ideal.div ((∑ x, code (Ideal.exp2 (T x - M) * c256) * v x) * inv256 * vs) (∑ x, Ideal.exp2 (T x - M))

/-- The same from the shifted weights. -/
theorem attend_shift (T : Fin 16384 → EReal) (v : Fin 16384 → EReal) (vs M : EReal) (hM : Finset.univ.fold max negInf T = M) :
    Ideal.div ((∑ x, code (Ideal.exp2 (T x - (M - eight))) * v x) * inv256 * vs) ((∑ x, Ideal.exp2 (T x - (M - eight))) * inv256)
      = attend T v vs := by
  unfold attend
  rw [hM, sum_shift]
  simp only [exp2_shift]

/-- The maximum of a row from its bounds. -/
theorem fold_max_eq {ι : Type} [Fintype ι] (T : ι → EReal) (M : EReal) (h : ∀ x, T x ≤ M) (h' : ∀ B, (∀ x, T x ≤ B) → M ≤ B) :
    Finset.univ.fold max negInf T = M := by
  refine le_antisymm ?_ (h' _ fun x => ?_)
  · rw [Finset.fold_max_le]; exact ⟨by rw [negInf_eq]; exact bot_le, fun x _ => h x⟩
  · rw [Finset.le_fold_max]; exact .inr ⟨x, Finset.mem_univ _, le_refl _⟩

end Cert.Proof.Value
-- ==== Proof.Value.Words.lean ====
/-
  The mask on words: a key's score stays where its position is at least the row's first visible position and at most the
  row's own.
-/
module

public import Idealize.ShloMosaic.Lib.Affine
public import Idealize.ShloMosaic.Lib.Affine.Words
public import Idealize.ShloMosaic.Lib.Tactic.Disch

@[expose] public section

namespace Cert.Proof.Value

open Idealize.ShloMosaic

theorem sle_iff {x y : BitVec 32} {a b : Nat} (hx : Affine.IsInt x a) (hy : Affine.IsInt y b) : x.sle y = true ↔ a ≤ b := by
  have e1 := Disch.isInt_out hx
  have e2 := Disch.isInt_out hy
  rw [BitVec.sle_iff_toInt_le, e1, e2]
  omega

/-- The program's mask at a key and a row. -/
theorem select_mask {α : Type} {k s p : BitVec 32} {kn sn pn : Nat} (hk : Affine.IsInt k kn) (hs : Affine.IsInt s sn) (hp : Affine.IsInt p pn) (x y : α) :
    Scalar.select (IntOp.andi (IntOp.cmpi .sge k s) (IntOp.cmpi .sle k p)) x y = if sn ≤ kn ∧ kn ≤ pn then x else y := by
  have h1 := sle_iff hs hk
  have h2 := sle_iff hk hp
  have e : ∀ a b : Bool, (BitVec.ofBool a &&& BitVec.ofBool b = (1 : BitVec 1)) ↔ (a = true ∧ b = true) := by decide
  have he := (e (s.sle k) (k.sle p)).trans (and_congr h1 h2)
  show (if BitVec.ofBool (s.sle k) &&& BitVec.ofBool (k.sle p) = (1 : BitVec 1) then x else y) = _
  by_cases c : sn ≤ kn ∧ kn ≤ pn
  · rw [if_pos c, if_pos (he.mpr c)]
  · rw [if_neg c, if_neg (fun hc => c (he.mp hc))]

end Cert.Proof.Value
-- ==== Proof.Value.Scores.lean ====
/-
  The scores of a tile, key by key.

  The piece stored for row `r` at key `k` of the sequence is the score of the pair, or minus infinity where the row does
  not see the key. A block stored without a mask is one every row of the tile sees entirely, so the same reading holds.
-/
module

public import proofs.«01_k».proof.Proof.KI.Run
public import proofs.«01_k».proof.Proof.Value.Real
public import proofs.«01_k».proof.Proof.Value.Words
public import Idealize.ShloMosaic.Lib.Pointwise

@[expose] public section

set_option maxRecDepth 16384

noncomputable section

namespace Cert.Proof.KernelIdeal

open Cert.KernelIdeal Cert.KernelIdeal.Gen Cert.Proof.Value
open Idealize.ShloMosaic Idealize.ShloMosaic.TcCoe Idealize.ShloMosaic.Tactic

/-! ## The operations of a block at one row and one key -/

/-- The score of one query and one key: their product and that of the group's correction row with the key, under the
    scales. -/
def pair (q mq kc : Fin 128 → EReal) (sk sq : EReal) : EReal :=
  (∑ x, q x * kc x) * (sk * Ideal.ofBits FTy.f32 1040356334#32 * sq) + (∑ x, mq x * kc x) * (sk * Ideal.ofBits FTy.f32 1040356334#32)

theorem score_apply (g : Fin 2) (kc : Vec Ideal S1x512x128 .fp8e4m3) (mq : Vec Ideal S1x1x1x16x128 .bf16) (sk : Vec Ideal S1x1x1x512 .f32)
    (q : Vec Ideal S1x128x128 .fp8e4m3) (s : Elt Ideal .f32) (r : Fin 128) (k : Fin 512) :
    score (F := Ideal) g kc mq sk q s (ix2 r k)
      = pair (fun x => q (ix3 0 r x)) (fun x => mq (ix5 0 0 0 ⟨g.val, by omega⟩ x)) (fun x => kc (ix3 0 k x)) (sk (ix4 0 0 0 k)) s := by
  unfold pair
  match g with
  | 0 =>
    unfold score
    simp only [k0_pay31, k0_pay28, k0_pay29, k0_pay30]
    pointwise
  | 1 =>
    unfold score
    simp only [k0_pay50, k0_pay28, k0_pay29, k0_pay30, k0_pay48, k0_pay49]
    pointwise

theorem cut_apply (c : Fin 4) (t : FVec Ideal S128x512 .f32) (r l : Fin 128) :
    cut (F := Ideal) c t (ix2 r l) = t (ix2 r ⟨128 * c.val + l.val, by omega⟩) := by
  match c with
  | 0 => unfold cut; pointwise; first | done | exact congrArg (fun k => t (ix2 r k)) (Fin.ext (by show l.val = 128 * 0 + l.val; omega))
  | 1 => unfold cut; pointwise; first | done | exact congrArg (fun k => t (ix2 r k)) (Fin.ext (by show _ = 128 * 1 + l.val; omega))
  | 2 => unfold cut; pointwise; first | done | exact congrArg (fun k => t (ix2 r k)) (Fin.ext (by show _ = 128 * 2 + l.val; omega))
  | 3 => unfold cut; pointwise; first | done | exact congrArg (fun k => t (ix2 r k)) (Fin.ext (by show _ = 128 * 3 + l.val; omega))

theorem rows_apply {α : Type} (g : Fin 2) (x : S256x128.Idx → α) (r l : Fin 128) :
    rows g x (ix2 r l) = x (ix2 ⟨128 * g.val + r.val, by omega⟩ l) := by
  match g with
  | 0 => unfold rows; pointwise; first | done | exact congrArg (fun k => x (ix2 k l)) (Fin.ext (by show r.val = 128 * 0 + r.val; omega))
  | 1 => unfold rows; pointwise; first | done | exact congrArg (fun k => x (ix2 k l)) (Fin.ext (by show _ = 128 * 1 + r.val; omega))

theorem masked_apply (lo pos lane : IVec S256x128 32) (j : BitVec 32) (g : Fin 2) (c : Fin 4) (x : FVec Ideal S128x128 .f32) (r l : Fin 128) :
    masked (F := Ideal) lo pos lane j g c x (ix2 r l)
      = Scalar.select (IntOp.andi
          (IntOp.cmpi .sge (IntOp.addi (Scalar.addi (Scalar.muli j 512#32) (pieceW c)) (lane (ix2 ⟨128 * g.val + r.val, by omega⟩ l))) (lo (ix2 ⟨128 * g.val + r.val, by omega⟩ l)))
          (IntOp.cmpi .sle (IntOp.addi (Scalar.addi (Scalar.muli j 512#32) (pieceW c)) (lane (ix2 ⟨128 * g.val + r.val, by omega⟩ l))) (pos (ix2 ⟨128 * g.val + r.val, by omega⟩ l))))
        (x (ix2 r l)) negInf := by
  rw [← rows_apply g lane r l, ← rows_apply g lo r l, ← rows_apply g pos r l]
  rfl

theorem lo_apply (lo : Vec Ideal S1x1x1x256 .i32) (y : Fin 256) (l : Fin 128) : k0_pay134 (F := Ideal) lo (ix2 y l) = lo (ix4 0 0 0 y) := by
  unfold k0_pay134
  pointwise

theorem pos_apply (r : BitVec 32) (y : Fin 256) (l : Fin 128) : k0_pay135 r (ix2 y l) = IntOp.addi r (BitVec.ofNat 32 y.val) := by
  unfold k0_pay135
  pointwise

theorem lane_apply (y : Fin 256) (l : Fin 128) : iota .tc S256x128 32 [1] iota_S256x128_d1_w32 (ix2 y l) = BitVec.ofNat 32 l.val := by
  pointwise

theorem kblk_apply (x : Vec Ideal S1x16384x128 .fp8e4m3) (j : Fin 32) (k : Fin 512) (d : Fin 128) :
    kblk x j (ix3 0 k d) = x (ix3 0 ⟨512 * j.val + k.val, by omega⟩ d) := by
  unfold kblk VecWindow.window
  refine congrArg x (funext fun a => Fin.ext ?_)
  fin_cases a <;> simp [Rect.unit, Rect.emb, ix3]

theorem sblk_apply (x : Vec Ideal S1x1x1x16384 .f32) (j : Fin 32) (k : Fin 512) :
    sblk x j (ix4 0 0 0 k) = x (ix4 0 0 0 ⟨512 * j.val + k.val, by omega⟩) := by
  unfold sblk VecWindow.window
  refine congrArg x (funext fun a => Fin.ext ?_)
  fin_cases a <;> simp [Rect.unit, Rect.emb, ix4]

theorem qgrp_apply (x : Vec Ideal S1x256x128 .fp8e4m3) (g : Fin 2) (r : Fin 128) (d : Fin 128) :
    qgrp x g (ix3 0 r d) = x (ix3 0 ⟨128 * g.val + r.val, by omega⟩ d) := by
  unfold qgrp VecWindow.window
  refine congrArg x (funext fun a => Fin.ext ?_)
  fin_cases a <;> simp [Rect.unit, Rect.emb, ix3]

/-! ## A tile's scores -/

section Tile

variable {i : grid0.Coords} {v : BitVec 32} {n : Nat} (h : Lo i v n) (w : BitVec 32)
variable (x4 : Vec Ideal S4x8x128 .f32) (x5 : Vec Ideal S1x256x128 .fp8e4m3) (x6 : Vec Ideal S1x16384x128 .fp8e4m3)
  (x8 : Vec Ideal S1x1x1x16x128 .bf16) (x9 : Vec Ideal S1x1x1x16384 .f32) (x11 : Vec Ideal S1x1x1x256 .i32)
  (s : Fin 256 → Nat)

/-- The score of row `r` of the tile at key `k`. -/
def rowScore (i : grid0.Coords) (x4 : Vec Ideal S4x8x128 .f32) (x5 : Vec Ideal S1x256x128 .fp8e4m3) (x6 : Vec Ideal S1x16384x128 .fp8e4m3)
    (x8 : Vec Ideal S1x1x1x16x128 .bf16) (x9 : Vec Ideal S1x1x1x16384 .f32) (r : Fin 256) (k : Fin 16384) : EReal :=
  pair (fun x => x5 (ix3 0 r x)) (fun x => x8 (ix5 0 0 0 ⟨r.val / 128, by omega⟩ x)) (fun x => x6 (ix3 0 k x)) (x9 (ix4 0 0 0 k))
    (qsc x4 i ⟨r.val / 128, by omega⟩)

/-- The same, minus infinity at a key the row does not see. -/
def rowT (i : grid0.Coords) (x4 : Vec Ideal S4x8x128 .f32) (x5 : Vec Ideal S1x256x128 .fp8e4m3) (x6 : Vec Ideal S1x16384x128 .fp8e4m3)
    (x8 : Vec Ideal S1x1x1x16x128 .bf16) (x9 : Vec Ideal S1x1x1x16384 .f32) (s : Fin 256 → Nat) (r : Fin 256) (k : Fin 16384) : EReal :=
  if s r ≤ k.val ∧ k.val ≤ 256 * (i 2).val + r.val then rowScore i x4 x5 x6 x8 x9 r k else negInf

/-- What the table says of a tile: row `r` first sees key `s r`, and the first keys do not decrease. -/
structure Seen (w : BitVec 32) (n : Nat) (x11 : Vec Ideal S1x1x1x256 .i32) (s : Fin 256 → Nat) : Prop where
  word : ∀ r, Affine.IsInt (x11 (ix4 0 0 0 r)) (s r)
  last : Affine.IsInt w (s 255)
  mono : ∀ r r' : Fin 256, r.val ≤ r'.val → s r ≤ s r'
  first : s 0 = n

variable {w x11 s} (hs : Seen w n x11 s)

/-- The key at column `l` of piece `c` of trip `t`. -/
def keyAt (t : Fin (k0_t1_loop i v).trips) (c : Fin 4) (l : Fin 128) : Fin 16384 :=
  ⟨512 * (h.blk t).val + (128 * c.val + l.val), by have := (h.blk t).isLt; omega⟩

include hs in
/-- What trip `t` stores at row `r`. -/
theorem both_apply (t : Fin (k0_t1_loop i v).trips) (c : Fin 4) (r : Fin 256) (l : Fin 128) :
    both (tileT h w x4 x5 x6 x8 x9 x11 t) c (ix2 r l) = rowT i x4 x5 x6 x8 x9 s r (keyAt h t c l) := by
  have hr := r.isLt
  have hi : (i 2).val < 64 := (i 2).isLt
  have hb : (h.blk t).val = n / 512 + t.val := rfl
  have hb32 := (h.blk t).isLt
  have hcut : ∀ g : Fin 2, g.val = r.val / 128 →
      cut c (score (F := Ideal) g (kblk x6 (h.blk t)) x8 (sblk x9 (h.blk t)) (qgrp x5 g) (qsc x4 i g)) (ix2 ⟨r.val % 128, by omega⟩ l)
        = rowScore i x4 x5 x6 x8 x9 r (keyAt h t c l) := fun g hg => by
    rw [cut_apply, score_apply]
    unfold rowScore keyAt
    simp only [kblk_apply, sblk_apply, qgrp_apply]
    have e1 : (⟨128 * g.val + r.val % 128, by omega⟩ : Fin 256) = r := Fin.ext (by show 128 * g.val + r.val % 128 = r.val; omega)
    have e2 : g = ⟨r.val / 128, by omega⟩ := Fin.ext hg
    have e3 : (⟨g.val, by omega⟩ : Fin 16) = ⟨r.val / 128, by omega⟩ := Fin.ext hg
    rw [e1, e3]
    exact congrArg (pair _ _ _ _) (congrArg (qsc x4 i) e2)
  obtain ⟨g, hg⟩ : ∃ g : Fin 2, g = ⟨r.val / 128, by omega⟩ := ⟨_, rfl⟩
  have hgv : g.val = r.val / 128 := by rw [hg]
  show tileT h w x4 x5 x6 x8 x9 x11 t ⟨r.val / 128, _⟩ c (ix2 ⟨r.val % 128, _⟩ ⟨l.val, _⟩) = _
  unfold tileT tile piece
  rcases Bool.eq_false_or_eq_true (decide (k0_cond1 i v w t = 1#1)) with hd | hd <;> rw [hd] <;> dsimp only
  · have hc := h.cond hs.last t (of_decide_eq_true hd)
    rw [← hg, hcut g hgv]
    unfold rowT
    have := hs.mono r 255 (by show r.val ≤ 255; omega)
    have hk : (keyAt h t c l).val = 512 * (h.blk t).val + (128 * c.val + l.val) := rfl
    rw [if_pos (by rw [hk, hb]; have := c.isLt; have := l.isLt; omega)]
  · rw [masked_apply, ← hg, hcut g hgv, lo_apply, pos_apply, lane_apply]
    unfold rowT
    have e1 : (⟨128 * g.val + r.val % 128, by omega⟩ : Fin 256) = r := Fin.ext (by show 128 * g.val + r.val % 128 = r.val; omega)
    have hc := c.isLt
    have hl := l.isLt
    have hkey := h.key t (128 * c.val) (by omega)
    have hlw : Affine.IsInt (BitVec.ofNat 32 l.val) (l.val : Int) := Affine.ofNat _ (by omega)
    have hk : Affine.IsInt (IntOp.addi (Scalar.addi (Scalar.muli (Scf.iv (floorW v) 1#32 t) 512#32) (pieceW c)) (BitVec.ofNat 32 l.val)) ((keyAt h t c l).val : Int) :=
      Affine.addi hkey hlw (by
        have hk : (keyAt h t c l).val = 512 * (h.blk t).val + (128 * c.val + l.val) := rfl
        omega)
    have hrw : Affine.IsInt (BitVec.ofNat 32 r.val) (r.val : Int) := Affine.ofNat _ (by omega)
    have ha : Affine.IsInt (BitVec.ofNat 32 (i 2).val) ((i 2).val : Int) := Affine.ofNat _ (by omega)
    have c256 : Affine.IsInt 256#32 (256) := Affine.ofNat _ (by omega)
    have hp : Affine.IsInt (IntOp.addi (Scalar.muli (BitVec.ofNat 32 (i 2).val) 256#32) (BitVec.ofNat 32 r.val))
        ((256 * (i 2).val + r.val : Nat) : Int) :=
      Affine.addi (Affine.muli ha c256 (e := 256 * ((i 2).val : Int)) (by omega)) hrw (by omega)
    rw [e1]
    exact select_mask hk (hs.word r) hp _ _

end Tile

end Cert.Proof.KernelIdeal
-- ==== Proof.Value.Spec.lean ====
/-
  What both programs compute, as a function of their arguments.

  Row `q` of batch entry `b` and head `h` attends to the keys from the first position of its document up to itself. The
  result at `(b, q, 128 h + d)` is the attention of the row's scores on column `128 h + d` of the values.
-/
module

public import proofs.«01_k».proof.Proof.Value.Scores
public import proofs.«01_k».proof.Proof.KI.Starts

@[expose] public section

noncomputable section

namespace Cert.Proof.Value

open Cert.KernelIdeal Cert.Proof.KernelIdeal
open Idealize.ShloMosaic Idealize.ShloMosaic.TcCoe

variable (a0 a3 a5 : Vec Ideal S4x16384x1024 .fp8e4m3) (a1 a6 : Vec Ideal S4x8x128 .f32) (a2 : Vec Ideal S4x8x128x128 .bf16)
  (a4 : Vec Ideal S4x8x256 .f32) (a7 : IVec S4x16384 32)

/-- Column `x` of head `h`. -/
def col (h : Fin 8) (x : Fin 128) : Fin 1024 := ⟨128 * h.val + x.val, by omega⟩

/-- The score of query `q` at key `k`, minus infinity at a key the query does not see. -/
def specT (b : Fin 4) (h : Fin 8) (q k : Fin 16384) : EReal :=
  if startAt a7 b q ≤ k.val ∧ k.val ≤ q.val then
    pair (fun x => a0 (ix3 b q (col h x))) (fun x => a2 (ix4 b h ⟨q.val / 128, by omega⟩ x)) (fun x => a3 (ix3 b k (col h x)))
      (a4 (ix3 b h ⟨k.val / 64, by omega⟩)) (a1 (ix3 b h ⟨q.val / 128, by omega⟩))
  else negInf

/-- The result at one entry. -/
def specAt (b : Fin 4) (h : Fin 8) (q : Fin 16384) (d : Fin 128) : EReal :=
  attend (specT a0 a3 a1 a2 a4 a7 b h q) (fun k => a5 (ix3 b k (col h d))) (a6 (ix3 b h d))

/-- The result. -/
def spec : Vec Ideal S4x16384x1024 .bf16 := fun x =>
  specAt a0 a3 a5 a1 a6 a2 a4 a7 ⟨(x 0).val, (x 0).isLt⟩
    ⟨(x 2).val / 128, by have h : (x 2).val < 1024 := (x 2).isLt; omega⟩ ⟨(x 1).val, (x 1).isLt⟩ ⟨(x 2).val % 128, Nat.mod_lt _ (by omega)⟩

theorem spec_col (b : Fin 4) (h : Fin 8) (q : Fin 16384) (d : Fin 128) :
    spec a0 a3 a5 a1 a6 a2 a4 a7 (ix3 b q (col h d)) = specAt a0 a3 a5 a1 a6 a2 a4 a7 b h q d := by
  have e1 : (⟨(128 * h.val + d.val) / 128, by omega⟩ : Fin 8) = h := Fin.ext (by show (128 * h.val + d.val) / 128 = h.val; omega)
  have e2 : (⟨(128 * h.val + d.val) % 128, by omega⟩ : Fin 128) = d := Fin.ext (by show (128 * h.val + d.val) % 128 = d.val; omega)
  show specAt a0 a3 a5 a1 a6 a2 a4 a7 b ⟨(128 * h.val + d.val) / 128, _⟩ q ⟨(128 * h.val + d.val) % 128, _⟩ = _
  rw [e1, e2]

end Cert.Proof.Value
-- ==== Proof.Value.KernelBlocks.lean ====
/-
  The blocks the launch stages at a grid point, entry by entry, as entries of the arguments.
-/
module

public import proofs.«01_k».proof.Proof.KI.Frame
public import proofs.«01_k».proof.Proof.Value.Spec

@[expose] public section

set_option maxRecDepth 16384

noncomputable section

namespace Cert.Proof.KernelIdeal

open Cert.KernelIdeal Cert.KernelIdeal.Gen Cert.Proof.Value
open Idealize.ShloMosaic Idealize.ShloMosaic.TcCoe Idealize.ShloMosaic.Tactic

variable (m : (ℓ : Loc nD τ sig) → Buf (Elt Ideal) ℓ) (c : Dev nD) (t : Fin cfg0.N)

/-! ## The arrays the host prepares -/

theorem V_scale : V m c main_v20 = shapeCast S4x8x1x16384 (shapeCast S4x8x16384
    (broadcastInDim S4x8x256x64 ![0, 1, 2] bcast_S4x8x256_S4x8x256x64_0_1_2 (m ((c : Thread nD τ).loc main_arg4) : Vec Ideal S4x8x256 .f32) : Vec Ideal S4x8x256x64 .f32)
    shapeCasts_S4x8x256x64_S4x8x16384 : Vec Ideal S4x8x16384 .f32) shapeCasts_S4x8x16384_S4x8x1x16384 := by
  simp only [V, hostOps0, hostOps0_1, hostOps0_2, hostOps0_3, hostOps0_4, hostOps0_5, List.flatten_cons, List.flatten_nil, List.append_nil,
    List.cons_append, List.nil_append]
  after_results
  rfl

theorem V_vscale : V m c main_v23 = shapeCast S4x8x1x128 (m ((c : Thread nD τ).loc main_arg6) : Vec Ideal S4x8x128 .f32) shapeCasts_S4x8x128_S4x8x1x128 := by
  simp only [V, hostOps0, hostOps0_1, hostOps0_2, hostOps0_3, hostOps0_4, hostOps0_5, List.flatten_cons, List.flatten_nil, List.append_nil,
    List.cons_append, List.nil_append]
  after_results
  rfl

/-- The correction rows, two to a tile, under fourteen more. -/
def padded (x : Vec Ideal S4x8x128x128 .bf16) (z : Vec Ideal S_ .bf16) : Vec Ideal S4x8x64x16x128 .bf16 :=
  pad S4x8x64x16x128 ![0, 0, 0, 0, 0] ![0, 0, 0, 14, 0] ![0, 0, 0, 0, 0] (shapeCast S4x8x64x2x128 x shapeCasts_S4x8x128x128_S4x8x64x2x128 : Vec Ideal S4x8x64x2x128 .bf16) z
    pads_S4x8x64x2x128_S4x8x64x16x128_000_000_000_0140_000 h_S_

theorem V_corr : ∃ z, V m c main_v22 = padded (m ((c : Thread nD τ).loc main_arg2)) z := by
  refine ⟨(sitofp .bf16 (constantI S_ 32 0#32) : FVec Ideal S_ .bf16), ?_⟩
  simp only [V, hostOps0, hostOps0_1, hostOps0_2, hostOps0_3, hostOps0_4, hostOps0_5, List.flatten_cons, List.flatten_nil, List.append_nil,
    List.cons_append, List.nil_append]
  after_results
  simp only [StableHlo.TRef.ofBuf_toBuf]
  have h1 : ∀ v : Vec Ideal S4x8x64x16x128 .bf16, (StableHlo.TRef.of main_v22 : StableHlo.TRef sig ⟨S4x8x64x16x128, .bf16⟩).toBuf (Val := Elt Ideal) v = v := fun _ => rfl
  have h2 : ∀ v : Vec Ideal S4x8x64x2x128 .bf16, (StableHlo.TRef.of main_v21 : StableHlo.TRef sig ⟨S4x8x64x2x128, .bf16⟩).ofBuf (Val := Elt Ideal) v = v := fun _ => rfl
  have h3 : ∀ v : IVec S_ 32, (StableHlo.TRef.of main_c_1 : StableHlo.TRef sig ⟨S_, .i32⟩).ofBuf (Val := Elt Ideal) v = v := fun _ => rfl
  refine (h1 _).trans ?_
  rw [h2, h3]
  rfl

theorem padded_apply (x : Vec Ideal S4x8x128x128 .bf16) (z : Vec Ideal S_ .bf16) (b : Fin 4) (h : Fin 8) (j : Fin 64) (g : Fin 2) (d : Fin 128) :
    padded x z (ix5 b h j ⟨g.val, by omega⟩ d) = x (ix4 b h ⟨2 * j.val + g.val, by omega⟩ d) := by
  unfold padded
  pointwise
  exact congrArg (fun g => x (ix4 b h g d)) (Fin.ext (by show j.val * 2 + g.val = 2 * j.val + g.val; omega))

theorem scale_apply (x : Vec Ideal S4x8x256 .f32) (b : Fin 4) (h : Fin 8) (k : Fin 16384) :
    (shapeCast S4x8x1x16384 (shapeCast S4x8x16384 (broadcastInDim S4x8x256x64 ![0, 1, 2] bcast_S4x8x256_S4x8x256x64_0_1_2 x : Vec Ideal S4x8x256x64 .f32)
    shapeCasts_S4x8x256x64_S4x8x16384 : Vec Ideal S4x8x16384 .f32) shapeCasts_S4x8x16384_S4x8x1x16384 : Vec Ideal S4x8x1x16384 .f32) (ix4 b h 0 k)
      = x (ix3 b h ⟨k.val / 64, by omega⟩) := by
  pointwise

theorem vscale_apply (x : Vec Ideal S4x8x128 .f32) (b : Fin 4) (h : Fin 8) (d : Fin 128) :
    (shapeCast S4x8x1x128 x shapeCasts_S4x8x128_S4x8x1x128 : Vec Ideal S4x8x1x128 .f32) (ix4 b h 0 d) = x (ix3 b h d) := by
  pointwise

theorem tileStart_apply (x : IVec S4x16384 32) (b : Fin 4) (j : Fin 64) (r : Fin 256) :
    (shapeCast S4x64x1x256 x shapeCasts_S4x16384_S4x64x1x256 : IVec S4x64x1x256 32) (ix4 b j 0 r) = x (ix2 b ⟨256 * j.val + r.val, by omega⟩) := by
  pointwise
  exact congrArg (fun q => x (ix2 b q)) (Fin.ext (by show j.val * 256 + r.val = 256 * j.val + r.val; omega))

theorem V_tile_apply (b : Fin 4) (j : Fin 64) (r : Fin 256) :
    V m c main_v24 (ix4 b j 0 r) = starts (segOf m c) (ix2 b ⟨256 * j.val + r.val, by omega⟩) := by
  rw [V_tile, tileStart_apply, V_start, starts]

/-! ## The staged blocks -/

/-- A grid coordinate as the index maps read it. -/
theorem coord_toNat (a : Fin 3) : (BitVec.ofNat 32 (grid0.coords t a).val).toNat = (grid0.coords t a).val := by
  have h : (grid0.coords t a).val < 64 := by
    have := (grid0.coords t a).isLt
    match a with
    | 0 => exact lt_of_lt_of_le this (by decide)
    | 1 => exact lt_of_lt_of_le this (by decide)
    | 2 => exact this
  rw [BitVec.toNat_ofNat]
  omega

theorem blk1 (b : Fin 4) (h : Fin 8) (g : Fin 128) : iblk m c 1 t (ix3 b h g) = m ((c : Thread nD τ).loc main_arg1) (ix3 b h g) := by
  unfold iblk
  refine Eq.trans (congrArg (V m c main_arg1) (funext fun a => Fin.ext ?_)) (congrFun (V_main_arg1 m c) (ix3 b h g))
  fin_cases a
  · exact (Pipeline.Window.rect_emb_val win0_1 t (ix3 b h g) 0).trans (by show 0 * 4 + b.val = b.val; omega)
  · exact (Pipeline.Window.rect_emb_val win0_1 t (ix3 b h g) 1).trans (by show 0 * 8 + h.val = h.val; omega)
  · exact (Pipeline.Window.rect_emb_val win0_1 t (ix3 b h g) 2).trans (by show 0 * 128 + g.val = g.val; omega)

theorem blk2 (r : Fin 256) (x : Fin 128) : iblk m c 2 t (ix3 0 r x)
    = m ((c : Thread nD τ).loc main_arg0) (ix3 (bAt (grid0.coords t)) (rowAt (grid0.coords t) r) (col (hAt (grid0.coords t)) x)) := by
  unfold iblk
  refine Eq.trans (congrArg (V m c main_arg0) (funext fun a => Fin.ext ?_)) (congrFun (V_main_arg0 m c) (ix3 (bAt (grid0.coords t)) (rowAt (grid0.coords t) r) (col (hAt (grid0.coords t)) x)))
  fin_cases a
  · exact (Pipeline.Window.rect_emb_val win0_2 t (ix3 0 r x) 0).trans (by
      show (BitVec.ofNat 32 (grid0.coords t 0).val).toNat * 1 + 0 = (grid0.coords t 0).val; rw [coord_toNat t 0]; omega)
  · exact (Pipeline.Window.rect_emb_val win0_2 t (ix3 0 r x) 1).trans (by
      show (BitVec.ofNat 32 (grid0.coords t 2).val).toNat * 256 + r.val = 256 * (grid0.coords t 2).val + r.val; rw [coord_toNat t 2]; omega)
  · exact (Pipeline.Window.rect_emb_val win0_2 t (ix3 0 r x) 2).trans (by
      show (BitVec.ofNat 32 (grid0.coords t 1).val).toNat * 128 + x.val = 128 * (grid0.coords t 1).val + x.val; rw [coord_toNat t 1]; omega)

theorem blk3 (k : Fin 16384) (x : Fin 128) : iblk m c 3 t (ix3 0 k x)
    = m ((c : Thread nD τ).loc main_arg3) (ix3 (bAt (grid0.coords t)) k (col (hAt (grid0.coords t)) x)) := by
  unfold iblk
  refine Eq.trans (congrArg (V m c main_arg3) (funext fun a => Fin.ext ?_)) (congrFun (V_main_arg3 m c) (ix3 (bAt (grid0.coords t)) k (col (hAt (grid0.coords t)) x)))
  fin_cases a
  · exact (Pipeline.Window.rect_emb_val win0_3 t (ix3 0 k x) 0).trans (by
      show (BitVec.ofNat 32 (grid0.coords t 0).val).toNat * 1 + 0 = (grid0.coords t 0).val; rw [coord_toNat t 0]; omega)
  · exact (Pipeline.Window.rect_emb_val win0_3 t (ix3 0 k x) 1).trans (by
      show 0 * 16384 + k.val = k.val; omega)
  · exact (Pipeline.Window.rect_emb_val win0_3 t (ix3 0 k x) 2).trans (by
      show (BitVec.ofNat 32 (grid0.coords t 1).val).toNat * 128 + x.val = 128 * (grid0.coords t 1).val + x.val; rw [coord_toNat t 1]; omega)

theorem blk4 (k : Fin 16384) (x : Fin 128) : iblk m c 4 t (ix3 0 k x)
    = m ((c : Thread nD τ).loc main_arg5) (ix3 (bAt (grid0.coords t)) k (col (hAt (grid0.coords t)) x)) := by
  unfold iblk
  refine Eq.trans (congrArg (V m c main_arg5) (funext fun a => Fin.ext ?_)) (congrFun (V_main_arg5 m c) (ix3 (bAt (grid0.coords t)) k (col (hAt (grid0.coords t)) x)))
  fin_cases a
  · exact (Pipeline.Window.rect_emb_val win0_4 t (ix3 0 k x) 0).trans (by
      show (BitVec.ofNat 32 (grid0.coords t 0).val).toNat * 1 + 0 = (grid0.coords t 0).val; rw [coord_toNat t 0]; omega)
  · exact (Pipeline.Window.rect_emb_val win0_4 t (ix3 0 k x) 1).trans (by
      show 0 * 16384 + k.val = k.val; omega)
  · exact (Pipeline.Window.rect_emb_val win0_4 t (ix3 0 k x) 2).trans (by
      show (BitVec.ofNat 32 (grid0.coords t 1).val).toNat * 128 + x.val = 128 * (grid0.coords t 1).val + x.val; rw [coord_toNat t 1]; omega)

theorem blk5 (g : Fin 2) (x : Fin 128) : iblk m c 5 t (ix5 0 0 0 ⟨g.val, by omega⟩ x)
    = m ((c : Thread nD τ).loc main_arg2) (ix4 (bAt (grid0.coords t)) (hAt (grid0.coords t)) ⟨2 * (jAt (grid0.coords t)).val + g.val, by omega⟩ x) := by
  obtain ⟨z, hz⟩ := V_corr m c
  unfold iblk
  refine Eq.trans (congrArg (V m c main_v22) (funext fun a => Fin.ext ?_))
    ((congrFun hz (ix5 (bAt (grid0.coords t)) (hAt (grid0.coords t)) (jAt (grid0.coords t)) ⟨g.val, by omega⟩ x)).trans
      (padded_apply _ z (bAt (grid0.coords t)) (hAt (grid0.coords t)) (jAt (grid0.coords t)) g x))
  fin_cases a
  · exact (Pipeline.Window.rect_emb_val win0_5 t (ix5 0 0 0 ⟨g.val, by omega⟩ x) 0).trans (by
      show (BitVec.ofNat 32 (grid0.coords t 0).val).toNat * 1 + 0 = (grid0.coords t 0).val; rw [coord_toNat t 0]; omega)
  · exact (Pipeline.Window.rect_emb_val win0_5 t (ix5 0 0 0 ⟨g.val, by omega⟩ x) 1).trans (by
      show (BitVec.ofNat 32 (grid0.coords t 1).val).toNat * 1 + 0 = (grid0.coords t 1).val; rw [coord_toNat t 1]; omega)
  · exact (Pipeline.Window.rect_emb_val win0_5 t (ix5 0 0 0 ⟨g.val, by omega⟩ x) 2).trans (by
      show (BitVec.ofNat 32 (grid0.coords t 2).val).toNat * 1 + 0 = (grid0.coords t 2).val; rw [coord_toNat t 2]; omega)
  · exact (Pipeline.Window.rect_emb_val win0_5 t (ix5 0 0 0 ⟨g.val, by omega⟩ x) 3).trans (by
      show 0 * 16 + g.val = g.val; omega)
  · exact (Pipeline.Window.rect_emb_val win0_5 t (ix5 0 0 0 ⟨g.val, by omega⟩ x) 4).trans (by
      show 0 * 128 + x.val = x.val; omega)

theorem blk6 (k : Fin 16384) : iblk m c 6 t (ix4 0 0 0 k)
    = m ((c : Thread nD τ).loc main_arg4) (ix3 (bAt (grid0.coords t)) (hAt (grid0.coords t)) ⟨k.val / 64, by omega⟩) := by
  unfold iblk
  refine Eq.trans (congrArg (V m c main_v20) (funext fun a => Fin.ext ?_))
    ((congrFun (V_scale m c) (ix4 (bAt (grid0.coords t)) (hAt (grid0.coords t)) 0 k)).trans
      (scale_apply _ (bAt (grid0.coords t)) (hAt (grid0.coords t)) k))
  fin_cases a
  · exact (Pipeline.Window.rect_emb_val win0_6 t (ix4 0 0 0 k) 0).trans (by
      show (BitVec.ofNat 32 (grid0.coords t 0).val).toNat * 1 + 0 = (grid0.coords t 0).val; rw [coord_toNat t 0]; omega)
  · exact (Pipeline.Window.rect_emb_val win0_6 t (ix4 0 0 0 k) 1).trans (by
      show (BitVec.ofNat 32 (grid0.coords t 1).val).toNat * 1 + 0 = (grid0.coords t 1).val; rw [coord_toNat t 1]; omega)
  · exact (Pipeline.Window.rect_emb_val win0_6 t (ix4 0 0 0 k) 2).trans rfl
  · exact (Pipeline.Window.rect_emb_val win0_6 t (ix4 0 0 0 k) 3).trans (by
      show 0 * 16384 + k.val = k.val; omega)

theorem blk7 (d : Fin 128) : iblk m c 7 t (ix4 0 0 0 d)
    = m ((c : Thread nD τ).loc main_arg6) (ix3 (bAt (grid0.coords t)) (hAt (grid0.coords t)) d) := by
  unfold iblk
  refine Eq.trans (congrArg (V m c main_v23) (funext fun a => Fin.ext ?_))
    ((congrFun (V_vscale m c) (ix4 (bAt (grid0.coords t)) (hAt (grid0.coords t)) 0 d)).trans
      (vscale_apply _ (bAt (grid0.coords t)) (hAt (grid0.coords t)) d))
  fin_cases a
  · exact (Pipeline.Window.rect_emb_val win0_7 t (ix4 0 0 0 d) 0).trans (by
      show (BitVec.ofNat 32 (grid0.coords t 0).val).toNat * 1 + 0 = (grid0.coords t 0).val; rw [coord_toNat t 0]; omega)
  · exact (Pipeline.Window.rect_emb_val win0_7 t (ix4 0 0 0 d) 1).trans (by
      show (BitVec.ofNat 32 (grid0.coords t 1).val).toNat * 1 + 0 = (grid0.coords t 1).val; rw [coord_toNat t 1]; omega)
  · exact (Pipeline.Window.rect_emb_val win0_7 t (ix4 0 0 0 d) 2).trans rfl
  · exact (Pipeline.Window.rect_emb_val win0_7 t (ix4 0 0 0 d) 3).trans (by
      show 0 * 128 + d.val = d.val; omega)

theorem read8 (f : Vec Ideal S4x64x1x256 .i32) (r : Fin 256) : ((cfg0.win 8).blk t).view.read (Elt Ideal) f (ix4 0 0 0 r)
    = f (ix4 (bAt (grid0.coords t)) (jAt (grid0.coords t)) 0 r) := by
  refine congrArg f (funext fun a => Fin.ext ?_)
  fin_cases a
  · exact (Pipeline.Window.rect_emb_val win0_8 t (ix4 0 0 0 r) 0).trans (by
      show (BitVec.ofNat 32 (grid0.coords t 0).val).toNat * 1 + 0 = (grid0.coords t 0).val; rw [coord_toNat t 0]; omega)
  · exact (Pipeline.Window.rect_emb_val win0_8 t (ix4 0 0 0 r) 1).trans (by
      show (BitVec.ofNat 32 (grid0.coords t 2).val).toNat * 1 + 0 = (grid0.coords t 2).val; rw [coord_toNat t 2]; omega)
  · exact (Pipeline.Window.rect_emb_val win0_8 t (ix4 0 0 0 r) 2).trans rfl
  · exact (Pipeline.Window.rect_emb_val win0_8 t (ix4 0 0 0 r) 3).trans (by
      show 0 * 256 + r.val = r.val; omega)

theorem blk8 (r : Fin 256) : iblk m c 8 t (ix4 0 0 0 r)
    = starts (segOf m c) (ix2 (bAt (grid0.coords t)) (rowAt (grid0.coords t) r)) := by
  unfold iblk
  refine (read8 t (V m c main_v24) r).trans ((V_tile_apply m c _ _ r).trans ?_)
  generalize starts (segOf m c) = x
  unfold rowAt
  rfl

end Cert.Proof.KernelIdeal
-- ==== Proof.Value.Row.lean ====
/-
  A tile's results, row by row.

  Each row of the block the body leaves is the attention of the row's masked scores over the whole sequence: the row's
  maximum is taken over the keys of the tile's blocks, outside of which every score is minus infinity, and the sums over
  those blocks are the sums over the sequence, since a key the row does not see has weight zero.
-/
module

public import proofs.«01_k».proof.Proof.Value.Scores

@[expose] public section

set_option maxRecDepth 16384

noncomputable section

namespace Cert.Proof.KernelIdeal

open Cert.KernelIdeal Cert.KernelIdeal.Gen Cert.Proof.Value
open Idealize.ShloMosaic Idealize.ShloMosaic.TcCoe Idealize.ShloMosaic.Tactic

/-! ## The two passes' steps at an entry -/

theorem maxStep_apply (acc : FVec Ideal S256x128 .f32) (p : Fin 2 → Fin 4 → FVec Ideal S128x128 .f32) (y : Fin 256) (l : Fin 128) :
    maxStep (F := Ideal) acc p (ix2 y l)
      = max (max (max (max (acc (ix2 y l)) (both p 0 (ix2 y l))) (both p 1 (ix2 y l))) (both p 2 (ix2 y l))) (both p 3 (ix2 y l)) := by
  have hy := y.isLt
  have hb : ∀ (g : Fin 2) (hg : g.val = y.val / 128) (c : Fin 4), both p c (ix2 y l) = p g c (ix2 ⟨y.val % 128, by omega⟩ l) := fun g hg c => by
    have e : (⟨y.val / 128, by omega⟩ : Fin 2) = g := Fin.ext hg.symm
    rw [← e]
    rfl
  unfold maxStep maxGroup rows
  pointwise
  split
  · next h =>
    simp only [hb 0 (by show 0 = y.val / 128; omega)]
    have e : (⟨y.val % 128, by omega⟩ : Fin 128) = ⟨y.val, h⟩ := Fin.ext (by show y.val % 128 = y.val; omega)
    rw [e]
  · next h =>
    simp only [hb 1 (by show 1 = y.val / 128; omega)]
    have e : (⟨y.val % 128, by omega⟩ : Fin 128) = ⟨y.val - 128, by omega⟩ := Fin.ext (by show y.val % 128 = y.val - 128; omega)
    have e' : (⟨128 + (y.val - 128), by omega⟩ : Fin 256) = y := Fin.ext (by show 128 + (y.val - 128) = y.val; omega)
    rw [e, e']

/-- The maximum of row `y` over its lanes. -/
def rowMax (ms : FVec Ideal S256x128 .f32) (y : Fin 256) : EReal := Finset.univ.fold max negInf fun x : Fin 128 => ms (ix2 y x)

theorem sumStep_fst (ms : FVec Ideal S256x128 .f32) (X : Fin 4 → FVec Ideal S256x128 .f32) (v : Vec Ideal S1x512x128 .fp8e4m3)
    (a : FVec Ideal S256x128 .f32 × FVec Ideal S256x128 .f32) (y : Fin 256) (l : Fin 128) :
    (sumStep (F := Ideal) ms X v a).1 (ix2 y l)
      = a.1 (ix2 y l) + ∑ c : Fin 4, Ideal.exp2 (X c (ix2 y l) - (rowMax ms y - eight)) := by
  rw [Fin.sum_univ_four]
  unfold sumStep rowMax
  simp only [k0_pay144, k0_pay143, k0_pay125, k0_pay141, k0_pay120, k0_pay122, k0_pay124]
  pointwise
  simp only [add_assoc]
  rfl

theorem sumStep_snd (ms : FVec Ideal S256x128 .f32) (X : Fin 4 → FVec Ideal S256x128 .f32) (v : Vec Ideal S1x512x128 .fp8e4m3)
    (a : FVec Ideal S256x128 .f32 × FVec Ideal S256x128 .f32) (y : Fin 256) (l : Fin 128) :
    (sumStep (F := Ideal) ms X v a).2 (ix2 y l)
      = a.2 (ix2 y l) + ∑ x : Fin 512, code (Ideal.exp2 (X ⟨x.val / 128, by omega⟩ (ix2 y ⟨x.val % 128, by omega⟩) - (rowMax ms y - eight)))
          * v (ix3 0 x l) := by
  unfold sumStep rowMax code
  simp only [k0_pay145, k0_pay143, k0_pay121, k0_pay123, k0_pay126, k0_pay141, k0_pay120, k0_pay122, k0_pay124]
  pointwise
  refine congrArg _ (Finset.sum_congr rfl fun x _ => congrArg (· * v (ix3 0 x l)) ?_)
  have hx := x.isLt
  have go : ∀ (c : Fin 4) (l' : Fin 128), x.val = 128 * c.val + l'.val →
      X ⟨x.val / 128, by omega⟩ (ix2 y ⟨x.val % 128, by omega⟩) = X c (ix2 y l') := fun c l' e => by
    have := l'.isLt
    have e1 : (⟨x.val / 128, by omega⟩ : Fin 4) = c := Fin.ext (by show x.val / 128 = c.val; omega)
    have e2 : (⟨x.val % 128, by omega⟩ : Fin 128) = l' := Fin.ext (by show x.val % 128 = l'.val; omega)
    rw [e1, e2]
  split
  · next h => rw [go 0 ⟨x.val, h⟩ (by show x.val = 128 * 0 + x.val; omega)]; rfl
  · split
    · next h => rw [go 1 ⟨x.val - 128, h⟩ (by show x.val = 128 * 1 + (x.val - 128); omega)]; rfl
    · split
      · next h => rw [go 2 ⟨x.val - 128 - 128, h⟩ (by show x.val = 128 * 2 + (x.val - 128 - 128); omega)]; rfl
      · next h => rw [go 3 ⟨x.val - 128 - 128 - 128, by omega⟩ (by show x.val = 128 * 3 + (x.val - 128 - 128 - 128); omega)]; rfl

theorem out_apply (L O : FVec Ideal S256x128 .f32) (vs : Vec Ideal S1x1x1x128 .f32) (y : Fin 256) (l : Fin 128) :
    k0_pay1 (F := Ideal) (k0_pay149 L) (k0_pay150 O) vs (ix3 0 y l)
      = Ideal.div (O (ix2 y l) * inv256 * vs (ix4 0 0 0 l)) ((∑ x, L (ix2 y x)) * inv256) := by
  unfold k0_pay1 k0_pay149 k0_pay150
  pointwise

/-- A sum accumulated over the trips of a loop. -/
theorem carry_sum {α : Type} {n : Nat} (f : Fin n → α → α) (a : α) (g : α → EReal) (d : Fin n → EReal)
    (hf : ∀ t b, g (f t b) = g b + d t) (h0 : g a = 0) : g (carry n f a n) = ∑ t, d t := by
  have go : ∀ k (hk : k ≤ n), g (carry n f a k) = ∑ t : Fin k, d ⟨t.val, by omega⟩ := by
    intro k
    induction k with
    | zero => intro _; simpa [carry] using h0
    | succ k ih =>
      intro hk
      rw [carry_succ f a ⟨k, hk⟩, hf, ih (by omega), Fin.sum_univ_castSucc]
      rfl
  exact go n (le_refl n)

/-! ## A tile's rows -/

section Tile

variable {i : grid0.Coords} {v : BitVec 32} {n : Nat} (h : Lo i v n) (w : BitVec 32)
variable (x4 : Vec Ideal S4x8x128 .f32) (x5 : Vec Ideal S1x256x128 .fp8e4m3) (x6 x7 : Vec Ideal S1x16384x128 .fp8e4m3)
  (x8 : Vec Ideal S1x1x1x16x128 .bf16) (x9 : Vec Ideal S1x1x1x16384 .f32) (x10 : Vec Ideal S1x1x1x128 .f32) (x11 : Vec Ideal S1x1x1x256 .i32)
  (s : Fin 256 → Nat)

variable {w x11 s} (hs : Seen w n x11 s)

include hs in
/-- The running maximum before trip `k`, by its upper bounds. -/
theorem tileMax_le (r : Fin 256) (l : Fin 128) (B : EReal) : ∀ k, k ≤ (k0_t1_loop i v).trips →
    (tileMax h w x4 x5 x6 x8 x9 x11 k (ix2 r l) ≤ B
      ↔ ∀ t : Fin (k0_t1_loop i v).trips, t.val < k → ∀ c, rowT i x4 x5 x6 x8 x9 s r (keyAt h t c l) ≤ B) := by
  intro k
  induction k with
  | zero =>
    intro _
    have e : tileMax h w x4 x5 x6 x8 x9 x11 0 (ix2 r l) = negInf := rfl
    rw [e, negInf_eq]
    exact ⟨fun _ t ht => absurd ht (by omega), fun _ => bot_le⟩
  | succ k ih =>
    intro hk
    have e : tileMax h w x4 x5 x6 x8 x9 x11 (k + 1)
        = maxStep (tileMax h w x4 x5 x6 x8 x9 x11 k) (tileT h w x4 x5 x6 x8 x9 x11 ⟨k, hk⟩) := carry_succ _ _ ⟨k, hk⟩
    rw [e, maxStep_apply]
    simp only [both_apply h x4 x5 x6 x8 x9 hs, max_le_iff, ih (by omega)]
    constructor
    · rintro ⟨⟨⟨⟨h0, h1⟩, h2⟩, h3⟩, h4⟩ t ht c
      rcases Nat.lt_succ_iff_lt_or_eq.mp ht with hl | hl
      · exact h0 t hl c
      · have et : t = ⟨k, hk⟩ := Fin.ext hl
        subst et
        fin_cases c
        · exact h1
        · exact h2
        · exact h3
        · exact h4
    · intro H
      exact ⟨⟨⟨⟨fun t ht c => H t (by omega) c, H ⟨k, hk⟩ (Nat.lt_succ_self k) 0⟩, H ⟨k, hk⟩ (Nat.lt_succ_self k) 1⟩,
        H ⟨k, hk⟩ (Nat.lt_succ_self k) 2⟩, H ⟨k, hk⟩ (Nat.lt_succ_self k) 3⟩

/-- The whole of a trip's keys. -/
def keyOf (t : Fin (k0_t1_loop i v).trips) (x : Fin 512) : Fin 16384 :=
  ⟨512 * (h.blk t).val + x.val, by have := (h.blk t).isLt; omega⟩

include hs in
/-- A key a row of the tile sees lies in the tile's blocks. -/
theorem seen_block (r : Fin 256) (k : Fin 16384) (hk : s r ≤ k.val ∧ k.val ≤ 256 * (i 2).val + r.val) :
    ∃ t : Fin (k0_t1_loop i v).trips, (h.blk t).val = k.val / 512 := by
  have h1 := hs.mono 0 r (Nat.zero_le _)
  have h2 := hs.first
  have h3 := h.trips1
  have hr := r.isLt
  have hj : jend i = (256 * (i 2).val + 767) / 512 := rfl
  refine ⟨⟨k.val / 512 - n / 512, by omega⟩, ?_⟩
  show n / 512 + (k.val / 512 - n / 512) = k.val / 512
  omega

include hs in
/-- The row's maximum. -/
theorem rowMax_eq (r : Fin 256) : Finset.univ.fold max negInf (rowT i x4 x5 x6 x8 x9 s r)
    = rowMax (tileMax h w x4 x5 x6 x8 x9 x11 (k0_t1_loop i v).trips) r := by
  refine fold_max_eq _ _ (fun k => ?_) fun B hB => ?_
  · by_cases hk : s r ≤ k.val ∧ k.val ≤ 256 * (i 2).val + r.val
    · obtain ⟨t, ht⟩ := seen_block h hs r k hk
      have := (tileMax_le h x4 x5 x6 x8 x9 hs r ⟨k.val % 128, by omega⟩ _ _ (le_refl _)).mp (le_refl _) t t.isLt ⟨k.val % 512 / 128, by omega⟩
      have e : keyAt h t ⟨k.val % 512 / 128, by omega⟩ ⟨k.val % 128, by omega⟩ = k :=
        Fin.ext (by show 512 * (h.blk t).val + (128 * (k.val % 512 / 128) + k.val % 128) = k.val; omega)
      rw [e] at this
      unfold rowMax
      rw [Finset.le_fold_max]
      exact .inr ⟨_, Finset.mem_univ _, this⟩
    · unfold rowT
      rw [if_neg hk, negInf_eq]
      exact bot_le
  · unfold rowMax
    rw [Finset.fold_max_le]
    refine ⟨by rw [negInf_eq]; exact bot_le, fun l _ => ?_⟩
    exact (tileMax_le h x4 x5 x6 x8 x9 hs r l B _ (le_refl _)).mpr fun t _ c => hB _

theorem blk_injective : Function.Injective h.blk := fun t t' e => by
  have e' : n / 512 + t.val = n / 512 + t'.val := congrArg Fin.val e
  exact Fin.ext (by omega)

include hs in
/-- A sum over the tile's keys is the sum over the sequence, of terms that vanish at keys the row does not see. -/
theorem key_sum (r : Fin 256) (G : Fin 16384 → EReal) (hG : ∀ k, ¬ (s r ≤ k.val ∧ k.val ≤ 256 * (i 2).val + r.val) → G k = 0) :
    ∑ t, ∑ x, G (keyOf h t x) = ∑ k, G k := by
  rw [Fin.sum_univ_tiles 32 512 rfl G]
  refine Fintype.sum_of_injective h.blk (blk_injective h) _ _ (fun j hj => ?_) fun t => ?_
  · refine Finset.sum_eq_zero fun x _ => hG _ fun hk => ?_
    obtain ⟨t, ht⟩ := seen_block h hs r _ hk
    refine hj ⟨t, Fin.ext (ht.trans ?_)⟩
    have := x.isLt
    show (j.val * 512 + x.val) / 512 = j.val
    omega
  · refine Finset.sum_congr rfl fun x _ => congrArg G (Fin.ext ?_)
    show 512 * (h.blk t).val + x.val = (h.blk t).val * 512 + x.val
    omega

theorem rowT_unseen (r : Fin 256) (k : Fin 16384) (hk : ¬ (s r ≤ k.val ∧ k.val ≤ 256 * (i 2).val + r.val)) (M : EReal) :
    Ideal.exp2 (rowT i x4 x5 x6 x8 x9 s r k - M) = 0 := by
  unfold rowT
  rw [if_neg hk, negInf_eq, EReal.bot_sub, Ideal.exp2_bot]

include hs in
/-- The first pass's maxima give the second pass's weights: their sum over a row. -/
theorem tileSum_fst (r : Fin 256) (M : EReal) (hM : Finset.univ.fold max negInf (rowT i x4 x5 x6 x8 x9 s r) = M) :
    ∑ x, (tileSum h w x4 x5 x6 x7 x8 x9 x11 (k0_t1_loop i v).trips).1 (ix2 r x)
      = ∑ k, Ideal.exp2 (rowT i x4 x5 x6 x8 x9 s r k - (M - eight)) := by
  rw [← key_sum h hs r (fun k => Ideal.exp2 (rowT i x4 x5 x6 x8 x9 s r k - (M - eight)))
    fun k hk => rowT_unseen x4 x5 x6 x8 x9 r k hk _]
  rw [rowMax_eq h x4 x5 x6 x8 x9 hs r] at hM
  have e : ∀ l, (tileSum h w x4 x5 x6 x7 x8 x9 x11 (k0_t1_loop i v).trips).1 (ix2 r l)
      = ∑ t, ∑ c : Fin 4, Ideal.exp2 (rowT i x4 x5 x6 x8 x9 s r (keyAt h t c l) - (M - eight)) := fun l => by
    refine carry_sum _ _ (fun a : FVec Ideal S256x128 .f32 × FVec Ideal S256x128 .f32 => a.1 (ix2 r l)) _ (fun t b => ?_) ?_
    · refine (sumStep_fst _ _ _ b r l).trans ?_
      rw [hM]
      simp only [both_apply h x4 x5 x6 x8 x9 hs]
    · exact Ideal.ofBits_zero_f32
  rw [Finset.sum_congr rfl fun l _ => e l, Finset.sum_comm]
  refine Finset.sum_congr rfl fun t _ => ?_
  rw [Finset.sum_comm, Fin.sum_univ_tiles 4 128 rfl]
  refine Finset.sum_congr rfl fun c _ => Finset.sum_congr rfl fun l _ => ?_
  have ek : keyAt h t c l = keyOf h t ⟨c.val * 128 + l.val, by omega⟩ :=
    Fin.ext (by show 512 * (h.blk t).val + (128 * c.val + l.val) = 512 * (h.blk t).val + (c.val * 128 + l.val); omega)
  rw [ek]

include hs in
/-- The weighted values' codes, summed over a row. -/
theorem tileSum_snd (r : Fin 256) (d : Fin 128) (M : EReal) (hM : Finset.univ.fold max negInf (rowT i x4 x5 x6 x8 x9 s r) = M) :
    (tileSum h w x4 x5 x6 x7 x8 x9 x11 (k0_t1_loop i v).trips).2 (ix2 r d)
      = ∑ k, code (Ideal.exp2 (rowT i x4 x5 x6 x8 x9 s r k - (M - eight))) * x7 (ix3 0 k d) := by
  rw [← key_sum h hs r (fun k => code (Ideal.exp2 (rowT i x4 x5 x6 x8 x9 s r k - (M - eight))) * x7 (ix3 0 k d))
    fun k hk => by rw [rowT_unseen x4 x5 x6 x8 x9 r k hk, code_zero, zero_mul]]
  rw [rowMax_eq h x4 x5 x6 x8 x9 hs r] at hM
  refine carry_sum _ _ (fun a : FVec Ideal S256x128 .f32 × FVec Ideal S256x128 .f32 => a.2 (ix2 r d)) _ (fun t b => ?_) ?_
  · refine (sumStep_snd _ _ _ b r d).trans ?_
    rw [hM]
    simp only [both_apply h x4 x5 x6 x8 x9 hs, kblk_apply]
    refine congrArg _ (Finset.sum_congr rfl fun x _ => ?_)
    have ek : keyAt h t ⟨x.val / 128, by omega⟩ ⟨x.val % 128, by omega⟩ = keyOf h t x :=
      Fin.ext (by show 512 * (h.blk t).val + (128 * (x.val / 128) + x.val % 128) = 512 * (h.blk t).val + x.val; omega)
    rw [ek]
    rfl
  · exact Ideal.ofBits_zero_f32

include hs in
/-- Entry `(r, d)` of a tile's results. -/
theorem outTile_apply (r : Fin 256) (d : Fin 128) :
    outTile h w x4 x5 x6 x7 x8 x9 x10 x11 (ix3 0 r d)
      = attend (rowT i x4 x5 x6 x8 x9 s r) (fun k => x7 (ix3 0 k d)) (x10 (ix4 0 0 0 d)) := by
  unfold outTile
  rw [out_apply, tileSum_fst h x4 x5 x6 x7 x8 x9 hs r _ rfl, tileSum_snd h x4 x5 x6 x7 x8 x9 hs r d _ rfl]
  exact attend_shift _ _ _ _ rfl

end Tile

end Cert.Proof.KernelIdeal
-- ==== Proof.Value.KernelValue.lean ====
/-
  The kernel's result array is the specification.
-/
module

public import proofs.«01_k».proof.Proof.Value.KernelBlocks
public import proofs.«01_k».proof.Proof.Value.Row
public import Idealize.ShloMosaic.Lib.Pipeline.Covers

@[expose] public section

set_option maxRecDepth 16384

noncomputable section

namespace Cert.Proof.KernelIdeal

open Cert.KernelIdeal Cert.KernelIdeal.Gen Cert.Proof.Value
open Idealize.ShloMosaic Idealize.ShloMosaic.TcCoe Idealize.ShloMosaic.Tactic Idealize.SL.Sem

variable (m : (ℓ : Loc nD τ sig) → Buf (Elt Ideal) ℓ) (ρ : Dev nD → PrngReg) (c : Dev nD) (t : Fin cfg0.N)

/-- The result as a function of the arguments as launched. -/
abbrev result : Vec Ideal S4x16384x1024 .bf16 :=
  spec (m ((c : Thread nD τ).loc main_arg0)) (m ((c : Thread nD τ).loc main_arg3)) (m ((c : Thread nD τ).loc main_arg5))
    (m ((c : Thread nD τ).loc main_arg1)) (m ((c : Thread nD τ).loc main_arg6)) (m ((c : Thread nD τ).loc main_arg2))
    (m ((c : Thread nD τ).loc main_arg4)) (m ((c : Thread nD τ).loc main_arg7))

/-- The table of a point's tile. -/
theorem seen : Seen (loLast (grid0.coords t) (iblk m c 0 t)) (startAt (segOf m c) (bAt (grid0.coords t)) (rowAt (grid0.coords t) 0)) (iblk m c 8 t)
    (fun r => startAt (segOf m c) (bAt (grid0.coords t)) (rowAt (grid0.coords t) r)) where
  word r := by rw [blk8]; exact starts_int _ _ _
  last := by rw [last_word]; exact starts_int _ _ _
  mono r r' h := startAt_mono _ _ _ _ (by unfold rowAt; show _ + r.val ≤ _ + r'.val; omega)
  first := rfl

theorem rowT_eq (r : Fin 256) (k : Fin 16384) :
    rowT (grid0.coords t) (iblk m c 1 t) (iblk m c 2 t) (iblk m c 3 t) (iblk m c 5 t) (iblk m c 6 t)
        (fun r => startAt (segOf m c) (bAt (grid0.coords t)) (rowAt (grid0.coords t) r)) r k
      = specT (m ((c : Thread nD τ).loc main_arg0)) (m ((c : Thread nD τ).loc main_arg3)) (m ((c : Thread nD τ).loc main_arg1))
          (m ((c : Thread nD τ).loc main_arg2)) (m ((c : Thread nD τ).loc main_arg4)) (m ((c : Thread nD τ).loc main_arg7))
          (bAt (grid0.coords t)) (hAt (grid0.coords t)) (rowAt (grid0.coords t) r) k := by
  have hr := r.isLt
  have hj := (jAt (grid0.coords t)).isLt
  have eg : (⟨2 * (jAt (grid0.coords t)).val + r.val / 128, by omega⟩ : Fin 128) = ⟨(rowAt (grid0.coords t) r).val / 128, by omega⟩ :=
    Fin.ext (by show _ = (256 * (jAt (grid0.coords t)).val + r.val) / 128; dsimp only; omega)
  unfold rowT specT rowScore
  have e1 : (fun x => iblk m c 2 t (ix3 0 r x)) = fun x => m ((c : Thread nD τ).loc main_arg0) (ix3 (bAt (grid0.coords t)) (rowAt (grid0.coords t) r) (col (hAt (grid0.coords t)) x)) :=
    funext fun x => blk2 m c t r x
  have e2 : (fun x => iblk m c 5 t (ix5 0 0 0 ⟨r.val / 128, by omega⟩ x)) = fun x => m ((c : Thread nD τ).loc main_arg2) (ix4 (bAt (grid0.coords t)) (hAt (grid0.coords t)) ⟨(rowAt (grid0.coords t) r).val / 128, by omega⟩ x) :=
    funext fun x => (blk5 m c t ⟨r.val / 128, by omega⟩ x).trans
      (congrArg (fun g => m ((c : Thread nD τ).loc main_arg2) (ix4 (bAt (grid0.coords t)) (hAt (grid0.coords t)) g x)) eg)
  have e3 : (fun x => iblk m c 3 t (ix3 0 k x)) = fun x => m ((c : Thread nD τ).loc main_arg3) (ix3 (bAt (grid0.coords t)) k (col (hAt (grid0.coords t)) x)) :=
    funext fun x => blk3 m c t k x
  have e4 := blk6 m c t k
  have e5 : qsc (iblk m c 1 t) (grid0.coords t) ⟨r.val / 128, by omega⟩
      = m ((c : Thread nD τ).loc main_arg1) (ix3 (bAt (grid0.coords t)) (hAt (grid0.coords t)) ⟨(rowAt (grid0.coords t) r).val / 128, by omega⟩) := by
    unfold qsc
    exact (blk1 m c t _ _ _).trans (congrArg (fun g => m ((c : Thread nD τ).loc main_arg1) (ix3 (bAt (grid0.coords t)) (hAt (grid0.coords t)) g)) eg)
  rw [e1, e2, e3, e4, e5]
  rfl

/-- Entry `(r, d)` of the block a point leaves. -/
theorem outBlk_apply (r : Fin 256) (d : Fin 128) : outBlk m c t (ix3 0 r d)
    = result m c (ix3 (bAt (grid0.coords t)) (rowAt (grid0.coords t) r) (col (hAt (grid0.coords t)) d)) := by
  unfold outBlk result
  rw [spec_col]
  refine (outTile_apply (loAt m c t) _ _ _ _ _ _ _ (seen m c t) r d).trans ?_
  unfold specAt
  have e1 : rowT (grid0.coords t) (iblk m c 1 t) (iblk m c 2 t) (iblk m c 3 t) (iblk m c 5 t) (iblk m c 6 t)
        (fun r => startAt (segOf m c) (bAt (grid0.coords t)) (rowAt (grid0.coords t) r)) r = _ := funext fun k => rowT_eq m c t r k
  have e2 : (fun k => iblk m c 4 t (ix3 0 k d)) = fun k => m ((c : Thread nD τ).loc main_arg5) (ix3 (bAt (grid0.coords t)) k (col (hAt (grid0.coords t)) d)) :=
    funext fun k => blk4 m c t k d
  rw [e1, e2, blk7]

/-- The output blocks cover the result. -/
theorem covers9 : win0_9.Covers :=
  Pipeline.Window.covers_of_indexMap_surj win0_9 rfl (by decide) fun β =>
    ⟨fun a => match a with
      | 0 => ⟨(β 0).val, (β 0).isLt⟩
      | 1 => ⟨(β 2).val, (β 2).isLt⟩
      | 2 => ⟨(β 1).val, (β 1).isLt⟩, fun a => by
      have h0 : (β 0).val < 4 := (β 0).isLt
      have h1 : (β 1).val < 64 := (β 1).isLt
      have h2 : (β 2).val < 8 := (β 2).isLt
      fin_cases a
      · show (BitVec.ofNat 32 (β 0).val).toNat = (β 0).val
        rw [BitVec.toNat_ofNat]; omega
      · show (BitVec.ofNat 32 (β 1).val).toNat = (β 1).val
        rw [BitVec.toNat_ofNat]; omega
      · show (BitVec.ofNat 32 (β 2).val).toNat = (β 2).val
        rw [BitVec.toNat_ofNat]; omega⟩

/-- Where an entry of a point's output block lies in the result. -/
theorem emb9 (f : Vec Ideal S4x16384x1024 .bf16) (r : Fin 256) (d : Fin 128) : f (((cfg0.win 9).blk t).view.emb (ix3 0 r d))
    = f (ix3 (bAt (grid0.coords t)) (rowAt (grid0.coords t) r) (col (hAt (grid0.coords t)) d)) := by
  refine congrArg f (funext fun a => Fin.ext ?_)
  fin_cases a
  · exact (Pipeline.Window.rect_emb_val win0_9 t (ix3 0 r d) 0).trans (by
      show (BitVec.ofNat 32 (grid0.coords t 0).val).toNat * 1 + 0 = (grid0.coords t 0).val; rw [coord_toNat t 0]; omega)
  · exact (Pipeline.Window.rect_emb_val win0_9 t (ix3 0 r d) 1).trans (by
      show (BitVec.ofNat 32 (grid0.coords t 2).val).toNat * 256 + r.val = 256 * (grid0.coords t 2).val + r.val; rw [coord_toNat t 2]; omega)
  · exact (Pipeline.Window.rect_emb_val win0_9 t (ix3 0 r d) 2).trans (by
      show (BitVec.ofNat 32 (grid0.coords t 1).val).toNat * 128 + d.val = 128 * (grid0.coords t 1).val + d.val; rw [coord_toNat t 1]; omega)

/-- After the run the output array is the specification. -/
theorem final : (dats m 0 c).arrAt 9 cfg0.N = result m c := by
  refine (dats m 0 c).arrAt_eq_of_covers 9 (result m c) covers9 fun t _ y => ?_
  generalize hG : result m c = G
  have hy : ∃ (r : Fin 256) (d : Fin 128), y = ix3 0 r d := by
    refine ⟨⟨(y 1).val, (y 1).isLt⟩, ⟨(y 2).val, (y 2).isLt⟩, funext fun a => Fin.ext ?_⟩
    have h0 : (y 0).val < 1 := (y 0).isLt
    fin_cases a
    · show (y 0).val = 0; omega
    · rfl
    · rfl
  obtain ⟨r, d, rfl⟩ := hy
  refine Eq.trans ?_ (emb9 t G r d).symm
  rw [after0_9]
  refine Eq.trans ?_ ((outBlk_apply m c t r d).trans (congrFun hG _))
  rfl

/-- Every run of the kernel ends with the specification in its result and its arguments unchanged. -/
theorem run : θ_run defs (onTc (τ := τ) (main (F := Ideal))) ⟨m, fun _ => 0, ρ⟩ (fun r => ∀ c : Dev nD,
      r.2.mem ((c.tc : Thread nD τ).loc main_v25) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h.1 c).1 9).trans (final m c), h.2 c⟩) (θ_run_and (run_main m ρ) (unchanged m ρ))

end Cert.Proof.KernelIdeal
-- ==== Proof.Value.RefHost.lean ====
/-
  The arrays the reference's host prepares, entry by entry, as entries of its arguments.

  The reference numbers the heads of all batch entries in one row: head `h` of batch entry `b` is `8 b + h`.
-/
module

public import proofs.«01_k».proof.Proof.Gen.ReferenceIdeal.Value
public import proofs.«01_k».proof.Proof.Value.Spec
public import Idealize.ShloMosaic.Lib.Pointwise

@[expose] public section

set_option maxRecDepth 16384

noncomputable section

namespace Cert.Proof.ReferenceIdeal

open Cert.ReferenceIdeal Cert.ReferenceIdeal.Gen Cert.Proof.Value
open Idealize.ShloMosaic Idealize.ShloMosaic.TcCoe Idealize.ShloMosaic.Tactic

variable (m : (ℓ : Loc nD τ sig) → Buf (Elt Ideal) ℓ) (c : Dev nD)

/-- Head `h` of batch entry `b`. -/
def row (b : Fin 4) (h : Fin 8) : Fin 32 := ⟨8 * b.val + h.val, by omega⟩

theorem V_start : V m c main_v8 = Cert.Proof.KernelIdeal.starts (m ((c : Thread nD τ).loc main_arg7)) := by
  simp only [V, hostOps0, hostOps0_1, hostOps0_2, hostOps0_3, List.flatten_cons, List.flatten_nil, List.append_nil,
    List.cons_append, List.nil_append]
  after_results
  simp only [StableHlo.TRef.ofBuf_toBuf]
  have h8 : ∀ v : IVec S4x16384 32, (StableHlo.TRef.of main_v8 : StableHlo.TRef sig ⟨S4x16384, .i32⟩).toBuf (Val := Elt Ideal) v = v := fun _ => rfl
  have h5 : ∀ v : IVec S4x16384 1, (StableHlo.TRef.of main_v5 : StableHlo.TRef sig ⟨S4x16384, .i1⟩).ofBuf (Val := Elt Ideal) v = v := fun _ => rfl
  have h6 : ∀ v : IVec S1x16384 32, (StableHlo.TRef.of main_v6 : StableHlo.TRef sig ⟨S1x16384, .i32⟩).ofBuf (Val := Elt Ideal) v = v := fun _ => rfl
  have h0 : ∀ v : IVec S_ 32, (StableHlo.TRef.of main_c_0 : StableHlo.TRef sig ⟨S_, .i32⟩).ofBuf (Val := Elt Ideal) v = v := fun _ => rfl
  unfold Cert.Proof.KernelIdeal.starts Cert.Proof.KernelIdeal.runningMax Cert.Proof.KernelIdeal.boundary
  refine (h8 _).trans ?_
  rw [h5, h6, h0]
  rfl

/-! ## One scale or one row of an argument, repeated along the sequence -/

def qScale (x : Vec Ideal S4x8x128 .f32) : Vec Ideal S32x16384x1 .f32 :=
  shapeCast S32x16384x1 (shapeCast S4x8x16384 (broadcastInDim S4x8x128x128 ![0, 1, 2] bcast_S4x8x128_S4x8x128x128_0_1_2 x : Vec Ideal S4x8x128x128 .f32)
    shapeCasts_S4x8x128x128_S4x8x16384 : Vec Ideal S4x8x16384 .f32) shapeCasts_S4x8x16384_S32x16384x1

def corr (x : Vec Ideal S4x8x128x128 .bf16) : Vec Ideal S32x16384x128 .bf16 :=
  shapeCast S32x16384x128 (shapeCast S4x8x16384x128 (broadcastInDim S4x8x128x128x128 ![0, 1, 2, 4] bcast_S4x8x128x128_S4x8x128x128x128_0_1_2_4 x : Vec Ideal S4x8x128x128x128 .bf16)
    shapeCasts_S4x8x128x128x128_S4x8x16384x128 : Vec Ideal S4x8x16384x128 .bf16) shapeCasts_S4x8x16384x128_S32x16384x128

def kScale (x : Vec Ideal S4x8x256 .f32) : Vec Ideal S32x1x16384 .f32 :=
  shapeCast S32x1x16384 (shapeCast S4x8x16384 (broadcastInDim S4x8x256x64 ![0, 1, 2] bcast_S4x8x256_S4x8x256x64_0_1_2 x : Vec Ideal S4x8x256x64 .f32)
    shapeCasts_S4x8x256x64_S4x8x16384 : Vec Ideal S4x8x16384 .f32) shapeCasts_S4x8x16384_S32x1x16384

def perHead (x : IVec S4x16384 32) : IVec S32x16384x1 32 :=
  shapeCast S32x16384x1 (broadcastInDim S4x8x16384 ![0, 1, 2] bcast_S4x1x16384_S4x8x16384_0_1_2
    (broadcastInDim S4x1x16384 ![0, 2] bcast_S4x16384_S4x1x16384_0_2 x : IVec S4x1x16384 32) : IVec S4x8x16384 32) shapeCasts_S4x8x16384_S32x16384x1

def vScale (x : Vec Ideal S4x8x128 .f32) : Vec Ideal S32x1x128 .f32 := shapeCast S32x1x128 x shapeCasts_S4x8x128_S32x1x128

theorem V_qScale : V m c main_v11 = qScale (m ((c : Thread nD τ).loc main_arg1)) := by
  simp only [V, hostOps0, hostOps0_1, hostOps0_2, hostOps0_3, List.flatten_cons, List.flatten_nil, List.append_nil,
    List.cons_append, List.nil_append]
  after_results
  rfl

theorem V_corr : V m c main_v14 = corr (m ((c : Thread nD τ).loc main_arg2)) := by
  simp only [V, hostOps0, hostOps0_1, hostOps0_2, hostOps0_3, List.flatten_cons, List.flatten_nil, List.append_nil,
    List.cons_append, List.nil_append]
  after_results
  rfl

theorem V_kScale : V m c main_v17 = kScale (m ((c : Thread nD τ).loc main_arg4)) := by
  simp only [V, hostOps0, hostOps0_1, hostOps0_2, hostOps0_3, List.flatten_cons, List.flatten_nil, List.append_nil,
    List.cons_append, List.nil_append]
  after_results
  rfl

theorem V_vScale : V m c main_v21 = vScale (m ((c : Thread nD τ).loc main_arg6)) := by
  simp only [V, hostOps0, hostOps0_1, hostOps0_2, hostOps0_3, List.flatten_cons, List.flatten_nil, List.append_nil,
    List.cons_append, List.nil_append]
  after_results
  rfl

theorem V_perHead : V m c main_v20 = perHead (V m c main_v8) := by
  simp only [V, hostOps0, hostOps0_1, hostOps0_2, hostOps0_3, List.flatten_cons, List.flatten_nil, List.append_nil,
    List.cons_append, List.nil_append]
  after_results
  rfl

theorem qScale_apply (x : Vec Ideal S4x8x128 .f32) (b : Fin 4) (h : Fin 8) (q : Fin 16384) :
    qScale x (ix3 (row b h) q 0) = x (ix3 b h ⟨q.val / 128, by omega⟩) := by
  unfold qScale row
  pointwise

theorem corr_apply (x : Vec Ideal S4x8x128x128 .bf16) (b : Fin 4) (h : Fin 8) (q : Fin 16384) (d : Fin 128) :
    corr x (ix3 (row b h) q d) = x (ix4 b h ⟨q.val / 128, by omega⟩ d) := by
  unfold corr row
  pointwise

theorem kScale_apply (x : Vec Ideal S4x8x256 .f32) (b : Fin 4) (h : Fin 8) (k : Fin 16384) :
    kScale x (ix3 (row b h) 0 k) = x (ix3 b h ⟨k.val / 64, by omega⟩) := by
  unfold kScale row
  pointwise

theorem perHead_apply (x : IVec S4x16384 32) (b : Fin 4) (h : Fin 8) (q : Fin 16384) :
    perHead x (ix3 (row b h) q 0) = x (ix2 b q) := by
  unfold perHead row
  pointwise

theorem vScale_apply (x : Vec Ideal S4x8x128 .f32) (b : Fin 4) (h : Fin 8) (d : Fin 128) :
    vScale x (ix3 (row b h) 0 d) = x (ix3 b h d) := by
  unfold vScale row
  pointwise

end Cert.Proof.ReferenceIdeal
-- ==== Proof.Value.RefPayloads.lean ====
/-
  The expressions of the reference's body, entry by entry.
-/
module

public import proofs.«01_k».proof.Proof.Value.RefHost
public import proofs.«01_k».proof.Proof.Value.Words

@[expose] public section

set_option maxRecDepth 16384

noncomputable section

namespace Cert.Proof.ReferenceIdeal

open Cert.ReferenceIdeal Cert.ReferenceIdeal.Gen Cert.Proof.Value
open Idealize.ShloMosaic Idealize.ShloMosaic.TcCoe Idealize.ShloMosaic.Tactic

/-! ## The body's expressions at an entry -/

section Payloads

variable (x0 x3 x5 : Vec Ideal S4x16384x1024 .fp8e4m3) (x1 : Vec Ideal S32x16384x1 .f32) (x2 : Vec Ideal S32x16384x128 .bf16)
  (x4 : Vec Ideal S32x1x16384 .f32) (x6 : Vec Ideal S32x1x128 .f32) (x7 : Vec Ideal S32x16384x1 .i32)

/-- The scores before the mask. -/
theorem scores_apply (b : Fin 4) (h : Fin 8) (q k : Fin 16384) : k0_pay3 x0 x3 x4 x2 x1 (ix3 (row b h) q k)
    = KernelIdeal.pair (fun x => x0 (ix3 b q (col h x))) (fun x => x2 (ix3 (row b h) q x)) (fun x => x3 (ix3 b k (col h x)))
        (x4 (ix3 (row b h) 0 k)) (x1 (ix3 (row b h) q 0)) := by
  unfold k0_pay3 row
  pointwise
  have ec : ∀ x : Fin 128, (⟨h.val * 128 + x.val, by omega⟩ : Fin 1024) = col h x := fun x => Fin.ext (by show h.val * 128 + x.val = 128 * h.val + x.val; omega)
  simp only [ec]
  rfl

/-- The values, head by head. -/
theorem values_apply (b : Fin 4) (h : Fin 8) (k : Fin 16384) (d : Fin 128) : k0_pay2 x5 (ix3 (row b h) k d) = x5 (ix3 b k (col h d)) := by
  unfold k0_pay2 row
  pointwise
  exact congrArg (fun x => x5 (ix3 b k x)) (Fin.ext (by show h.val * 128 + d.val = 128 * h.val + d.val; omega))

/-- The lower half of the mask. -/
theorem mask_apply (b : Fin 4) (h : Fin 8) (q k : Fin 16384) : k0_pay4 (F := Ideal) x7 (ix3 (row b h) q k)
    = IntOp.cmpi .sge (BitVec.ofNat 32 k.val) (x7 (ix3 (row b h) q 0)) := by
  unfold k0_pay4 row
  pointwise

end Payloads

theorem final_apply (v11 : FVec Ideal S32x16384x128 .fp8e4m3) (v29 : FVec Ideal S32x16384x16384 .f32) (v30 v31 : IVec S32x16384x16384 32)
    (v35 : IVec S32x16384x16384 1) (v57 : Vec Ideal S32x1x128 .f32) (b : Fin 4) (h : Fin 8) (q : Fin 16384) (d : Fin 128) :
    k0_pay1 v11 v29 v30 v31 v35 v57 (ix3 b q (col h d))
      = attend (fun k => Scalar.select (IntOp.andi (v35 (ix3 (row b h) q k)) (IntOp.cmpi .sle (v31 (ix3 (row b h) q k)) (v30 (ix3 (row b h) q k))))
          (v29 (ix3 (row b h) q k)) negInf) (fun k => v11 (ix3 (row b h) k d)) (v57 (ix3 (row b h) 0 d)) := by
  unfold k0_pay1 col row
  pointwise
  have er : (⟨b.val * 8 + h.val, by omega⟩ : Fin 32) = ⟨8 * b.val + h.val, by omega⟩ := Fin.ext (by show b.val * 8 + h.val = 8 * b.val + h.val; omega)
  simp only [er]
  rfl

end Cert.Proof.ReferenceIdeal
-- ==== Proof.Value.RefBlocks.lean ====
/-
  The reference stages each array whole.
-/
module

public import proofs.«01_k».proof.Proof.Gen.ReferenceIdeal.Value
public import Idealize.ShloMosaic.Lib.Pipeline.Covers
public import Idealize.ShloMosaic.Lib.Pointwise

@[expose] public section

set_option maxRecDepth 16384

noncomputable section

namespace Cert.Proof.ReferenceIdeal

open Cert.ReferenceIdeal Cert.ReferenceIdeal.Gen
open Idealize.ShloMosaic Idealize.ShloMosaic.TcCoe Idealize.ShloMosaic.Tactic

variable (m : (ℓ : Loc nD τ sig) → Buf (Elt Ideal) ℓ) (c : Dev nD) (t : Fin cfg0.N)

theorem emb0 (f : Vec Ideal S4x16384x1024 .fp8e4m3) (y : S4x16384x1024.Idx) : f (((cfg0.win 0).blk t).view.emb y) = f y := by
  refine congrArg f (funext fun a => Fin.ext ?_)
  fin_cases a
  · exact (Pipeline.Window.rect_emb_val win0_0 t y 0).trans (by show 0 * 4 + (y 0).val = (y 0).val; omega)
  · exact (Pipeline.Window.rect_emb_val win0_0 t y 1).trans (by show 0 * 16384 + (y 1).val = (y 1).val; omega)
  · exact (Pipeline.Window.rect_emb_val win0_0 t y 2).trans (by show 0 * 1024 + (y 2).val = (y 2).val; omega)

theorem emb1 (f : Vec Ideal S32x16384x1 .f32) (y : S32x16384x1.Idx) : f (((cfg0.win 1).blk t).view.emb y) = f y := by
  refine congrArg f (funext fun a => Fin.ext ?_)
  fin_cases a
  · exact (Pipeline.Window.rect_emb_val win0_1 t y 0).trans (by show 0 * 32 + (y 0).val = (y 0).val; omega)
  · exact (Pipeline.Window.rect_emb_val win0_1 t y 1).trans (by show 0 * 16384 + (y 1).val = (y 1).val; omega)
  · exact (Pipeline.Window.rect_emb_val win0_1 t y 2).trans (by show 0 * 1 + (y 2).val = (y 2).val; omega)

theorem emb2 (f : Vec Ideal S32x16384x128 .bf16) (y : S32x16384x128.Idx) : f (((cfg0.win 2).blk t).view.emb y) = f y := by
  refine congrArg f (funext fun a => Fin.ext ?_)
  fin_cases a
  · exact (Pipeline.Window.rect_emb_val win0_2 t y 0).trans (by show 0 * 32 + (y 0).val = (y 0).val; omega)
  · exact (Pipeline.Window.rect_emb_val win0_2 t y 1).trans (by show 0 * 16384 + (y 1).val = (y 1).val; omega)
  · exact (Pipeline.Window.rect_emb_val win0_2 t y 2).trans (by show 0 * 128 + (y 2).val = (y 2).val; omega)

theorem emb3 (f : Vec Ideal S4x16384x1024 .fp8e4m3) (y : S4x16384x1024.Idx) : f (((cfg0.win 3).blk t).view.emb y) = f y := by
  refine congrArg f (funext fun a => Fin.ext ?_)
  fin_cases a
  · exact (Pipeline.Window.rect_emb_val win0_3 t y 0).trans (by show 0 * 4 + (y 0).val = (y 0).val; omega)
  · exact (Pipeline.Window.rect_emb_val win0_3 t y 1).trans (by show 0 * 16384 + (y 1).val = (y 1).val; omega)
  · exact (Pipeline.Window.rect_emb_val win0_3 t y 2).trans (by show 0 * 1024 + (y 2).val = (y 2).val; omega)

theorem emb4 (f : Vec Ideal S32x1x16384 .f32) (y : S32x1x16384.Idx) : f (((cfg0.win 4).blk t).view.emb y) = f y := by
  refine congrArg f (funext fun a => Fin.ext ?_)
  fin_cases a
  · exact (Pipeline.Window.rect_emb_val win0_4 t y 0).trans (by show 0 * 32 + (y 0).val = (y 0).val; omega)
  · exact (Pipeline.Window.rect_emb_val win0_4 t y 1).trans (by show 0 * 1 + (y 1).val = (y 1).val; omega)
  · exact (Pipeline.Window.rect_emb_val win0_4 t y 2).trans (by show 0 * 16384 + (y 2).val = (y 2).val; omega)

theorem emb5 (f : Vec Ideal S4x16384x1024 .fp8e4m3) (y : S4x16384x1024.Idx) : f (((cfg0.win 5).blk t).view.emb y) = f y := by
  refine congrArg f (funext fun a => Fin.ext ?_)
  fin_cases a
  · exact (Pipeline.Window.rect_emb_val win0_5 t y 0).trans (by show 0 * 4 + (y 0).val = (y 0).val; omega)
  · exact (Pipeline.Window.rect_emb_val win0_5 t y 1).trans (by show 0 * 16384 + (y 1).val = (y 1).val; omega)
  · exact (Pipeline.Window.rect_emb_val win0_5 t y 2).trans (by show 0 * 1024 + (y 2).val = (y 2).val; omega)

theorem emb6 (f : Vec Ideal S32x1x128 .f32) (y : S32x1x128.Idx) : f (((cfg0.win 6).blk t).view.emb y) = f y := by
  refine congrArg f (funext fun a => Fin.ext ?_)
  fin_cases a
  · exact (Pipeline.Window.rect_emb_val win0_6 t y 0).trans (by show 0 * 32 + (y 0).val = (y 0).val; omega)
  · exact (Pipeline.Window.rect_emb_val win0_6 t y 1).trans (by show 0 * 1 + (y 1).val = (y 1).val; omega)
  · exact (Pipeline.Window.rect_emb_val win0_6 t y 2).trans (by show 0 * 128 + (y 2).val = (y 2).val; omega)

theorem emb7 (f : Vec Ideal S32x16384x1 .i32) (y : S32x16384x1.Idx) : f (((cfg0.win 7).blk t).view.emb y) = f y := by
  refine congrArg f (funext fun a => Fin.ext ?_)
  fin_cases a
  · exact (Pipeline.Window.rect_emb_val win0_7 t y 0).trans (by show 0 * 32 + (y 0).val = (y 0).val; omega)
  · exact (Pipeline.Window.rect_emb_val win0_7 t y 1).trans (by show 0 * 16384 + (y 1).val = (y 1).val; omega)
  · exact (Pipeline.Window.rect_emb_val win0_7 t y 2).trans (by show 0 * 1 + (y 2).val = (y 2).val; omega)

theorem emb8 (f : Vec Ideal S4x16384x1024 .bf16) (y : S4x16384x1024.Idx) : f (((cfg0.win 8).blk t).view.emb y) = f y := by
  refine congrArg f (funext fun a => Fin.ext ?_)
  fin_cases a
  · exact (Pipeline.Window.rect_emb_val win0_8 t y 0).trans (by show 0 * 4 + (y 0).val = (y 0).val; omega)
  · exact (Pipeline.Window.rect_emb_val win0_8 t y 1).trans (by show 0 * 16384 + (y 1).val = (y 1).val; omega)
  · exact (Pipeline.Window.rect_emb_val win0_8 t y 2).trans (by show 0 * 1024 + (y 2).val = (y 2).val; omega)

theorem read0 (f : Vec Ideal S4x16384x1024 .fp8e4m3) : ((cfg0.win 0).blk t).view.read (Elt Ideal) f = f := funext fun y => emb0 t f y

theorem whole0 : iblk m c 0 t = V m c main_arg0 := read0 t (V m c main_arg0)

theorem read1 (f : Vec Ideal S32x16384x1 .f32) : ((cfg0.win 1).blk t).view.read (Elt Ideal) f = f := funext fun y => emb1 t f y

theorem whole1 : iblk m c 1 t = V m c main_v11 := read1 t (V m c main_v11)

theorem read2 (f : Vec Ideal S32x16384x128 .bf16) : ((cfg0.win 2).blk t).view.read (Elt Ideal) f = f := funext fun y => emb2 t f y

theorem whole2 : iblk m c 2 t = V m c main_v14 := read2 t (V m c main_v14)

theorem read3 (f : Vec Ideal S4x16384x1024 .fp8e4m3) : ((cfg0.win 3).blk t).view.read (Elt Ideal) f = f := funext fun y => emb3 t f y

theorem whole3 : iblk m c 3 t = V m c main_arg3 := read3 t (V m c main_arg3)

theorem read4 (f : Vec Ideal S32x1x16384 .f32) : ((cfg0.win 4).blk t).view.read (Elt Ideal) f = f := funext fun y => emb4 t f y

theorem whole4 : iblk m c 4 t = V m c main_v17 := read4 t (V m c main_v17)

theorem read5 (f : Vec Ideal S4x16384x1024 .fp8e4m3) : ((cfg0.win 5).blk t).view.read (Elt Ideal) f = f := funext fun y => emb5 t f y

theorem whole5 : iblk m c 5 t = V m c main_arg5 := read5 t (V m c main_arg5)

theorem read6 (f : Vec Ideal S32x1x128 .f32) : ((cfg0.win 6).blk t).view.read (Elt Ideal) f = f := funext fun y => emb6 t f y

theorem whole6 : iblk m c 6 t = V m c main_v21 := read6 t (V m c main_v21)

theorem read7 (f : Vec Ideal S32x16384x1 .i32) : ((cfg0.win 7).blk t).view.read (Elt Ideal) f = f := funext fun y => emb7 t f y

theorem whole7 : iblk m c 7 t = V m c main_v20 := read7 t (V m c main_v20)

/-- The one output block covers the result. -/
theorem covers8 : win0_8.Covers :=
  Pipeline.Window.covers_of_indexMap_surj win0_8 rfl (by decide) fun β => ⟨grid0.coords ⟨0, by decide⟩, fun a => by
    have h0 : (β 0).val < 1 := (β 0).isLt
    have h1 : (β 1).val < 1 := (β 1).isLt
    have h2 : (β 2).val < 1 := (β 2).isLt
    fin_cases a
    · show 0 = (β 0).val; omega
    · show 0 = (β 1).val; omega
    · show 0 = (β 2).val; omega⟩

end Cert.Proof.ReferenceIdeal
-- ==== Proof.Value.RefValue.lean ====
/-
  The reference's result array is the specification.
-/
module

public import proofs.«01_k».proof.Proof.Value.RefPayloads
public import proofs.«01_k».proof.Proof.Value.RefBlocks
public import proofs.«01_k».proof.Proof.Value.Words

@[expose] public section

set_option maxRecDepth 16384

noncomputable section

namespace Cert.Proof.ReferenceIdeal

open Cert.ReferenceIdeal Cert.ReferenceIdeal.Gen Cert.Proof.Value
open Idealize.ShloMosaic Idealize.ShloMosaic.TcCoe Idealize.ShloMosaic.Tactic Idealize.SL.Sem

/-! ## The result -/

/-- The body's result at an entry, from arrays as the host prepares them. -/
theorem body_apply (a0 a3 a5 : Vec Ideal S4x16384x1024 .fp8e4m3) (a1 a6 : Vec Ideal S4x8x128 .f32) (a2 : Vec Ideal S4x8x128x128 .bf16)
    (a4 : Vec Ideal S4x8x256 .f32) (a7 : IVec S4x16384 32) (b : Fin 4) (h : Fin 8) (q : Fin 16384) (d : Fin 128) :
    k0_pay1 (F := Ideal) (k0_pay2 a5) (k0_pay3 a0 a3 (kScale a4) (corr a2) (qScale a1)) (iota .tc S32x16384x16384 32 [1] iota_S32x16384x16384_d1_w32)
        (iota .tc S32x16384x16384 32 [2] iota_S32x16384x16384_d2_w32) (k0_pay4 (F := Ideal) (perHead (KernelIdeal.starts a7))) (vScale a6) (ix3 b q (col h d))
      = specAt a0 a3 a5 a1 a6 a2 a4 a7 b h q d := by
  refine (final_apply _ _ _ _ _ _ b h q d).trans ?_
  have ev : (fun k => k0_pay2 a5 (ix3 (row b h) k d)) = fun k => a5 (ix3 b k (col h d)) := funext fun k => values_apply a5 b h k d
  have eT : (fun k => Scalar.select (IntOp.andi (k0_pay4 (F := Ideal) (perHead (KernelIdeal.starts a7)) (ix3 (row b h) q k))
        (IntOp.cmpi .sle ((iota .tc S32x16384x16384 32 [2] iota_S32x16384x16384_d2_w32 : IVec S32x16384x16384 32) (ix3 (row b h) q k))
          ((iota .tc S32x16384x16384 32 [1] iota_S32x16384x16384_d1_w32 : IVec S32x16384x16384 32) (ix3 (row b h) q k))))
        (k0_pay3 a0 a3 (kScale a4) (corr a2) (qScale a1) (ix3 (row b h) q k)) negInf) = specT a0 a3 a1 a2 a4 a7 b h q := by
    funext k
    have e1 : k0_pay4 (F := Ideal) (perHead (KernelIdeal.starts a7)) (ix3 (row b h) q k) = IntOp.cmpi .sge (BitVec.ofNat 32 k.val) (KernelIdeal.starts a7 (ix2 b q)) :=
      (mask_apply _ b h q k).trans (congrArg (IntOp.cmpi .sge (BitVec.ofNat 32 k.val)) (perHead_apply _ b h q))
    have e2 : (iota .tc S32x16384x16384 32 [2] iota_S32x16384x16384_d2_w32 : IVec S32x16384x16384 32) (ix3 (row b h) q k) = BitVec.ofNat 32 k.val := by pointwise
    have e3 : (iota .tc S32x16384x16384 32 [1] iota_S32x16384x16384_d1_w32 : IVec S32x16384x16384 32) (ix3 (row b h) q k) = BitVec.ofNat 32 q.val := by pointwise
    have ec : (fun x => corr a2 (ix3 (row b h) q x)) = fun x => a2 (ix4 b h ⟨q.val / 128, by omega⟩ x) := funext fun x => corr_apply a2 b h q x
    have e4 := scores_apply a0 a3 (qScale a1) (corr a2) (kScale a4) b h q k
    rw [ec, kScale_apply, qScale_apply] at e4
    rw [e1, e2, e3, e4]
    exact select_mask (Affine.ofNat _ (by omega)) (KernelIdeal.starts_int _ b q) (Affine.ofNat _ (by omega)) _ _
  unfold specAt
  rw [← eT, ← ev]
  exact congrArg (attend _ _) (vScale_apply a6 b h d)

section Result

variable (m : (ℓ : Loc nD τ sig) → Buf (Elt Ideal) ℓ) (ρ : Dev nD → PrngReg) (c : Dev nD) (t : Fin cfg0.N)

/-- The result as a function of the arguments as launched. -/
abbrev result : Vec Ideal S4x16384x1024 .bf16 :=
  spec (m ((c : Thread nD τ).loc main_arg0)) (m ((c : Thread nD τ).loc main_arg3)) (m ((c : Thread nD τ).loc main_arg5))
    (m ((c : Thread nD τ).loc main_arg1)) (m ((c : Thread nD τ).loc main_arg6)) (m ((c : Thread nD τ).loc main_arg2))
    (m ((c : Thread nD τ).loc main_arg4)) (m ((c : Thread nD τ).loc main_arg7))

/-- What the body leaves, entry by entry. -/
theorem out_apply (b : Fin 4) (h : Fin 8) (q : Fin 16384) (d : Fin 128) :
    out0_8 (iblk m c 0 t) (iblk m c 1 t) (iblk m c 2 t) (iblk m c 3 t) (iblk m c 4 t) (iblk m c 5 t) (iblk m c 6 t) (iblk m c 7 t) (ix3 b q (col h d))
      = result m c (ix3 b q (col h d)) := by
  have z : (![0, 0, 0] : Fin 3 → Nat) = fun _ => 0 := by decide
  unfold out0_8 result
  rw [spec_col, View.canon_unit_zero z, View.ld_unit_zero z, View.ld_unit_zero z, View.ld_unit_zero z, View.ld_unit_zero z,
    View.ld_unit_zero z, View.ld_unit_zero z, View.ld_unit_zero z, View.ld_unit_zero z]
  rw [whole0, whole1, whole2, whole3, whole4, whole5, whole6, whole7, V_main_arg0, V_main_arg3, V_main_arg5, V_qScale, V_corr, V_kScale,
    V_vScale, V_perHead, V_start]
  exact body_apply _ _ _ _ _ _ _ _ b h q d

/-- After the run the output array is the specification. -/
theorem final : (dats m 0 c).arrAt 8 cfg0.N = result m c := by
  refine (dats m 0 c).arrAt_eq_of_covers 8 (result m c) covers8 fun t _ y => ?_
  generalize hG : result m c = G
  refine Eq.trans ?_ (emb8 t G y).symm
  have hy : ∃ (b : Fin 4) (q : Fin 16384) (h : Fin 8) (d : Fin 128), y = ix3 b q (col h d) := by
    have h2 : (y 2).val < 1024 := (y 2).isLt
    refine ⟨⟨(y 0).val, (y 0).isLt⟩, ⟨(y 1).val, (y 1).isLt⟩, ⟨(y 2).val / 128, by omega⟩, ⟨(y 2).val % 128, by omega⟩, funext fun a => Fin.ext ?_⟩
    fin_cases a
    · rfl
    · rfl
    · show (y 2).val = 128 * ((y 2).val / 128) + (y 2).val % 128; omega
  obtain ⟨b, q, h, d, rfl⟩ := hy
  rw [after0_8]
  have hO := (out_apply m c t b h q d).trans (congrFun hG _)
  generalize out0_8 (iblk m c 0 t) (iblk m c 1 t) (iblk m c 2 t) (iblk m c 3 t) (iblk m c 4 t) (iblk m c 5 t) (iblk m c 6 t) (iblk m c 7 t) = O at hO ⊢
  refine Eq.trans ?_ hO
  rfl

/-- Every run of the reference ends with the specification in its result and its arguments unchanged. -/
theorem run : θ_run defs (onTc (τ := τ) (main (F := Ideal))) ⟨m, fun _ => 0, ρ⟩ (fun r => ∀ c : Dev nD,
      r.2.mem ((c.tc : Thread nD τ).loc main_v22) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (final m c), (h c).2⟩) (Cert.ReferenceIdeal.Value.run_blocks m ρ)

end Result

end Cert.Proof.ReferenceIdeal
-- ==== Proof.lean ====
/-
  The proof of the claim: the frames of the kernel (read as bits and read as extended reals) and of the reference, and
  the equality of the two results over the extended reals.
-/
module

public import proofs.«01_k».proof.Defs
public import proofs.«01_k».proof.Proof.K.Frame
public import proofs.«01_k».proof.Proof.KI.Frame
public import proofs.«01_k».proof.Proof.Gen.ReferenceIdeal
public import proofs.«01_k».proof.Proof.Gen.ReferenceIdeal.Frame
public import proofs.«01_k».proof.Proof.Gen.ReferenceIdeal.Value
public import proofs.«01_k».proof.Proof.Value.KernelValue
public import proofs.«01_k».proof.Proof.Value.RefValue

@[expose] public section

noncomputable section

namespace Cert.Proof

open Idealize.ShloMosaic Idealize.ShloMosaic.TcCoe Idealize.SL.Sem

/-- From equal arguments the two programs' specifications are the same array. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.Proof.ReferenceIdeal.result m' c = Cert.Proof.KernelIdeal.result m c := by
  unfold Cert.Proof.ReferenceIdeal.result Cert.Proof.KernelIdeal.result
  rw [h0, h1, h2, h3, h4, h5, h6, h7]

/-- From equal arguments the kernel and the reference end with the same result. -/
theorem algebraic : Cert.algebraic_KernelIdeal_ReferenceIdeal (hKernelIdeal := Cert.KernelIdeal.Gen.facts) (hReferenceIdeal := Cert.ReferenceIdeal.Gen.facts) :=
  fun m g m' g' _ hargs => ⟨fun c => Cert.Proof.KernelIdeal.result m c, Cert.Proof.KernelIdeal.run m g,
    (θ_run _ _ _).mono (fun _ h c => ⟨(h c).1.trans (by
      obtain ⟨h0, h1, h2, h3, h4, h5, h6, h7⟩ := hargs c
      exact result_eq m m' c h0 h1 h2 h3 h4 h5 h6 h7), (h c).2⟩) (Cert.Proof.ReferenceIdeal.run m' g')⟩

/-- Everything claimed. -/
theorem claim : Cert.Claim :=
  ⟨Cert.Kernel.Gen.facts, Cert.KernelIdeal.Gen.facts, Cert.ReferenceIdeal.Gen.facts,
    fun m ρ _ => Cert.Proof.Kernel.frame m ρ, fun m ρ _ => Cert.Proof.KernelIdeal.frame m ρ,
    fun m ρ _ => Cert.ReferenceIdeal.Gen.frame m ρ, trivial, algebraic⟩

end Cert.Proof
